-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_Wo (m : (ℓ : Loc Cert.Wo.nD Cert.Wo.τ Cert.Wo.sig) → Buf (Elt Bits) ℓ) : Prop :=
  True

def Pre_WoIdeal (m : (ℓ : Loc Cert.WoIdeal.nD Cert.WoIdeal.τ Cert.WoIdeal.sig) → Buf (Elt Ideal) ℓ) : Prop :=
  True

def Pre_WoRefIdeal (m : (ℓ : Loc Cert.WoRefIdeal.nD Cert.WoRefIdeal.τ Cert.WoRefIdeal.sig) → Buf (Elt Ideal) ℓ) : Prop :=
  True

def Pre_WoDw (m : (ℓ : Loc Cert.WoDw.nD Cert.WoDw.τ Cert.WoDw.sig) → Buf (Elt Bits) ℓ) : Prop :=
  True

def Pre_WoDwIdeal (m : (ℓ : Loc Cert.WoDwIdeal.nD Cert.WoDwIdeal.τ Cert.WoDwIdeal.sig) → Buf (Elt Ideal) ℓ) : Prop :=
  True

def Pre_WoDwRefIdeal (m : (ℓ : Loc Cert.WoDwRefIdeal.nD Cert.WoDwRefIdeal.τ Cert.WoDwRefIdeal.sig) → Buf (Elt Ideal) ℓ) : Prop :=
  True

def Pre_WoDx (m : (ℓ : Loc Cert.WoDx.nD Cert.WoDx.τ Cert.WoDx.sig) → Buf (Elt Bits) ℓ) : Prop :=
  True

def Pre_WoDxIdeal (m : (ℓ : Loc Cert.WoDxIdeal.nD Cert.WoDxIdeal.τ Cert.WoDxIdeal.sig) → Buf (Elt Ideal) ℓ) : Prop :=
  True

def Pre_WoDxRefIdeal (m : (ℓ : Loc Cert.WoDxRefIdeal.nD Cert.WoDxRefIdeal.τ Cert.WoDxRefIdeal.sig) → Buf (Elt Ideal) ℓ) : Prop :=
  True

def Pre_Ao (m : (ℓ : Loc Cert.Ao.nD Cert.Ao.τ Cert.Ao.sig) → Buf (Elt Bits) ℓ) : Prop :=
  True

def Pre_AoIdeal (m : (ℓ : Loc Cert.AoIdeal.nD Cert.AoIdeal.τ Cert.AoIdeal.sig) → Buf (Elt Ideal) ℓ) : Prop :=
  True

def Pre_AoRefIdeal (m : (ℓ : Loc Cert.AoRefIdeal.nD Cert.AoRefIdeal.τ Cert.AoRefIdeal.sig) → Buf (Elt Ideal) ℓ) : Prop :=
  True

def Pre_AoDw (m : (ℓ : Loc Cert.AoDw.nD Cert.AoDw.τ Cert.AoDw.sig) → Buf (Elt Bits) ℓ) : Prop :=
  True

def Pre_AoDwIdeal (m : (ℓ : Loc Cert.AoDwIdeal.nD Cert.AoDwIdeal.τ Cert.AoDwIdeal.sig) → Buf (Elt Ideal) ℓ) : Prop :=
  True

def Pre_AoDwRefIdeal (m : (ℓ : Loc Cert.AoDwRefIdeal.nD Cert.AoDwRefIdeal.τ Cert.AoDwRefIdeal.sig) → Buf (Elt Ideal) ℓ) : Prop :=
  True

def Pre_AoDx (m : (ℓ : Loc Cert.AoDx.nD Cert.AoDx.τ Cert.AoDx.sig) → Buf (Elt Bits) ℓ) : Prop :=
  True

def Pre_AoDxIdeal (m : (ℓ : Loc Cert.AoDxIdeal.nD Cert.AoDxIdeal.τ Cert.AoDxIdeal.sig) → Buf (Elt Ideal) ℓ) : Prop :=
  True

def Pre_AoDxRefIdeal (m : (ℓ : Loc Cert.AoDxRefIdeal.nD Cert.AoDxRefIdeal.τ Cert.AoDxRefIdeal.sig) → Buf (Elt Ideal) ℓ) : Prop :=
  True

def Pre_Co (m : (ℓ : Loc Cert.Co.nD Cert.Co.τ Cert.Co.sig) → Buf (Elt Bits) ℓ) : Prop :=
  True

def Pre_CoIdeal (m : (ℓ : Loc Cert.CoIdeal.nD Cert.CoIdeal.τ Cert.CoIdeal.sig) → Buf (Elt Ideal) ℓ) : Prop :=
  True

def Pre_CoRefIdeal (m : (ℓ : Loc Cert.CoRefIdeal.nD Cert.CoRefIdeal.τ Cert.CoRefIdeal.sig) → Buf (Elt Ideal) ℓ) : Prop :=
  True

def Pre_CoDw (m : (ℓ : Loc Cert.CoDw.nD Cert.CoDw.τ Cert.CoDw.sig) → Buf (Elt Bits) ℓ) : Prop :=
  True

def Pre_CoDwIdeal (m : (ℓ : Loc Cert.CoDwIdeal.nD Cert.CoDwIdeal.τ Cert.CoDwIdeal.sig) → Buf (Elt Ideal) ℓ) : Prop :=
  True

def Pre_CoDwRefIdeal (m : (ℓ : Loc Cert.CoDwRefIdeal.nD Cert.CoDwRefIdeal.τ Cert.CoDwRefIdeal.sig) → Buf (Elt Ideal) ℓ) : Prop :=
  True

def Pre_CoDx (m : (ℓ : Loc Cert.CoDx.nD Cert.CoDx.τ Cert.CoDx.sig) → Buf (Elt Bits) ℓ) : Prop :=
  True

def Pre_CoDxIdeal (m : (ℓ : Loc Cert.CoDxIdeal.nD Cert.CoDxIdeal.τ Cert.CoDxIdeal.sig) → Buf (Elt Ideal) ℓ) : Prop :=
  True

def Pre_CoDxRefIdeal (m : (ℓ : Loc Cert.CoDxRefIdeal.nD Cert.CoDxRefIdeal.τ Cert.CoDxRefIdeal.sig) → Buf (Elt Ideal) ℓ) : Prop :=
  True

def Pre_InA (m : (ℓ : Loc Cert.InA.nD Cert.InA.τ Cert.InA.sig) → Buf (Elt Bits) ℓ) : Prop :=
  True

def Pre_InAIdeal (m : (ℓ : Loc Cert.InAIdeal.nD Cert.InAIdeal.τ Cert.InAIdeal.sig) → Buf (Elt Ideal) ℓ) : Prop :=
  True

def Pre_InARefIdeal (m : (ℓ : Loc Cert.InARefIdeal.nD Cert.InARefIdeal.τ Cert.InARefIdeal.sig) → Buf (Elt Ideal) ℓ) : Prop :=
  True

def Pre_Uq (m : (ℓ : Loc Cert.Uq.nD Cert.Uq.τ Cert.Uq.sig) → Buf (Elt Bits) ℓ) : Prop :=
  True

def Pre_UqIdeal (m : (ℓ : Loc Cert.UqIdeal.nD Cert.UqIdeal.τ Cert.UqIdeal.sig) → Buf (Elt Ideal) ℓ) : Prop :=
  True

def Pre_UqRefIdeal (m : (ℓ : Loc Cert.UqRefIdeal.nD Cert.UqRefIdeal.τ Cert.UqRefIdeal.sig) → Buf (Elt Ideal) ℓ) : Prop :=
  True

def Pre_UqDw (m : (ℓ : Loc Cert.UqDw.nD Cert.UqDw.τ Cert.UqDw.sig) → Buf (Elt Bits) ℓ) : Prop :=
  True

def Pre_UqDwIdeal (m : (ℓ : Loc Cert.UqDwIdeal.nD Cert.UqDwIdeal.τ Cert.UqDwIdeal.sig) → Buf (Elt Ideal) ℓ) : Prop :=
  True

def Pre_UqDwRefIdeal (m : (ℓ : Loc Cert.UqDwRefIdeal.nD Cert.UqDwRefIdeal.τ Cert.UqDwRefIdeal.sig) → Buf (Elt Ideal) ℓ) : Prop :=
  True

def Pre_UqDx (m : (ℓ : Loc Cert.UqDx.nD Cert.UqDx.τ Cert.UqDx.sig) → Buf (Elt Bits) ℓ) : Prop :=
  True

def Pre_UqDxIdeal (m : (ℓ : Loc Cert.UqDxIdeal.nD Cert.UqDxIdeal.τ Cert.UqDxIdeal.sig) → Buf (Elt Ideal) ℓ) : Prop :=
  True

def Pre_UqDxRefIdeal (m : (ℓ : Loc Cert.UqDxRefIdeal.nD Cert.UqDxRefIdeal.τ Cert.UqDxRefIdeal.sig) → Buf (Elt Ideal) ℓ) : Prop :=
  True

def Pre_Ukv (m : (ℓ : Loc Cert.Ukv.nD Cert.Ukv.τ Cert.Ukv.sig) → Buf (Elt Bits) ℓ) : Prop :=
  True

def Pre_UkvIdeal (m : (ℓ : Loc Cert.UkvIdeal.nD Cert.UkvIdeal.τ Cert.UkvIdeal.sig) → Buf (Elt Ideal) ℓ) : Prop :=
  True

def Pre_UkvRefIdeal (m : (ℓ : Loc Cert.UkvRefIdeal.nD Cert.UkvRefIdeal.τ Cert.UkvRefIdeal.sig) → Buf (Elt Ideal) ℓ) : Prop :=
  True

def Pre_UkvDw (m : (ℓ : Loc Cert.UkvDw.nD Cert.UkvDw.τ Cert.UkvDw.sig) → Buf (Elt Bits) ℓ) : Prop :=
  True

def Pre_UkvDwIdeal (m : (ℓ : Loc Cert.UkvDwIdeal.nD Cert.UkvDwIdeal.τ Cert.UkvDwIdeal.sig) → Buf (Elt Ideal) ℓ) : Prop :=
  True

def Pre_UkvDwRefIdeal (m : (ℓ : Loc Cert.UkvDwRefIdeal.nD Cert.UkvDwRefIdeal.τ Cert.UkvDwRefIdeal.sig) → Buf (Elt Ideal) ℓ) : Prop :=
  True

def Pre_UkvDx (m : (ℓ : Loc Cert.UkvDx.nD Cert.UkvDx.τ Cert.UkvDx.sig) → Buf (Elt Bits) ℓ) : Prop :=
  True

def Pre_UkvDxIdeal (m : (ℓ : Loc Cert.UkvDxIdeal.nD Cert.UkvDxIdeal.τ Cert.UkvDxIdeal.sig) → Buf (Elt Ideal) ℓ) : Prop :=
  True

def Pre_UkvDxRefIdeal (m : (ℓ : Loc Cert.UkvDxRefIdeal.nD Cert.UkvDxRefIdeal.τ Cert.UkvDxRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_AdaDw (m : (ℓ : Loc Cert.AdaDw.nD Cert.AdaDw.τ Cert.AdaDw.sig) → Buf (Elt Bits) ℓ) : Prop :=
  True

def Pre_AdaDwIdeal (m : (ℓ : Loc Cert.AdaDwIdeal.nD Cert.AdaDwIdeal.τ Cert.AdaDwIdeal.sig) → Buf (Elt Ideal) ℓ) : Prop :=
  True

def Pre_AdaDwRefIdeal (m : (ℓ : Loc Cert.AdaDwRefIdeal.nD Cert.AdaDwRefIdeal.τ Cert.AdaDwRefIdeal.sig) → Buf (Elt Ideal) ℓ) : Prop :=
  True

def Pre_AdaDx (m : (ℓ : Loc Cert.AdaDx.nD Cert.AdaDx.τ Cert.AdaDx.sig) → Buf (Elt Bits) ℓ) : Prop :=
  True

def Pre_AdaDxIdeal (m : (ℓ : Loc Cert.AdaDxIdeal.nD Cert.AdaDxIdeal.τ Cert.AdaDxIdeal.sig) → Buf (Elt Ideal) ℓ) : Prop :=
  True

def Pre_AdaDxRefIdeal (m : (ℓ : Loc Cert.AdaDxRefIdeal.nD Cert.AdaDxRefIdeal.τ Cert.AdaDxRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_Wo [hWo : Cert.Wo.Facts] : Prop :=
  ∀ (m : (ℓ : Loc Cert.Wo.nD Cert.Wo.τ Cert.Wo.sig) → Buf (Elt Bits) ℓ) (g : Dev Cert.Wo.nD → PrngReg), Pre_Wo m →
    θ_run (Cert.Wo.defs (F := Bits)) (onTc (τ := Cert.Wo.τ) (Cert.Wo.main (F := Bits))) ⟨m, fun _ => 0, g⟩ (fun r => (∀ c : Dev Cert.Wo.nD,
      r.2.mem ((c.tc : Thread Cert.Wo.nD Cert.Wo.τ).loc Cert.Wo.main_arg0) = m ((c.tc : Thread Cert.Wo.nD Cert.Wo.τ).loc Cert.Wo.main_arg0)
      ∧ r.2.mem ((c.tc : Thread Cert.Wo.nD Cert.Wo.τ).loc Cert.Wo.main_arg1) = m ((c.tc : Thread Cert.Wo.nD Cert.Wo.τ).loc Cert.Wo.main_arg1))
      ∧ r.2.sem = fun _ => 0)

def quiescent_WoIdeal [hWoIdeal : Cert.WoIdeal.Facts] : Prop :=
  ∀ (m : (ℓ : Loc Cert.WoIdeal.nD Cert.WoIdeal.τ Cert.WoIdeal.sig) → Buf (Elt Ideal) ℓ) (g : Dev Cert.WoIdeal.nD → PrngReg), Pre_WoIdeal m →
    θ_run (Cert.WoIdeal.defs (F := Ideal)) (onTc (τ := Cert.WoIdeal.τ) (Cert.WoIdeal.main (F := Ideal))) ⟨m, fun _ => 0, g⟩ (fun r => (∀ c : Dev Cert.WoIdeal.nD,
      r.2.mem ((c.tc : Thread Cert.WoIdeal.nD Cert.WoIdeal.τ).loc Cert.WoIdeal.main_arg0) = m ((c.tc : Thread Cert.WoIdeal.nD Cert.WoIdeal.τ).loc Cert.WoIdeal.main_arg0)
      ∧ r.2.mem ((c.tc : Thread Cert.WoIdeal.nD Cert.WoIdeal.τ).loc Cert.WoIdeal.main_arg1) = m ((c.tc : Thread Cert.WoIdeal.nD Cert.WoIdeal.τ).loc Cert.WoIdeal.main_arg1))
      ∧ r.2.sem = fun _ => 0)

def quiescent_WoRefIdeal [hWoRefIdeal : Cert.WoRefIdeal.Facts] : Prop :=
  ∀ (m : (ℓ : Loc Cert.WoRefIdeal.nD Cert.WoRefIdeal.τ Cert.WoRefIdeal.sig) → Buf (Elt Ideal) ℓ) (g : Dev Cert.WoRefIdeal.nD → PrngReg), Pre_WoRefIdeal m →
    θ_run (Cert.WoRefIdeal.defs (F := Ideal)) (onTc (τ := Cert.WoRefIdeal.τ) (Cert.WoRefIdeal.main (F := Ideal))) ⟨m, fun _ => 0, g⟩ (fun r => (∀ c : Dev Cert.WoRefIdeal.nD,
      r.2.mem ((c.tc : Thread Cert.WoRefIdeal.nD Cert.WoRefIdeal.τ).loc Cert.WoRefIdeal.main_arg0) = m ((c.tc : Thread Cert.WoRefIdeal.nD Cert.WoRefIdeal.τ).loc Cert.WoRefIdeal.main_arg0)
      ∧ r.2.mem ((c.tc : Thread Cert.WoRefIdeal.nD Cert.WoRefIdeal.τ).loc Cert.WoRefIdeal.main_arg1) = m ((c.tc : Thread Cert.WoRefIdeal.nD Cert.WoRefIdeal.τ).loc Cert.WoRefIdeal.main_arg1))
      ∧ r.2.sem = fun _ => 0)

def quiescent_WoDw [hWoDw : Cert.WoDw.Facts] : Prop :=
  ∀ (m : (ℓ : Loc Cert.WoDw.nD Cert.WoDw.τ Cert.WoDw.sig) → Buf (Elt Bits) ℓ) (g : Dev Cert.WoDw.nD → PrngReg), Pre_WoDw m →
    θ_run (Cert.WoDw.defs (F := Bits)) (onTc (τ := Cert.WoDw.τ) (Cert.WoDw.main (F := Bits))) ⟨m, fun _ => 0, g⟩ (fun r => (∀ c : Dev Cert.WoDw.nD,
      r.2.mem ((c.tc : Thread Cert.WoDw.nD Cert.WoDw.τ).loc Cert.WoDw.main_arg0) = m ((c.tc : Thread Cert.WoDw.nD Cert.WoDw.τ).loc Cert.WoDw.main_arg0)
      ∧ r.2.mem ((c.tc : Thread Cert.WoDw.nD Cert.WoDw.τ).loc Cert.WoDw.main_arg1) = m ((c.tc : Thread Cert.WoDw.nD Cert.WoDw.τ).loc Cert.WoDw.main_arg1))
      ∧ r.2.sem = fun _ => 0)

def quiescent_WoDwIdeal [hWoDwIdeal : Cert.WoDwIdeal.Facts] : Prop :=
  ∀ (m : (ℓ : Loc Cert.WoDwIdeal.nD Cert.WoDwIdeal.τ Cert.WoDwIdeal.sig) → Buf (Elt Ideal) ℓ) (g : Dev Cert.WoDwIdeal.nD → PrngReg), Pre_WoDwIdeal m →
    θ_run (Cert.WoDwIdeal.defs (F := Ideal)) (onTc (τ := Cert.WoDwIdeal.τ) (Cert.WoDwIdeal.main (F := Ideal))) ⟨m, fun _ => 0, g⟩ (fun r => (∀ c : Dev Cert.WoDwIdeal.nD,
      r.2.mem ((c.tc : Thread Cert.WoDwIdeal.nD Cert.WoDwIdeal.τ).loc Cert.WoDwIdeal.main_arg0) = m ((c.tc : Thread Cert.WoDwIdeal.nD Cert.WoDwIdeal.τ).loc Cert.WoDwIdeal.main_arg0)
      ∧ r.2.mem ((c.tc : Thread Cert.WoDwIdeal.nD Cert.WoDwIdeal.τ).loc Cert.WoDwIdeal.main_arg1) = m ((c.tc : Thread Cert.WoDwIdeal.nD Cert.WoDwIdeal.τ).loc Cert.WoDwIdeal.main_arg1))
      ∧ r.2.sem = fun _ => 0)

def quiescent_WoDwRefIdeal [hWoDwRefIdeal : Cert.WoDwRefIdeal.Facts] : Prop :=
  ∀ (m : (ℓ : Loc Cert.WoDwRefIdeal.nD Cert.WoDwRefIdeal.τ Cert.WoDwRefIdeal.sig) → Buf (Elt Ideal) ℓ) (g : Dev Cert.WoDwRefIdeal.nD → PrngReg), Pre_WoDwRefIdeal m →
    θ_run (Cert.WoDwRefIdeal.defs (F := Ideal)) (onTc (τ := Cert.WoDwRefIdeal.τ) (Cert.WoDwRefIdeal.main (F := Ideal))) ⟨m, fun _ => 0, g⟩ (fun r => (∀ c : Dev Cert.WoDwRefIdeal.nD,
      r.2.mem ((c.tc : Thread Cert.WoDwRefIdeal.nD Cert.WoDwRefIdeal.τ).loc Cert.WoDwRefIdeal.main_arg0) = m ((c.tc : Thread Cert.WoDwRefIdeal.nD Cert.WoDwRefIdeal.τ).loc Cert.WoDwRefIdeal.main_arg0)
      ∧ r.2.mem ((c.tc : Thread Cert.WoDwRefIdeal.nD Cert.WoDwRefIdeal.τ).loc Cert.WoDwRefIdeal.main_arg1) = m ((c.tc : Thread Cert.WoDwRefIdeal.nD Cert.WoDwRefIdeal.τ).loc Cert.WoDwRefIdeal.main_arg1))
      ∧ r.2.sem = fun _ => 0)

def quiescent_WoDx [hWoDx : Cert.WoDx.Facts] : Prop :=
  ∀ (m : (ℓ : Loc Cert.WoDx.nD Cert.WoDx.τ Cert.WoDx.sig) → Buf (Elt Bits) ℓ) (g : Dev Cert.WoDx.nD → PrngReg), Pre_WoDx m →
    θ_run (Cert.WoDx.defs (F := Bits)) (onTc (τ := Cert.WoDx.τ) (Cert.WoDx.main (F := Bits))) ⟨m, fun _ => 0, g⟩ (fun r => (∀ c : Dev Cert.WoDx.nD,
      r.2.mem ((c.tc : Thread Cert.WoDx.nD Cert.WoDx.τ).loc Cert.WoDx.main_arg0) = m ((c.tc : Thread Cert.WoDx.nD Cert.WoDx.τ).loc Cert.WoDx.main_arg0)
      ∧ r.2.mem ((c.tc : Thread Cert.WoDx.nD Cert.WoDx.τ).loc Cert.WoDx.main_arg1) = m ((c.tc : Thread Cert.WoDx.nD Cert.WoDx.τ).loc Cert.WoDx.main_arg1))
      ∧ r.2.sem = fun _ => 0)

def quiescent_WoDxIdeal [hWoDxIdeal : Cert.WoDxIdeal.Facts] : Prop :=
  ∀ (m : (ℓ : Loc Cert.WoDxIdeal.nD Cert.WoDxIdeal.τ Cert.WoDxIdeal.sig) → Buf (Elt Ideal) ℓ) (g : Dev Cert.WoDxIdeal.nD → PrngReg), Pre_WoDxIdeal m →
    θ_run (Cert.WoDxIdeal.defs (F := Ideal)) (onTc (τ := Cert.WoDxIdeal.τ) (Cert.WoDxIdeal.main (F := Ideal))) ⟨m, fun _ => 0, g⟩ (fun r => (∀ c : Dev Cert.WoDxIdeal.nD,
      r.2.mem ((c.tc : Thread Cert.WoDxIdeal.nD Cert.WoDxIdeal.τ).loc Cert.WoDxIdeal.main_arg0) = m ((c.tc : Thread Cert.WoDxIdeal.nD Cert.WoDxIdeal.τ).loc Cert.WoDxIdeal.main_arg0)
      ∧ r.2.mem ((c.tc : Thread Cert.WoDxIdeal.nD Cert.WoDxIdeal.τ).loc Cert.WoDxIdeal.main_arg1) = m ((c.tc : Thread Cert.WoDxIdeal.nD Cert.WoDxIdeal.τ).loc Cert.WoDxIdeal.main_arg1))
      ∧ r.2.sem = fun _ => 0)

def quiescent_WoDxRefIdeal [hWoDxRefIdeal : Cert.WoDxRefIdeal.Facts] : Prop :=
  ∀ (m : (ℓ : Loc Cert.WoDxRefIdeal.nD Cert.WoDxRefIdeal.τ Cert.WoDxRefIdeal.sig) → Buf (Elt Ideal) ℓ) (g : Dev Cert.WoDxRefIdeal.nD → PrngReg), Pre_WoDxRefIdeal m →
    θ_run (Cert.WoDxRefIdeal.defs (F := Ideal)) (onTc (τ := Cert.WoDxRefIdeal.τ) (Cert.WoDxRefIdeal.main (F := Ideal))) ⟨m, fun _ => 0, g⟩ (fun r => (∀ c : Dev Cert.WoDxRefIdeal.nD,
      r.2.mem ((c.tc : Thread Cert.WoDxRefIdeal.nD Cert.WoDxRefIdeal.τ).loc Cert.WoDxRefIdeal.main_arg0) = m ((c.tc : Thread Cert.WoDxRefIdeal.nD Cert.WoDxRefIdeal.τ).loc Cert.WoDxRefIdeal.main_arg0)
      ∧ r.2.mem ((c.tc : Thread Cert.WoDxRefIdeal.nD Cert.WoDxRefIdeal.τ).loc Cert.WoDxRefIdeal.main_arg1) = m ((c.tc : Thread Cert.WoDxRefIdeal.nD Cert.WoDxRefIdeal.τ).loc Cert.WoDxRefIdeal.main_arg1))
      ∧ r.2.sem = fun _ => 0)

def quiescent_Ao [hAo : Cert.Ao.Facts] : Prop :=
  ∀ (m : (ℓ : Loc Cert.Ao.nD Cert.Ao.τ Cert.Ao.sig) → Buf (Elt Bits) ℓ) (g : Dev Cert.Ao.nD → PrngReg), Pre_Ao m →
    θ_run (Cert.Ao.defs (F := Bits)) (onTc (τ := Cert.Ao.τ) (Cert.Ao.main (F := Bits))) ⟨m, fun _ => 0, g⟩ (fun r => (∀ c : Dev Cert.Ao.nD,
      r.2.mem ((c.tc : Thread Cert.Ao.nD Cert.Ao.τ).loc Cert.Ao.main_arg0) = m ((c.tc : Thread Cert.Ao.nD Cert.Ao.τ).loc Cert.Ao.main_arg0)
      ∧ r.2.mem ((c.tc : Thread Cert.Ao.nD Cert.Ao.τ).loc Cert.Ao.main_arg1) = m ((c.tc : Thread Cert.Ao.nD Cert.Ao.τ).loc Cert.Ao.main_arg1))
      ∧ r.2.sem = fun _ => 0)

def quiescent_AoIdeal [hAoIdeal : Cert.AoIdeal.Facts] : Prop :=
  ∀ (m : (ℓ : Loc Cert.AoIdeal.nD Cert.AoIdeal.τ Cert.AoIdeal.sig) → Buf (Elt Ideal) ℓ) (g : Dev Cert.AoIdeal.nD → PrngReg), Pre_AoIdeal m →
    θ_run (Cert.AoIdeal.defs (F := Ideal)) (onTc (τ := Cert.AoIdeal.τ) (Cert.AoIdeal.main (F := Ideal))) ⟨m, fun _ => 0, g⟩ (fun r => (∀ c : Dev Cert.AoIdeal.nD,
      r.2.mem ((c.tc : Thread Cert.AoIdeal.nD Cert.AoIdeal.τ).loc Cert.AoIdeal.main_arg0) = m ((c.tc : Thread Cert.AoIdeal.nD Cert.AoIdeal.τ).loc Cert.AoIdeal.main_arg0)
      ∧ r.2.mem ((c.tc : Thread Cert.AoIdeal.nD Cert.AoIdeal.τ).loc Cert.AoIdeal.main_arg1) = m ((c.tc : Thread Cert.AoIdeal.nD Cert.AoIdeal.τ).loc Cert.AoIdeal.main_arg1))
      ∧ r.2.sem = fun _ => 0)

def quiescent_AoRefIdeal [hAoRefIdeal : Cert.AoRefIdeal.Facts] : Prop :=
  ∀ (m : (ℓ : Loc Cert.AoRefIdeal.nD Cert.AoRefIdeal.τ Cert.AoRefIdeal.sig) → Buf (Elt Ideal) ℓ) (g : Dev Cert.AoRefIdeal.nD → PrngReg), Pre_AoRefIdeal m →
    θ_run (Cert.AoRefIdeal.defs (F := Ideal)) (onTc (τ := Cert.AoRefIdeal.τ) (Cert.AoRefIdeal.main (F := Ideal))) ⟨m, fun _ => 0, g⟩ (fun r => (∀ c : Dev Cert.AoRefIdeal.nD,
      r.2.mem ((c.tc : Thread Cert.AoRefIdeal.nD Cert.AoRefIdeal.τ).loc Cert.AoRefIdeal.main_arg0) = m ((c.tc : Thread Cert.AoRefIdeal.nD Cert.AoRefIdeal.τ).loc Cert.AoRefIdeal.main_arg0)
      ∧ r.2.mem ((c.tc : Thread Cert.AoRefIdeal.nD Cert.AoRefIdeal.τ).loc Cert.AoRefIdeal.main_arg1) = m ((c.tc : Thread Cert.AoRefIdeal.nD Cert.AoRefIdeal.τ).loc Cert.AoRefIdeal.main_arg1))
      ∧ r.2.sem = fun _ => 0)

def quiescent_AoDw [hAoDw : Cert.AoDw.Facts] : Prop :=
  ∀ (m : (ℓ : Loc Cert.AoDw.nD Cert.AoDw.τ Cert.AoDw.sig) → Buf (Elt Bits) ℓ) (g : Dev Cert.AoDw.nD → PrngReg), Pre_AoDw m →
    θ_run (Cert.AoDw.defs (F := Bits)) (onTc (τ := Cert.AoDw.τ) (Cert.AoDw.main (F := Bits))) ⟨m, fun _ => 0, g⟩ (fun r => (∀ c : Dev Cert.AoDw.nD,
      r.2.mem ((c.tc : Thread Cert.AoDw.nD Cert.AoDw.τ).loc Cert.AoDw.main_arg0) = m ((c.tc : Thread Cert.AoDw.nD Cert.AoDw.τ).loc Cert.AoDw.main_arg0)
      ∧ r.2.mem ((c.tc : Thread Cert.AoDw.nD Cert.AoDw.τ).loc Cert.AoDw.main_arg1) = m ((c.tc : Thread Cert.AoDw.nD Cert.AoDw.τ).loc Cert.AoDw.main_arg1))
      ∧ r.2.sem = fun _ => 0)

def quiescent_AoDwIdeal [hAoDwIdeal : Cert.AoDwIdeal.Facts] : Prop :=
  ∀ (m : (ℓ : Loc Cert.AoDwIdeal.nD Cert.AoDwIdeal.τ Cert.AoDwIdeal.sig) → Buf (Elt Ideal) ℓ) (g : Dev Cert.AoDwIdeal.nD → PrngReg), Pre_AoDwIdeal m →
    θ_run (Cert.AoDwIdeal.defs (F := Ideal)) (onTc (τ := Cert.AoDwIdeal.τ) (Cert.AoDwIdeal.main (F := Ideal))) ⟨m, fun _ => 0, g⟩ (fun r => (∀ c : Dev Cert.AoDwIdeal.nD,
      r.2.mem ((c.tc : Thread Cert.AoDwIdeal.nD Cert.AoDwIdeal.τ).loc Cert.AoDwIdeal.main_arg0) = m ((c.tc : Thread Cert.AoDwIdeal.nD Cert.AoDwIdeal.τ).loc Cert.AoDwIdeal.main_arg0)
      ∧ r.2.mem ((c.tc : Thread Cert.AoDwIdeal.nD Cert.AoDwIdeal.τ).loc Cert.AoDwIdeal.main_arg1) = m ((c.tc : Thread Cert.AoDwIdeal.nD Cert.AoDwIdeal.τ).loc Cert.AoDwIdeal.main_arg1))
      ∧ r.2.sem = fun _ => 0)

def quiescent_AoDwRefIdeal [hAoDwRefIdeal : Cert.AoDwRefIdeal.Facts] : Prop :=
  ∀ (m : (ℓ : Loc Cert.AoDwRefIdeal.nD Cert.AoDwRefIdeal.τ Cert.AoDwRefIdeal.sig) → Buf (Elt Ideal) ℓ) (g : Dev Cert.AoDwRefIdeal.nD → PrngReg), Pre_AoDwRefIdeal m →
    θ_run (Cert.AoDwRefIdeal.defs (F := Ideal)) (onTc (τ := Cert.AoDwRefIdeal.τ) (Cert.AoDwRefIdeal.main (F := Ideal))) ⟨m, fun _ => 0, g⟩ (fun r => (∀ c : Dev Cert.AoDwRefIdeal.nD,
      r.2.mem ((c.tc : Thread Cert.AoDwRefIdeal.nD Cert.AoDwRefIdeal.τ).loc Cert.AoDwRefIdeal.main_arg0) = m ((c.tc : Thread Cert.AoDwRefIdeal.nD Cert.AoDwRefIdeal.τ).loc Cert.AoDwRefIdeal.main_arg0)
      ∧ r.2.mem ((c.tc : Thread Cert.AoDwRefIdeal.nD Cert.AoDwRefIdeal.τ).loc Cert.AoDwRefIdeal.main_arg1) = m ((c.tc : Thread Cert.AoDwRefIdeal.nD Cert.AoDwRefIdeal.τ).loc Cert.AoDwRefIdeal.main_arg1))
      ∧ r.2.sem = fun _ => 0)

def quiescent_AoDx [hAoDx : Cert.AoDx.Facts] : Prop :=
  ∀ (m : (ℓ : Loc Cert.AoDx.nD Cert.AoDx.τ Cert.AoDx.sig) → Buf (Elt Bits) ℓ) (g : Dev Cert.AoDx.nD → PrngReg), Pre_AoDx m →
    θ_run (Cert.AoDx.defs (F := Bits)) (onTc (τ := Cert.AoDx.τ) (Cert.AoDx.main (F := Bits))) ⟨m, fun _ => 0, g⟩ (fun r => (∀ c : Dev Cert.AoDx.nD,
      r.2.mem ((c.tc : Thread Cert.AoDx.nD Cert.AoDx.τ).loc Cert.AoDx.main_arg0) = m ((c.tc : Thread Cert.AoDx.nD Cert.AoDx.τ).loc Cert.AoDx.main_arg0)
      ∧ r.2.mem ((c.tc : Thread Cert.AoDx.nD Cert.AoDx.τ).loc Cert.AoDx.main_arg1) = m ((c.tc : Thread Cert.AoDx.nD Cert.AoDx.τ).loc Cert.AoDx.main_arg1))
      ∧ r.2.sem = fun _ => 0)

def quiescent_AoDxIdeal [hAoDxIdeal : Cert.AoDxIdeal.Facts] : Prop :=
  ∀ (m : (ℓ : Loc Cert.AoDxIdeal.nD Cert.AoDxIdeal.τ Cert.AoDxIdeal.sig) → Buf (Elt Ideal) ℓ) (g : Dev Cert.AoDxIdeal.nD → PrngReg), Pre_AoDxIdeal m →
    θ_run (Cert.AoDxIdeal.defs (F := Ideal)) (onTc (τ := Cert.AoDxIdeal.τ) (Cert.AoDxIdeal.main (F := Ideal))) ⟨m, fun _ => 0, g⟩ (fun r => (∀ c : Dev Cert.AoDxIdeal.nD,
      r.2.mem ((c.tc : Thread Cert.AoDxIdeal.nD Cert.AoDxIdeal.τ).loc Cert.AoDxIdeal.main_arg0) = m ((c.tc : Thread Cert.AoDxIdeal.nD Cert.AoDxIdeal.τ).loc Cert.AoDxIdeal.main_arg0)
      ∧ r.2.mem ((c.tc : Thread Cert.AoDxIdeal.nD Cert.AoDxIdeal.τ).loc Cert.AoDxIdeal.main_arg1) = m ((c.tc : Thread Cert.AoDxIdeal.nD Cert.AoDxIdeal.τ).loc Cert.AoDxIdeal.main_arg1))
      ∧ r.2.sem = fun _ => 0)

def quiescent_AoDxRefIdeal [hAoDxRefIdeal : Cert.AoDxRefIdeal.Facts] : Prop :=
  ∀ (m : (ℓ : Loc Cert.AoDxRefIdeal.nD Cert.AoDxRefIdeal.τ Cert.AoDxRefIdeal.sig) → Buf (Elt Ideal) ℓ) (g : Dev Cert.AoDxRefIdeal.nD → PrngReg), Pre_AoDxRefIdeal m →
    θ_run (Cert.AoDxRefIdeal.defs (F := Ideal)) (onTc (τ := Cert.AoDxRefIdeal.τ) (Cert.AoDxRefIdeal.main (F := Ideal))) ⟨m, fun _ => 0, g⟩ (fun r => (∀ c : Dev Cert.AoDxRefIdeal.nD,
      r.2.mem ((c.tc : Thread Cert.AoDxRefIdeal.nD Cert.AoDxRefIdeal.τ).loc Cert.AoDxRefIdeal.main_arg0) = m ((c.tc : Thread Cert.AoDxRefIdeal.nD Cert.AoDxRefIdeal.τ).loc Cert.AoDxRefIdeal.main_arg0)
      ∧ r.2.mem ((c.tc : Thread Cert.AoDxRefIdeal.nD Cert.AoDxRefIdeal.τ).loc Cert.AoDxRefIdeal.main_arg1) = m ((c.tc : Thread Cert.AoDxRefIdeal.nD Cert.AoDxRefIdeal.τ).loc Cert.AoDxRefIdeal.main_arg1))
      ∧ r.2.sem = fun _ => 0)

def quiescent_Co [hCo : Cert.Co.Facts] : Prop :=
  ∀ (m : (ℓ : Loc Cert.Co.nD Cert.Co.τ Cert.Co.sig) → Buf (Elt Bits) ℓ) (g : Dev Cert.Co.nD → PrngReg), Pre_Co m →
    θ_run (Cert.Co.defs (F := Bits)) (onTc (τ := Cert.Co.τ) (Cert.Co.main (F := Bits))) ⟨m, fun _ => 0, g⟩ (fun r => (∀ c : Dev Cert.Co.nD,
      r.2.mem ((c.tc : Thread Cert.Co.nD Cert.Co.τ).loc Cert.Co.main_arg0) = m ((c.tc : Thread Cert.Co.nD Cert.Co.τ).loc Cert.Co.main_arg0)
      ∧ r.2.mem ((c.tc : Thread Cert.Co.nD Cert.Co.τ).loc Cert.Co.main_arg1) = m ((c.tc : Thread Cert.Co.nD Cert.Co.τ).loc Cert.Co.main_arg1))
      ∧ r.2.sem = fun _ => 0)

def quiescent_CoIdeal [hCoIdeal : Cert.CoIdeal.Facts] : Prop :=
  ∀ (m : (ℓ : Loc Cert.CoIdeal.nD Cert.CoIdeal.τ Cert.CoIdeal.sig) → Buf (Elt Ideal) ℓ) (g : Dev Cert.CoIdeal.nD → PrngReg), Pre_CoIdeal m →
    θ_run (Cert.CoIdeal.defs (F := Ideal)) (onTc (τ := Cert.CoIdeal.τ) (Cert.CoIdeal.main (F := Ideal))) ⟨m, fun _ => 0, g⟩ (fun r => (∀ c : Dev Cert.CoIdeal.nD,
      r.2.mem ((c.tc : Thread Cert.CoIdeal.nD Cert.CoIdeal.τ).loc Cert.CoIdeal.main_arg0) = m ((c.tc : Thread Cert.CoIdeal.nD Cert.CoIdeal.τ).loc Cert.CoIdeal.main_arg0)
      ∧ r.2.mem ((c.tc : Thread Cert.CoIdeal.nD Cert.CoIdeal.τ).loc Cert.CoIdeal.main_arg1) = m ((c.tc : Thread Cert.CoIdeal.nD Cert.CoIdeal.τ).loc Cert.CoIdeal.main_arg1))
      ∧ r.2.sem = fun _ => 0)

def quiescent_CoRefIdeal [hCoRefIdeal : Cert.CoRefIdeal.Facts] : Prop :=
  ∀ (m : (ℓ : Loc Cert.CoRefIdeal.nD Cert.CoRefIdeal.τ Cert.CoRefIdeal.sig) → Buf (Elt Ideal) ℓ) (g : Dev Cert.CoRefIdeal.nD → PrngReg), Pre_CoRefIdeal m →
    θ_run (Cert.CoRefIdeal.defs (F := Ideal)) (onTc (τ := Cert.CoRefIdeal.τ) (Cert.CoRefIdeal.main (F := Ideal))) ⟨m, fun _ => 0, g⟩ (fun r => (∀ c : Dev Cert.CoRefIdeal.nD,
      r.2.mem ((c.tc : Thread Cert.CoRefIdeal.nD Cert.CoRefIdeal.τ).loc Cert.CoRefIdeal.main_arg0) = m ((c.tc : Thread Cert.CoRefIdeal.nD Cert.CoRefIdeal.τ).loc Cert.CoRefIdeal.main_arg0)
      ∧ r.2.mem ((c.tc : Thread Cert.CoRefIdeal.nD Cert.CoRefIdeal.τ).loc Cert.CoRefIdeal.main_arg1) = m ((c.tc : Thread Cert.CoRefIdeal.nD Cert.CoRefIdeal.τ).loc Cert.CoRefIdeal.main_arg1))
      ∧ r.2.sem = fun _ => 0)

def quiescent_CoDw [hCoDw : Cert.CoDw.Facts] : Prop :=
  ∀ (m : (ℓ : Loc Cert.CoDw.nD Cert.CoDw.τ Cert.CoDw.sig) → Buf (Elt Bits) ℓ) (g : Dev Cert.CoDw.nD → PrngReg), Pre_CoDw m →
    θ_run (Cert.CoDw.defs (F := Bits)) (onTc (τ := Cert.CoDw.τ) (Cert.CoDw.main (F := Bits))) ⟨m, fun _ => 0, g⟩ (fun r => (∀ c : Dev Cert.CoDw.nD,
      r.2.mem ((c.tc : Thread Cert.CoDw.nD Cert.CoDw.τ).loc Cert.CoDw.main_arg0) = m ((c.tc : Thread Cert.CoDw.nD Cert.CoDw.τ).loc Cert.CoDw.main_arg0)
      ∧ r.2.mem ((c.tc : Thread Cert.CoDw.nD Cert.CoDw.τ).loc Cert.CoDw.main_arg1) = m ((c.tc : Thread Cert.CoDw.nD Cert.CoDw.τ).loc Cert.CoDw.main_arg1))
      ∧ r.2.sem = fun _ => 0)

def quiescent_CoDwIdeal [hCoDwIdeal : Cert.CoDwIdeal.Facts] : Prop :=
  ∀ (m : (ℓ : Loc Cert.CoDwIdeal.nD Cert.CoDwIdeal.τ Cert.CoDwIdeal.sig) → Buf (Elt Ideal) ℓ) (g : Dev Cert.CoDwIdeal.nD → PrngReg), Pre_CoDwIdeal m →
    θ_run (Cert.CoDwIdeal.defs (F := Ideal)) (onTc (τ := Cert.CoDwIdeal.τ) (Cert.CoDwIdeal.main (F := Ideal))) ⟨m, fun _ => 0, g⟩ (fun r => (∀ c : Dev Cert.CoDwIdeal.nD,
      r.2.mem ((c.tc : Thread Cert.CoDwIdeal.nD Cert.CoDwIdeal.τ).loc Cert.CoDwIdeal.main_arg0) = m ((c.tc : Thread Cert.CoDwIdeal.nD Cert.CoDwIdeal.τ).loc Cert.CoDwIdeal.main_arg0)
      ∧ r.2.mem ((c.tc : Thread Cert.CoDwIdeal.nD Cert.CoDwIdeal.τ).loc Cert.CoDwIdeal.main_arg1) = m ((c.tc : Thread Cert.CoDwIdeal.nD Cert.CoDwIdeal.τ).loc Cert.CoDwIdeal.main_arg1))
      ∧ r.2.sem = fun _ => 0)

def quiescent_CoDwRefIdeal [hCoDwRefIdeal : Cert.CoDwRefIdeal.Facts] : Prop :=
  ∀ (m : (ℓ : Loc Cert.CoDwRefIdeal.nD Cert.CoDwRefIdeal.τ Cert.CoDwRefIdeal.sig) → Buf (Elt Ideal) ℓ) (g : Dev Cert.CoDwRefIdeal.nD → PrngReg), Pre_CoDwRefIdeal m →
    θ_run (Cert.CoDwRefIdeal.defs (F := Ideal)) (onTc (τ := Cert.CoDwRefIdeal.τ) (Cert.CoDwRefIdeal.main (F := Ideal))) ⟨m, fun _ => 0, g⟩ (fun r => (∀ c : Dev Cert.CoDwRefIdeal.nD,
      r.2.mem ((c.tc : Thread Cert.CoDwRefIdeal.nD Cert.CoDwRefIdeal.τ).loc Cert.CoDwRefIdeal.main_arg0) = m ((c.tc : Thread Cert.CoDwRefIdeal.nD Cert.CoDwRefIdeal.τ).loc Cert.CoDwRefIdeal.main_arg0)
      ∧ r.2.mem ((c.tc : Thread Cert.CoDwRefIdeal.nD Cert.CoDwRefIdeal.τ).loc Cert.CoDwRefIdeal.main_arg1) = m ((c.tc : Thread Cert.CoDwRefIdeal.nD Cert.CoDwRefIdeal.τ).loc Cert.CoDwRefIdeal.main_arg1))
      ∧ r.2.sem = fun _ => 0)

def quiescent_CoDx [hCoDx : Cert.CoDx.Facts] : Prop :=
  ∀ (m : (ℓ : Loc Cert.CoDx.nD Cert.CoDx.τ Cert.CoDx.sig) → Buf (Elt Bits) ℓ) (g : Dev Cert.CoDx.nD → PrngReg), Pre_CoDx m →
    θ_run (Cert.CoDx.defs (F := Bits)) (onTc (τ := Cert.CoDx.τ) (Cert.CoDx.main (F := Bits))) ⟨m, fun _ => 0, g⟩ (fun r => (∀ c : Dev Cert.CoDx.nD,
      r.2.mem ((c.tc : Thread Cert.CoDx.nD Cert.CoDx.τ).loc Cert.CoDx.main_arg0) = m ((c.tc : Thread Cert.CoDx.nD Cert.CoDx.τ).loc Cert.CoDx.main_arg0)
      ∧ r.2.mem ((c.tc : Thread Cert.CoDx.nD Cert.CoDx.τ).loc Cert.CoDx.main_arg1) = m ((c.tc : Thread Cert.CoDx.nD Cert.CoDx.τ).loc Cert.CoDx.main_arg1))
      ∧ r.2.sem = fun _ => 0)

def quiescent_CoDxIdeal [hCoDxIdeal : Cert.CoDxIdeal.Facts] : Prop :=
  ∀ (m : (ℓ : Loc Cert.CoDxIdeal.nD Cert.CoDxIdeal.τ Cert.CoDxIdeal.sig) → Buf (Elt Ideal) ℓ) (g : Dev Cert.CoDxIdeal.nD → PrngReg), Pre_CoDxIdeal m →
    θ_run (Cert.CoDxIdeal.defs (F := Ideal)) (onTc (τ := Cert.CoDxIdeal.τ) (Cert.CoDxIdeal.main (F := Ideal))) ⟨m, fun _ => 0, g⟩ (fun r => (∀ c : Dev Cert.CoDxIdeal.nD,
      r.2.mem ((c.tc : Thread Cert.CoDxIdeal.nD Cert.CoDxIdeal.τ).loc Cert.CoDxIdeal.main_arg0) = m ((c.tc : Thread Cert.CoDxIdeal.nD Cert.CoDxIdeal.τ).loc Cert.CoDxIdeal.main_arg0)
      ∧ r.2.mem ((c.tc : Thread Cert.CoDxIdeal.nD Cert.CoDxIdeal.τ).loc Cert.CoDxIdeal.main_arg1) = m ((c.tc : Thread Cert.CoDxIdeal.nD Cert.CoDxIdeal.τ).loc Cert.CoDxIdeal.main_arg1))
      ∧ r.2.sem = fun _ => 0)

def quiescent_CoDxRefIdeal [hCoDxRefIdeal : Cert.CoDxRefIdeal.Facts] : Prop :=
  ∀ (m : (ℓ : Loc Cert.CoDxRefIdeal.nD Cert.CoDxRefIdeal.τ Cert.CoDxRefIdeal.sig) → Buf (Elt Ideal) ℓ) (g : Dev Cert.CoDxRefIdeal.nD → PrngReg), Pre_CoDxRefIdeal m →
    θ_run (Cert.CoDxRefIdeal.defs (F := Ideal)) (onTc (τ := Cert.CoDxRefIdeal.τ) (Cert.CoDxRefIdeal.main (F := Ideal))) ⟨m, fun _ => 0, g⟩ (fun r => (∀ c : Dev Cert.CoDxRefIdeal.nD,
      r.2.mem ((c.tc : Thread Cert.CoDxRefIdeal.nD Cert.CoDxRefIdeal.τ).loc Cert.CoDxRefIdeal.main_arg0) = m ((c.tc : Thread Cert.CoDxRefIdeal.nD Cert.CoDxRefIdeal.τ).loc Cert.CoDxRefIdeal.main_arg0)
      ∧ r.2.mem ((c.tc : Thread Cert.CoDxRefIdeal.nD Cert.CoDxRefIdeal.τ).loc Cert.CoDxRefIdeal.main_arg1) = m ((c.tc : Thread Cert.CoDxRefIdeal.nD Cert.CoDxRefIdeal.τ).loc Cert.CoDxRefIdeal.main_arg1))
      ∧ r.2.sem = fun _ => 0)

def quiescent_InA [hInA : Cert.InA.Facts] : Prop :=
  ∀ (m : (ℓ : Loc Cert.InA.nD Cert.InA.τ Cert.InA.sig) → Buf (Elt Bits) ℓ) (g : Dev Cert.InA.nD → PrngReg), Pre_InA m →
    θ_run (Cert.InA.defs (F := Bits)) (onTc (τ := Cert.InA.τ) (Cert.InA.main (F := Bits))) ⟨m, fun _ => 0, g⟩ (fun r => (∀ c : Dev Cert.InA.nD,
      r.2.mem ((c.tc : Thread Cert.InA.nD Cert.InA.τ).loc Cert.InA.main_arg0) = m ((c.tc : Thread Cert.InA.nD Cert.InA.τ).loc Cert.InA.main_arg0)
      ∧ r.2.mem ((c.tc : Thread Cert.InA.nD Cert.InA.τ).loc Cert.InA.main_arg1) = m ((c.tc : Thread Cert.InA.nD Cert.InA.τ).loc Cert.InA.main_arg1))
      ∧ r.2.sem = fun _ => 0)

def quiescent_InAIdeal [hInAIdeal : Cert.InAIdeal.Facts] : Prop :=
  ∀ (m : (ℓ : Loc Cert.InAIdeal.nD Cert.InAIdeal.τ Cert.InAIdeal.sig) → Buf (Elt Ideal) ℓ) (g : Dev Cert.InAIdeal.nD → PrngReg), Pre_InAIdeal m →
    θ_run (Cert.InAIdeal.defs (F := Ideal)) (onTc (τ := Cert.InAIdeal.τ) (Cert.InAIdeal.main (F := Ideal))) ⟨m, fun _ => 0, g⟩ (fun r => (∀ c : Dev Cert.InAIdeal.nD,
      r.2.mem ((c.tc : Thread Cert.InAIdeal.nD Cert.InAIdeal.τ).loc Cert.InAIdeal.main_arg0) = m ((c.tc : Thread Cert.InAIdeal.nD Cert.InAIdeal.τ).loc Cert.InAIdeal.main_arg0)
      ∧ r.2.mem ((c.tc : Thread Cert.InAIdeal.nD Cert.InAIdeal.τ).loc Cert.InAIdeal.main_arg1) = m ((c.tc : Thread Cert.InAIdeal.nD Cert.InAIdeal.τ).loc Cert.InAIdeal.main_arg1))
      ∧ r.2.sem = fun _ => 0)

def quiescent_InARefIdeal [hInARefIdeal : Cert.InARefIdeal.Facts] : Prop :=
  ∀ (m : (ℓ : Loc Cert.InARefIdeal.nD Cert.InARefIdeal.τ Cert.InARefIdeal.sig) → Buf (Elt Ideal) ℓ) (g : Dev Cert.InARefIdeal.nD → PrngReg), Pre_InARefIdeal m →
    θ_run (Cert.InARefIdeal.defs (F := Ideal)) (onTc (τ := Cert.InARefIdeal.τ) (Cert.InARefIdeal.main (F := Ideal))) ⟨m, fun _ => 0, g⟩ (fun r => (∀ c : Dev Cert.InARefIdeal.nD,
      r.2.mem ((c.tc : Thread Cert.InARefIdeal.nD Cert.InARefIdeal.τ).loc Cert.InARefIdeal.main_arg0) = m ((c.tc : Thread Cert.InARefIdeal.nD Cert.InARefIdeal.τ).loc Cert.InARefIdeal.main_arg0)
      ∧ r.2.mem ((c.tc : Thread Cert.InARefIdeal.nD Cert.InARefIdeal.τ).loc Cert.InARefIdeal.main_arg1) = m ((c.tc : Thread Cert.InARefIdeal.nD Cert.InARefIdeal.τ).loc Cert.InARefIdeal.main_arg1))
      ∧ r.2.sem = fun _ => 0)

def quiescent_Uq [hUq : Cert.Uq.Facts] : Prop :=
  ∀ (m : (ℓ : Loc Cert.Uq.nD Cert.Uq.τ Cert.Uq.sig) → Buf (Elt Bits) ℓ) (g : Dev Cert.Uq.nD → PrngReg), Pre_Uq m →
    θ_run (Cert.Uq.defs (F := Bits)) (onTc (τ := Cert.Uq.τ) (Cert.Uq.main (F := Bits))) ⟨m, fun _ => 0, g⟩ (fun r => (∀ c : Dev Cert.Uq.nD,
      r.2.mem ((c.tc : Thread Cert.Uq.nD Cert.Uq.τ).loc Cert.Uq.main_arg0) = m ((c.tc : Thread Cert.Uq.nD Cert.Uq.τ).loc Cert.Uq.main_arg0)
      ∧ r.2.mem ((c.tc : Thread Cert.Uq.nD Cert.Uq.τ).loc Cert.Uq.main_arg1) = m ((c.tc : Thread Cert.Uq.nD Cert.Uq.τ).loc Cert.Uq.main_arg1))
      ∧ r.2.sem = fun _ => 0)

def quiescent_UqIdeal [hUqIdeal : Cert.UqIdeal.Facts] : Prop :=
  ∀ (m : (ℓ : Loc Cert.UqIdeal.nD Cert.UqIdeal.τ Cert.UqIdeal.sig) → Buf (Elt Ideal) ℓ) (g : Dev Cert.UqIdeal.nD → PrngReg), Pre_UqIdeal m →
    θ_run (Cert.UqIdeal.defs (F := Ideal)) (onTc (τ := Cert.UqIdeal.τ) (Cert.UqIdeal.main (F := Ideal))) ⟨m, fun _ => 0, g⟩ (fun r => (∀ c : Dev Cert.UqIdeal.nD,
      r.2.mem ((c.tc : Thread Cert.UqIdeal.nD Cert.UqIdeal.τ).loc Cert.UqIdeal.main_arg0) = m ((c.tc : Thread Cert.UqIdeal.nD Cert.UqIdeal.τ).loc Cert.UqIdeal.main_arg0)
      ∧ r.2.mem ((c.tc : Thread Cert.UqIdeal.nD Cert.UqIdeal.τ).loc Cert.UqIdeal.main_arg1) = m ((c.tc : Thread Cert.UqIdeal.nD Cert.UqIdeal.τ).loc Cert.UqIdeal.main_arg1))
      ∧ r.2.sem = fun _ => 0)

def quiescent_UqRefIdeal [hUqRefIdeal : Cert.UqRefIdeal.Facts] : Prop :=
  ∀ (m : (ℓ : Loc Cert.UqRefIdeal.nD Cert.UqRefIdeal.τ Cert.UqRefIdeal.sig) → Buf (Elt Ideal) ℓ) (g : Dev Cert.UqRefIdeal.nD → PrngReg), Pre_UqRefIdeal m →
    θ_run (Cert.UqRefIdeal.defs (F := Ideal)) (onTc (τ := Cert.UqRefIdeal.τ) (Cert.UqRefIdeal.main (F := Ideal))) ⟨m, fun _ => 0, g⟩ (fun r => (∀ c : Dev Cert.UqRefIdeal.nD,
      r.2.mem ((c.tc : Thread Cert.UqRefIdeal.nD Cert.UqRefIdeal.τ).loc Cert.UqRefIdeal.main_arg0) = m ((c.tc : Thread Cert.UqRefIdeal.nD Cert.UqRefIdeal.τ).loc Cert.UqRefIdeal.main_arg0)
      ∧ r.2.mem ((c.tc : Thread Cert.UqRefIdeal.nD Cert.UqRefIdeal.τ).loc Cert.UqRefIdeal.main_arg1) = m ((c.tc : Thread Cert.UqRefIdeal.nD Cert.UqRefIdeal.τ).loc Cert.UqRefIdeal.main_arg1))
      ∧ r.2.sem = fun _ => 0)

def quiescent_UqDw [hUqDw : Cert.UqDw.Facts] : Prop :=
  ∀ (m : (ℓ : Loc Cert.UqDw.nD Cert.UqDw.τ Cert.UqDw.sig) → Buf (Elt Bits) ℓ) (g : Dev Cert.UqDw.nD → PrngReg), Pre_UqDw m →
    θ_run (Cert.UqDw.defs (F := Bits)) (onTc (τ := Cert.UqDw.τ) (Cert.UqDw.main (F := Bits))) ⟨m, fun _ => 0, g⟩ (fun r => (∀ c : Dev Cert.UqDw.nD,
      r.2.mem ((c.tc : Thread Cert.UqDw.nD Cert.UqDw.τ).loc Cert.UqDw.main_arg0) = m ((c.tc : Thread Cert.UqDw.nD Cert.UqDw.τ).loc Cert.UqDw.main_arg0)
      ∧ r.2.mem ((c.tc : Thread Cert.UqDw.nD Cert.UqDw.τ).loc Cert.UqDw.main_arg1) = m ((c.tc : Thread Cert.UqDw.nD Cert.UqDw.τ).loc Cert.UqDw.main_arg1))
      ∧ r.2.sem = fun _ => 0)

def quiescent_UqDwIdeal [hUqDwIdeal : Cert.UqDwIdeal.Facts] : Prop :=
  ∀ (m : (ℓ : Loc Cert.UqDwIdeal.nD Cert.UqDwIdeal.τ Cert.UqDwIdeal.sig) → Buf (Elt Ideal) ℓ) (g : Dev Cert.UqDwIdeal.nD → PrngReg), Pre_UqDwIdeal m →
    θ_run (Cert.UqDwIdeal.defs (F := Ideal)) (onTc (τ := Cert.UqDwIdeal.τ) (Cert.UqDwIdeal.main (F := Ideal))) ⟨m, fun _ => 0, g⟩ (fun r => (∀ c : Dev Cert.UqDwIdeal.nD,
      r.2.mem ((c.tc : Thread Cert.UqDwIdeal.nD Cert.UqDwIdeal.τ).loc Cert.UqDwIdeal.main_arg0) = m ((c.tc : Thread Cert.UqDwIdeal.nD Cert.UqDwIdeal.τ).loc Cert.UqDwIdeal.main_arg0)
      ∧ r.2.mem ((c.tc : Thread Cert.UqDwIdeal.nD Cert.UqDwIdeal.τ).loc Cert.UqDwIdeal.main_arg1) = m ((c.tc : Thread Cert.UqDwIdeal.nD Cert.UqDwIdeal.τ).loc Cert.UqDwIdeal.main_arg1))
      ∧ r.2.sem = fun _ => 0)

def quiescent_UqDwRefIdeal [hUqDwRefIdeal : Cert.UqDwRefIdeal.Facts] : Prop :=
  ∀ (m : (ℓ : Loc Cert.UqDwRefIdeal.nD Cert.UqDwRefIdeal.τ Cert.UqDwRefIdeal.sig) → Buf (Elt Ideal) ℓ) (g : Dev Cert.UqDwRefIdeal.nD → PrngReg), Pre_UqDwRefIdeal m →
    θ_run (Cert.UqDwRefIdeal.defs (F := Ideal)) (onTc (τ := Cert.UqDwRefIdeal.τ) (Cert.UqDwRefIdeal.main (F := Ideal))) ⟨m, fun _ => 0, g⟩ (fun r => (∀ c : Dev Cert.UqDwRefIdeal.nD,
      r.2.mem ((c.tc : Thread Cert.UqDwRefIdeal.nD Cert.UqDwRefIdeal.τ).loc Cert.UqDwRefIdeal.main_arg0) = m ((c.tc : Thread Cert.UqDwRefIdeal.nD Cert.UqDwRefIdeal.τ).loc Cert.UqDwRefIdeal.main_arg0)
      ∧ r.2.mem ((c.tc : Thread Cert.UqDwRefIdeal.nD Cert.UqDwRefIdeal.τ).loc Cert.UqDwRefIdeal.main_arg1) = m ((c.tc : Thread Cert.UqDwRefIdeal.nD Cert.UqDwRefIdeal.τ).loc Cert.UqDwRefIdeal.main_arg1))
      ∧ r.2.sem = fun _ => 0)

def quiescent_UqDx [hUqDx : Cert.UqDx.Facts] : Prop :=
  ∀ (m : (ℓ : Loc Cert.UqDx.nD Cert.UqDx.τ Cert.UqDx.sig) → Buf (Elt Bits) ℓ) (g : Dev Cert.UqDx.nD → PrngReg), Pre_UqDx m →
    θ_run (Cert.UqDx.defs (F := Bits)) (onTc (τ := Cert.UqDx.τ) (Cert.UqDx.main (F := Bits))) ⟨m, fun _ => 0, g⟩ (fun r => (∀ c : Dev Cert.UqDx.nD,
      r.2.mem ((c.tc : Thread Cert.UqDx.nD Cert.UqDx.τ).loc Cert.UqDx.main_arg0) = m ((c.tc : Thread Cert.UqDx.nD Cert.UqDx.τ).loc Cert.UqDx.main_arg0)
      ∧ r.2.mem ((c.tc : Thread Cert.UqDx.nD Cert.UqDx.τ).loc Cert.UqDx.main_arg1) = m ((c.tc : Thread Cert.UqDx.nD Cert.UqDx.τ).loc Cert.UqDx.main_arg1))
      ∧ r.2.sem = fun _ => 0)

def quiescent_UqDxIdeal [hUqDxIdeal : Cert.UqDxIdeal.Facts] : Prop :=
  ∀ (m : (ℓ : Loc Cert.UqDxIdeal.nD Cert.UqDxIdeal.τ Cert.UqDxIdeal.sig) → Buf (Elt Ideal) ℓ) (g : Dev Cert.UqDxIdeal.nD → PrngReg), Pre_UqDxIdeal m →
    θ_run (Cert.UqDxIdeal.defs (F := Ideal)) (onTc (τ := Cert.UqDxIdeal.τ) (Cert.UqDxIdeal.main (F := Ideal))) ⟨m, fun _ => 0, g⟩ (fun r => (∀ c : Dev Cert.UqDxIdeal.nD,
      r.2.mem ((c.tc : Thread Cert.UqDxIdeal.nD Cert.UqDxIdeal.τ).loc Cert.UqDxIdeal.main_arg0) = m ((c.tc : Thread Cert.UqDxIdeal.nD Cert.UqDxIdeal.τ).loc Cert.UqDxIdeal.main_arg0)
      ∧ r.2.mem ((c.tc : Thread Cert.UqDxIdeal.nD Cert.UqDxIdeal.τ).loc Cert.UqDxIdeal.main_arg1) = m ((c.tc : Thread Cert.UqDxIdeal.nD Cert.UqDxIdeal.τ).loc Cert.UqDxIdeal.main_arg1))
      ∧ r.2.sem = fun _ => 0)

def quiescent_UqDxRefIdeal [hUqDxRefIdeal : Cert.UqDxRefIdeal.Facts] : Prop :=
  ∀ (m : (ℓ : Loc Cert.UqDxRefIdeal.nD Cert.UqDxRefIdeal.τ Cert.UqDxRefIdeal.sig) → Buf (Elt Ideal) ℓ) (g : Dev Cert.UqDxRefIdeal.nD → PrngReg), Pre_UqDxRefIdeal m →
    θ_run (Cert.UqDxRefIdeal.defs (F := Ideal)) (onTc (τ := Cert.UqDxRefIdeal.τ) (Cert.UqDxRefIdeal.main (F := Ideal))) ⟨m, fun _ => 0, g⟩ (fun r => (∀ c : Dev Cert.UqDxRefIdeal.nD,
      r.2.mem ((c.tc : Thread Cert.UqDxRefIdeal.nD Cert.UqDxRefIdeal.τ).loc Cert.UqDxRefIdeal.main_arg0) = m ((c.tc : Thread Cert.UqDxRefIdeal.nD Cert.UqDxRefIdeal.τ).loc Cert.UqDxRefIdeal.main_arg0)
      ∧ r.2.mem ((c.tc : Thread Cert.UqDxRefIdeal.nD Cert.UqDxRefIdeal.τ).loc Cert.UqDxRefIdeal.main_arg1) = m ((c.tc : Thread Cert.UqDxRefIdeal.nD Cert.UqDxRefIdeal.τ).loc Cert.UqDxRefIdeal.main_arg1))
      ∧ r.2.sem = fun _ => 0)

def quiescent_Ukv [hUkv : Cert.Ukv.Facts] : Prop :=
  ∀ (m : (ℓ : Loc Cert.Ukv.nD Cert.Ukv.τ Cert.Ukv.sig) → Buf (Elt Bits) ℓ) (g : Dev Cert.Ukv.nD → PrngReg), Pre_Ukv m →
    θ_run (Cert.Ukv.defs (F := Bits)) (onTc (τ := Cert.Ukv.τ) (Cert.Ukv.main (F := Bits))) ⟨m, fun _ => 0, g⟩ (fun r => (∀ c : Dev Cert.Ukv.nD,
      r.2.mem ((c.tc : Thread Cert.Ukv.nD Cert.Ukv.τ).loc Cert.Ukv.main_arg0) = m ((c.tc : Thread Cert.Ukv.nD Cert.Ukv.τ).loc Cert.Ukv.main_arg0)
      ∧ r.2.mem ((c.tc : Thread Cert.Ukv.nD Cert.Ukv.τ).loc Cert.Ukv.main_arg1) = m ((c.tc : Thread Cert.Ukv.nD Cert.Ukv.τ).loc Cert.Ukv.main_arg1))
      ∧ r.2.sem = fun _ => 0)

def quiescent_UkvIdeal [hUkvIdeal : Cert.UkvIdeal.Facts] : Prop :=
  ∀ (m : (ℓ : Loc Cert.UkvIdeal.nD Cert.UkvIdeal.τ Cert.UkvIdeal.sig) → Buf (Elt Ideal) ℓ) (g : Dev Cert.UkvIdeal.nD → PrngReg), Pre_UkvIdeal m →
    θ_run (Cert.UkvIdeal.defs (F := Ideal)) (onTc (τ := Cert.UkvIdeal.τ) (Cert.UkvIdeal.main (F := Ideal))) ⟨m, fun _ => 0, g⟩ (fun r => (∀ c : Dev Cert.UkvIdeal.nD,
      r.2.mem ((c.tc : Thread Cert.UkvIdeal.nD Cert.UkvIdeal.τ).loc Cert.UkvIdeal.main_arg0) = m ((c.tc : Thread Cert.UkvIdeal.nD Cert.UkvIdeal.τ).loc Cert.UkvIdeal.main_arg0)
      ∧ r.2.mem ((c.tc : Thread Cert.UkvIdeal.nD Cert.UkvIdeal.τ).loc Cert.UkvIdeal.main_arg1) = m ((c.tc : Thread Cert.UkvIdeal.nD Cert.UkvIdeal.τ).loc Cert.UkvIdeal.main_arg1))
      ∧ r.2.sem = fun _ => 0)

def quiescent_UkvRefIdeal [hUkvRefIdeal : Cert.UkvRefIdeal.Facts] : Prop :=
  ∀ (m : (ℓ : Loc Cert.UkvRefIdeal.nD Cert.UkvRefIdeal.τ Cert.UkvRefIdeal.sig) → Buf (Elt Ideal) ℓ) (g : Dev Cert.UkvRefIdeal.nD → PrngReg), Pre_UkvRefIdeal m →
    θ_run (Cert.UkvRefIdeal.defs (F := Ideal)) (onTc (τ := Cert.UkvRefIdeal.τ) (Cert.UkvRefIdeal.main (F := Ideal))) ⟨m, fun _ => 0, g⟩ (fun r => (∀ c : Dev Cert.UkvRefIdeal.nD,
      r.2.mem ((c.tc : Thread Cert.UkvRefIdeal.nD Cert.UkvRefIdeal.τ).loc Cert.UkvRefIdeal.main_arg0) = m ((c.tc : Thread Cert.UkvRefIdeal.nD Cert.UkvRefIdeal.τ).loc Cert.UkvRefIdeal.main_arg0)
      ∧ r.2.mem ((c.tc : Thread Cert.UkvRefIdeal.nD Cert.UkvRefIdeal.τ).loc Cert.UkvRefIdeal.main_arg1) = m ((c.tc : Thread Cert.UkvRefIdeal.nD Cert.UkvRefIdeal.τ).loc Cert.UkvRefIdeal.main_arg1))
      ∧ r.2.sem = fun _ => 0)

def quiescent_UkvDw [hUkvDw : Cert.UkvDw.Facts] : Prop :=
  ∀ (m : (ℓ : Loc Cert.UkvDw.nD Cert.UkvDw.τ Cert.UkvDw.sig) → Buf (Elt Bits) ℓ) (g : Dev Cert.UkvDw.nD → PrngReg), Pre_UkvDw m →
    θ_run (Cert.UkvDw.defs (F := Bits)) (onTc (τ := Cert.UkvDw.τ) (Cert.UkvDw.main (F := Bits))) ⟨m, fun _ => 0, g⟩ (fun r => (∀ c : Dev Cert.UkvDw.nD,
      r.2.mem ((c.tc : Thread Cert.UkvDw.nD Cert.UkvDw.τ).loc Cert.UkvDw.main_arg0) = m ((c.tc : Thread Cert.UkvDw.nD Cert.UkvDw.τ).loc Cert.UkvDw.main_arg0)
      ∧ r.2.mem ((c.tc : Thread Cert.UkvDw.nD Cert.UkvDw.τ).loc Cert.UkvDw.main_arg1) = m ((c.tc : Thread Cert.UkvDw.nD Cert.UkvDw.τ).loc Cert.UkvDw.main_arg1))
      ∧ r.2.sem = fun _ => 0)

def quiescent_UkvDwIdeal [hUkvDwIdeal : Cert.UkvDwIdeal.Facts] : Prop :=
  ∀ (m : (ℓ : Loc Cert.UkvDwIdeal.nD Cert.UkvDwIdeal.τ Cert.UkvDwIdeal.sig) → Buf (Elt Ideal) ℓ) (g : Dev Cert.UkvDwIdeal.nD → PrngReg), Pre_UkvDwIdeal m →
    θ_run (Cert.UkvDwIdeal.defs (F := Ideal)) (onTc (τ := Cert.UkvDwIdeal.τ) (Cert.UkvDwIdeal.main (F := Ideal))) ⟨m, fun _ => 0, g⟩ (fun r => (∀ c : Dev Cert.UkvDwIdeal.nD,
      r.2.mem ((c.tc : Thread Cert.UkvDwIdeal.nD Cert.UkvDwIdeal.τ).loc Cert.UkvDwIdeal.main_arg0) = m ((c.tc : Thread Cert.UkvDwIdeal.nD Cert.UkvDwIdeal.τ).loc Cert.UkvDwIdeal.main_arg0)
      ∧ r.2.mem ((c.tc : Thread Cert.UkvDwIdeal.nD Cert.UkvDwIdeal.τ).loc Cert.UkvDwIdeal.main_arg1) = m ((c.tc : Thread Cert.UkvDwIdeal.nD Cert.UkvDwIdeal.τ).loc Cert.UkvDwIdeal.main_arg1))
      ∧ r.2.sem = fun _ => 0)

def quiescent_UkvDwRefIdeal [hUkvDwRefIdeal : Cert.UkvDwRefIdeal.Facts] : Prop :=
  ∀ (m : (ℓ : Loc Cert.UkvDwRefIdeal.nD Cert.UkvDwRefIdeal.τ Cert.UkvDwRefIdeal.sig) → Buf (Elt Ideal) ℓ) (g : Dev Cert.UkvDwRefIdeal.nD → PrngReg), Pre_UkvDwRefIdeal m →
    θ_run (Cert.UkvDwRefIdeal.defs (F := Ideal)) (onTc (τ := Cert.UkvDwRefIdeal.τ) (Cert.UkvDwRefIdeal.main (F := Ideal))) ⟨m, fun _ => 0, g⟩ (fun r => (∀ c : Dev Cert.UkvDwRefIdeal.nD,
      r.2.mem ((c.tc : Thread Cert.UkvDwRefIdeal.nD Cert.UkvDwRefIdeal.τ).loc Cert.UkvDwRefIdeal.main_arg0) = m ((c.tc : Thread Cert.UkvDwRefIdeal.nD Cert.UkvDwRefIdeal.τ).loc Cert.UkvDwRefIdeal.main_arg0)
      ∧ r.2.mem ((c.tc : Thread Cert.UkvDwRefIdeal.nD Cert.UkvDwRefIdeal.τ).loc Cert.UkvDwRefIdeal.main_arg1) = m ((c.tc : Thread Cert.UkvDwRefIdeal.nD Cert.UkvDwRefIdeal.τ).loc Cert.UkvDwRefIdeal.main_arg1))
      ∧ r.2.sem = fun _ => 0)

def quiescent_UkvDx [hUkvDx : Cert.UkvDx.Facts] : Prop :=
  ∀ (m : (ℓ : Loc Cert.UkvDx.nD Cert.UkvDx.τ Cert.UkvDx.sig) → Buf (Elt Bits) ℓ) (g : Dev Cert.UkvDx.nD → PrngReg), Pre_UkvDx m →
    θ_run (Cert.UkvDx.defs (F := Bits)) (onTc (τ := Cert.UkvDx.τ) (Cert.UkvDx.main (F := Bits))) ⟨m, fun _ => 0, g⟩ (fun r => (∀ c : Dev Cert.UkvDx.nD,
      r.2.mem ((c.tc : Thread Cert.UkvDx.nD Cert.UkvDx.τ).loc Cert.UkvDx.main_arg0) = m ((c.tc : Thread Cert.UkvDx.nD Cert.UkvDx.τ).loc Cert.UkvDx.main_arg0)
      ∧ r.2.mem ((c.tc : Thread Cert.UkvDx.nD Cert.UkvDx.τ).loc Cert.UkvDx.main_arg1) = m ((c.tc : Thread Cert.UkvDx.nD Cert.UkvDx.τ).loc Cert.UkvDx.main_arg1))
      ∧ r.2.sem = fun _ => 0)

def quiescent_UkvDxIdeal [hUkvDxIdeal : Cert.UkvDxIdeal.Facts] : Prop :=
  ∀ (m : (ℓ : Loc Cert.UkvDxIdeal.nD Cert.UkvDxIdeal.τ Cert.UkvDxIdeal.sig) → Buf (Elt Ideal) ℓ) (g : Dev Cert.UkvDxIdeal.nD → PrngReg), Pre_UkvDxIdeal m →
    θ_run (Cert.UkvDxIdeal.defs (F := Ideal)) (onTc (τ := Cert.UkvDxIdeal.τ) (Cert.UkvDxIdeal.main (F := Ideal))) ⟨m, fun _ => 0, g⟩ (fun r => (∀ c : Dev Cert.UkvDxIdeal.nD,
      r.2.mem ((c.tc : Thread Cert.UkvDxIdeal.nD Cert.UkvDxIdeal.τ).loc Cert.UkvDxIdeal.main_arg0) = m ((c.tc : Thread Cert.UkvDxIdeal.nD Cert.UkvDxIdeal.τ).loc Cert.UkvDxIdeal.main_arg0)
      ∧ r.2.mem ((c.tc : Thread Cert.UkvDxIdeal.nD Cert.UkvDxIdeal.τ).loc Cert.UkvDxIdeal.main_arg1) = m ((c.tc : Thread Cert.UkvDxIdeal.nD Cert.UkvDxIdeal.τ).loc Cert.UkvDxIdeal.main_arg1))
      ∧ r.2.sem = fun _ => 0)

def quiescent_UkvDxRefIdeal [hUkvDxRefIdeal : Cert.UkvDxRefIdeal.Facts] : Prop :=
  ∀ (m : (ℓ : Loc Cert.UkvDxRefIdeal.nD Cert.UkvDxRefIdeal.τ Cert.UkvDxRefIdeal.sig) → Buf (Elt Ideal) ℓ) (g : Dev Cert.UkvDxRefIdeal.nD → PrngReg), Pre_UkvDxRefIdeal m →
    θ_run (Cert.UkvDxRefIdeal.defs (F := Ideal)) (onTc (τ := Cert.UkvDxRefIdeal.τ) (Cert.UkvDxRefIdeal.main (F := Ideal))) ⟨m, fun _ => 0, g⟩ (fun r => (∀ c : Dev Cert.UkvDxRefIdeal.nD,
      r.2.mem ((c.tc : Thread Cert.UkvDxRefIdeal.nD Cert.UkvDxRefIdeal.τ).loc Cert.UkvDxRefIdeal.main_arg0) = m ((c.tc : Thread Cert.UkvDxRefIdeal.nD Cert.UkvDxRefIdeal.τ).loc Cert.UkvDxRefIdeal.main_arg0)
      ∧ r.2.mem ((c.tc : Thread Cert.UkvDxRefIdeal.nD Cert.UkvDxRefIdeal.τ).loc Cert.UkvDxRefIdeal.main_arg1) = m ((c.tc : Thread Cert.UkvDxRefIdeal.nD Cert.UkvDxRefIdeal.τ).loc Cert.UkvDxRefIdeal.main_arg1))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1))
      ∧ r.2.sem = fun _ => 0)

def quiescent_AdaDw [hAdaDw : Cert.AdaDw.Facts] : Prop :=
  ∀ (m : (ℓ : Loc Cert.AdaDw.nD Cert.AdaDw.τ Cert.AdaDw.sig) → Buf (Elt Bits) ℓ) (g : Dev Cert.AdaDw.nD → PrngReg), Pre_AdaDw m →
    θ_run (Cert.AdaDw.defs (F := Bits)) (onTc (τ := Cert.AdaDw.τ) (Cert.AdaDw.main (F := Bits))) ⟨m, fun _ => 0, g⟩ (fun r => (∀ c : Dev Cert.AdaDw.nD,
      r.2.mem ((c.tc : Thread Cert.AdaDw.nD Cert.AdaDw.τ).loc Cert.AdaDw.main_arg0) = m ((c.tc : Thread Cert.AdaDw.nD Cert.AdaDw.τ).loc Cert.AdaDw.main_arg0)
      ∧ r.2.mem ((c.tc : Thread Cert.AdaDw.nD Cert.AdaDw.τ).loc Cert.AdaDw.main_arg1) = m ((c.tc : Thread Cert.AdaDw.nD Cert.AdaDw.τ).loc Cert.AdaDw.main_arg1))
      ∧ r.2.sem = fun _ => 0)

def quiescent_AdaDwIdeal [hAdaDwIdeal : Cert.AdaDwIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg), Pre_AdaDwIdeal m →
    θ_run (Cert.AdaDwIdeal.defs (F := Ideal)) (onTc (τ := Cert.AdaDwIdeal.τ) (Cert.AdaDwIdeal.main (F := Ideal))) ⟨m, fun _ => 0, g⟩ (fun r => (∀ c : Dev Cert.AdaDwIdeal.nD,
      r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
      ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1))
      ∧ r.2.sem = fun _ => 0)

def quiescent_AdaDwRefIdeal [hAdaDwRefIdeal : Cert.AdaDwRefIdeal.Facts] : Prop :=
  ∀ (m : (ℓ : Loc Cert.AdaDwRefIdeal.nD Cert.AdaDwRefIdeal.τ Cert.AdaDwRefIdeal.sig) → Buf (Elt Ideal) ℓ) (g : Dev Cert.AdaDwRefIdeal.nD → PrngReg), Pre_AdaDwRefIdeal m →
    θ_run (Cert.AdaDwRefIdeal.defs (F := Ideal)) (onTc (τ := Cert.AdaDwRefIdeal.τ) (Cert.AdaDwRefIdeal.main (F := Ideal))) ⟨m, fun _ => 0, g⟩ (fun r => (∀ c : Dev Cert.AdaDwRefIdeal.nD,
      r.2.mem ((c.tc : Thread Cert.AdaDwRefIdeal.nD Cert.AdaDwRefIdeal.τ).loc Cert.AdaDwRefIdeal.main_arg0) = m ((c.tc : Thread Cert.AdaDwRefIdeal.nD Cert.AdaDwRefIdeal.τ).loc Cert.AdaDwRefIdeal.main_arg0)
      ∧ r.2.mem ((c.tc : Thread Cert.AdaDwRefIdeal.nD Cert.AdaDwRefIdeal.τ).loc Cert.AdaDwRefIdeal.main_arg1) = m ((c.tc : Thread Cert.AdaDwRefIdeal.nD Cert.AdaDwRefIdeal.τ).loc Cert.AdaDwRefIdeal.main_arg1))
      ∧ r.2.sem = fun _ => 0)

def quiescent_AdaDx [hAdaDx : Cert.AdaDx.Facts] : Prop :=
  ∀ (m : (ℓ : Loc Cert.AdaDx.nD Cert.AdaDx.τ Cert.AdaDx.sig) → Buf (Elt Bits) ℓ) (g : Dev Cert.AdaDx.nD → PrngReg), Pre_AdaDx m →
    θ_run (Cert.AdaDx.defs (F := Bits)) (onTc (τ := Cert.AdaDx.τ) (Cert.AdaDx.main (F := Bits))) ⟨m, fun _ => 0, g⟩ (fun r => (∀ c : Dev Cert.AdaDx.nD,
      r.2.mem ((c.tc : Thread Cert.AdaDx.nD Cert.AdaDx.τ).loc Cert.AdaDx.main_arg0) = m ((c.tc : Thread Cert.AdaDx.nD Cert.AdaDx.τ).loc Cert.AdaDx.main_arg0)
      ∧ r.2.mem ((c.tc : Thread Cert.AdaDx.nD Cert.AdaDx.τ).loc Cert.AdaDx.main_arg1) = m ((c.tc : Thread Cert.AdaDx.nD Cert.AdaDx.τ).loc Cert.AdaDx.main_arg1))
      ∧ r.2.sem = fun _ => 0)

def quiescent_AdaDxIdeal [hAdaDxIdeal : Cert.AdaDxIdeal.Facts] : Prop :=
  ∀ (m : (ℓ : Loc Cert.AdaDxIdeal.nD Cert.AdaDxIdeal.τ Cert.AdaDxIdeal.sig) → Buf (Elt Ideal) ℓ) (g : Dev Cert.AdaDxIdeal.nD → PrngReg), Pre_AdaDxIdeal m →
    θ_run (Cert.AdaDxIdeal.defs (F := Ideal)) (onTc (τ := Cert.AdaDxIdeal.τ) (Cert.AdaDxIdeal.main (F := Ideal))) ⟨m, fun _ => 0, g⟩ (fun r => (∀ c : Dev Cert.AdaDxIdeal.nD,
      r.2.mem ((c.tc : Thread Cert.AdaDxIdeal.nD Cert.AdaDxIdeal.τ).loc Cert.AdaDxIdeal.main_arg0) = m ((c.tc : Thread Cert.AdaDxIdeal.nD Cert.AdaDxIdeal.τ).loc Cert.AdaDxIdeal.main_arg0)
      ∧ r.2.mem ((c.tc : Thread Cert.AdaDxIdeal.nD Cert.AdaDxIdeal.τ).loc Cert.AdaDxIdeal.main_arg1) = m ((c.tc : Thread Cert.AdaDxIdeal.nD Cert.AdaDxIdeal.τ).loc Cert.AdaDxIdeal.main_arg1))
      ∧ r.2.sem = fun _ => 0)

def quiescent_AdaDxRefIdeal [hAdaDxRefIdeal : Cert.AdaDxRefIdeal.Facts] : Prop :=
  ∀ (m : (ℓ : Loc Cert.AdaDxRefIdeal.nD Cert.AdaDxRefIdeal.τ Cert.AdaDxRefIdeal.sig) → Buf (Elt Ideal) ℓ) (g : Dev Cert.AdaDxRefIdeal.nD → PrngReg), Pre_AdaDxRefIdeal m →
    θ_run (Cert.AdaDxRefIdeal.defs (F := Ideal)) (onTc (τ := Cert.AdaDxRefIdeal.τ) (Cert.AdaDxRefIdeal.main (F := Ideal))) ⟨m, fun _ => 0, g⟩ (fun r => (∀ c : Dev Cert.AdaDxRefIdeal.nD,
      r.2.mem ((c.tc : Thread Cert.AdaDxRefIdeal.nD Cert.AdaDxRefIdeal.τ).loc Cert.AdaDxRefIdeal.main_arg0) = m ((c.tc : Thread Cert.AdaDxRefIdeal.nD Cert.AdaDxRefIdeal.τ).loc Cert.AdaDxRefIdeal.main_arg0)
      ∧ r.2.mem ((c.tc : Thread Cert.AdaDxRefIdeal.nD Cert.AdaDxRefIdeal.τ).loc Cert.AdaDxRefIdeal.main_arg1) = m ((c.tc : Thread Cert.AdaDxRefIdeal.nD Cert.AdaDxRefIdeal.τ).loc Cert.AdaDxRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def preserves_Kernel_KernelIdeal : Prop :=
  IdealRules.named_const.Statement Cert.KernelIdeal.κ "scale_log2e" .f32 0x3E16C740#32 (((Real.sqrt 96)⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "scale" .f32 0x3DD105EC#32 (((Real.sqrt 96)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v142_0)) (v1 : (c : Dev Cert.KernelIdeal.nD) → Buf (Elt Ideal) ((c.tc : Thread Cert.KernelIdeal.nD Cert.KernelIdeal.τ).loc Cert.KernelIdeal.main_v142_1)) (v2 : (c : Dev Cert.KernelIdeal.nD) → Buf (Elt Ideal) ((c.tc : Thread Cert.KernelIdeal.nD Cert.KernelIdeal.τ).loc Cert.KernelIdeal.main_v142_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v142_0) = v0 c
          ∧ r.2.mem ((c.tc : Thread Cert.KernelIdeal.nD Cert.KernelIdeal.τ).loc Cert.KernelIdeal.main_v142_1) = v1 c
          ∧ r.2.mem ((c.tc : Thread Cert.KernelIdeal.nD Cert.KernelIdeal.τ).loc Cert.KernelIdeal.main_v142_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_v174) = v1 c
          ∧ r.2.mem ((c.tc : Thread Cert.ReferenceIdeal.nD Cert.ReferenceIdeal.τ).loc Cert.ReferenceIdeal.main_v175) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "scale_log2e" .f32 0x3E16C740#32 (((Real.sqrt 96)⁻¹ * (Real.log 2)⁻¹ : ℝ) : EReal)
  ∧ IdealRules.named_const.Statement Cert.Kernel2Ideal.κ "scale" .f32 0x3DD105EC#32 (((Real.sqrt 96)⁻¹ : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v53)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v53) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v85) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v3) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v12) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v10) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v6) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v4) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v4) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v8) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v5) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_Wo_WoIdeal : Prop :=
  True

def algebraic_WoIdeal_WoRefIdeal [hWoIdeal : Cert.WoIdeal.Facts] [hWoRefIdeal : Cert.WoRefIdeal.Facts] : Prop :=
  ∀ (m : (ℓ : Loc Cert.WoIdeal.nD Cert.WoIdeal.τ Cert.WoIdeal.sig) → Buf (Elt Ideal) ℓ) (g : Dev Cert.WoIdeal.nD → PrngReg)
    (m' : (ℓ : Loc Cert.WoRefIdeal.nD Cert.WoRefIdeal.τ Cert.WoRefIdeal.sig) → Buf (Elt Ideal) ℓ) (g' : Dev Cert.WoRefIdeal.nD → PrngReg), Pre_WoIdeal m →
    (∀ c : Dev Cert.WoIdeal.nD,
      m' ((c.tc : Thread Cert.WoRefIdeal.nD Cert.WoRefIdeal.τ).loc Cert.WoRefIdeal.main_arg0) = m ((c.tc : Thread Cert.WoIdeal.nD Cert.WoIdeal.τ).loc Cert.WoIdeal.main_arg0)
      ∧ m' ((c.tc : Thread Cert.WoRefIdeal.nD Cert.WoRefIdeal.τ).loc Cert.WoRefIdeal.main_arg1) = m ((c.tc : Thread Cert.WoIdeal.nD Cert.WoIdeal.τ).loc Cert.WoIdeal.main_arg1)) →
    ∃ (v0 : (c : Dev Cert.WoIdeal.nD) → Buf (Elt Ideal) ((c.tc : Thread Cert.WoIdeal.nD Cert.WoIdeal.τ).loc Cert.WoIdeal.main_v0)),
      θ_run (Cert.WoIdeal.defs (F := Ideal)) (onTc (τ := Cert.WoIdeal.τ) (Cert.WoIdeal.main (F := Ideal))) ⟨m, fun _ => 0, g⟩ (fun r => ∀ c : Dev Cert.WoIdeal.nD,
          r.2.mem ((c.tc : Thread Cert.WoIdeal.nD Cert.WoIdeal.τ).loc Cert.WoIdeal.main_v0) = v0 c
          ∧ r.2.mem ((c.tc : Thread Cert.WoIdeal.nD Cert.WoIdeal.τ).loc Cert.WoIdeal.main_arg0) = m ((c.tc : Thread Cert.WoIdeal.nD Cert.WoIdeal.τ).loc Cert.WoIdeal.main_arg0)
          ∧ r.2.mem ((c.tc : Thread Cert.WoIdeal.nD Cert.WoIdeal.τ).loc Cert.WoIdeal.main_arg1) = m ((c.tc : Thread Cert.WoIdeal.nD Cert.WoIdeal.τ).loc Cert.WoIdeal.main_arg1))
      ∧ θ_run (Cert.WoRefIdeal.defs (F := Ideal)) (onTc (τ := Cert.WoRefIdeal.τ) (Cert.WoRefIdeal.main (F := Ideal))) ⟨m', fun _ => 0, g'⟩ (fun r => ∀ c : Dev Cert.WoRefIdeal.nD,
          r.2.mem ((c.tc : Thread Cert.WoRefIdeal.nD Cert.WoRefIdeal.τ).loc Cert.WoRefIdeal.main_v2) = v0 c
          ∧ r.2.mem ((c.tc : Thread Cert.WoRefIdeal.nD Cert.WoRefIdeal.τ).loc Cert.WoRefIdeal.main_arg0) = m' ((c.tc : Thread Cert.WoRefIdeal.nD Cert.WoRefIdeal.τ).loc Cert.WoRefIdeal.main_arg0)
          ∧ r.2.mem ((c.tc : Thread Cert.WoRefIdeal.nD Cert.WoRefIdeal.τ).loc Cert.WoRefIdeal.main_arg1) = m' ((c.tc : Thread Cert.WoRefIdeal.nD Cert.WoRefIdeal.τ).loc Cert.WoRefIdeal.main_arg1))

def preserves_WoDw_WoDwIdeal : Prop :=
  True

def algebraic_WoDwIdeal_WoDwRefIdeal [hWoDwIdeal : Cert.WoDwIdeal.Facts] [hWoDwRefIdeal : Cert.WoDwRefIdeal.Facts] : Prop :=
  ∀ (m : (ℓ : Loc Cert.WoDwIdeal.nD Cert.WoDwIdeal.τ Cert.WoDwIdeal.sig) → Buf (Elt Ideal) ℓ) (g : Dev Cert.WoDwIdeal.nD → PrngReg)
    (m' : (ℓ : Loc Cert.WoDwRefIdeal.nD Cert.WoDwRefIdeal.τ Cert.WoDwRefIdeal.sig) → Buf (Elt Ideal) ℓ) (g' : Dev Cert.WoDwRefIdeal.nD → PrngReg), Pre_WoDwIdeal m →
    (∀ c : Dev Cert.WoDwIdeal.nD,
      m' ((c.tc : Thread Cert.WoDwRefIdeal.nD Cert.WoDwRefIdeal.τ).loc Cert.WoDwRefIdeal.main_arg0) = m ((c.tc : Thread Cert.WoDwIdeal.nD Cert.WoDwIdeal.τ).loc Cert.WoDwIdeal.main_arg0)
      ∧ m' ((c.tc : Thread Cert.WoDwRefIdeal.nD Cert.WoDwRefIdeal.τ).loc Cert.WoDwRefIdeal.main_arg1) = m ((c.tc : Thread Cert.WoDwIdeal.nD Cert.WoDwIdeal.τ).loc Cert.WoDwIdeal.main_arg1)) →
    ∃ (v0 : (c : Dev Cert.WoDwIdeal.nD) → Buf (Elt Ideal) ((c.tc : Thread Cert.WoDwIdeal.nD Cert.WoDwIdeal.τ).loc Cert.WoDwIdeal.main_v0)),
      θ_run (Cert.WoDwIdeal.defs (F := Ideal)) (onTc (τ := Cert.WoDwIdeal.τ) (Cert.WoDwIdeal.main (F := Ideal))) ⟨m, fun _ => 0, g⟩ (fun r => ∀ c : Dev Cert.WoDwIdeal.nD,
          r.2.mem ((c.tc : Thread Cert.WoDwIdeal.nD Cert.WoDwIdeal.τ).loc Cert.WoDwIdeal.main_v0) = v0 c
          ∧ r.2.mem ((c.tc : Thread Cert.WoDwIdeal.nD Cert.WoDwIdeal.τ).loc Cert.WoDwIdeal.main_arg0) = m ((c.tc : Thread Cert.WoDwIdeal.nD Cert.WoDwIdeal.τ).loc Cert.WoDwIdeal.main_arg0)
          ∧ r.2.mem ((c.tc : Thread Cert.WoDwIdeal.nD Cert.WoDwIdeal.τ).loc Cert.WoDwIdeal.main_arg1) = m ((c.tc : Thread Cert.WoDwIdeal.nD Cert.WoDwIdeal.τ).loc Cert.WoDwIdeal.main_arg1))
      ∧ θ_run (Cert.WoDwRefIdeal.defs (F := Ideal)) (onTc (τ := Cert.WoDwRefIdeal.τ) (Cert.WoDwRefIdeal.main (F := Ideal))) ⟨m', fun _ => 0, g'⟩ (fun r => ∀ c : Dev Cert.WoDwRefIdeal.nD,
          r.2.mem ((c.tc : Thread Cert.WoDwRefIdeal.nD Cert.WoDwRefIdeal.τ).loc Cert.WoDwRefIdeal.main_v6) = v0 c
          ∧ r.2.mem ((c.tc : Thread Cert.WoDwRefIdeal.nD Cert.WoDwRefIdeal.τ).loc Cert.WoDwRefIdeal.main_arg0) = m' ((c.tc : Thread Cert.WoDwRefIdeal.nD Cert.WoDwRefIdeal.τ).loc Cert.WoDwRefIdeal.main_arg0)
          ∧ r.2.mem ((c.tc : Thread Cert.WoDwRefIdeal.nD Cert.WoDwRefIdeal.τ).loc Cert.WoDwRefIdeal.main_arg1) = m' ((c.tc : Thread Cert.WoDwRefIdeal.nD Cert.WoDwRefIdeal.τ).loc Cert.WoDwRefIdeal.main_arg1))

def preserves_WoDx_WoDxIdeal : Prop :=
  True

def algebraic_WoDxIdeal_WoDxRefIdeal [hWoDxIdeal : Cert.WoDxIdeal.Facts] [hWoDxRefIdeal : Cert.WoDxRefIdeal.Facts] : Prop :=
  ∀ (m : (ℓ : Loc Cert.WoDxIdeal.nD Cert.WoDxIdeal.τ Cert.WoDxIdeal.sig) → Buf (Elt Ideal) ℓ) (g : Dev Cert.WoDxIdeal.nD → PrngReg)
    (m' : (ℓ : Loc Cert.WoDxRefIdeal.nD Cert.WoDxRefIdeal.τ Cert.WoDxRefIdeal.sig) → Buf (Elt Ideal) ℓ) (g' : Dev Cert.WoDxRefIdeal.nD → PrngReg), Pre_WoDxIdeal m →
    (∀ c : Dev Cert.WoDxIdeal.nD,
      m' ((c.tc : Thread Cert.WoDxRefIdeal.nD Cert.WoDxRefIdeal.τ).loc Cert.WoDxRefIdeal.main_arg0) = m ((c.tc : Thread Cert.WoDxIdeal.nD Cert.WoDxIdeal.τ).loc Cert.WoDxIdeal.main_arg0)
      ∧ m' ((c.tc : Thread Cert.WoDxRefIdeal.nD Cert.WoDxRefIdeal.τ).loc Cert.WoDxRefIdeal.main_arg1) = m ((c.tc : Thread Cert.WoDxIdeal.nD Cert.WoDxIdeal.τ).loc Cert.WoDxIdeal.main_arg1)) →
    ∃ (v0 : (c : Dev Cert.WoDxIdeal.nD) → Buf (Elt Ideal) ((c.tc : Thread Cert.WoDxIdeal.nD Cert.WoDxIdeal.τ).loc Cert.WoDxIdeal.main_v0)),
      θ_run (Cert.WoDxIdeal.defs (F := Ideal)) (onTc (τ := Cert.WoDxIdeal.τ) (Cert.WoDxIdeal.main (F := Ideal))) ⟨m, fun _ => 0, g⟩ (fun r => ∀ c : Dev Cert.WoDxIdeal.nD,
          r.2.mem ((c.tc : Thread Cert.WoDxIdeal.nD Cert.WoDxIdeal.τ).loc Cert.WoDxIdeal.main_v0) = v0 c
          ∧ r.2.mem ((c.tc : Thread Cert.WoDxIdeal.nD Cert.WoDxIdeal.τ).loc Cert.WoDxIdeal.main_arg0) = m ((c.tc : Thread Cert.WoDxIdeal.nD Cert.WoDxIdeal.τ).loc Cert.WoDxIdeal.main_arg0)
          ∧ r.2.mem ((c.tc : Thread Cert.WoDxIdeal.nD Cert.WoDxIdeal.τ).loc Cert.WoDxIdeal.main_arg1) = m ((c.tc : Thread Cert.WoDxIdeal.nD Cert.WoDxIdeal.τ).loc Cert.WoDxIdeal.main_arg1))
      ∧ θ_run (Cert.WoDxRefIdeal.defs (F := Ideal)) (onTc (τ := Cert.WoDxRefIdeal.τ) (Cert.WoDxRefIdeal.main (F := Ideal))) ⟨m', fun _ => 0, g'⟩ (fun r => ∀ c : Dev Cert.WoDxRefIdeal.nD,
          r.2.mem ((c.tc : Thread Cert.WoDxRefIdeal.nD Cert.WoDxRefIdeal.τ).loc Cert.WoDxRefIdeal.main_v5) = v0 c
          ∧ r.2.mem ((c.tc : Thread Cert.WoDxRefIdeal.nD Cert.WoDxRefIdeal.τ).loc Cert.WoDxRefIdeal.main_arg0) = m' ((c.tc : Thread Cert.WoDxRefIdeal.nD Cert.WoDxRefIdeal.τ).loc Cert.WoDxRefIdeal.main_arg0)
          ∧ r.2.mem ((c.tc : Thread Cert.WoDxRefIdeal.nD Cert.WoDxRefIdeal.τ).loc Cert.WoDxRefIdeal.main_arg1) = m' ((c.tc : Thread Cert.WoDxRefIdeal.nD Cert.WoDxRefIdeal.τ).loc Cert.WoDxRefIdeal.main_arg1))

def preserves_Ao_AoIdeal : Prop :=
  True

def algebraic_AoIdeal_AoRefIdeal [hAoIdeal : Cert.AoIdeal.Facts] [hAoRefIdeal : Cert.AoRefIdeal.Facts] : Prop :=
  ∀ (m : (ℓ : Loc Cert.AoIdeal.nD Cert.AoIdeal.τ Cert.AoIdeal.sig) → Buf (Elt Ideal) ℓ) (g : Dev Cert.AoIdeal.nD → PrngReg)
    (m' : (ℓ : Loc Cert.AoRefIdeal.nD Cert.AoRefIdeal.τ Cert.AoRefIdeal.sig) → Buf (Elt Ideal) ℓ) (g' : Dev Cert.AoRefIdeal.nD → PrngReg), Pre_AoIdeal m →
    (∀ c : Dev Cert.AoIdeal.nD,
      m' ((c.tc : Thread Cert.AoRefIdeal.nD Cert.AoRefIdeal.τ).loc Cert.AoRefIdeal.main_arg0) = m ((c.tc : Thread Cert.AoIdeal.nD Cert.AoIdeal.τ).loc Cert.AoIdeal.main_arg0)
      ∧ m' ((c.tc : Thread Cert.AoRefIdeal.nD Cert.AoRefIdeal.τ).loc Cert.AoRefIdeal.main_arg1) = m ((c.tc : Thread Cert.AoIdeal.nD Cert.AoIdeal.τ).loc Cert.AoIdeal.main_arg1)) →
    ∃ (v0 : (c : Dev Cert.AoIdeal.nD) → Buf (Elt Ideal) ((c.tc : Thread Cert.AoIdeal.nD Cert.AoIdeal.τ).loc Cert.AoIdeal.main_v0)),
      θ_run (Cert.AoIdeal.defs (F := Ideal)) (onTc (τ := Cert.AoIdeal.τ) (Cert.AoIdeal.main (F := Ideal))) ⟨m, fun _ => 0, g⟩ (fun r => ∀ c : Dev Cert.AoIdeal.nD,
          r.2.mem ((c.tc : Thread Cert.AoIdeal.nD Cert.AoIdeal.τ).loc Cert.AoIdeal.main_v0) = v0 c
          ∧ r.2.mem ((c.tc : Thread Cert.AoIdeal.nD Cert.AoIdeal.τ).loc Cert.AoIdeal.main_arg0) = m ((c.tc : Thread Cert.AoIdeal.nD Cert.AoIdeal.τ).loc Cert.AoIdeal.main_arg0)
          ∧ r.2.mem ((c.tc : Thread Cert.AoIdeal.nD Cert.AoIdeal.τ).loc Cert.AoIdeal.main_arg1) = m ((c.tc : Thread Cert.AoIdeal.nD Cert.AoIdeal.τ).loc Cert.AoIdeal.main_arg1))
      ∧ θ_run (Cert.AoRefIdeal.defs (F := Ideal)) (onTc (τ := Cert.AoRefIdeal.τ) (Cert.AoRefIdeal.main (F := Ideal))) ⟨m', fun _ => 0, g'⟩ (fun r => ∀ c : Dev Cert.AoRefIdeal.nD,
          r.2.mem ((c.tc : Thread Cert.AoRefIdeal.nD Cert.AoRefIdeal.τ).loc Cert.AoRefIdeal.main_v2) = v0 c
          ∧ r.2.mem ((c.tc : Thread Cert.AoRefIdeal.nD Cert.AoRefIdeal.τ).loc Cert.AoRefIdeal.main_arg0) = m' ((c.tc : Thread Cert.AoRefIdeal.nD Cert.AoRefIdeal.τ).loc Cert.AoRefIdeal.main_arg0)
          ∧ r.2.mem ((c.tc : Thread Cert.AoRefIdeal.nD Cert.AoRefIdeal.τ).loc Cert.AoRefIdeal.main_arg1) = m' ((c.tc : Thread Cert.AoRefIdeal.nD Cert.AoRefIdeal.τ).loc Cert.AoRefIdeal.main_arg1))

def preserves_AoDw_AoDwIdeal : Prop :=
  True

def algebraic_AoDwIdeal_AoDwRefIdeal [hAoDwIdeal : Cert.AoDwIdeal.Facts] [hAoDwRefIdeal : Cert.AoDwRefIdeal.Facts] : Prop :=
  ∀ (m : (ℓ : Loc Cert.AoDwIdeal.nD Cert.AoDwIdeal.τ Cert.AoDwIdeal.sig) → Buf (Elt Ideal) ℓ) (g : Dev Cert.AoDwIdeal.nD → PrngReg)
    (m' : (ℓ : Loc Cert.AoDwRefIdeal.nD Cert.AoDwRefIdeal.τ Cert.AoDwRefIdeal.sig) → Buf (Elt Ideal) ℓ) (g' : Dev Cert.AoDwRefIdeal.nD → PrngReg), Pre_AoDwIdeal m →
    (∀ c : Dev Cert.AoDwIdeal.nD,
      m' ((c.tc : Thread Cert.AoDwRefIdeal.nD Cert.AoDwRefIdeal.τ).loc Cert.AoDwRefIdeal.main_arg0) = m ((c.tc : Thread Cert.AoDwIdeal.nD Cert.AoDwIdeal.τ).loc Cert.AoDwIdeal.main_arg0)
      ∧ m' ((c.tc : Thread Cert.AoDwRefIdeal.nD Cert.AoDwRefIdeal.τ).loc Cert.AoDwRefIdeal.main_arg1) = m ((c.tc : Thread Cert.AoDwIdeal.nD Cert.AoDwIdeal.τ).loc Cert.AoDwIdeal.main_arg1)) →
    ∃ (v0 : (c : Dev Cert.AoDwIdeal.nD) → Buf (Elt Ideal) ((c.tc : Thread Cert.AoDwIdeal.nD Cert.AoDwIdeal.τ).loc Cert.AoDwIdeal.main_v0)),
      θ_run (Cert.AoDwIdeal.defs (F := Ideal)) (onTc (τ := Cert.AoDwIdeal.τ) (Cert.AoDwIdeal.main (F := Ideal))) ⟨m, fun _ => 0, g⟩ (fun r => ∀ c : Dev Cert.AoDwIdeal.nD,
          r.2.mem ((c.tc : Thread Cert.AoDwIdeal.nD Cert.AoDwIdeal.τ).loc Cert.AoDwIdeal.main_v0) = v0 c
          ∧ r.2.mem ((c.tc : Thread Cert.AoDwIdeal.nD Cert.AoDwIdeal.τ).loc Cert.AoDwIdeal.main_arg0) = m ((c.tc : Thread Cert.AoDwIdeal.nD Cert.AoDwIdeal.τ).loc Cert.AoDwIdeal.main_arg0)
          ∧ r.2.mem ((c.tc : Thread Cert.AoDwIdeal.nD Cert.AoDwIdeal.τ).loc Cert.AoDwIdeal.main_arg1) = m ((c.tc : Thread Cert.AoDwIdeal.nD Cert.AoDwIdeal.τ).loc Cert.AoDwIdeal.main_arg1))
      ∧ θ_run (Cert.AoDwRefIdeal.defs (F := Ideal)) (onTc (τ := Cert.AoDwRefIdeal.τ) (Cert.AoDwRefIdeal.main (F := Ideal))) ⟨m', fun _ => 0, g'⟩ (fun r => ∀ c : Dev Cert.AoDwRefIdeal.nD,
          r.2.mem ((c.tc : Thread Cert.AoDwRefIdeal.nD Cert.AoDwRefIdeal.τ).loc Cert.AoDwRefIdeal.main_v5) = v0 c
          ∧ r.2.mem ((c.tc : Thread Cert.AoDwRefIdeal.nD Cert.AoDwRefIdeal.τ).loc Cert.AoDwRefIdeal.main_arg0) = m' ((c.tc : Thread Cert.AoDwRefIdeal.nD Cert.AoDwRefIdeal.τ).loc Cert.AoDwRefIdeal.main_arg0)
          ∧ r.2.mem ((c.tc : Thread Cert.AoDwRefIdeal.nD Cert.AoDwRefIdeal.τ).loc Cert.AoDwRefIdeal.main_arg1) = m' ((c.tc : Thread Cert.AoDwRefIdeal.nD Cert.AoDwRefIdeal.τ).loc Cert.AoDwRefIdeal.main_arg1))

def preserves_AoDx_AoDxIdeal : Prop :=
  True

def algebraic_AoDxIdeal_AoDxRefIdeal [hAoDxIdeal : Cert.AoDxIdeal.Facts] [hAoDxRefIdeal : Cert.AoDxRefIdeal.Facts] : Prop :=
  ∀ (m : (ℓ : Loc Cert.AoDxIdeal.nD Cert.AoDxIdeal.τ Cert.AoDxIdeal.sig) → Buf (Elt Ideal) ℓ) (g : Dev Cert.AoDxIdeal.nD → PrngReg)
    (m' : (ℓ : Loc Cert.AoDxRefIdeal.nD Cert.AoDxRefIdeal.τ Cert.AoDxRefIdeal.sig) → Buf (Elt Ideal) ℓ) (g' : Dev Cert.AoDxRefIdeal.nD → PrngReg), Pre_AoDxIdeal m →
    (∀ c : Dev Cert.AoDxIdeal.nD,
      m' ((c.tc : Thread Cert.AoDxRefIdeal.nD Cert.AoDxRefIdeal.τ).loc Cert.AoDxRefIdeal.main_arg0) = m ((c.tc : Thread Cert.AoDxIdeal.nD Cert.AoDxIdeal.τ).loc Cert.AoDxIdeal.main_arg0)
      ∧ m' ((c.tc : Thread Cert.AoDxRefIdeal.nD Cert.AoDxRefIdeal.τ).loc Cert.AoDxRefIdeal.main_arg1) = m ((c.tc : Thread Cert.AoDxIdeal.nD Cert.AoDxIdeal.τ).loc Cert.AoDxIdeal.main_arg1)) →
    ∃ (v0 : (c : Dev Cert.AoDxIdeal.nD) → Buf (Elt Ideal) ((c.tc : Thread Cert.AoDxIdeal.nD Cert.AoDxIdeal.τ).loc Cert.AoDxIdeal.main_v0)),
      θ_run (Cert.AoDxIdeal.defs (F := Ideal)) (onTc (τ := Cert.AoDxIdeal.τ) (Cert.AoDxIdeal.main (F := Ideal))) ⟨m, fun _ => 0, g⟩ (fun r => ∀ c : Dev Cert.AoDxIdeal.nD,
          r.2.mem ((c.tc : Thread Cert.AoDxIdeal.nD Cert.AoDxIdeal.τ).loc Cert.AoDxIdeal.main_v0) = v0 c
          ∧ r.2.mem ((c.tc : Thread Cert.AoDxIdeal.nD Cert.AoDxIdeal.τ).loc Cert.AoDxIdeal.main_arg0) = m ((c.tc : Thread Cert.AoDxIdeal.nD Cert.AoDxIdeal.τ).loc Cert.AoDxIdeal.main_arg0)
          ∧ r.2.mem ((c.tc : Thread Cert.AoDxIdeal.nD Cert.AoDxIdeal.τ).loc Cert.AoDxIdeal.main_arg1) = m ((c.tc : Thread Cert.AoDxIdeal.nD Cert.AoDxIdeal.τ).loc Cert.AoDxIdeal.main_arg1))
      ∧ θ_run (Cert.AoDxRefIdeal.defs (F := Ideal)) (onTc (τ := Cert.AoDxRefIdeal.τ) (Cert.AoDxRefIdeal.main (F := Ideal))) ⟨m', fun _ => 0, g'⟩ (fun r => ∀ c : Dev Cert.AoDxRefIdeal.nD,
          r.2.mem ((c.tc : Thread Cert.AoDxRefIdeal.nD Cert.AoDxRefIdeal.τ).loc Cert.AoDxRefIdeal.main_v4) = v0 c
          ∧ r.2.mem ((c.tc : Thread Cert.AoDxRefIdeal.nD Cert.AoDxRefIdeal.τ).loc Cert.AoDxRefIdeal.main_arg0) = m' ((c.tc : Thread Cert.AoDxRefIdeal.nD Cert.AoDxRefIdeal.τ).loc Cert.AoDxRefIdeal.main_arg0)
          ∧ r.2.mem ((c.tc : Thread Cert.AoDxRefIdeal.nD Cert.AoDxRefIdeal.τ).loc Cert.AoDxRefIdeal.main_arg1) = m' ((c.tc : Thread Cert.AoDxRefIdeal.nD Cert.AoDxRefIdeal.τ).loc Cert.AoDxRefIdeal.main_arg1))

def preserves_Co_CoIdeal : Prop :=
  True

def algebraic_CoIdeal_CoRefIdeal [hCoIdeal : Cert.CoIdeal.Facts] [hCoRefIdeal : Cert.CoRefIdeal.Facts] : Prop :=
  ∀ (m : (ℓ : Loc Cert.CoIdeal.nD Cert.CoIdeal.τ Cert.CoIdeal.sig) → Buf (Elt Ideal) ℓ) (g : Dev Cert.CoIdeal.nD → PrngReg)
    (m' : (ℓ : Loc Cert.CoRefIdeal.nD Cert.CoRefIdeal.τ Cert.CoRefIdeal.sig) → Buf (Elt Ideal) ℓ) (g' : Dev Cert.CoRefIdeal.nD → PrngReg), Pre_CoIdeal m →
    (∀ c : Dev Cert.CoIdeal.nD,
      m' ((c.tc : Thread Cert.CoRefIdeal.nD Cert.CoRefIdeal.τ).loc Cert.CoRefIdeal.main_arg0) = m ((c.tc : Thread Cert.CoIdeal.nD Cert.CoIdeal.τ).loc Cert.CoIdeal.main_arg0)
      ∧ m' ((c.tc : Thread Cert.CoRefIdeal.nD Cert.CoRefIdeal.τ).loc Cert.CoRefIdeal.main_arg1) = m ((c.tc : Thread Cert.CoIdeal.nD Cert.CoIdeal.τ).loc Cert.CoIdeal.main_arg1)) →
    ∃ (v0 : (c : Dev Cert.CoIdeal.nD) → Buf (Elt Ideal) ((c.tc : Thread Cert.CoIdeal.nD Cert.CoIdeal.τ).loc Cert.CoIdeal.main_v0)),
      θ_run (Cert.CoIdeal.defs (F := Ideal)) (onTc (τ := Cert.CoIdeal.τ) (Cert.CoIdeal.main (F := Ideal))) ⟨m, fun _ => 0, g⟩ (fun r => ∀ c : Dev Cert.CoIdeal.nD,
          r.2.mem ((c.tc : Thread Cert.CoIdeal.nD Cert.CoIdeal.τ).loc Cert.CoIdeal.main_v0) = v0 c
          ∧ r.2.mem ((c.tc : Thread Cert.CoIdeal.nD Cert.CoIdeal.τ).loc Cert.CoIdeal.main_arg0) = m ((c.tc : Thread Cert.CoIdeal.nD Cert.CoIdeal.τ).loc Cert.CoIdeal.main_arg0)
          ∧ r.2.mem ((c.tc : Thread Cert.CoIdeal.nD Cert.CoIdeal.τ).loc Cert.CoIdeal.main_arg1) = m ((c.tc : Thread Cert.CoIdeal.nD Cert.CoIdeal.τ).loc Cert.CoIdeal.main_arg1))
      ∧ θ_run (Cert.CoRefIdeal.defs (F := Ideal)) (onTc (τ := Cert.CoRefIdeal.τ) (Cert.CoRefIdeal.main (F := Ideal))) ⟨m', fun _ => 0, g'⟩ (fun r => ∀ c : Dev Cert.CoRefIdeal.nD,
          r.2.mem ((c.tc : Thread Cert.CoRefIdeal.nD Cert.CoRefIdeal.τ).loc Cert.CoRefIdeal.main_v4) = v0 c
          ∧ r.2.mem ((c.tc : Thread Cert.CoRefIdeal.nD Cert.CoRefIdeal.τ).loc Cert.CoRefIdeal.main_arg0) = m' ((c.tc : Thread Cert.CoRefIdeal.nD Cert.CoRefIdeal.τ).loc Cert.CoRefIdeal.main_arg0)
          ∧ r.2.mem ((c.tc : Thread Cert.CoRefIdeal.nD Cert.CoRefIdeal.τ).loc Cert.CoRefIdeal.main_arg1) = m' ((c.tc : Thread Cert.CoRefIdeal.nD Cert.CoRefIdeal.τ).loc Cert.CoRefIdeal.main_arg1))

def preserves_CoDw_CoDwIdeal : Prop :=
  True

def algebraic_CoDwIdeal_CoDwRefIdeal [hCoDwIdeal : Cert.CoDwIdeal.Facts] [hCoDwRefIdeal : Cert.CoDwRefIdeal.Facts] : Prop :=
  ∀ (m : (ℓ : Loc Cert.CoDwIdeal.nD Cert.CoDwIdeal.τ Cert.CoDwIdeal.sig) → Buf (Elt Ideal) ℓ) (g : Dev Cert.CoDwIdeal.nD → PrngReg)
    (m' : (ℓ : Loc Cert.CoDwRefIdeal.nD Cert.CoDwRefIdeal.τ Cert.CoDwRefIdeal.sig) → Buf (Elt Ideal) ℓ) (g' : Dev Cert.CoDwRefIdeal.nD → PrngReg), Pre_CoDwIdeal m →
    (∀ c : Dev Cert.CoDwIdeal.nD,
      m' ((c.tc : Thread Cert.CoDwRefIdeal.nD Cert.CoDwRefIdeal.τ).loc Cert.CoDwRefIdeal.main_arg0) = m ((c.tc : Thread Cert.CoDwIdeal.nD Cert.CoDwIdeal.τ).loc Cert.CoDwIdeal.main_arg0)
      ∧ m' ((c.tc : Thread Cert.CoDwRefIdeal.nD Cert.CoDwRefIdeal.τ).loc Cert.CoDwRefIdeal.main_arg1) = m ((c.tc : Thread Cert.CoDwIdeal.nD Cert.CoDwIdeal.τ).loc Cert.CoDwIdeal.main_arg1)) →
    ∃ (v0 : (c : Dev Cert.CoDwIdeal.nD) → Buf (Elt Ideal) ((c.tc : Thread Cert.CoDwIdeal.nD Cert.CoDwIdeal.τ).loc Cert.CoDwIdeal.main_v0)),
      θ_run (Cert.CoDwIdeal.defs (F := Ideal)) (onTc (τ := Cert.CoDwIdeal.τ) (Cert.CoDwIdeal.main (F := Ideal))) ⟨m, fun _ => 0, g⟩ (fun r => ∀ c : Dev Cert.CoDwIdeal.nD,
          r.2.mem ((c.tc : Thread Cert.CoDwIdeal.nD Cert.CoDwIdeal.τ).loc Cert.CoDwIdeal.main_v0) = v0 c
          ∧ r.2.mem ((c.tc : Thread Cert.CoDwIdeal.nD Cert.CoDwIdeal.τ).loc Cert.CoDwIdeal.main_arg0) = m ((c.tc : Thread Cert.CoDwIdeal.nD Cert.CoDwIdeal.τ).loc Cert.CoDwIdeal.main_arg0)
          ∧ r.2.mem ((c.tc : Thread Cert.CoDwIdeal.nD Cert.CoDwIdeal.τ).loc Cert.CoDwIdeal.main_arg1) = m ((c.tc : Thread Cert.CoDwIdeal.nD Cert.CoDwIdeal.τ).loc Cert.CoDwIdeal.main_arg1))
      ∧ θ_run (Cert.CoDwRefIdeal.defs (F := Ideal)) (onTc (τ := Cert.CoDwRefIdeal.τ) (Cert.CoDwRefIdeal.main (F := Ideal))) ⟨m', fun _ => 0, g'⟩ (fun r => ∀ c : Dev Cert.CoDwRefIdeal.nD,
          r.2.mem ((c.tc : Thread Cert.CoDwRefIdeal.nD Cert.CoDwRefIdeal.τ).loc Cert.CoDwRefIdeal.main_v8) = v0 c
          ∧ r.2.mem ((c.tc : Thread Cert.CoDwRefIdeal.nD Cert.CoDwRefIdeal.τ).loc Cert.CoDwRefIdeal.main_arg0) = m' ((c.tc : Thread Cert.CoDwRefIdeal.nD Cert.CoDwRefIdeal.τ).loc Cert.CoDwRefIdeal.main_arg0)
          ∧ r.2.mem ((c.tc : Thread Cert.CoDwRefIdeal.nD Cert.CoDwRefIdeal.τ).loc Cert.CoDwRefIdeal.main_arg1) = m' ((c.tc : Thread Cert.CoDwRefIdeal.nD Cert.CoDwRefIdeal.τ).loc Cert.CoDwRefIdeal.main_arg1))

def preserves_CoDx_CoDxIdeal : Prop :=
  True

def algebraic_CoDxIdeal_CoDxRefIdeal [hCoDxIdeal : Cert.CoDxIdeal.Facts] [hCoDxRefIdeal : Cert.CoDxRefIdeal.Facts] : Prop :=
  ∀ (m : (ℓ : Loc Cert.CoDxIdeal.nD Cert.CoDxIdeal.τ Cert.CoDxIdeal.sig) → Buf (Elt Ideal) ℓ) (g : Dev Cert.CoDxIdeal.nD → PrngReg)
    (m' : (ℓ : Loc Cert.CoDxRefIdeal.nD Cert.CoDxRefIdeal.τ Cert.CoDxRefIdeal.sig) → Buf (Elt Ideal) ℓ) (g' : Dev Cert.CoDxRefIdeal.nD → PrngReg), Pre_CoDxIdeal m →
    (∀ c : Dev Cert.CoDxIdeal.nD,
      m' ((c.tc : Thread Cert.CoDxRefIdeal.nD Cert.CoDxRefIdeal.τ).loc Cert.CoDxRefIdeal.main_arg0) = m ((c.tc : Thread Cert.CoDxIdeal.nD Cert.CoDxIdeal.τ).loc Cert.CoDxIdeal.main_arg0)
      ∧ m' ((c.tc : Thread Cert.CoDxRefIdeal.nD Cert.CoDxRefIdeal.τ).loc Cert.CoDxRefIdeal.main_arg1) = m ((c.tc : Thread Cert.CoDxIdeal.nD Cert.CoDxIdeal.τ).loc Cert.CoDxIdeal.main_arg1)) →
    ∃ (v0 : (c : Dev Cert.CoDxIdeal.nD) → Buf (Elt Ideal) ((c.tc : Thread Cert.CoDxIdeal.nD Cert.CoDxIdeal.τ).loc Cert.CoDxIdeal.main_v0)),
      θ_run (Cert.CoDxIdeal.defs (F := Ideal)) (onTc (τ := Cert.CoDxIdeal.τ) (Cert.CoDxIdeal.main (F := Ideal))) ⟨m, fun _ => 0, g⟩ (fun r => ∀ c : Dev Cert.CoDxIdeal.nD,
          r.2.mem ((c.tc : Thread Cert.CoDxIdeal.nD Cert.CoDxIdeal.τ).loc Cert.CoDxIdeal.main_v0) = v0 c
          ∧ r.2.mem ((c.tc : Thread Cert.CoDxIdeal.nD Cert.CoDxIdeal.τ).loc Cert.CoDxIdeal.main_arg0) = m ((c.tc : Thread Cert.CoDxIdeal.nD Cert.CoDxIdeal.τ).loc Cert.CoDxIdeal.main_arg0)
          ∧ r.2.mem ((c.tc : Thread Cert.CoDxIdeal.nD Cert.CoDxIdeal.τ).loc Cert.CoDxIdeal.main_arg1) = m ((c.tc : Thread Cert.CoDxIdeal.nD Cert.CoDxIdeal.τ).loc Cert.CoDxIdeal.main_arg1))
      ∧ θ_run (Cert.CoDxRefIdeal.defs (F := Ideal)) (onTc (τ := Cert.CoDxRefIdeal.τ) (Cert.CoDxRefIdeal.main (F := Ideal))) ⟨m', fun _ => 0, g'⟩ (fun r => ∀ c : Dev Cert.CoDxRefIdeal.nD,
          r.2.mem ((c.tc : Thread Cert.CoDxRefIdeal.nD Cert.CoDxRefIdeal.τ).loc Cert.CoDxRefIdeal.main_v6) = v0 c
          ∧ r.2.mem ((c.tc : Thread Cert.CoDxRefIdeal.nD Cert.CoDxRefIdeal.τ).loc Cert.CoDxRefIdeal.main_arg0) = m' ((c.tc : Thread Cert.CoDxRefIdeal.nD Cert.CoDxRefIdeal.τ).loc Cert.CoDxRefIdeal.main_arg0)
          ∧ r.2.mem ((c.tc : Thread Cert.CoDxRefIdeal.nD Cert.CoDxRefIdeal.τ).loc Cert.CoDxRefIdeal.main_arg1) = m' ((c.tc : Thread Cert.CoDxRefIdeal.nD Cert.CoDxRefIdeal.τ).loc Cert.CoDxRefIdeal.main_arg1))

def preserves_InA_InAIdeal : Prop :=
  True

def algebraic_InAIdeal_InARefIdeal [hInAIdeal : Cert.InAIdeal.Facts] [hInARefIdeal : Cert.InARefIdeal.Facts] : Prop :=
  ∀ (m : (ℓ : Loc Cert.InAIdeal.nD Cert.InAIdeal.τ Cert.InAIdeal.sig) → Buf (Elt Ideal) ℓ) (g : Dev Cert.InAIdeal.nD → PrngReg)
    (m' : (ℓ : Loc Cert.InARefIdeal.nD Cert.InARefIdeal.τ Cert.InARefIdeal.sig) → Buf (Elt Ideal) ℓ) (g' : Dev Cert.InARefIdeal.nD → PrngReg), Pre_InAIdeal m →
    (∀ c : Dev Cert.InAIdeal.nD,
      m' ((c.tc : Thread Cert.InARefIdeal.nD Cert.InARefIdeal.τ).loc Cert.InARefIdeal.main_arg0) = m ((c.tc : Thread Cert.InAIdeal.nD Cert.InAIdeal.τ).loc Cert.InAIdeal.main_arg0)
      ∧ m' ((c.tc : Thread Cert.InARefIdeal.nD Cert.InARefIdeal.τ).loc Cert.InARefIdeal.main_arg1) = m ((c.tc : Thread Cert.InAIdeal.nD Cert.InAIdeal.τ).loc Cert.InAIdeal.main_arg1)) →
    ∃ (v0 : (c : Dev Cert.InAIdeal.nD) → Buf (Elt Ideal) ((c.tc : Thread Cert.InAIdeal.nD Cert.InAIdeal.τ).loc Cert.InAIdeal.main_v0)),
      θ_run (Cert.InAIdeal.defs (F := Ideal)) (onTc (τ := Cert.InAIdeal.τ) (Cert.InAIdeal.main (F := Ideal))) ⟨m, fun _ => 0, g⟩ (fun r => ∀ c : Dev Cert.InAIdeal.nD,
          r.2.mem ((c.tc : Thread Cert.InAIdeal.nD Cert.InAIdeal.τ).loc Cert.InAIdeal.main_v0) = v0 c
          ∧ r.2.mem ((c.tc : Thread Cert.InAIdeal.nD Cert.InAIdeal.τ).loc Cert.InAIdeal.main_arg0) = m ((c.tc : Thread Cert.InAIdeal.nD Cert.InAIdeal.τ).loc Cert.InAIdeal.main_arg0)
          ∧ r.2.mem ((c.tc : Thread Cert.InAIdeal.nD Cert.InAIdeal.τ).loc Cert.InAIdeal.main_arg1) = m ((c.tc : Thread Cert.InAIdeal.nD Cert.InAIdeal.τ).loc Cert.InAIdeal.main_arg1))
      ∧ θ_run (Cert.InARefIdeal.defs (F := Ideal)) (onTc (τ := Cert.InARefIdeal.τ) (Cert.InARefIdeal.main (F := Ideal))) ⟨m', fun _ => 0, g'⟩ (fun r => ∀ c : Dev Cert.InARefIdeal.nD,
          r.2.mem ((c.tc : Thread Cert.InARefIdeal.nD Cert.InARefIdeal.τ).loc Cert.InARefIdeal.main_v3) = v0 c
          ∧ r.2.mem ((c.tc : Thread Cert.InARefIdeal.nD Cert.InARefIdeal.τ).loc Cert.InARefIdeal.main_arg0) = m' ((c.tc : Thread Cert.InARefIdeal.nD Cert.InARefIdeal.τ).loc Cert.InARefIdeal.main_arg0)
          ∧ r.2.mem ((c.tc : Thread Cert.InARefIdeal.nD Cert.InARefIdeal.τ).loc Cert.InARefIdeal.main_arg1) = m' ((c.tc : Thread Cert.InARefIdeal.nD Cert.InARefIdeal.τ).loc Cert.InARefIdeal.main_arg1))

def preserves_Uq_UqIdeal : Prop :=
  True

def algebraic_UqIdeal_UqRefIdeal [hUqIdeal : Cert.UqIdeal.Facts] [hUqRefIdeal : Cert.UqRefIdeal.Facts] : Prop :=
  ∀ (m : (ℓ : Loc Cert.UqIdeal.nD Cert.UqIdeal.τ Cert.UqIdeal.sig) → Buf (Elt Ideal) ℓ) (g : Dev Cert.UqIdeal.nD → PrngReg)
    (m' : (ℓ : Loc Cert.UqRefIdeal.nD Cert.UqRefIdeal.τ Cert.UqRefIdeal.sig) → Buf (Elt Ideal) ℓ) (g' : Dev Cert.UqRefIdeal.nD → PrngReg), Pre_UqIdeal m →
    (∀ c : Dev Cert.UqIdeal.nD,
      m' ((c.tc : Thread Cert.UqRefIdeal.nD Cert.UqRefIdeal.τ).loc Cert.UqRefIdeal.main_arg0) = m ((c.tc : Thread Cert.UqIdeal.nD Cert.UqIdeal.τ).loc Cert.UqIdeal.main_arg0)
      ∧ m' ((c.tc : Thread Cert.UqRefIdeal.nD Cert.UqRefIdeal.τ).loc Cert.UqRefIdeal.main_arg1) = m ((c.tc : Thread Cert.UqIdeal.nD Cert.UqIdeal.τ).loc Cert.UqIdeal.main_arg1)) →
    ∃ (v0 : (c : Dev Cert.UqIdeal.nD) → Buf (Elt Ideal) ((c.tc : Thread Cert.UqIdeal.nD Cert.UqIdeal.τ).loc Cert.UqIdeal.main_v0)),
      θ_run (Cert.UqIdeal.defs (F := Ideal)) (onTc (τ := Cert.UqIdeal.τ) (Cert.UqIdeal.main (F := Ideal))) ⟨m, fun _ => 0, g⟩ (fun r => ∀ c : Dev Cert.UqIdeal.nD,
          r.2.mem ((c.tc : Thread Cert.UqIdeal.nD Cert.UqIdeal.τ).loc Cert.UqIdeal.main_v0) = v0 c
          ∧ r.2.mem ((c.tc : Thread Cert.UqIdeal.nD Cert.UqIdeal.τ).loc Cert.UqIdeal.main_arg0) = m ((c.tc : Thread Cert.UqIdeal.nD Cert.UqIdeal.τ).loc Cert.UqIdeal.main_arg0)
          ∧ r.2.mem ((c.tc : Thread Cert.UqIdeal.nD Cert.UqIdeal.τ).loc Cert.UqIdeal.main_arg1) = m ((c.tc : Thread Cert.UqIdeal.nD Cert.UqIdeal.τ).loc Cert.UqIdeal.main_arg1))
      ∧ θ_run (Cert.UqRefIdeal.defs (F := Ideal)) (onTc (τ := Cert.UqRefIdeal.τ) (Cert.UqRefIdeal.main (F := Ideal))) ⟨m', fun _ => 0, g'⟩ (fun r => ∀ c : Dev Cert.UqRefIdeal.nD,
          r.2.mem ((c.tc : Thread Cert.UqRefIdeal.nD Cert.UqRefIdeal.τ).loc Cert.UqRefIdeal.main_v3) = v0 c
          ∧ r.2.mem ((c.tc : Thread Cert.UqRefIdeal.nD Cert.UqRefIdeal.τ).loc Cert.UqRefIdeal.main_arg0) = m' ((c.tc : Thread Cert.UqRefIdeal.nD Cert.UqRefIdeal.τ).loc Cert.UqRefIdeal.main_arg0)
          ∧ r.2.mem ((c.tc : Thread Cert.UqRefIdeal.nD Cert.UqRefIdeal.τ).loc Cert.UqRefIdeal.main_arg1) = m' ((c.tc : Thread Cert.UqRefIdeal.nD Cert.UqRefIdeal.τ).loc Cert.UqRefIdeal.main_arg1))

def preserves_UqDw_UqDwIdeal : Prop :=
  True

def algebraic_UqDwIdeal_UqDwRefIdeal [hUqDwIdeal : Cert.UqDwIdeal.Facts] [hUqDwRefIdeal : Cert.UqDwRefIdeal.Facts] : Prop :=
  ∀ (m : (ℓ : Loc Cert.UqDwIdeal.nD Cert.UqDwIdeal.τ Cert.UqDwIdeal.sig) → Buf (Elt Ideal) ℓ) (g : Dev Cert.UqDwIdeal.nD → PrngReg)
    (m' : (ℓ : Loc Cert.UqDwRefIdeal.nD Cert.UqDwRefIdeal.τ Cert.UqDwRefIdeal.sig) → Buf (Elt Ideal) ℓ) (g' : Dev Cert.UqDwRefIdeal.nD → PrngReg), Pre_UqDwIdeal m →
    (∀ c : Dev Cert.UqDwIdeal.nD,
      m' ((c.tc : Thread Cert.UqDwRefIdeal.nD Cert.UqDwRefIdeal.τ).loc Cert.UqDwRefIdeal.main_arg0) = m ((c.tc : Thread Cert.UqDwIdeal.nD Cert.UqDwIdeal.τ).loc Cert.UqDwIdeal.main_arg0)
      ∧ m' ((c.tc : Thread Cert.UqDwRefIdeal.nD Cert.UqDwRefIdeal.τ).loc Cert.UqDwRefIdeal.main_arg1) = m ((c.tc : Thread Cert.UqDwIdeal.nD Cert.UqDwIdeal.τ).loc Cert.UqDwIdeal.main_arg1)) →
    ∃ (v0 : (c : Dev Cert.UqDwIdeal.nD) → Buf (Elt Ideal) ((c.tc : Thread Cert.UqDwIdeal.nD Cert.UqDwIdeal.τ).loc Cert.UqDwIdeal.main_v0)),
      θ_run (Cert.UqDwIdeal.defs (F := Ideal)) (onTc (τ := Cert.UqDwIdeal.τ) (Cert.UqDwIdeal.main (F := Ideal))) ⟨m, fun _ => 0, g⟩ (fun r => ∀ c : Dev Cert.UqDwIdeal.nD,
          r.2.mem ((c.tc : Thread Cert.UqDwIdeal.nD Cert.UqDwIdeal.τ).loc Cert.UqDwIdeal.main_v0) = v0 c
          ∧ r.2.mem ((c.tc : Thread Cert.UqDwIdeal.nD Cert.UqDwIdeal.τ).loc Cert.UqDwIdeal.main_arg0) = m ((c.tc : Thread Cert.UqDwIdeal.nD Cert.UqDwIdeal.τ).loc Cert.UqDwIdeal.main_arg0)
          ∧ r.2.mem ((c.tc : Thread Cert.UqDwIdeal.nD Cert.UqDwIdeal.τ).loc Cert.UqDwIdeal.main_arg1) = m ((c.tc : Thread Cert.UqDwIdeal.nD Cert.UqDwIdeal.τ).loc Cert.UqDwIdeal.main_arg1))
      ∧ θ_run (Cert.UqDwRefIdeal.defs (F := Ideal)) (onTc (τ := Cert.UqDwRefIdeal.τ) (Cert.UqDwRefIdeal.main (F := Ideal))) ⟨m', fun _ => 0, g'⟩ (fun r => ∀ c : Dev Cert.UqDwRefIdeal.nD,
          r.2.mem ((c.tc : Thread Cert.UqDwRefIdeal.nD Cert.UqDwRefIdeal.τ).loc Cert.UqDwRefIdeal.main_v8) = v0 c
          ∧ r.2.mem ((c.tc : Thread Cert.UqDwRefIdeal.nD Cert.UqDwRefIdeal.τ).loc Cert.UqDwRefIdeal.main_arg0) = m' ((c.tc : Thread Cert.UqDwRefIdeal.nD Cert.UqDwRefIdeal.τ).loc Cert.UqDwRefIdeal.main_arg0)
          ∧ r.2.mem ((c.tc : Thread Cert.UqDwRefIdeal.nD Cert.UqDwRefIdeal.τ).loc Cert.UqDwRefIdeal.main_arg1) = m' ((c.tc : Thread Cert.UqDwRefIdeal.nD Cert.UqDwRefIdeal.τ).loc Cert.UqDwRefIdeal.main_arg1))

def preserves_UqDx_UqDxIdeal : Prop :=
  True

def algebraic_UqDxIdeal_UqDxRefIdeal [hUqDxIdeal : Cert.UqDxIdeal.Facts] [hUqDxRefIdeal : Cert.UqDxRefIdeal.Facts] : Prop :=
  ∀ (m : (ℓ : Loc Cert.UqDxIdeal.nD Cert.UqDxIdeal.τ Cert.UqDxIdeal.sig) → Buf (Elt Ideal) ℓ) (g : Dev Cert.UqDxIdeal.nD → PrngReg)
    (m' : (ℓ : Loc Cert.UqDxRefIdeal.nD Cert.UqDxRefIdeal.τ Cert.UqDxRefIdeal.sig) → Buf (Elt Ideal) ℓ) (g' : Dev Cert.UqDxRefIdeal.nD → PrngReg), Pre_UqDxIdeal m →
    (∀ c : Dev Cert.UqDxIdeal.nD,
      m' ((c.tc : Thread Cert.UqDxRefIdeal.nD Cert.UqDxRefIdeal.τ).loc Cert.UqDxRefIdeal.main_arg0) = m ((c.tc : Thread Cert.UqDxIdeal.nD Cert.UqDxIdeal.τ).loc Cert.UqDxIdeal.main_arg0)
      ∧ m' ((c.tc : Thread Cert.UqDxRefIdeal.nD Cert.UqDxRefIdeal.τ).loc Cert.UqDxRefIdeal.main_arg1) = m ((c.tc : Thread Cert.UqDxIdeal.nD Cert.UqDxIdeal.τ).loc Cert.UqDxIdeal.main_arg1)) →
    ∃ (v0 : (c : Dev Cert.UqDxIdeal.nD) → Buf (Elt Ideal) ((c.tc : Thread Cert.UqDxIdeal.nD Cert.UqDxIdeal.τ).loc Cert.UqDxIdeal.main_v0)),
      θ_run (Cert.UqDxIdeal.defs (F := Ideal)) (onTc (τ := Cert.UqDxIdeal.τ) (Cert.UqDxIdeal.main (F := Ideal))) ⟨m, fun _ => 0, g⟩ (fun r => ∀ c : Dev Cert.UqDxIdeal.nD,
          r.2.mem ((c.tc : Thread Cert.UqDxIdeal.nD Cert.UqDxIdeal.τ).loc Cert.UqDxIdeal.main_v0) = v0 c
          ∧ r.2.mem ((c.tc : Thread Cert.UqDxIdeal.nD Cert.UqDxIdeal.τ).loc Cert.UqDxIdeal.main_arg0) = m ((c.tc : Thread Cert.UqDxIdeal.nD Cert.UqDxIdeal.τ).loc Cert.UqDxIdeal.main_arg0)
          ∧ r.2.mem ((c.tc : Thread Cert.UqDxIdeal.nD Cert.UqDxIdeal.τ).loc Cert.UqDxIdeal.main_arg1) = m ((c.tc : Thread Cert.UqDxIdeal.nD Cert.UqDxIdeal.τ).loc Cert.UqDxIdeal.main_arg1))
      ∧ θ_run (Cert.UqDxRefIdeal.defs (F := Ideal)) (onTc (τ := Cert.UqDxRefIdeal.τ) (Cert.UqDxRefIdeal.main (F := Ideal))) ⟨m', fun _ => 0, g'⟩ (fun r => ∀ c : Dev Cert.UqDxRefIdeal.nD,
          r.2.mem ((c.tc : Thread Cert.UqDxRefIdeal.nD Cert.UqDxRefIdeal.τ).loc Cert.UqDxRefIdeal.main_v5) = v0 c
          ∧ r.2.mem ((c.tc : Thread Cert.UqDxRefIdeal.nD Cert.UqDxRefIdeal.τ).loc Cert.UqDxRefIdeal.main_arg0) = m' ((c.tc : Thread Cert.UqDxRefIdeal.nD Cert.UqDxRefIdeal.τ).loc Cert.UqDxRefIdeal.main_arg0)
          ∧ r.2.mem ((c.tc : Thread Cert.UqDxRefIdeal.nD Cert.UqDxRefIdeal.τ).loc Cert.UqDxRefIdeal.main_arg1) = m' ((c.tc : Thread Cert.UqDxRefIdeal.nD Cert.UqDxRefIdeal.τ).loc Cert.UqDxRefIdeal.main_arg1))

def preserves_Ukv_UkvIdeal : Prop :=
  True

def algebraic_UkvIdeal_UkvRefIdeal [hUkvIdeal : Cert.UkvIdeal.Facts] [hUkvRefIdeal : Cert.UkvRefIdeal.Facts] : Prop :=
  ∀ (m : (ℓ : Loc Cert.UkvIdeal.nD Cert.UkvIdeal.τ Cert.UkvIdeal.sig) → Buf (Elt Ideal) ℓ) (g : Dev Cert.UkvIdeal.nD → PrngReg)
    (m' : (ℓ : Loc Cert.UkvRefIdeal.nD Cert.UkvRefIdeal.τ Cert.UkvRefIdeal.sig) → Buf (Elt Ideal) ℓ) (g' : Dev Cert.UkvRefIdeal.nD → PrngReg), Pre_UkvIdeal m →
    (∀ c : Dev Cert.UkvIdeal.nD,
      m' ((c.tc : Thread Cert.UkvRefIdeal.nD Cert.UkvRefIdeal.τ).loc Cert.UkvRefIdeal.main_arg0) = m ((c.tc : Thread Cert.UkvIdeal.nD Cert.UkvIdeal.τ).loc Cert.UkvIdeal.main_arg0)
      ∧ m' ((c.tc : Thread Cert.UkvRefIdeal.nD Cert.UkvRefIdeal.τ).loc Cert.UkvRefIdeal.main_arg1) = m ((c.tc : Thread Cert.UkvIdeal.nD Cert.UkvIdeal.τ).loc Cert.UkvIdeal.main_arg1)) →
    ∃ (v0 : (c : Dev Cert.UkvIdeal.nD) → Buf (Elt Ideal) ((c.tc : Thread Cert.UkvIdeal.nD Cert.UkvIdeal.τ).loc Cert.UkvIdeal.main_v0)),
      θ_run (Cert.UkvIdeal.defs (F := Ideal)) (onTc (τ := Cert.UkvIdeal.τ) (Cert.UkvIdeal.main (F := Ideal))) ⟨m, fun _ => 0, g⟩ (fun r => ∀ c : Dev Cert.UkvIdeal.nD,
          r.2.mem ((c.tc : Thread Cert.UkvIdeal.nD Cert.UkvIdeal.τ).loc Cert.UkvIdeal.main_v0) = v0 c
          ∧ r.2.mem ((c.tc : Thread Cert.UkvIdeal.nD Cert.UkvIdeal.τ).loc Cert.UkvIdeal.main_arg0) = m ((c.tc : Thread Cert.UkvIdeal.nD Cert.UkvIdeal.τ).loc Cert.UkvIdeal.main_arg0)
          ∧ r.2.mem ((c.tc : Thread Cert.UkvIdeal.nD Cert.UkvIdeal.τ).loc Cert.UkvIdeal.main_arg1) = m ((c.tc : Thread Cert.UkvIdeal.nD Cert.UkvIdeal.τ).loc Cert.UkvIdeal.main_arg1))
      ∧ θ_run (Cert.UkvRefIdeal.defs (F := Ideal)) (onTc (τ := Cert.UkvRefIdeal.τ) (Cert.UkvRefIdeal.main (F := Ideal))) ⟨m', fun _ => 0, g'⟩ (fun r => ∀ c : Dev Cert.UkvRefIdeal.nD,
          r.2.mem ((c.tc : Thread Cert.UkvRefIdeal.nD Cert.UkvRefIdeal.τ).loc Cert.UkvRefIdeal.main_v3) = v0 c
          ∧ r.2.mem ((c.tc : Thread Cert.UkvRefIdeal.nD Cert.UkvRefIdeal.τ).loc Cert.UkvRefIdeal.main_arg0) = m' ((c.tc : Thread Cert.UkvRefIdeal.nD Cert.UkvRefIdeal.τ).loc Cert.UkvRefIdeal.main_arg0)
          ∧ r.2.mem ((c.tc : Thread Cert.UkvRefIdeal.nD Cert.UkvRefIdeal.τ).loc Cert.UkvRefIdeal.main_arg1) = m' ((c.tc : Thread Cert.UkvRefIdeal.nD Cert.UkvRefIdeal.τ).loc Cert.UkvRefIdeal.main_arg1))

def preserves_UkvDw_UkvDwIdeal : Prop :=
  True

def algebraic_UkvDwIdeal_UkvDwRefIdeal [hUkvDwIdeal : Cert.UkvDwIdeal.Facts] [hUkvDwRefIdeal : Cert.UkvDwRefIdeal.Facts] : Prop :=
  ∀ (m : (ℓ : Loc Cert.UkvDwIdeal.nD Cert.UkvDwIdeal.τ Cert.UkvDwIdeal.sig) → Buf (Elt Ideal) ℓ) (g : Dev Cert.UkvDwIdeal.nD → PrngReg)
    (m' : (ℓ : Loc Cert.UkvDwRefIdeal.nD Cert.UkvDwRefIdeal.τ Cert.UkvDwRefIdeal.sig) → Buf (Elt Ideal) ℓ) (g' : Dev Cert.UkvDwRefIdeal.nD → PrngReg), Pre_UkvDwIdeal m →
    (∀ c : Dev Cert.UkvDwIdeal.nD,
      m' ((c.tc : Thread Cert.UkvDwRefIdeal.nD Cert.UkvDwRefIdeal.τ).loc Cert.UkvDwRefIdeal.main_arg0) = m ((c.tc : Thread Cert.UkvDwIdeal.nD Cert.UkvDwIdeal.τ).loc Cert.UkvDwIdeal.main_arg0)
      ∧ m' ((c.tc : Thread Cert.UkvDwRefIdeal.nD Cert.UkvDwRefIdeal.τ).loc Cert.UkvDwRefIdeal.main_arg1) = m ((c.tc : Thread Cert.UkvDwIdeal.nD Cert.UkvDwIdeal.τ).loc Cert.UkvDwIdeal.main_arg1)) →
    ∃ (v0 : (c : Dev Cert.UkvDwIdeal.nD) → Buf (Elt Ideal) ((c.tc : Thread Cert.UkvDwIdeal.nD Cert.UkvDwIdeal.τ).loc Cert.UkvDwIdeal.main_v0)),
      θ_run (Cert.UkvDwIdeal.defs (F := Ideal)) (onTc (τ := Cert.UkvDwIdeal.τ) (Cert.UkvDwIdeal.main (F := Ideal))) ⟨m, fun _ => 0, g⟩ (fun r => ∀ c : Dev Cert.UkvDwIdeal.nD,
          r.2.mem ((c.tc : Thread Cert.UkvDwIdeal.nD Cert.UkvDwIdeal.τ).loc Cert.UkvDwIdeal.main_v0) = v0 c
          ∧ r.2.mem ((c.tc : Thread Cert.UkvDwIdeal.nD Cert.UkvDwIdeal.τ).loc Cert.UkvDwIdeal.main_arg0) = m ((c.tc : Thread Cert.UkvDwIdeal.nD Cert.UkvDwIdeal.τ).loc Cert.UkvDwIdeal.main_arg0)
          ∧ r.2.mem ((c.tc : Thread Cert.UkvDwIdeal.nD Cert.UkvDwIdeal.τ).loc Cert.UkvDwIdeal.main_arg1) = m ((c.tc : Thread Cert.UkvDwIdeal.nD Cert.UkvDwIdeal.τ).loc Cert.UkvDwIdeal.main_arg1))
      ∧ θ_run (Cert.UkvDwRefIdeal.defs (F := Ideal)) (onTc (τ := Cert.UkvDwRefIdeal.τ) (Cert.UkvDwRefIdeal.main (F := Ideal))) ⟨m', fun _ => 0, g'⟩ (fun r => ∀ c : Dev Cert.UkvDwRefIdeal.nD,
          r.2.mem ((c.tc : Thread Cert.UkvDwRefIdeal.nD Cert.UkvDwRefIdeal.τ).loc Cert.UkvDwRefIdeal.main_v8) = v0 c
          ∧ r.2.mem ((c.tc : Thread Cert.UkvDwRefIdeal.nD Cert.UkvDwRefIdeal.τ).loc Cert.UkvDwRefIdeal.main_arg0) = m' ((c.tc : Thread Cert.UkvDwRefIdeal.nD Cert.UkvDwRefIdeal.τ).loc Cert.UkvDwRefIdeal.main_arg0)
          ∧ r.2.mem ((c.tc : Thread Cert.UkvDwRefIdeal.nD Cert.UkvDwRefIdeal.τ).loc Cert.UkvDwRefIdeal.main_arg1) = m' ((c.tc : Thread Cert.UkvDwRefIdeal.nD Cert.UkvDwRefIdeal.τ).loc Cert.UkvDwRefIdeal.main_arg1))

def preserves_UkvDx_UkvDxIdeal : Prop :=
  True

def algebraic_UkvDxIdeal_UkvDxRefIdeal [hUkvDxIdeal : Cert.UkvDxIdeal.Facts] [hUkvDxRefIdeal : Cert.UkvDxRefIdeal.Facts] : Prop :=
  ∀ (m : (ℓ : Loc Cert.UkvDxIdeal.nD Cert.UkvDxIdeal.τ Cert.UkvDxIdeal.sig) → Buf (Elt Ideal) ℓ) (g : Dev Cert.UkvDxIdeal.nD → PrngReg)
    (m' : (ℓ : Loc Cert.UkvDxRefIdeal.nD Cert.UkvDxRefIdeal.τ Cert.UkvDxRefIdeal.sig) → Buf (Elt Ideal) ℓ) (g' : Dev Cert.UkvDxRefIdeal.nD → PrngReg), Pre_UkvDxIdeal m →
    (∀ c : Dev Cert.UkvDxIdeal.nD,
      m' ((c.tc : Thread Cert.UkvDxRefIdeal.nD Cert.UkvDxRefIdeal.τ).loc Cert.UkvDxRefIdeal.main_arg0) = m ((c.tc : Thread Cert.UkvDxIdeal.nD Cert.UkvDxIdeal.τ).loc Cert.UkvDxIdeal.main_arg0)
      ∧ m' ((c.tc : Thread Cert.UkvDxRefIdeal.nD Cert.UkvDxRefIdeal.τ).loc Cert.UkvDxRefIdeal.main_arg1) = m ((c.tc : Thread Cert.UkvDxIdeal.nD Cert.UkvDxIdeal.τ).loc Cert.UkvDxIdeal.main_arg1)) →
    ∃ (v0 : (c : Dev Cert.UkvDxIdeal.nD) → Buf (Elt Ideal) ((c.tc : Thread Cert.UkvDxIdeal.nD Cert.UkvDxIdeal.τ).loc Cert.UkvDxIdeal.main_v0)),
      θ_run (Cert.UkvDxIdeal.defs (F := Ideal)) (onTc (τ := Cert.UkvDxIdeal.τ) (Cert.UkvDxIdeal.main (F := Ideal))) ⟨m, fun _ => 0, g⟩ (fun r => ∀ c : Dev Cert.UkvDxIdeal.nD,
          r.2.mem ((c.tc : Thread Cert.UkvDxIdeal.nD Cert.UkvDxIdeal.τ).loc Cert.UkvDxIdeal.main_v0) = v0 c
          ∧ r.2.mem ((c.tc : Thread Cert.UkvDxIdeal.nD Cert.UkvDxIdeal.τ).loc Cert.UkvDxIdeal.main_arg0) = m ((c.tc : Thread Cert.UkvDxIdeal.nD Cert.UkvDxIdeal.τ).loc Cert.UkvDxIdeal.main_arg0)
          ∧ r.2.mem ((c.tc : Thread Cert.UkvDxIdeal.nD Cert.UkvDxIdeal.τ).loc Cert.UkvDxIdeal.main_arg1) = m ((c.tc : Thread Cert.UkvDxIdeal.nD Cert.UkvDxIdeal.τ).loc Cert.UkvDxIdeal.main_arg1))
      ∧ θ_run (Cert.UkvDxRefIdeal.defs (F := Ideal)) (onTc (τ := Cert.UkvDxRefIdeal.τ) (Cert.UkvDxRefIdeal.main (F := Ideal))) ⟨m', fun _ => 0, g'⟩ (fun r => ∀ c : Dev Cert.UkvDxRefIdeal.nD,
          r.2.mem ((c.tc : Thread Cert.UkvDxRefIdeal.nD Cert.UkvDxRefIdeal.τ).loc Cert.UkvDxRefIdeal.main_v6) = v0 c
          ∧ r.2.mem ((c.tc : Thread Cert.UkvDxRefIdeal.nD Cert.UkvDxRefIdeal.τ).loc Cert.UkvDxRefIdeal.main_arg0) = m' ((c.tc : Thread Cert.UkvDxRefIdeal.nD Cert.UkvDxRefIdeal.τ).loc Cert.UkvDxRefIdeal.main_arg0)
          ∧ r.2.mem ((c.tc : Thread Cert.UkvDxRefIdeal.nD Cert.UkvDxRefIdeal.τ).loc Cert.UkvDxRefIdeal.main_arg1) = m' ((c.tc : Thread Cert.UkvDxRefIdeal.nD Cert.UkvDxRefIdeal.τ).loc Cert.UkvDxRefIdeal.main_arg1))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)) →
    ∃ (v0 : (c : Dev Cert.AdaIdeal.nD) → Buf (Elt Ideal) ((c.tc : Thread Cert.AdaIdeal.nD Cert.AdaIdeal.τ).loc Cert.AdaIdeal.main_v0)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v0) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v0) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1))

def preserves_AdaDw_AdaDwIdeal : Prop :=
  True

def algebraic_AdaDwIdeal_AdaDwRefIdeal [hAdaDwIdeal : Cert.AdaDwIdeal.Facts] [hAdaDwRefIdeal : Cert.AdaDwRefIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg)
    (m' : (ℓ : Loc Cert.AdaDwRefIdeal.nD Cert.AdaDwRefIdeal.τ Cert.AdaDwRefIdeal.sig) → Buf (Elt Ideal) ℓ) (g' : Dev Cert.AdaDwRefIdeal.nD → PrngReg), Pre_AdaDwIdeal m →
    (∀ c : Dev Cert.AdaDwIdeal.nD,
      m' ((c.tc : Thread Cert.AdaDwRefIdeal.nD Cert.AdaDwRefIdeal.τ).loc Cert.AdaDwRefIdeal.main_arg0) = m ((c.tc : Thread Cert.AdaDwIdeal.nD Cert.AdaDwIdeal.τ).loc Cert.AdaDwIdeal.main_arg0)
      ∧ m' ((c.tc : Thread Cert.AdaDwRefIdeal.nD Cert.AdaDwRefIdeal.τ).loc Cert.AdaDwRefIdeal.main_arg1) = m ((c.tc : Thread Cert.AdaDwIdeal.nD Cert.AdaDwIdeal.τ).loc Cert.AdaDwIdeal.main_arg1)) →
    ∃ (v0 : (c : Dev Cert.AdaDwIdeal.nD) → Buf (Elt Ideal) ((c.tc : Thread Cert.AdaDwIdeal.nD Cert.AdaDwIdeal.τ).loc Cert.AdaDwIdeal.main_v0)),
      θ_run (Cert.AdaDwIdeal.defs (F := Ideal)) (onTc (τ := Cert.AdaDwIdeal.τ) (Cert.AdaDwIdeal.main (F := Ideal))) ⟨m, fun _ => 0, g⟩ (fun r => ∀ c : Dev Cert.AdaDwIdeal.nD,
          r.2.mem ((c.tc : Thread Cert.AdaDwIdeal.nD Cert.AdaDwIdeal.τ).loc Cert.AdaDwIdeal.main_v0) = v0 c
          ∧ r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
          ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1))
      ∧ θ_run (Cert.AdaDwRefIdeal.defs (F := Ideal)) (onTc (τ := Cert.AdaDwRefIdeal.τ) (Cert.AdaDwRefIdeal.main (F := Ideal))) ⟨m', fun _ => 0, g'⟩ (fun r => ∀ c : Dev Cert.AdaDwRefIdeal.nD,
          r.2.mem ((c.tc : Thread Cert.AdaDwRefIdeal.nD Cert.AdaDwRefIdeal.τ).loc Cert.AdaDwRefIdeal.main_v3) = v0 c
          ∧ r.2.mem ((c.tc : Thread Cert.AdaDwRefIdeal.nD Cert.AdaDwRefIdeal.τ).loc Cert.AdaDwRefIdeal.main_arg0) = m' ((c.tc : Thread Cert.AdaDwRefIdeal.nD Cert.AdaDwRefIdeal.τ).loc Cert.AdaDwRefIdeal.main_arg0)
          ∧ r.2.mem ((c.tc : Thread Cert.AdaDwRefIdeal.nD Cert.AdaDwRefIdeal.τ).loc Cert.AdaDwRefIdeal.main_arg1) = m' ((c.tc : Thread Cert.AdaDwRefIdeal.nD Cert.AdaDwRefIdeal.τ).loc Cert.AdaDwRefIdeal.main_arg1))

def preserves_AdaDx_AdaDxIdeal : Prop :=
  True

def algebraic_AdaDxIdeal_AdaDxRefIdeal [hAdaDxIdeal : Cert.AdaDxIdeal.Facts] [hAdaDxRefIdeal : Cert.AdaDxRefIdeal.Facts] : Prop :=
  ∀ (m : (ℓ : Loc Cert.AdaDxIdeal.nD Cert.AdaDxIdeal.τ Cert.AdaDxIdeal.sig) → Buf (Elt Ideal) ℓ) (g : Dev Cert.AdaDxIdeal.nD → PrngReg)
    (m' : (ℓ : Loc Cert.AdaDxRefIdeal.nD Cert.AdaDxRefIdeal.τ Cert.AdaDxRefIdeal.sig) → Buf (Elt Ideal) ℓ) (g' : Dev Cert.AdaDxRefIdeal.nD → PrngReg), Pre_AdaDxIdeal m →
    (∀ c : Dev Cert.AdaDxIdeal.nD,
      m' ((c.tc : Thread Cert.AdaDxRefIdeal.nD Cert.AdaDxRefIdeal.τ).loc Cert.AdaDxRefIdeal.main_arg0) = m ((c.tc : Thread Cert.AdaDxIdeal.nD Cert.AdaDxIdeal.τ).loc Cert.AdaDxIdeal.main_arg0)
      ∧ m' ((c.tc : Thread Cert.AdaDxRefIdeal.nD Cert.AdaDxRefIdeal.τ).loc Cert.AdaDxRefIdeal.main_arg1) = m ((c.tc : Thread Cert.AdaDxIdeal.nD Cert.AdaDxIdeal.τ).loc Cert.AdaDxIdeal.main_arg1)) →
    ∃ (v0 : (c : Dev Cert.AdaDxIdeal.nD) → Buf (Elt Ideal) ((c.tc : Thread Cert.AdaDxIdeal.nD Cert.AdaDxIdeal.τ).loc Cert.AdaDxIdeal.main_v0)),
      θ_run (Cert.AdaDxIdeal.defs (F := Ideal)) (onTc (τ := Cert.AdaDxIdeal.τ) (Cert.AdaDxIdeal.main (F := Ideal))) ⟨m, fun _ => 0, g⟩ (fun r => ∀ c : Dev Cert.AdaDxIdeal.nD,
          r.2.mem ((c.tc : Thread Cert.AdaDxIdeal.nD Cert.AdaDxIdeal.τ).loc Cert.AdaDxIdeal.main_v0) = v0 c
          ∧ r.2.mem ((c.tc : Thread Cert.AdaDxIdeal.nD Cert.AdaDxIdeal.τ).loc Cert.AdaDxIdeal.main_arg0) = m ((c.tc : Thread Cert.AdaDxIdeal.nD Cert.AdaDxIdeal.τ).loc Cert.AdaDxIdeal.main_arg0)
          ∧ r.2.mem ((c.tc : Thread Cert.AdaDxIdeal.nD Cert.AdaDxIdeal.τ).loc Cert.AdaDxIdeal.main_arg1) = m ((c.tc : Thread Cert.AdaDxIdeal.nD Cert.AdaDxIdeal.τ).loc Cert.AdaDxIdeal.main_arg1))
      ∧ θ_run (Cert.AdaDxRefIdeal.defs (F := Ideal)) (onTc (τ := Cert.AdaDxRefIdeal.τ) (Cert.AdaDxRefIdeal.main (F := Ideal))) ⟨m', fun _ => 0, g'⟩ (fun r => ∀ c : Dev Cert.AdaDxRefIdeal.nD,
          r.2.mem ((c.tc : Thread Cert.AdaDxRefIdeal.nD Cert.AdaDxRefIdeal.τ).loc Cert.AdaDxRefIdeal.main_v2) = v0 c
          ∧ r.2.mem ((c.tc : Thread Cert.AdaDxRefIdeal.nD Cert.AdaDxRefIdeal.τ).loc Cert.AdaDxRefIdeal.main_arg0) = m' ((c.tc : Thread Cert.AdaDxRefIdeal.nD Cert.AdaDxRefIdeal.τ).loc Cert.AdaDxRefIdeal.main_arg0)
          ∧ r.2.mem ((c.tc : Thread Cert.AdaDxRefIdeal.nD Cert.AdaDxRefIdeal.τ).loc Cert.AdaDxRefIdeal.main_arg1) = m' ((c.tc : Thread Cert.AdaDxRefIdeal.nD Cert.AdaDxRefIdeal.τ).loc Cert.AdaDxRefIdeal.main_arg1))

def preserves_Merge_MergeIdeal : Prop :=
  IdealRules.named_const.Statement Cert.MergeIdeal.κ "neg_log2e" .f32 0xBFB8AA3B#32 ((-((Real.log 2)⁻¹) : ℝ) : EReal)

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v19) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2))

def preserves_MergeBwd_MergeBwdIdeal : Prop :=
  IdealRules.named_const.Statement Cert.MergeBwdIdeal.κ "neg_log2e" .f32 0xBFB8AA3B#32 ((-((Real.log 2)⁻¹) : ℝ) : EReal)

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)) (v3 : (c : Dev Cert.MergeBwdIdeal.nD) → Buf (Elt Ideal) ((c.tc : Thread Cert.MergeBwdIdeal.nD Cert.MergeBwdIdeal.τ).loc Cert.MergeBwdIdeal.main_v0_3)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_v0_3) = v3 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v32) = v0 c
          ∧ r.2.mem ((c.tc : Thread Cert.MergeBwdRefIdeal.nD Cert.MergeBwdRefIdeal.τ).loc Cert.MergeBwdRefIdeal.main_v33) = v1 c
          ∧ r.2.mem ((c.tc : Thread Cert.MergeBwdRefIdeal.nD Cert.MergeBwdRefIdeal.τ).loc Cert.MergeBwdRefIdeal.main_v34) = v2 c
          ∧ r.2.mem ((c.tc : Thread Cert.MergeBwdRefIdeal.nD Cert.MergeBwdRefIdeal.τ).loc Cert.MergeBwdRefIdeal.main_v35) = v3 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v29) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hUp : Cert.Up.Facts) (hUpIdeal : Cert.UpIdeal.Facts) (hUpRefIdeal : Cert.UpRefIdeal.Facts) (hUpDw : Cert.UpDw.Facts) (hUpDwIdeal : Cert.UpDwIdeal.Facts) (hUpDwRefIdeal : Cert.UpDwRefIdeal.Facts) (hUpDx : Cert.UpDx.Facts) (hUpDxIdeal : Cert.UpDxIdeal.Facts) (hUpDxRefIdeal : Cert.UpDxRefIdeal.Facts) (hDown : Cert.Down.Facts) (hDownIdeal : Cert.DownIdeal.Facts) (hDownRefIdeal : Cert.DownRefIdeal.Facts) (hDownDw : Cert.DownDw.Facts) (hDownDwIdeal : Cert.DownDwIdeal.Facts) (hDownDwRefIdeal : Cert.DownDwRefIdeal.Facts) (hDownDx : Cert.DownDx.Facts) (hDownDxIdeal : Cert.DownDxIdeal.Facts) (hDownDxRefIdeal : Cert.DownDxRefIdeal.Facts) (hIn : Cert.In.Facts) (hInIdeal : Cert.InIdeal.Facts) (hInRefIdeal : Cert.InRefIdeal.Facts) (hInDw : Cert.InDw.Facts) (hInDwIdeal : Cert.InDwIdeal.Facts) (hInDwRefIdeal : Cert.InDwRefIdeal.Facts) (hInDx : Cert.InDx.Facts) (hInDxIdeal : Cert.InDxIdeal.Facts) (hInDxRefIdeal : Cert.InDxRefIdeal.Facts) (hWo : Cert.Wo.Facts) (hWoIdeal : Cert.WoIdeal.Facts) (hWoRefIdeal : Cert.WoRefIdeal.Facts) (hWoDw : Cert.WoDw.Facts) (hWoDwIdeal : Cert.WoDwIdeal.Facts) (hWoDwRefIdeal : Cert.WoDwRefIdeal.Facts) (hWoDx : Cert.WoDx.Facts) (hWoDxIdeal : Cert.WoDxIdeal.Facts) (hWoDxRefIdeal : Cert.WoDxRefIdeal.Facts) (hAo : Cert.Ao.Facts) (hAoIdeal : Cert.AoIdeal.Facts) (hAoRefIdeal : Cert.AoRefIdeal.Facts) (hAoDw : Cert.AoDw.Facts) (hAoDwIdeal : Cert.AoDwIdeal.Facts) (hAoDwRefIdeal : Cert.AoDwRefIdeal.Facts) (hAoDx : Cert.AoDx.Facts) (hAoDxIdeal : Cert.AoDxIdeal.Facts) (hAoDxRefIdeal : Cert.AoDxRefIdeal.Facts) (hCo : Cert.Co.Facts) (hCoIdeal : Cert.CoIdeal.Facts) (hCoRefIdeal : Cert.CoRefIdeal.Facts) (hCoDw : Cert.CoDw.Facts) (hCoDwIdeal : Cert.CoDwIdeal.Facts) (hCoDwRefIdeal : Cert.CoDwRefIdeal.Facts) (hCoDx : Cert.CoDx.Facts) (hCoDxIdeal : Cert.CoDxIdeal.Facts) (hCoDxRefIdeal : Cert.CoDxRefIdeal.Facts) (hInA : Cert.InA.Facts) (hInAIdeal : Cert.InAIdeal.Facts) (hInARefIdeal : Cert.InARefIdeal.Facts) (hUq : Cert.Uq.Facts) (hUqIdeal : Cert.UqIdeal.Facts) (hUqRefIdeal : Cert.UqRefIdeal.Facts) (hUqDw : Cert.UqDw.Facts) (hUqDwIdeal : Cert.UqDwIdeal.Facts) (hUqDwRefIdeal : Cert.UqDwRefIdeal.Facts) (hUqDx : Cert.UqDx.Facts) (hUqDxIdeal : Cert.UqDxIdeal.Facts) (hUqDxRefIdeal : Cert.UqDxRefIdeal.Facts) (hUkv : Cert.Ukv.Facts) (hUkvIdeal : Cert.UkvIdeal.Facts) (hUkvRefIdeal : Cert.UkvRefIdeal.Facts) (hUkvDw : Cert.UkvDw.Facts) (hUkvDwIdeal : Cert.UkvDwIdeal.Facts) (hUkvDwRefIdeal : Cert.UkvDwRefIdeal.Facts) (hUkvDx : Cert.UkvDx.Facts) (hUkvDxIdeal : Cert.UkvDxIdeal.Facts) (hUkvDxRefIdeal : Cert.UkvDxRefIdeal.Facts) (hAda : Cert.Ada.Facts) (hAdaIdeal : Cert.AdaIdeal.Facts) (hAdaRefIdeal : Cert.AdaRefIdeal.Facts) (hAdaDw : Cert.AdaDw.Facts) (hAdaDwIdeal : Cert.AdaDwIdeal.Facts) (hAdaDwRefIdeal : Cert.AdaDwRefIdeal.Facts) (hAdaDx : Cert.AdaDx.Facts) (hAdaDxIdeal : Cert.AdaDxIdeal.Facts) (hAdaDxRefIdeal : Cert.AdaDxRefIdeal.Facts) (hMerge : Cert.Merge.Facts) (hMergeIdeal : Cert.MergeIdeal.Facts) (hMergeRefIdeal : Cert.MergeRefIdeal.Facts) (hMergeBwd : Cert.MergeBwd.Facts) (hMergeBwdIdeal : Cert.MergeBwdIdeal.Facts) (hMergeBwdRefIdeal : Cert.MergeBwdRefIdeal.Facts) (hConv : Cert.Conv.Facts) (hConvIdeal : Cert.ConvIdeal.Facts) (hConvRefIdeal : Cert.ConvRefIdeal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Up (hUp := hUp)
    ∧ quiescent_UpIdeal (hUpIdeal := hUpIdeal)
    ∧ quiescent_UpRefIdeal (hUpRefIdeal := hUpRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_Down (hDown := hDown)
    ∧ quiescent_DownIdeal (hDownIdeal := hDownIdeal)
    ∧ quiescent_DownRefIdeal (hDownRefIdeal := hDownRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_In (hIn := hIn)
    ∧ quiescent_InIdeal (hInIdeal := hInIdeal)
    ∧ quiescent_InRefIdeal (hInRefIdeal := hInRefIdeal)
    ∧ quiescent_InDw (hInDw := hInDw)
    ∧ quiescent_InDwIdeal (hInDwIdeal := hInDwIdeal)
    ∧ quiescent_InDwRefIdeal (hInDwRefIdeal := hInDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_Wo (hWo := hWo)
    ∧ quiescent_WoIdeal (hWoIdeal := hWoIdeal)
    ∧ quiescent_WoRefIdeal (hWoRefIdeal := hWoRefIdeal)
    ∧ quiescent_WoDw (hWoDw := hWoDw)
    ∧ quiescent_WoDwIdeal (hWoDwIdeal := hWoDwIdeal)
    ∧ quiescent_WoDwRefIdeal (hWoDwRefIdeal := hWoDwRefIdeal)
    ∧ quiescent_WoDx (hWoDx := hWoDx)
    ∧ quiescent_WoDxIdeal (hWoDxIdeal := hWoDxIdeal)
    ∧ quiescent_WoDxRefIdeal (hWoDxRefIdeal := hWoDxRefIdeal)
    ∧ quiescent_Ao (hAo := hAo)
    ∧ quiescent_AoIdeal (hAoIdeal := hAoIdeal)
    ∧ quiescent_AoRefIdeal (hAoRefIdeal := hAoRefIdeal)
    ∧ quiescent_AoDw (hAoDw := hAoDw)
    ∧ quiescent_AoDwIdeal (hAoDwIdeal := hAoDwIdeal)
    ∧ quiescent_AoDwRefIdeal (hAoDwRefIdeal := hAoDwRefIdeal)
    ∧ quiescent_AoDx (hAoDx := hAoDx)
    ∧ quiescent_AoDxIdeal (hAoDxIdeal := hAoDxIdeal)
    ∧ quiescent_AoDxRefIdeal (hAoDxRefIdeal := hAoDxRefIdeal)
    ∧ quiescent_Co (hCo := hCo)
    ∧ quiescent_CoIdeal (hCoIdeal := hCoIdeal)
    ∧ quiescent_CoRefIdeal (hCoRefIdeal := hCoRefIdeal)
    ∧ quiescent_CoDw (hCoDw := hCoDw)
    ∧ quiescent_CoDwIdeal (hCoDwIdeal := hCoDwIdeal)
    ∧ quiescent_CoDwRefIdeal (hCoDwRefIdeal := hCoDwRefIdeal)
    ∧ quiescent_CoDx (hCoDx := hCoDx)
    ∧ quiescent_CoDxIdeal (hCoDxIdeal := hCoDxIdeal)
    ∧ quiescent_CoDxRefIdeal (hCoDxRefIdeal := hCoDxRefIdeal)
    ∧ quiescent_InA (hInA := hInA)
    ∧ quiescent_InAIdeal (hInAIdeal := hInAIdeal)
    ∧ quiescent_InARefIdeal (hInARefIdeal := hInARefIdeal)
    ∧ quiescent_Uq (hUq := hUq)
    ∧ quiescent_UqIdeal (hUqIdeal := hUqIdeal)
    ∧ quiescent_UqRefIdeal (hUqRefIdeal := hUqRefIdeal)
    ∧ quiescent_UqDw (hUqDw := hUqDw)
    ∧ quiescent_UqDwIdeal (hUqDwIdeal := hUqDwIdeal)
    ∧ quiescent_UqDwRefIdeal (hUqDwRefIdeal := hUqDwRefIdeal)
    ∧ quiescent_UqDx (hUqDx := hUqDx)
    ∧ quiescent_UqDxIdeal (hUqDxIdeal := hUqDxIdeal)
    ∧ quiescent_UqDxRefIdeal (hUqDxRefIdeal := hUqDxRefIdeal)
    ∧ quiescent_Ukv (hUkv := hUkv)
    ∧ quiescent_UkvIdeal (hUkvIdeal := hUkvIdeal)
    ∧ quiescent_UkvRefIdeal (hUkvRefIdeal := hUkvRefIdeal)
    ∧ quiescent_UkvDw (hUkvDw := hUkvDw)
    ∧ quiescent_UkvDwIdeal (hUkvDwIdeal := hUkvDwIdeal)
    ∧ quiescent_UkvDwRefIdeal (hUkvDwRefIdeal := hUkvDwRefIdeal)
    ∧ quiescent_UkvDx (hUkvDx := hUkvDx)
    ∧ quiescent_UkvDxIdeal (hUkvDxIdeal := hUkvDxIdeal)
    ∧ quiescent_UkvDxRefIdeal (hUkvDxRefIdeal := hUkvDxRefIdeal)
    ∧ quiescent_Ada (hAda := hAda)
    ∧ quiescent_AdaIdeal (hAdaIdeal := hAdaIdeal)
    ∧ quiescent_AdaRefIdeal (hAdaRefIdeal := hAdaRefIdeal)
    ∧ quiescent_AdaDw (hAdaDw := hAdaDw)
    ∧ quiescent_AdaDwIdeal (hAdaDwIdeal := hAdaDwIdeal)
    ∧ quiescent_AdaDwRefIdeal (hAdaDwRefIdeal := hAdaDwRefIdeal)
    ∧ quiescent_AdaDx (hAdaDx := hAdaDx)
    ∧ quiescent_AdaDxIdeal (hAdaDxIdeal := hAdaDxIdeal)
    ∧ quiescent_AdaDxRefIdeal (hAdaDxRefIdeal := hAdaDxRefIdeal)
    ∧ quiescent_Merge (hMerge := hMerge)
    ∧ quiescent_MergeIdeal (hMergeIdeal := hMergeIdeal)
    ∧ quiescent_MergeRefIdeal (hMergeRefIdeal := hMergeRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_Conv (hConv := hConv)
    ∧ quiescent_ConvIdeal (hConvIdeal := hConvIdeal)
    ∧ quiescent_ConvRefIdeal (hConvRefIdeal := hConvRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Up_UpIdeal
    ∧ algebraic_UpIdeal_UpRefIdeal (hUpIdeal := hUpIdeal) (hUpRefIdeal := hUpRefIdeal)
    ∧ preserves_UpDw_UpDwIdeal
    ∧ algebraic_UpDwIdeal_UpDwRefIdeal (hUpDwIdeal := hUpDwIdeal) (hUpDwRefIdeal := hUpDwRefIdeal)
    ∧ preserves_UpDx_UpDxIdeal
    ∧ algebraic_UpDxIdeal_UpDxRefIdeal (hUpDxIdeal := hUpDxIdeal) (hUpDxRefIdeal := hUpDxRefIdeal)
    ∧ preserves_Down_DownIdeal
    ∧ algebraic_DownIdeal_DownRefIdeal (hDownIdeal := hDownIdeal) (hDownRefIdeal := hDownRefIdeal)
    ∧ preserves_DownDw_DownDwIdeal
    ∧ algebraic_DownDwIdeal_DownDwRefIdeal (hDownDwIdeal := hDownDwIdeal) (hDownDwRefIdeal := hDownDwRefIdeal)
    ∧ preserves_DownDx_DownDxIdeal
    ∧ algebraic_DownDxIdeal_DownDxRefIdeal (hDownDxIdeal := hDownDxIdeal) (hDownDxRefIdeal := hDownDxRefIdeal)
    ∧ preserves_In_InIdeal
    ∧ algebraic_InIdeal_InRefIdeal (hInIdeal := hInIdeal) (hInRefIdeal := hInRefIdeal)
    ∧ preserves_InDw_InDwIdeal
    ∧ algebraic_InDwIdeal_InDwRefIdeal (hInDwIdeal := hInDwIdeal) (hInDwRefIdeal := hInDwRefIdeal)
    ∧ preserves_InDx_InDxIdeal
    ∧ algebraic_InDxIdeal_InDxRefIdeal (hInDxIdeal := hInDxIdeal) (hInDxRefIdeal := hInDxRefIdeal)
    ∧ preserves_Wo_WoIdeal
    ∧ algebraic_WoIdeal_WoRefIdeal (hWoIdeal := hWoIdeal) (hWoRefIdeal := hWoRefIdeal)
    ∧ preserves_WoDw_WoDwIdeal
    ∧ algebraic_WoDwIdeal_WoDwRefIdeal (hWoDwIdeal := hWoDwIdeal) (hWoDwRefIdeal := hWoDwRefIdeal)
    ∧ preserves_WoDx_WoDxIdeal
    ∧ algebraic_WoDxIdeal_WoDxRefIdeal (hWoDxIdeal := hWoDxIdeal) (hWoDxRefIdeal := hWoDxRefIdeal)
    ∧ preserves_Ao_AoIdeal
    ∧ algebraic_AoIdeal_AoRefIdeal (hAoIdeal := hAoIdeal) (hAoRefIdeal := hAoRefIdeal)
    ∧ preserves_AoDw_AoDwIdeal
    ∧ algebraic_AoDwIdeal_AoDwRefIdeal (hAoDwIdeal := hAoDwIdeal) (hAoDwRefIdeal := hAoDwRefIdeal)
    ∧ preserves_AoDx_AoDxIdeal
    ∧ algebraic_AoDxIdeal_AoDxRefIdeal (hAoDxIdeal := hAoDxIdeal) (hAoDxRefIdeal := hAoDxRefIdeal)
    ∧ preserves_Co_CoIdeal
    ∧ algebraic_CoIdeal_CoRefIdeal (hCoIdeal := hCoIdeal) (hCoRefIdeal := hCoRefIdeal)
    ∧ preserves_CoDw_CoDwIdeal
    ∧ algebraic_CoDwIdeal_CoDwRefIdeal (hCoDwIdeal := hCoDwIdeal) (hCoDwRefIdeal := hCoDwRefIdeal)
    ∧ preserves_CoDx_CoDxIdeal
    ∧ algebraic_CoDxIdeal_CoDxRefIdeal (hCoDxIdeal := hCoDxIdeal) (hCoDxRefIdeal := hCoDxRefIdeal)
    ∧ preserves_InA_InAIdeal
    ∧ algebraic_InAIdeal_InARefIdeal (hInAIdeal := hInAIdeal) (hInARefIdeal := hInARefIdeal)
    ∧ preserves_Uq_UqIdeal
    ∧ algebraic_UqIdeal_UqRefIdeal (hUqIdeal := hUqIdeal) (hUqRefIdeal := hUqRefIdeal)
    ∧ preserves_UqDw_UqDwIdeal
    ∧ algebraic_UqDwIdeal_UqDwRefIdeal (hUqDwIdeal := hUqDwIdeal) (hUqDwRefIdeal := hUqDwRefIdeal)
    ∧ preserves_UqDx_UqDxIdeal
    ∧ algebraic_UqDxIdeal_UqDxRefIdeal (hUqDxIdeal := hUqDxIdeal) (hUqDxRefIdeal := hUqDxRefIdeal)
    ∧ preserves_Ukv_UkvIdeal
    ∧ algebraic_UkvIdeal_UkvRefIdeal (hUkvIdeal := hUkvIdeal) (hUkvRefIdeal := hUkvRefIdeal)
    ∧ preserves_UkvDw_UkvDwIdeal
    ∧ algebraic_UkvDwIdeal_UkvDwRefIdeal (hUkvDwIdeal := hUkvDwIdeal) (hUkvDwRefIdeal := hUkvDwRefIdeal)
    ∧ preserves_UkvDx_UkvDxIdeal
    ∧ algebraic_UkvDxIdeal_UkvDxRefIdeal (hUkvDxIdeal := hUkvDxIdeal) (hUkvDxRefIdeal := hUkvDxRefIdeal)
    ∧ preserves_Ada_AdaIdeal
    ∧ algebraic_AdaIdeal_AdaRefIdeal (hAdaIdeal := hAdaIdeal) (hAdaRefIdeal := hAdaRefIdeal)
    ∧ preserves_AdaDw_AdaDwIdeal
    ∧ algebraic_AdaDwIdeal_AdaDwRefIdeal (hAdaDwIdeal := hAdaDwIdeal) (hAdaDwRefIdeal := hAdaDwRefIdeal)
    ∧ preserves_AdaDx_AdaDxIdeal
    ∧ algebraic_AdaDxIdeal_AdaDxRefIdeal (hAdaDxIdeal := hAdaDxIdeal) (hAdaDxRefIdeal := hAdaDxRefIdeal)
    ∧ preserves_Merge_MergeIdeal
    ∧ algebraic_MergeIdeal_MergeRefIdeal (hMergeIdeal := hMergeIdeal) (hMergeRefIdeal := hMergeRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_Conv_ConvIdeal
    ∧ algebraic_ConvIdeal_ConvRefIdeal (hConvIdeal := hConvIdeal) (hConvRefIdeal := hConvRefIdeal)
-- ==== Pre_finite.lean ====
abbrev S2048x768 : Shape := ⟨2, ![2048, 768]⟩
abbrev S2304x1024 : Shape := ⟨2, ![2304, 1024]⟩
abbrev S2304x32 : Shape := ⟨2, ![2304, 32]⟩
abbrev S2048x16 : Shape := ⟨2, ![2048, 16]⟩
abbrev S2048x512 : Shape := ⟨2, ![2048, 512]⟩
abbrev S_ : Shape := ⟨0, ![]⟩

class Facts : Prop where
  bcast_S_S2048x768 : S_.BroadcastsInDim S2048x768 (![] : Fin 0 → Fin S2048x768.rank)
  reducesTo_S2048x768_S_d0_1 : S2048x768.ReducesTo [0, 1] S_
  h_S_ : 0 < S_.numel
  bcast_S_S2304x1024 : S_.BroadcastsInDim S2304x1024 (![] : Fin 0 → Fin S2304x1024.rank)
  reducesTo_S2304x1024_S_d0_1 : S2304x1024.ReducesTo [0, 1] S_
  bcast_S_S2304x32 : S_.BroadcastsInDim S2304x32 (![] : Fin 0 → Fin S2304x32.rank)
  reducesTo_S2304x32_S_d0_1 : S2304x32.ReducesTo [0, 1] S_
  bcast_S_S2048x16 : S_.BroadcastsInDim S2048x16 (![] : Fin 0 → Fin S2048x16.rank)
  reducesTo_S2048x16_S_d0_1 : S2048x16.ReducesTo [0, 1] S_
  bcast_S_S2048x512 : S_.BroadcastsInDim S2048x512 (![] : Fin 0 → Fin S2048x512.rank)
  reducesTo_S2048x512_S_d0_1 : S2048x512.ReducesTo [0, 1] S_

variable [Facts]

def fn_part1 {F : FTy → Type} [FloatOps F] (main_arg4 : FVec F S2048x512 .f32) (main_v13 : IVec S_ 1) (main_v16 : IVec S2048x16 1) : IVec S_ 1 :=
  let main_c_5 : IVec S_ 1 := constantI S_ 1 1#1
  let main_v17 : IVec S_ 1 := (fun x v => Host.reduce IntOp.andi x v reducesTo_S2048x16_S_d0_1 h_S_) main_v16 main_c_5
  let main_v18 : IVec S_ 1 := andi main_v13 main_v17
  let main_v19 : FVec F S2048x512 .f32 := Host.absf main_arg4
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  main_v23

def fn {F : FTy → Type} [FloatOps F] (main_arg0 : FVec F S2048x768 .f32) (main_arg1 : FVec F S2304x1024 .f32) (main_arg2 : FVec F S2304x32 .f32) (main_arg3 : FVec F S2048x16 .f32) (main_arg4 : FVec F S2048x512 .f32) : IVec S_ 1 :=
  let main_v0 : FVec F S2048x768 .f32 := Host.absf main_arg0
  let main_cst : FVec F S_ .f32 := constant S_ .f32 0x7F800000#32
  let main_v1 : FVec F S2048x768 .f32 := broadcastInDim S2048x768 ![] bcast_S_S2048x768 main_cst
  let main_v2 : IVec S2048x768 1 := cmpf .olt main_v0 main_v1
  let main_c : IVec S_ 1 := constantI S_ 1 1#1
  let main_v3 : IVec S_ 1 := (fun x v => Host.reduce IntOp.andi x v reducesTo_S2048x768_S_d0_1 h_S_) main_v2 main_c
  let main_v4 : FVec F S2304x1024 .f32 := Host.absf main_arg1
  let main_cst_0 : FVec F S_ .f32 := constant S_ .f32 0x7F800000#32
  let main_v5 : FVec F S2304x1024 .f32 := broadcastInDim S2304x1024 ![] bcast_S_S2304x1024 main_cst_0
  let main_v6 : IVec S2304x1024 1 := cmpf .olt main_v4 main_v5
  let main_c_1 : IVec S_ 1 := constantI S_ 1 1#1
  let main_v7 : IVec S_ 1 := (fun x v => Host.reduce IntOp.andi x v reducesTo_S2304x1024_S_d0_1 h_S_) main_v6 main_c_1
  let main_v8 : IVec S_ 1 := andi main_v3 main_v7
  let main_v9 : FVec F S2304x32 .f32 := Host.absf main_arg2
  let main_cst_2 : FVec F S_ .f32 := constant S_ .f32 0x7F800000#32
  let main_v10 : FVec F S2304x32 .f32 := broadcastInDim S2304x32 ![] bcast_S_S2304x32 main_cst_2
  let main_v11 : IVec S2304x32 1 := cmpf .olt main_v9 main_v10
  let main_c_3 : IVec S_ 1 := constantI S_ 1 1#1
  let main_v12 : IVec S_ 1 := (fun x v => Host.reduce IntOp.andi x v reducesTo_S2304x32_S_d0_1 h_S_) main_v11 main_c_3
  let main_v13 : IVec S_ 1 := andi main_v8 main_v12
  let main_v14 : FVec F S2048x16 .f32 := Host.absf main_arg3
  let main_cst_4 : FVec F S_ .f32 := constant S_ .f32 0x7F800000#32
  let main_v15 : FVec F S2048x16 .f32 := broadcastInDim S2048x16 ![] bcast_S_S2048x16 main_cst_4
  let main_v16 : IVec S2048x16 1 := cmpf .olt main_v14 main_v15
  fn_part1 (F := F) main_arg4 main_v13 main_v16
-- ==== Pre_finite2.lean ====
abbrev S2048x768 : Shape := ⟨2, ![2048, 768]⟩
abbrev S2304x1024 : Shape := ⟨2, ![2304, 1024]⟩
abbrev S2304x32 : Shape := ⟨2, ![2304, 32]⟩
abbrev S2048x16 : Shape := ⟨2, ![2048, 16]⟩
abbrev S_ : Shape := ⟨0, ![]⟩

class Facts : Prop where
  bcast_S_S2048x768 : S_.BroadcastsInDim S2048x768 (![] : Fin 0 → Fin S2048x768.rank)
  reducesTo_S2048x768_S_d0_1 : S2048x768.ReducesTo [0, 1] S_
  h_S_ : 0 < S_.numel
  bcast_S_S2304x1024 : S_.BroadcastsInDim S2304x1024 (![] : Fin 0 → Fin S2304x1024.rank)
  reducesTo_S2304x1024_S_d0_1 : S2304x1024.ReducesTo [0, 1] S_
  bcast_S_S2304x32 : S_.BroadcastsInDim S2304x32 (![] : Fin 0 → Fin S2304x32.rank)
  reducesTo_S2304x32_S_d0_1 : S2304x32.ReducesTo [0, 1] S_
  bcast_S_S2048x16 : S_.BroadcastsInDim S2048x16 (![] : Fin 0 → Fin S2048x16.rank)
  reducesTo_S2048x16_S_d0_1 : S2048x16.ReducesTo [0, 1] S_

variable [Facts]

def fn_part1 {F : FTy → Type} [FloatOps F] (main_v13 : IVec S_ 1) (main_v16 : IVec S2048x16 1) : IVec S_ 1 :=
  let main_c_5 : IVec S_ 1 := constantI S_ 1 1#1
  let main_v17 : IVec S_ 1 := (fun x v => Host.reduce IntOp.andi x v reducesTo_S2048x16_S_d0_1 h_S_) main_v16 main_c_5
  let main_v18 : IVec S_ 1 := andi main_v13 main_v17
  main_v18

def fn {F : FTy → Type} [FloatOps F] (main_arg0 : FVec F S2048x768 .f32) (main_arg1 : FVec F S2304x1024 .f32) (main_arg2 : FVec F S2304x32 .f32) (main_arg3 : FVec F S2048x16 .f32) : IVec S_ 1 :=
  let main_v0 : FVec F S2048x768 .f32 := Host.absf main_arg0
  let main_cst : FVec F S_ .f32 := constant S_ .f32 0x7F800000#32
  let main_v1 : FVec F S2048x768 .f32 := broadcastInDim S2048x768 ![] bcast_S_S2048x768 main_cst
  let main_v2 : IVec S2048x768 1 := cmpf .olt main_v0 main_v1
  let main_c : IVec S_ 1 := constantI S_ 1 1#1
  let main_v3 : IVec S_ 1 := (fun x v => Host.reduce IntOp.andi x v reducesTo_S2048x768_S_d0_1 h_S_) main_v2 main_c
  let main_v4 : FVec F S2304x1024 .f32 := Host.absf main_arg1
  let main_cst_0 : FVec F S_ .f32 := constant S_ .f32 0x7F800000#32
  let main_v5 : FVec F S2304x1024 .f32 := broadcastInDim S2304x1024 ![] bcast_S_S2304x1024 main_cst_0
  let main_v6 : IVec S2304x1024 1 := cmpf .olt main_v4 main_v5
  let main_c_1 : IVec S_ 1 := constantI S_ 1 1#1
  let main_v7 : IVec S_ 1 := (fun x v => Host.reduce IntOp.andi x v reducesTo_S2304x1024_S_d0_1 h_S_) main_v6 main_c_1
  let main_v8 : IVec S_ 1 := andi main_v3 main_v7
  let main_v9 : FVec F S2304x32 .f32 := Host.absf main_arg2
  let main_cst_2 : FVec F S_ .f32 := constant S_ .f32 0x7F800000#32
  let main_v10 : FVec F S2304x32 .f32 := broadcastInDim S2304x32 ![] bcast_S_S2304x32 main_cst_2
  let main_v11 : IVec S2304x32 1 := cmpf .olt main_v9 main_v10
  let main_c_3 : IVec S_ 1 := constantI S_ 1 1#1
  let main_v12 : IVec S_ 1 := (fun x v => Host.reduce IntOp.andi x v reducesTo_S2304x32_S_d0_1 h_S_) main_v11 main_c_3
  let main_v13 : IVec S_ 1 := andi main_v8 main_v12
  let main_v14 : FVec F S2048x16 .f32 := Host.absf main_arg3
  let main_cst_4 : FVec F S_ .f32 := constant S_ .f32 0x7F800000#32
  let main_v15 : FVec F S2048x16 .f32 := broadcastInDim S2048x16 ![] bcast_S_S2048x16 main_cst_4
  let main_v16 : IVec S2048x16 1 := cmpf .olt main_v14 main_v15
  fn_part1 (F := F) main_v13 main_v16
-- ==== Kernel.lean ====
abbrev S2048x768 : Shape := ⟨2, ![2048, 768]⟩
abbrev S2304x1024 : Shape := ⟨2, ![2304, 1024]⟩
abbrev S2304x32 : Shape := ⟨2, ![2304, 32]⟩
abbrev S2048x16 : Shape := ⟨2, ![2048, 16]⟩
abbrev S2048x512 : Shape := ⟨2, ![2048, 512]⟩
abbrev S2048x8x96 : Shape := ⟨3, ![2048, 8, 96]⟩
abbrev S_ : Shape := ⟨0, ![]⟩
abbrev S2048x8x128 : Shape := ⟨3, ![2048, 8, 128]⟩
abbrev S2048x1024 : Shape := ⟨2, ![2048, 1024]⟩
abbrev S2304x832 : Shape := ⟨2, ![2304, 832]⟩
abbrev S2304x896 : Shape := ⟨2, ![2304, 896]⟩
abbrev S2048x8 : Shape := ⟨2, ![2048, 8]⟩
abbrev S2048x64 : Shape := ⟨2, ![2048, 64]⟩
abbrev S2048x32 : Shape := ⟨2, ![2048, 32]⟩
abbrev S2048x128 : Shape := ⟨2, ![2048, 128]⟩
abbrev S256x128 : Shape := ⟨2, ![256, 128]⟩
abbrev S2304x128 : Shape := ⟨2, ![2304, 128]⟩
abbrev S2304x768 : Shape := ⟨2, ![2304, 768]⟩
abbrev S2048x8x64 : Shape := ⟨3, ![2048, 8, 64]⟩
abbrev S2048x8x32 : Shape := ⟨3, ![2048, 8, 32]⟩
abbrev S2048x8x2x2x8 : Shape := ⟨5, ![2048, 8, 2, 2, 8]⟩
abbrev S2048x8x2x1x8 : Shape := ⟨5, ![2048, 8, 2, 1, 8]⟩
abbrev S2048x8x2x8 : Shape := ⟨4, ![2048, 8, 2, 8]⟩
abbrev S2048x1x2x8 : Shape := ⟨4, ![2048, 1, 2, 8]⟩
abbrev S2304x8x128 : Shape := ⟨3, ![2304, 8, 128]⟩
abbrev S2304x8x64 : Shape := ⟨3, ![2304, 8, 64]⟩
abbrev S2048x1x32 : Shape := ⟨3, ![2048, 1, 32]⟩
abbrev S2048x1x2x2x8 : Shape := ⟨5, ![2048, 1, 2, 2, 8]⟩
abbrev S2048x1x2x1x8 : Shape := ⟨5, ![2048, 1, 2, 1, 8]⟩
abbrev S2048x2x2x8 : Shape := ⟨4, ![2048, 2, 2, 8]⟩
abbrev S256x32 : Shape := ⟨2, ![256, 32]⟩
abbrev S256x2x2x8 : Shape := ⟨4, ![256, 2, 2, 8]⟩
abbrev S2304x2x2x8 : Shape := ⟨4, ![2304, 2, 2, 8]⟩
abbrev S8x2048x2304 : Shape := ⟨3, ![8, 2048, 2304]⟩
abbrev S2304x2048x8 : Shape := ⟨3, ![2304, 2048, 8]⟩
abbrev S8x2048 : Shape := ⟨2, ![8, 2048]⟩
abbrev S8x2048x1 : Shape := ⟨3, ![8, 2048, 1]⟩
abbrev S2048x8x1 : Shape := ⟨3, ![2048, 8, 1]⟩
abbrev S8x64x2048 : Shape := ⟨3, ![8, 64, 2048]⟩
abbrev S512x256 : Shape := ⟨2, ![512, 256]⟩
abbrev S2304x256 : Shape := ⟨2, ![2304, 256]⟩
abbrev S512x768 : Shape := ⟨2, ![512, 768]⟩
abbrev S2x2304x128 : Shape := ⟨3, ![2, 2304, 128]⟩
abbrev S2x128x2304 : Shape := ⟨3, ![2, 128, 2304]⟩
abbrev S1x2304x128 : Shape := ⟨3, ![1, 2304, 128]⟩
abbrev S512x128 : Shape := ⟨2, ![512, 128]⟩
abbrev S512x2304 : Shape := ⟨2, ![512, 2304]⟩
abbrev S512x1 : Shape := ⟨2, ![512, 1]⟩
abbrev S512 : Shape := ⟨1, ![512]⟩
abbrev S1x128x2304 : Shape := ⟨3, ![1, 128, 2304]⟩
abbrev S128x2304 : Shape := ⟨2, ![128, 2304]⟩

abbrev nBuf : Space → Nat
  | .hbm => 181
  | .vmem => 21
  | .smem => 0
  | _ => 0

abbrev hbmTy0_0 (i : Nat) : BufTy := match i % 128 with
  | 0 => ⟨S2048x768, .f32⟩
  | 1 => ⟨S2304x1024, .f32⟩
  | 2 => ⟨S2304x32, .f32⟩
  | 3 => ⟨S2048x16, .f32⟩
  | 4 => ⟨S2048x512, .f32⟩
  | 5 => ⟨S2048x8x96, .f32⟩
  | 6 => ⟨S_, .i32⟩
  | 7 => ⟨S_, .f32⟩
  | 8 => ⟨S2048x8x128, .f32⟩
  | 9 => ⟨S2048x1024, .f32⟩
  | 10 => ⟨S_, .f32⟩
  | 11 => ⟨S2304x832, .f32⟩
  | 12 => ⟨S_, .f32⟩
  | 13 => ⟨S2304x32, .f32⟩
  | 14 => ⟨S2304x896, .f32⟩
  | 15 => ⟨S2048x16, .f32⟩
  | 16 => ⟨S2048x16, .f32⟩
  | 17 => ⟨S_, .f32⟩
  | 18 => ⟨S2048x8, .f32⟩
  | 19 => ⟨S2048x8, .f32⟩
  | 20 => ⟨S2048x8, .f32⟩
  | 21 => ⟨S2048x8, .f32⟩
  | 22 => ⟨S2048x8, .f32⟩
  | 23 => ⟨S_, .f32⟩
  | 24 => ⟨S2048x64, .f32⟩
  | 25 => ⟨S_, .f32⟩
  | 26 => ⟨S2048x32, .f32⟩
  | 27 => ⟨S2048x128, .f32⟩
  | 28 => ⟨S_, .f32⟩
  | 29 => ⟨S256x128, .f32⟩
  | 30 => ⟨S2304x128, .f32⟩
  | 31 => ⟨S2048x8, .f32⟩
  | 32 => ⟨S2048x8, .f32⟩
  | 33 => ⟨S_, .f32⟩
  | 34 => ⟨S2048x64, .f32⟩
  | 35 => ⟨S_, .f32⟩
  | 36 => ⟨S2048x32, .f32⟩
  | 37 => ⟨S2048x128, .f32⟩
  | 38 => ⟨S_, .f32⟩
  | 39 => ⟨S256x128, .f32⟩
  | 40 => ⟨S2304x128, .f32⟩
  | 41 => ⟨S_, .f32⟩
  | 42 => ⟨S2048x64, .f32⟩
  | 43 => ⟨S_, .f32⟩
  | 44 => ⟨S2048x32, .f32⟩
  | 45 => ⟨S2048x128, .f32⟩
  | 46 => ⟨S_, .f32⟩
  | 47 => ⟨S256x128, .f32⟩
  | 48 => ⟨S2304x128, .f32⟩
  | 49 => ⟨S2048x16, .f32⟩
  | 50 => ⟨S2048x8, .f32⟩
  | 51 => ⟨S2048x8, .f32⟩
  | 52 => ⟨S2048x8, .f32⟩
  | 53 => ⟨S2048x8, .f32⟩
  | 54 => ⟨S_, .f32⟩
  | 55 => ⟨S2048x64, .f32⟩
  | 56 => ⟨S_, .f32⟩
  | 57 => ⟨S2048x32, .f32⟩
  | 58 => ⟨S2048x128, .f32⟩
  | 59 => ⟨S_, .f32⟩
  | 60 => ⟨S256x128, .f32⟩
  | 61 => ⟨S2304x128, .f32⟩
  | 62 => ⟨S2048x8, .f32⟩
  | 63 => ⟨S2048x8, .f32⟩
  | 64 => ⟨S_, .f32⟩
  | 65 => ⟨S2048x64, .f32⟩
  | 66 => ⟨S_, .f32⟩
  | 67 => ⟨S2048x32, .f32⟩
  | 68 => ⟨S2048x128, .f32⟩
  | 69 => ⟨S_, .f32⟩
  | 70 => ⟨S256x128, .f32⟩
  | 71 => ⟨S2304x128, .f32⟩
  | 72 => ⟨S_, .f32⟩
  | 73 => ⟨S2048x64, .f32⟩
  | 74 => ⟨S_, .f32⟩
  | 75 => ⟨S2048x32, .f32⟩
  | 76 => ⟨S2048x128, .f32⟩
  | 77 => ⟨S_, .f32⟩
  | 78 => ⟨S256x128, .f32⟩
  | 79 => ⟨S2304x128, .f32⟩
  | 80 => ⟨S2304x768, .f32⟩
  | 81 => ⟨S2048x8x64, .f32⟩
  | 82 => ⟨S_, .i32⟩
  | 83 => ⟨S_, .f32⟩
  | 84 => ⟨S2048x8x128, .f32⟩
  | 85 => ⟨S2048x1024, .f32⟩
  | 86 => ⟨S2048x8x96, .f32⟩
  | 87 => ⟨S2048x8x64, .f32⟩
  | 88 => ⟨S2048x8x32, .f32⟩
  | 89 => ⟨S2048x8x2x2x8, .f32⟩
  | 90 => ⟨S2048x8x2x1x8, .f32⟩
  | 91 => ⟨S2048x8x2x8, .f32⟩
  | 92 => ⟨S2048x8x2x1x8, .f32⟩
  | 93 => ⟨S2048x8x2x8, .f32⟩
  | 94 => ⟨S2048x1x2x8, .f32⟩
  | 95 => ⟨S2048x1x2x8, .f32⟩
  | 96 => ⟨S2048x1x2x8, .f32⟩
  | 97 => ⟨S2048x8x2x8, .f32⟩
  | 98 => ⟨S2048x8x2x8, .f32⟩
  | 99 => ⟨S2048x8x2x8, .f32⟩
  | 100 => ⟨S2048x8x2x8, .f32⟩
  | 101 => ⟨S2048x8x2x8, .f32⟩
  | 102 => ⟨S2048x8x2x8, .f32⟩
  | 103 => ⟨S2048x8x2x8, .f32⟩
  | 104 => ⟨S2048x8x2x8, .f32⟩
  | 105 => ⟨S2048x8x2x8, .f32⟩
  | 106 => ⟨S2048x8x2x8, .f32⟩
  | 107 => ⟨S2048x8x2x1x8, .f32⟩
  | 108 => ⟨S2048x8x2x1x8, .f32⟩
  | 109 => ⟨S2048x8x2x2x8, .f32⟩
  | 110 => ⟨S2304x8x128, .f32⟩
  | 111 => ⟨S2304x8x64, .f32⟩
  | 112 => ⟨S2048x32, .f32⟩
  | 113 => ⟨S2048x1x32, .f32⟩
  | 114 => ⟨S2048x1x2x2x8, .f32⟩
  | 115 => ⟨S2048x1x2x1x8, .f32⟩
  | 116 => ⟨S2048x1x2x8, .f32⟩
  | 117 => ⟨S2048x1x2x1x8, .f32⟩
  | 118 => ⟨S2048x1x2x8, .f32⟩
  | 119 => ⟨S2048x1x2x8, .f32⟩
  | 120 => ⟨S2048x1x2x8, .f32⟩
  | 121 => ⟨S2048x1x2x8, .f32⟩
  | 122 => ⟨S2048x1x2x8, .f32⟩
  | 123 => ⟨S2048x1x2x8, .f32⟩
  | 124 => ⟨S2048x1x2x8, .f32⟩
  | 125 => ⟨S2048x1x2x8, .f32⟩
  | 126 => ⟨S2048x1x2x8, .f32⟩
  | 127 => ⟨S2048x1x2x8, .f32⟩
  | _ => ⟨S2048x768, .f32⟩

abbrev hbmTy0_1 (i : Nat) : BufTy := match i % 128 with
  | 0 => ⟨S2048x1x2x1x8, .f32⟩
  | 1 => ⟨S2048x1x2x1x8, .f32⟩
  | 2 => ⟨S2048x1x2x2x8, .f32⟩
  | 3 => ⟨S2048x2x2x8, .f32⟩
  | 4 => ⟨S256x32, .f32⟩
  | 5 => ⟨S256x2x2x8, .f32⟩
  | 6 => ⟨S2304x2x2x8, .f32⟩
  | 7 => ⟨S8x2048x2304, .f32⟩
  | 8 => ⟨S2304x2048x8, .f32⟩
  | 9 => ⟨S8x2048x2304, .f32⟩
  | 10 => ⟨S8x2048x2304, .f32⟩
  | 11 => ⟨S_, .f32⟩
  | 12 => ⟨S_, .f32⟩
  | 13 => ⟨S8x2048x2304, .f32⟩
  | 14 => ⟨S8x2048x2304, .f32⟩
  | 15 => ⟨S_, .f32⟩
  | 16 => ⟨S8x2048, .f32⟩
  | 17 => ⟨S8x2048x1, .f32⟩
  | 18 => ⟨S8x2048x2304, .f32⟩
  | 19 => ⟨S8x2048x2304, .f32⟩
  | 20 => ⟨S8x2048x2304, .f32⟩
  | 21 => ⟨S_, .f32⟩
  | 22 => ⟨S8x2048, .f32⟩
  | 23 => ⟨S8x2048, .f32⟩
  | 24 => ⟨S8x2048, .f32⟩
  | 25 => ⟨S2048x8, .f32⟩
  | 26 => ⟨S2048x8x1, .f32⟩
  | 27 => ⟨S2048x8x64, .f32⟩
  | 28 => ⟨S2304x8x128, .f32⟩
  | 29 => ⟨S2304x8x64, .f32⟩
  | 30 => ⟨S_, .f32⟩
  | 31 => ⟨S8x2048, .f32⟩
  | 32 => ⟨S_, .f32⟩
  | 33 => ⟨S8x2048, .f32⟩
  | 34 => ⟨S8x2048, .f32⟩
  | 35 => ⟨S8x2048x1, .f32⟩
  | 36 => ⟨S8x2048x2304, .f32⟩
  | 37 => ⟨S8x2048x2304, .f32⟩
  | 38 => ⟨S8x2048x2304, .f32⟩
  | 39 => ⟨S_, .f32⟩
  | 40 => ⟨S8x2048, .f32⟩
  | 41 => ⟨S8x2048x1, .f32⟩
  | 42 => ⟨S8x2048x2304, .f32⟩
  | 43 => ⟨S8x2048x2304, .f32⟩
  | 44 => ⟨S8x64x2048, .f32⟩
  | 45 => ⟨S2048x8x64, .f32⟩
  | 46 => ⟨S2048x512, .f32⟩
  | 47 => ⟨S2048x8x64, .f32⟩
  | 48 => ⟨S2048x8x128, .f32⟩
  | 49 => ⟨S2048x1024, .f32⟩
  | 50 => ⟨S2048x1024, .bf16⟩
  | 51 => ⟨S2304x1024, .bf16⟩
  | 52 => ⟨S2304x128, .f32⟩
  | _ => ⟨S2048x768, .f32⟩

abbrev hbmTy (i : Nat) : BufTy := match i / 128 with
  | 0 => hbmTy0_0 i
  | 1 => hbmTy0_1 i
  | _ => ⟨S2048x768, .f32⟩

abbrev bufTy : (tb : Table) → Fin (tcTables nBuf tb) → BufTy
  | .hbm, ⟨i, _⟩ => hbmTy i
  | .local _ .vmem, ⟨0, _⟩ => ⟨S512x256, .f32⟩
  | .local _ .vmem, ⟨1, _⟩ => ⟨S512x256, .f32⟩
  | .local _ .vmem, ⟨2, _⟩ => ⟨S2304x256, .f32⟩
  | .local _ .vmem, ⟨3, _⟩ => ⟨S2304x256, .f32⟩
  | .local _ .vmem, ⟨4, _⟩ => ⟨S2304x128, .f32⟩
  | .local _ .vmem, ⟨5, _⟩ => ⟨S512x768, .f32⟩
  | .local _ .vmem, ⟨6, _⟩ => ⟨S512x768, .f32⟩
  | .local _ .vmem, ⟨7, _⟩ => ⟨S2304x768, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .bf16⟩
  | .local _ .vmem, ⟨13, _⟩ => ⟨S512x256, .bf16⟩
  | .local _ .vmem, ⟨14, _⟩ => ⟨S2304x256, .bf16⟩
  | .local _ .vmem, ⟨15, _⟩ => ⟨S2304x256, .bf16⟩
  | .local _ .vmem, ⟨16, _⟩ => ⟨S2304x128, .f32⟩
  | .local _ .vmem, ⟨17, _⟩ => ⟨S2x2304x128, .bf16⟩
  | .local _ .vmem, ⟨18, _⟩ => ⟨S2x2304x128, .bf16⟩
  | .local _ .vmem, ⟨19, _⟩ => ⟨S2x128x2304, .f32⟩
  | .local _ .vmem, ⟨20, _⟩ => ⟨S2x128x2304, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_cst_7 : Ref sig .tc := ⟨.hbm, 38, rfl⟩
abbrev main_v23 : Ref sig .tc := ⟨.hbm, 39, rfl⟩
abbrev main_v24 : Ref sig .tc := ⟨.hbm, 40, rfl⟩
abbrev main_cst_8 : Ref sig .tc := ⟨.hbm, 41, rfl⟩
abbrev main_v25 : Ref sig .tc := ⟨.hbm, 42, rfl⟩
abbrev main_cst_9 : Ref sig .tc := ⟨.hbm, 43, rfl⟩
abbrev main_v26 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_cst_12 : Ref sig .tc := ⟨.hbm, 56, rfl⟩
abbrev main_v36 : Ref sig .tc := ⟨.hbm, 57, rfl⟩
abbrev main_v37 : Ref sig .tc := ⟨.hbm, 58, rfl⟩
abbrev main_cst_13 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_14 : Ref sig .tc := ⟨.hbm, 64, rfl⟩
abbrev main_v42 : Ref sig .tc := ⟨.hbm, 65, rfl⟩
abbrev main_cst_15 : Ref sig .tc := ⟨.hbm, 66, rfl⟩
abbrev main_v43 : Ref sig .tc := ⟨.hbm, 67, rfl⟩
abbrev main_v44 : Ref sig .tc := ⟨.hbm, 68, rfl⟩
abbrev main_cst_16 : Ref sig .tc := ⟨.hbm, 69, rfl⟩
abbrev main_v45 : Ref sig .tc := ⟨.hbm, 70, rfl⟩
abbrev main_v46 : Ref sig .tc := ⟨.hbm, 71, rfl⟩
abbrev main_cst_17 : Ref sig .tc := ⟨.hbm, 72, rfl⟩
abbrev main_v47 : Ref sig .tc := ⟨.hbm, 73, rfl⟩
abbrev main_cst_18 : Ref sig .tc := ⟨.hbm, 74, rfl⟩
abbrev main_v48 : Ref sig .tc := ⟨.hbm, 75, rfl⟩
abbrev main_v49 : Ref sig .tc := ⟨.hbm, 76, rfl⟩
abbrev main_cst_19 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_c_20 : Ref sig .tc := ⟨.hbm, 82, rfl⟩
abbrev main_call1_v0 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_cst_21 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_22 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_cst_23 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_cst_24 : Ref sig .tc := ⟨.hbm, 158, rfl⟩
abbrev main_v125 : Ref sig .tc := ⟨.hbm, 159, rfl⟩
abbrev main_cst_25 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_cst_26 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142_0 : Ref sig .tc := ⟨.hbm, 178, rfl⟩
abbrev main_v142_1 : Ref sig .tc := ⟨.hbm, 179, rfl⟩
abbrev main_v142_2 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v143 : BitVec 1 := Scalar.cmpi .eq arg1 c3_i32
  let v144 : BitVec 32 := Scalar.extui v143
  let c0_i32_75 : BitVec 32 := 0#32
  let v145 : BitVec 1 := Scalar.cmpi .ne v144 c0_i32_75
  v145

def k0_cond3 (i : grid0.Coords) : BitVec 1 :=
  let arg0 : BitVec 32 := BitVec.ofNat 32 (i 0).val
  let c0_i32_102 : BitVec 32 := 0#32
  let v197 : BitVec 1 := Scalar.cmpi .eq arg0 c0_i32_102
  let v198 : BitVec 32 := Scalar.extui v197
  let c0_i32_103 : BitVec 32 := 0#32
  let v199 : BitVec 1 := Scalar.cmpi .ne v198 c0_i32_103
  v199

def k0_cond4 (i : grid0.Coords) : BitVec 1 :=
  let arg0 : BitVec 32 := BitVec.ofNat 32 (i 0).val
  let c0_i32_104 : BitVec 32 := 0#32
  let v200 : BitVec 1 := Scalar.cmpi .sgt arg0 c0_i32_104
  let v201 : BitVec 32 := Scalar.extui v200
  let c0_i32_105 : BitVec 32 := 0#32
  let v202 : BitVec 1 := Scalar.cmpi .ne v201 c0_i32_105
  v202

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c6_i32 : BitVec 32 := 6#32
  let c0_i32_0 : BitVec 32 := 0#32
  ![c0_i32.toNat, c6_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2304x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2304x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2304x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2304x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S2304x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== KernelIdeal.lean ====
variable {F : FTy → Type} [FloatOps F] [Named F]
def κ : String → Option EReal := fun
  | "log2e" => some (((Real.log 2)⁻¹ : ℝ) : EReal)
  | "scale" => some (((Real.sqrt 96)⁻¹ : ℝ) : EReal)
  | "scale_log2e" => some (((Real.sqrt 96)⁻¹ * (Real.log 2)⁻¹ : ℝ) : EReal)
  | _ => none
-- ==== ReferenceIdeal.lean ====
abbrev S2048x768 : Shape := ⟨2, ![2048, 768]⟩
abbrev S2304x1024 : Shape := ⟨2, ![2304, 1024]⟩
abbrev S2304x32 : Shape := ⟨2, ![2304, 32]⟩
abbrev S2048x16 : Shape := ⟨2, ![2048, 16]⟩
abbrev S2048x512 : Shape := ⟨2, ![2048, 512]⟩
abbrev S2048x8x96 : Shape := ⟨3, ![2048, 8, 96]⟩
abbrev S2048x8x64 : Shape := ⟨3, ![2048, 8, 64]⟩
abbrev S2048x8x32 : Shape := ⟨3, ![2048, 8, 32]⟩
abbrev S2048x8x2x2x8 : Shape := ⟨5, ![2048, 8, 2, 2, 8]⟩
abbrev S2048x8x2x1x8 : Shape := ⟨5, ![2048, 8, 2, 1, 8]⟩
abbrev S2048x8x2x8 : Shape := ⟨4, ![2048, 8, 2, 8]⟩
abbrev S2048x1x2x8 : Shape := ⟨4, ![2048, 1, 2, 8]⟩
abbrev S2304x8x128 : Shape := ⟨3, ![2304, 8, 128]⟩
abbrev S2304x8x64 : Shape := ⟨3, ![2304, 8, 64]⟩
abbrev S2048x32 : Shape := ⟨2, ![2048, 32]⟩
abbrev S2048x1x32 : Shape := ⟨3, ![2048, 1, 32]⟩
abbrev S2048x1x2x2x8 : Shape := ⟨5, ![2048, 1, 2, 2, 8]⟩
abbrev S2048x1x2x1x8 : Shape := ⟨5, ![2048, 1, 2, 1, 8]⟩
abbrev S2048x2x2x8 : Shape := ⟨4, ![2048, 2, 2, 8]⟩
abbrev S256x32 : Shape := ⟨2, ![256, 32]⟩
abbrev S256x2x2x8 : Shape := ⟨4, ![256, 2, 2, 8]⟩
abbrev S2304x2x2x8 : Shape := ⟨4, ![2304, 2, 2, 8]⟩
abbrev S8x2048x2304 : Shape := ⟨3, ![8, 2048, 2304]⟩
abbrev S2304x2048x8 : Shape := ⟨3, ![2304, 2048, 8]⟩
abbrev S_ : Shape := ⟨0, ![]⟩
abbrev S8x2048 : Shape := ⟨2, ![8, 2048]⟩
abbrev S8x2048x1 : Shape := ⟨3, ![8, 2048, 1]⟩
abbrev S8x64x2048 : Shape := ⟨3, ![8, 64, 2048]⟩
abbrev S8x64x2304 : Shape := ⟨3, ![8, 64, 2304]⟩
abbrev S8x2304x64 : Shape := ⟨3, ![8, 2304, 64]⟩
abbrev S8x2048x64 : Shape := ⟨3, ![8, 2048, 64]⟩
abbrev S2048x8x128 : Shape := ⟨3, ![2048, 8, 128]⟩
abbrev S2048x1024 : Shape := ⟨2, ![2048, 1024]⟩
abbrev S2304x128 : Shape := ⟨2, ![2304, 128]⟩

abbrev nBuf : Space → Nat
  | .hbm => 209
  | .vmem => 0
  | .smem => 0
  | _ => 0

abbrev hbmTy0_0 (i : Nat) : BufTy := match i % 128 with
  | 0 => ⟨S2048x768, .f32⟩
  | 1 => ⟨S2304x1024, .f32⟩
  | 2 => ⟨S2304x32, .f32⟩
  | 3 => ⟨S2048x16, .f32⟩
  | 4 => ⟨S2048x512, .f32⟩
  | 5 => ⟨S2048x8x96, .f32⟩
  | 6 => ⟨S2048x8x64, .f32⟩
  | 7 => ⟨S2048x8x32, .f32⟩
  | 8 => ⟨S2048x8x2x2x8, .f32⟩
  | 9 => ⟨S2048x8x2x1x8, .f32⟩
  | 10 => ⟨S2048x8x2x8, .f32⟩
  | 11 => ⟨S2048x8x2x1x8, .f32⟩
  | 12 => ⟨S2048x8x2x8, .f32⟩
  | 13 => ⟨S2048x1x2x8, .f32⟩
  | 14 => ⟨S2048x1x2x8, .f32⟩
  | 15 => ⟨S2048x1x2x8, .f32⟩
  | 16 => ⟨S2048x8x2x8, .f32⟩
  | 17 => ⟨S2048x8x2x8, .f32⟩
  | 18 => ⟨S2048x8x2x8, .f32⟩
  | 19 => ⟨S2048x8x2x8, .f32⟩
  | 20 => ⟨S2048x8x2x8, .f32⟩
  | 21 => ⟨S2048x8x2x8, .f32⟩
  | 22 => ⟨S2048x8x2x8, .f32⟩
  | 23 => ⟨S2048x8x2x8, .f32⟩
  | 24 => ⟨S2048x8x2x8, .f32⟩
  | 25 => ⟨S2048x8x2x8, .f32⟩
  | 26 => ⟨S2048x8x2x1x8, .f32⟩
  | 27 => ⟨S2048x8x2x1x8, .f32⟩
  | 28 => ⟨S2048x8x2x2x8, .f32⟩
  | 29 => ⟨S2304x8x128, .f32⟩
  | 30 => ⟨S2304x8x64, .f32⟩
  | 31 => ⟨S2048x32, .f32⟩
  | 32 => ⟨S2048x1x32, .f32⟩
  | 33 => ⟨S2048x1x2x2x8, .f32⟩
  | 34 => ⟨S2048x1x2x1x8, .f32⟩
  | 35 => ⟨S2048x1x2x8, .f32⟩
  | 36 => ⟨S2048x1x2x1x8, .f32⟩
  | 37 => ⟨S2048x1x2x8, .f32⟩
  | 38 => ⟨S2048x1x2x8, .f32⟩
  | 39 => ⟨S2048x1x2x8, .f32⟩
  | 40 => ⟨S2048x1x2x8, .f32⟩
  | 41 => ⟨S2048x1x2x8, .f32⟩
  | 42 => ⟨S2048x1x2x8, .f32⟩
  | 43 => ⟨S2048x1x2x8, .f32⟩
  | 44 => ⟨S2048x1x2x8, .f32⟩
  | 45 => ⟨S2048x1x2x8, .f32⟩
  | 46 => ⟨S2048x1x2x8, .f32⟩
  | 47 => ⟨S2048x1x2x1x8, .f32⟩
  | 48 => ⟨S2048x1x2x1x8, .f32⟩
  | 49 => ⟨S2048x1x2x2x8, .f32⟩
  | 50 => ⟨S2048x2x2x8, .f32⟩
  | 51 => ⟨S256x32, .f32⟩
  | 52 => ⟨S256x2x2x8, .f32⟩
  | 53 => ⟨S2304x2x2x8, .f32⟩
  | 54 => ⟨S8x2048x2304, .f32⟩
  | 55 => ⟨S2304x2048x8, .f32⟩
  | 56 => ⟨S8x2048x2304, .f32⟩
  | 57 => ⟨S8x2048x2304, .f32⟩
  | 58 => ⟨S_, .f32⟩
  | 59 => ⟨S_, .f32⟩
  | 60 => ⟨S8x2048x2304, .f32⟩
  | 61 => ⟨S8x2048x2304, .f32⟩
  | 62 => ⟨S2304x8x128, .f32⟩
  | 63 => ⟨S2304x8x64, .f32⟩
  | 64 => ⟨S_, .f32⟩
  | 65 => ⟨S8x2048, .f32⟩
  | 66 => ⟨S8x2048x1, .f32⟩
  | 67 => ⟨S8x2048x2304, .f32⟩
  | 68 => ⟨S8x2048x2304, .i1⟩
  | 69 => ⟨S8x2048x2304, .f32⟩
  | 70 => ⟨S_, .f32⟩
  | 71 => ⟨S8x2048, .f32⟩
  | 72 => ⟨S_, .f32⟩
  | 73 => ⟨S8x2048, .f32⟩
  | 74 => ⟨S8x2048, .f32⟩
  | 75 => ⟨S_, .f32⟩
  | 76 => ⟨S8x2048, .f32⟩
  | 77 => ⟨S8x2048, .i1⟩
  | 78 => ⟨S_, .f32⟩
  | 79 => ⟨S8x2048, .f32⟩
  | 80 => ⟨S8x2048, .i1⟩
  | 81 => ⟨S_, .f32⟩
  | 82 => ⟨S8x2048, .f32⟩
  | 83 => ⟨S_, .f32⟩
  | 84 => ⟨S8x2048, .f32⟩
  | 85 => ⟨S_, .f32⟩
  | 86 => ⟨S8x2048, .f32⟩
  | 87 => ⟨S8x2048, .f32⟩
  | 88 => ⟨S8x2048, .f32⟩
  | 89 => ⟨S8x2048x1, .f32⟩
  | 90 => ⟨S8x2048x2304, .f32⟩
  | 91 => ⟨S8x2048x2304, .f32⟩
  | 92 => ⟨S8x2048x2304, .f32⟩
  | 93 => ⟨S_, .f32⟩
  | 94 => ⟨S8x2048, .f32⟩
  | 95 => ⟨S8x2048x1, .f32⟩
  | 96 => ⟨S8x2048x2304, .f32⟩
  | 97 => ⟨S8x2048x2304, .f32⟩
  | 98 => ⟨S8x2048x1, .f32⟩
  | 99 => ⟨S_, .f32⟩
  | 100 => ⟨S8x2048x1, .f32⟩
  | 101 => ⟨S8x2048x1, .f32⟩
  | 102 => ⟨S8x64x2048, .f32⟩
  | 103 => ⟨S2048x8x64, .f32⟩
  | 104 => ⟨S2048x512, .f32⟩
  | 105 => ⟨S2048x8x64, .f32⟩
  | 106 => ⟨S8x64x2048, .f32⟩
  | 107 => ⟨S8x2048x2304, .f32⟩
  | 108 => ⟨S8x64x2304, .f32⟩
  | 109 => ⟨S2304x8x64, .f32⟩
  | 110 => ⟨S8x2048x2304, .f32⟩
  | 111 => ⟨S8x2048x2304, .f32⟩
  | 112 => ⟨S8x2048x2304, .f32⟩
  | 113 => ⟨S_, .f32⟩
  | 114 => ⟨S8x2048, .f32⟩
  | 115 => ⟨S8x2048x1, .f32⟩
  | 116 => ⟨S8x2048x1, .f32⟩
  | 117 => ⟨S8x2048x2304, .f32⟩
  | 118 => ⟨S8x2048x2304, .f32⟩
  | 119 => ⟨S_, .f32⟩
  | 120 => ⟨S8x2048, .f32⟩
  | 121 => ⟨S8x2048x2304, .f32⟩
  | 122 => ⟨S8x2048x2304, .f32⟩
  | 123 => ⟨S8x2048x2304, .f32⟩
  | 124 => ⟨S_, .f32⟩
  | 125 => ⟨S2304x8x128, .f32⟩
  | 126 => ⟨S2304x1024, .f32⟩
  | 127 => ⟨S8x2048x2304, .f32⟩
  | _ => ⟨S2048x768, .f32⟩

abbrev hbmTy0_1 (i : Nat) : BufTy := match i % 128 with
  | 0 => ⟨S8x2048x2304, .f32⟩
  | 1 => ⟨S2304x2048x8, .f32⟩
  | 2 => ⟨S2048x8x2x2x8, .f32⟩
  | 3 => ⟨S2304x2x2x8, .f32⟩
  | 4 => ⟨S8x2304x64, .f32⟩
  | 5 => ⟨S2304x8x64, .f32⟩
  | 6 => ⟨S8x2048x64, .f32⟩
  | 7 => ⟨S2048x8x64, .f32⟩
  | 8 => ⟨S2048x2x2x8, .f32⟩
  | 9 => ⟨S256x2x2x8, .f32⟩
  | 10 => ⟨S256x32, .f32⟩
  | 11 => ⟨S_, .f32⟩
  | 12 => ⟨S2304x32, .f32⟩
  | 13 => ⟨S2048x1x2x2x8, .f32⟩
  | 14 => ⟨S2048x1x2x1x8, .f32⟩
  | 15 => ⟨S2048x1x2x8, .f32⟩
  | 16 => ⟨S2048x1x2x1x8, .f32⟩
  | 17 => ⟨S2048x1x2x8, .f32⟩
  | 18 => ⟨S2048x1x2x8, .f32⟩
  | 19 => ⟨S2048x1x2x8, .f32⟩
  | 20 => ⟨S2048x1x2x8, .f32⟩
  | 21 => ⟨S2048x1x2x8, .f32⟩
  | 22 => ⟨S2048x1x2x8, .f32⟩
  | 23 => ⟨S2048x1x2x8, .f32⟩
  | 24 => ⟨S2048x1x2x8, .f32⟩
  | 25 => ⟨S2048x1x2x1x8, .f32⟩
  | 26 => ⟨S_, .f32⟩
  | 27 => ⟨S2048x1x2x2x8, .f32⟩
  | 28 => ⟨S2048x1x2x1x8, .f32⟩
  | 29 => ⟨S_, .f32⟩
  | 30 => ⟨S2048x1x2x2x8, .f32⟩
  | 31 => ⟨S2048x1x2x2x8, .f32⟩
  | 32 => ⟨S2048x1x32, .f32⟩
  | 33 => ⟨S_, .f32⟩
  | 34 => ⟨S2048x32, .f32⟩
  | 35 => ⟨S_, .f32⟩
  | 36 => ⟨S2304x32, .f32⟩
  | 37 => ⟨S2304x32, .f32⟩
  | 38 => ⟨S_, .f32⟩
  | 39 => ⟨S2304x8x128, .f32⟩
  | 40 => ⟨S2304x1024, .f32⟩
  | 41 => ⟨S2304x1024, .f32⟩
  | 42 => ⟨S2048x8x2x1x8, .f32⟩
  | 43 => ⟨S2048x8x2x8, .f32⟩
  | 44 => ⟨S2048x8x2x1x8, .f32⟩
  | 45 => ⟨S2048x8x2x8, .f32⟩
  | 46 => ⟨S2048x8x2x8, .f32⟩
  | 47 => ⟨S2048x8x2x8, .f32⟩
  | 48 => ⟨S2048x8x2x8, .f32⟩
  | 49 => ⟨S2048x8x2x8, .f32⟩
  | 50 => ⟨S2048x8x2x8, .f32⟩
  | 51 => ⟨S2048x8x2x8, .f32⟩
  | 52 => ⟨S2048x8x2x8, .f32⟩
  | 53 => ⟨S2048x8x2x8, .f32⟩
  | 54 => ⟨S2048x8x2x8, .f32⟩
  | 55 => ⟨S2048x8x2x8, .f32⟩
  | 56 => ⟨S2048x8x2x8, .f32⟩
  | 57 => ⟨S2048x8x2x1x8, .f32⟩
  | 58 => ⟨S_, .f32⟩
  | 59 => ⟨S2048x8x2x2x8, .f32⟩
  | 60 => ⟨S2048x8x2x1x8, .f32⟩
  | 61 => ⟨S_, .f32⟩
  | 62 => ⟨S2048x8x2x2x8, .f32⟩
  | 63 => ⟨S2048x8x2x2x8, .f32⟩
  | 64 => ⟨S2048x8x32, .f32⟩
  | 65 => ⟨S_, .f32⟩
  | 66 => ⟨S2048x8x96, .f32⟩
  | 67 => ⟨S_, .f32⟩
  | 68 => ⟨S2048x8x96, .f32⟩
  | 69 => ⟨S2048x8x96, .f32⟩
  | 70 => ⟨S2048x768, .f32⟩
  | 71 => ⟨S2048x8x96, .f32⟩
  | 72 => ⟨S_, .i32⟩
  | 73 => ⟨S_, .f32⟩
  | 74 => ⟨S2048x8x128, .f32⟩
  | 75 => ⟨S2048x1024, .f32⟩
  | 76 => ⟨S2048x1024, .bf16⟩
  | 77 => ⟨S2304x1024, .bf16⟩
  | 78 => ⟨S_, .i32⟩
  | 79 => ⟨S_, .f32⟩
  | 80 => ⟨S2304x128, .f32⟩
  | _ => ⟨S2048x768, .f32⟩

abbrev hbmTy (i : Nat) : BufTy := match i / 128 with
  | 0 => hbmTy0_0 i
  | 1 => hbmTy0_1 i
  | _ => ⟨S2048x768, .f32⟩

abbrev bufTy : (tb : Table) → Fin (tcTables nBuf tb) → BufTy
  | .hbm, ⟨i, _⟩ => hbmTy i
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_cst : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_cst_0 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_cst_1 : Ref sig .tc := ⟨.hbm, 70, rfl⟩
abbrev main_v63 : Ref sig .tc := ⟨.hbm, 71, rfl⟩
abbrev main_cst_2 : Ref sig .tc := ⟨.hbm, 72, rfl⟩
abbrev main_v64 : Ref sig .tc := ⟨.hbm, 73, rfl⟩
abbrev main_v65 : Ref sig .tc := ⟨.hbm, 74, rfl⟩
abbrev main_cst_3 : Ref sig .tc := ⟨.hbm, 75, rfl⟩
abbrev main_v66 : Ref sig .tc := ⟨.hbm, 76, rfl⟩
abbrev main_v67 : Ref sig .tc := ⟨.hbm, 77, rfl⟩
abbrev main_cst_4 : Ref sig .tc := ⟨.hbm, 78, rfl⟩
abbrev main_v68 : Ref sig .tc := ⟨.hbm, 79, rfl⟩
abbrev main_v69 : Ref sig .tc := ⟨.hbm, 80, rfl⟩
abbrev main_cst_5 : Ref sig .tc := ⟨.hbm, 81, rfl⟩
abbrev main_v70 : Ref sig .tc := ⟨.hbm, 82, rfl⟩
abbrev main_cst_6 : Ref sig .tc := ⟨.hbm, 83, rfl⟩
abbrev main_v71 : Ref sig .tc := ⟨.hbm, 84, rfl⟩
abbrev main_cst_7 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_cst_8 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_cst_9 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_cst_10 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_cst_11 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_cst_12 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_cst_13 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_cst_14 : Ref sig .tc := ⟨.hbm, 154, rfl⟩
abbrev main_v134 : Ref sig .tc := ⟨.hbm, 155, rfl⟩
abbrev main_v135 : Ref sig .tc := ⟨.hbm, 156, rfl⟩
abbrev main_cst_15 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_cst_16 : Ref sig .tc := ⟨.hbm, 161, rfl⟩
abbrev main_v139 : Ref sig .tc := ⟨.hbm, 162, rfl⟩
abbrev main_cst_17 : Ref sig .tc := ⟨.hbm, 163, rfl⟩
abbrev main_v140 : Ref sig .tc := ⟨.hbm, 164, rfl⟩
abbrev main_v141 : Ref sig .tc := ⟨.hbm, 165, rfl⟩
abbrev main_cst_18 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_cst_19 : Ref sig .tc := ⟨.hbm, 186, rfl⟩
abbrev main_v161 : Ref sig .tc := ⟨.hbm, 187, rfl⟩
abbrev main_v162 : Ref sig .tc := ⟨.hbm, 188, rfl⟩
abbrev main_cst_20 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_cst_21 : Ref sig .tc := ⟨.hbm, 193, rfl⟩
abbrev main_v166 : Ref sig .tc := ⟨.hbm, 194, rfl⟩
abbrev main_cst_22 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_c : Ref sig .tc := ⟨.hbm, 200, rfl⟩
abbrev main_call0_v0 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_c_23 : Ref sig .tc := ⟨.hbm, 206, rfl⟩
abbrev main_call1_v0 : Ref sig .tc := ⟨.hbm, 207, rfl⟩
abbrev main_v175 : Ref sig .tc := ⟨.hbm, 208, rfl⟩

abbrev nD : Nat := 1
abbrev τ : Topo := Topo.v7x

variable {F : FTy → Type} [FloatOps F]
-- ==== Kernel2.lean ====
abbrev S2048x768 : Shape := ⟨2, ![2048, 768]⟩
abbrev S2304x1024 : Shape := ⟨2, ![2304, 1024]⟩
abbrev S2304x32 : Shape := ⟨2, ![2304, 32]⟩
abbrev S2048x16 : Shape := ⟨2, ![2048, 16]⟩
abbrev S2048x8x96 : Shape := ⟨3, ![2048, 8, 96]⟩
abbrev S_ : Shape := ⟨0, ![]⟩
abbrev S2048x8x128 : Shape := ⟨3, ![2048, 8, 128]⟩
abbrev S2048x1024 : Shape := ⟨2, ![2048, 1024]⟩
abbrev S2304x832 : Shape := ⟨2, ![2304, 832]⟩
abbrev S2304x896 : Shape := ⟨2, ![2304, 896]⟩
abbrev S2048x8 : Shape := ⟨2, ![2048, 8]⟩
abbrev S2048x64 : Shape := ⟨2, ![2048, 64]⟩
abbrev S2048x32 : Shape := ⟨2, ![2048, 32]⟩
abbrev S2048x128 : Shape := ⟨2, ![2048, 128]⟩
abbrev S256x128 : Shape := ⟨2, ![256, 128]⟩
abbrev S2304x128 : Shape := ⟨2, ![2304, 128]⟩
abbrev S2304x768 : Shape := ⟨2, ![2304, 768]⟩
abbrev S256x512 : Shape := ⟨2, ![256, 512]⟩
abbrev S2304x512 : Shape := ⟨2, ![2304, 512]⟩
abbrev S256x384 : Shape := ⟨2, ![256, 384]⟩
abbrev S2304x384 : Shape := ⟨2, ![2304, 384]⟩
abbrev S4x2304x128 : Shape := ⟨3, ![4, 2304, 128]⟩
abbrev S1x2304x128 : Shape := ⟨3, ![1, 2304, 128]⟩
abbrev S256x2304 : Shape := ⟨2, ![256, 2304]⟩
abbrev S256 : Shape := ⟨1, ![256]⟩
abbrev S256x1 : Shape := ⟨2, ![256, 1]⟩

abbrev nBuf : Space → Nat
  | .hbm => 81
  | .vmem => 12
  | .smem => 0
  | _ => 0

abbrev bufTy : (tb : Table) → Fin (tcTables nBuf tb) → BufTy
  | .hbm, ⟨0, _⟩ => ⟨S2048x768, .f32⟩
  | .hbm, ⟨1, _⟩ => ⟨S2304x1024, .f32⟩
  | .hbm, ⟨2, _⟩ => ⟨S2304x32, .f32⟩
  | .hbm, ⟨3, _⟩ => ⟨S2048x16, .f32⟩
  | .hbm, ⟨4, _⟩ => ⟨S2048x8x96, .f32⟩
  | .hbm, ⟨5, _⟩ => ⟨S_, .i32⟩
  | .hbm, ⟨6, _⟩ => ⟨S_, .f32⟩
  | .hbm, ⟨7, _⟩ => ⟨S2048x8x128, .f32⟩
  | .hbm, ⟨8, _⟩ => ⟨S2048x1024, .f32⟩
  | .hbm, ⟨9, _⟩ => ⟨S_, .f32⟩
  | .hbm, ⟨10, _⟩ => ⟨S2304x832, .f32⟩
  | .hbm, ⟨11, _⟩ => ⟨S_, .f32⟩
  | .hbm, ⟨12, _⟩ => ⟨S2304x32, .f32⟩
  | .hbm, ⟨13, _⟩ => ⟨S2304x896, .f32⟩
  | .hbm, ⟨14, _⟩ => ⟨S2048x16, .f32⟩
  | .hbm, ⟨15, _⟩ => ⟨S2048x16, .f32⟩
  | .hbm, ⟨16, _⟩ => ⟨S_, .f32⟩
  | .hbm, ⟨17, _⟩ => ⟨S2048x8, .f32⟩
  | .hbm, ⟨18, _⟩ => ⟨S2048x8, .f32⟩
  | .hbm, ⟨19, _⟩ => ⟨S2048x8, .f32⟩
  | .hbm, ⟨20, _⟩ => ⟨S2048x8, .f32⟩
  | .hbm, ⟨21, _⟩ => ⟨S2048x8, .f32⟩
  | .hbm, ⟨22, _⟩ => ⟨S_, .f32⟩
  | .hbm, ⟨23, _⟩ => ⟨S2048x64, .f32⟩
  | .hbm, ⟨24, _⟩ => ⟨S_, .f32⟩
  | .hbm, ⟨25, _⟩ => ⟨S2048x32, .f32⟩
  | .hbm, ⟨26, _⟩ => ⟨S2048x128, .f32⟩
  | .hbm, ⟨27, _⟩ => ⟨S_, .f32⟩
  | .hbm, ⟨28, _⟩ => ⟨S256x128, .f32⟩
  | .hbm, ⟨29, _⟩ => ⟨S2304x128, .f32⟩
  | .hbm, ⟨30, _⟩ => ⟨S2048x8, .f32⟩
  | .hbm, ⟨31, _⟩ => ⟨S2048x8, .f32⟩
  | .hbm, ⟨32, _⟩ => ⟨S_, .f32⟩
  | .hbm, ⟨33, _⟩ => ⟨S2048x64, .f32⟩
  | .hbm, ⟨34, _⟩ => ⟨S_, .f32⟩
  | .hbm, ⟨35, _⟩ => ⟨S2048x32, .f32⟩
  | .hbm, ⟨36, _⟩ => ⟨S2048x128, .f32⟩
  | .hbm, ⟨37, _⟩ => ⟨S_, .f32⟩
  | .hbm, ⟨38, _⟩ => ⟨S256x128, .f32⟩
  | .hbm, ⟨39, _⟩ => ⟨S2304x128, .f32⟩
  | .hbm, ⟨40, _⟩ => ⟨S_, .f32⟩
  | .hbm, ⟨41, _⟩ => ⟨S2048x64, .f32⟩
  | .hbm, ⟨42, _⟩ => ⟨S_, .f32⟩
  | .hbm, ⟨43, _⟩ => ⟨S2048x32, .f32⟩
  | .hbm, ⟨44, _⟩ => ⟨S2048x128, .f32⟩
  | .hbm, ⟨45, _⟩ => ⟨S_, .f32⟩
  | .hbm, ⟨46, _⟩ => ⟨S256x128, .f32⟩
  | .hbm, ⟨47, _⟩ => ⟨S2304x128, .f32⟩
  | .hbm, ⟨48, _⟩ => ⟨S2048x16, .f32⟩
  | .hbm, ⟨49, _⟩ => ⟨S2048x8, .f32⟩
  | .hbm, ⟨50, _⟩ => ⟨S2048x8, .f32⟩
  | .hbm, ⟨51, _⟩ => ⟨S2048x8, .f32⟩
  | .hbm, ⟨52, _⟩ => ⟨S2048x8, .f32⟩
  | .hbm, ⟨53, _⟩ => ⟨S_, .f32⟩
  | .hbm, ⟨54, _⟩ => ⟨S2048x64, .f32⟩
  | .hbm, ⟨55, _⟩ => ⟨S_, .f32⟩
  | .hbm, ⟨56, _⟩ => ⟨S2048x32, .f32⟩
  | .hbm, ⟨57, _⟩ => ⟨S2048x128, .f32⟩
  | .hbm, ⟨58, _⟩ => ⟨S_, .f32⟩
  | .hbm, ⟨59, _⟩ => ⟨S256x128, .f32⟩
  | .hbm, ⟨60, _⟩ => ⟨S2304x128, .f32⟩
  | .hbm, ⟨61, _⟩ => ⟨S2048x8, .f32⟩
  | .hbm, ⟨62, _⟩ => ⟨S2048x8, .f32⟩
  | .hbm, ⟨63, _⟩ => ⟨S_, .f32⟩
  | .hbm, ⟨64, _⟩ => ⟨S2048x64, .f32⟩
  | .hbm, ⟨65, _⟩ => ⟨S_, .f32⟩
  | .hbm, ⟨66, _⟩ => ⟨S2048x32, .f32⟩
  | .hbm, ⟨67, _⟩ => ⟨S2048x128, .f32⟩
  | .hbm, ⟨68, _⟩ => ⟨S_, .f32⟩
  | .hbm, ⟨69, _⟩ => ⟨S256x128, .f32⟩
  | .hbm, ⟨70, _⟩ => ⟨S2304x128, .f32⟩
  | .hbm, ⟨71, _⟩ => ⟨S_, .f32⟩
  | .hbm, ⟨72, _⟩ => ⟨S2048x64, .f32⟩
  | .hbm, ⟨73, _⟩ => ⟨S_, .f32⟩
  | .hbm, ⟨74, _⟩ => ⟨S2048x32, .f32⟩
  | .hbm, ⟨75, _⟩ => ⟨S2048x128, .f32⟩
  | .hbm, ⟨76, _⟩ => ⟨S_, .f32⟩
  | .hbm, ⟨77, _⟩ => ⟨S256x128, .f32⟩
  | .hbm, ⟨78, _⟩ => ⟨S2304x128, .f32⟩
  | .hbm, ⟨79, _⟩ => ⟨S2304x768, .f32⟩
  | .hbm, ⟨80, _⟩ => ⟨S2048x1024, .f32⟩
  | .local _ .vmem, ⟨0, _⟩ => ⟨S256x512, .f32⟩
  | .local _ .vmem, ⟨1, _⟩ => ⟨S256x512, .f32⟩
  | .local _ .vmem, ⟨2, _⟩ => ⟨S2304x512, .f32⟩
  | .local _ .vmem, ⟨3, _⟩ => ⟨S2304x512, .f32⟩
  | .local _ .vmem, ⟨4, _⟩ => ⟨S2304x128, .f32⟩
  | .local _ .vmem, ⟨5, _⟩ => ⟨S256x384, .f32⟩
  | .local _ .vmem, ⟨6, _⟩ => ⟨S256x384, .f32⟩
  | .local _ .vmem, ⟨7, _⟩ => ⟨S2304x384, .f32⟩
  | .local _ .vmem, ⟨8, _⟩ => ⟨S256x512, .f32⟩
  | .local _ .vmem, ⟨9, _⟩ => ⟨S256x512, .f32⟩
  | .local _ .vmem, ⟨10, _⟩ => ⟨S4x2304x128, .bf16⟩
  | .local _ .vmem, ⟨11, _⟩ => ⟨S4x2304x128, .bf16⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩
abbrev main_cst_8 : Ref sig .tc := ⟨.hbm, 40, rfl⟩
abbrev main_v25 : Ref sig .tc := ⟨.hbm, 41, rfl⟩
abbrev main_cst_9 : Ref sig .tc := ⟨.hbm, 42, rfl⟩
abbrev main_v26 : Ref sig .tc := ⟨.hbm, 43, rfl⟩
abbrev main_v27 : Ref sig .tc := ⟨.hbm, 44, rfl⟩
abbrev main_cst_10 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_11 : Ref sig .tc := ⟨.hbm, 53, rfl⟩
abbrev main_v35 : Ref sig .tc := ⟨.hbm, 54, rfl⟩
abbrev main_cst_12 : Ref sig .tc := ⟨.hbm, 55, rfl⟩
abbrev main_v36 : Ref sig .tc := ⟨.hbm, 56, rfl⟩
abbrev main_v37 : Ref sig .tc := ⟨.hbm, 57, rfl⟩
abbrev main_cst_13 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_14 : Ref sig .tc := ⟨.hbm, 63, rfl⟩
abbrev main_v42 : Ref sig .tc := ⟨.hbm, 64, rfl⟩
abbrev main_cst_15 : Ref sig .tc := ⟨.hbm, 65, rfl⟩
abbrev main_v43 : Ref sig .tc := ⟨.hbm, 66, rfl⟩
abbrev main_v44 : Ref sig .tc := ⟨.hbm, 67, rfl⟩
abbrev main_cst_16 : Ref sig .tc := ⟨.hbm, 68, rfl⟩
abbrev main_v45 : Ref sig .tc := ⟨.hbm, 69, rfl⟩
abbrev main_v46 : Ref sig .tc := ⟨.hbm, 70, rfl⟩
abbrev main_cst_17 : Ref sig .tc := ⟨.hbm, 71, rfl⟩
abbrev main_v47 : Ref sig .tc := ⟨.hbm, 72, rfl⟩
abbrev main_cst_18 : Ref sig .tc := ⟨.hbm, 73, rfl⟩
abbrev main_v48 : Ref sig .tc := ⟨.hbm, 74, rfl⟩
abbrev main_v49 : Ref sig .tc := ⟨.hbm, 75, rfl⟩
abbrev main_cst_19 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c6_i32 : BitVec 32 := 6#32
  let c0_i32_0 : BitVec 32 := 0#32
  ![c0_i32.toNat, c6_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2304x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2304x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2304x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel2Ideal.lean ====
variable {F : FTy → Type} [FloatOps F] [Named F]
def κ : String → Option EReal := fun
  | "scale" => some (((Real.sqrt 96)⁻¹ : ℝ) : EReal)
  | "scale_log2e" => some (((Real.sqrt 96)⁻¹ * (Real.log 2)⁻¹ : ℝ) : EReal)
  | _ => none
-- ==== Reference2Ideal.lean ====
abbrev S2048x768 : Shape := ⟨2, ![2048, 768]⟩
abbrev S2304x1024 : Shape := ⟨2, ![2304, 1024]⟩
abbrev S2304x32 : Shape := ⟨2, ![2304, 32]⟩
abbrev S2048x16 : Shape := ⟨2, ![2048, 16]⟩
abbrev S2048x8x96 : Shape := ⟨3, ![2048, 8, 96]⟩
abbrev S2048x8x64 : Shape := ⟨3, ![2048, 8, 64]⟩
abbrev S2048x8x32 : Shape := ⟨3, ![2048, 8, 32]⟩
abbrev S2048x8x2x2x8 : Shape := ⟨5, ![2048, 8, 2, 2, 8]⟩
abbrev S2048x8x2x1x8 : Shape := ⟨5, ![2048, 8, 2, 1, 8]⟩
abbrev S2048x8x2x8 : Shape := ⟨4, ![2048, 8, 2, 8]⟩
abbrev S2048x1x2x8 : Shape := ⟨4, ![2048, 1, 2, 8]⟩
abbrev S2304x8x128 : Shape := ⟨3, ![2304, 8, 128]⟩
abbrev S2304x8x64 : Shape := ⟨3, ![2304, 8, 64]⟩
abbrev S2048x32 : Shape := ⟨2, ![2048, 32]⟩
abbrev S2048x1x32 : Shape := ⟨3, ![2048, 1, 32]⟩
abbrev S2048x1x2x2x8 : Shape := ⟨5, ![2048, 1, 2, 2, 8]⟩
abbrev S2048x1x2x1x8 : Shape := ⟨5, ![2048, 1, 2, 1, 8]⟩
abbrev S2048x2x2x8 : Shape := ⟨4, ![2048, 2, 2, 8]⟩
abbrev S256x32 : Shape := ⟨2, ![256, 32]⟩
abbrev S256x2x2x8 : Shape := ⟨4, ![256, 2, 2, 8]⟩
abbrev S2304x2x2x8 : Shape := ⟨4, ![2304, 2, 2, 8]⟩
abbrev S8x2048x2304 : Shape := ⟨3, ![8, 2048, 2304]⟩
abbrev S2304x2048x8 : Shape := ⟨3, ![2304, 2048, 8]⟩
abbrev S_ : Shape := ⟨0, ![]⟩
abbrev S8x2048 : Shape := ⟨2, ![8, 2048]⟩
abbrev S8x2048x1 : Shape := ⟨3, ![8, 2048, 1]⟩
abbrev S2048x8 : Shape := ⟨2, ![2048, 8]⟩
abbrev S2048x8x1 : Shape := ⟨3, ![2048, 8, 1]⟩
abbrev S8x64x2048 : Shape := ⟨3, ![8, 64, 2048]⟩
abbrev S2048x512 : Shape := ⟨2, ![2048, 512]⟩
abbrev S2048x8x128 : Shape := ⟨3, ![2048, 8, 128]⟩
abbrev S2048x1024 : Shape := ⟨2, ![2048, 1024]⟩

abbrev nBuf : Space → Nat
  | .hbm => 96
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2304x1024, .f32⟩
  | .hbm, ⟨2, _⟩ => ⟨S2304x32, .f32⟩
  | .hbm, ⟨3, _⟩ => ⟨S2048x16, .f32⟩
  | .hbm, ⟨4, _⟩ => ⟨S2048x8x96, .f32⟩
  | .hbm, ⟨5, _⟩ => ⟨S2048x8x64, .f32⟩
  | .hbm, ⟨6, _⟩ => ⟨S2048x8x32, .f32⟩
  | .hbm, ⟨7, _⟩ => ⟨S2048x8x2x2x8, .f32⟩
  | .hbm, ⟨8, _⟩ => ⟨S2048x8x2x1x8, .f32⟩
  | .hbm, ⟨9, _⟩ => ⟨S2048x8x2x8, .f32⟩
  | .hbm, ⟨10, _⟩ => ⟨S2048x8x2x1x8, .f32⟩
  | .hbm, ⟨11, _⟩ => ⟨S2048x8x2x8, .f32⟩
  | .hbm, ⟨12, _⟩ => ⟨S2048x1x2x8, .f32⟩
  | .hbm, ⟨13, _⟩ => ⟨S2048x1x2x8, .f32⟩
  | .hbm, ⟨14, _⟩ => ⟨S2048x1x2x8, .f32⟩
  | .hbm, ⟨15, _⟩ => ⟨S2048x8x2x8, .f32⟩
  | .hbm, ⟨16, _⟩ => ⟨S2048x8x2x8, .f32⟩
  | .hbm, ⟨17, _⟩ => ⟨S2048x8x2x8, .f32⟩
  | .hbm, ⟨18, _⟩ => ⟨S2048x8x2x8, .f32⟩
  | .hbm, ⟨19, _⟩ => ⟨S2048x8x2x8, .f32⟩
  | .hbm, ⟨20, _⟩ => ⟨S2048x8x2x8, .f32⟩
  | .hbm, ⟨21, _⟩ => ⟨S2048x8x2x8, .f32⟩
  | .hbm, ⟨22, _⟩ => ⟨S2048x8x2x8, .f32⟩
  | .hbm, ⟨23, _⟩ => ⟨S2048x8x2x8, .f32⟩
  | .hbm, ⟨24, _⟩ => ⟨S2048x8x2x8, .f32⟩
  | .hbm, ⟨25, _⟩ => ⟨S2048x8x2x1x8, .f32⟩
  | .hbm, ⟨26, _⟩ => ⟨S2048x8x2x1x8, .f32⟩
  | .hbm, ⟨27, _⟩ => ⟨S2048x8x2x2x8, .f32⟩
  | .hbm, ⟨28, _⟩ => ⟨S2304x8x128, .f32⟩
  | .hbm, ⟨29, _⟩ => ⟨S2304x8x64, .f32⟩
  | .hbm, ⟨30, _⟩ => ⟨S2048x32, .f32⟩
  | .hbm, ⟨31, _⟩ => ⟨S2048x1x32, .f32⟩
  | .hbm, ⟨32, _⟩ => ⟨S2048x1x2x2x8, .f32⟩
  | .hbm, ⟨33, _⟩ => ⟨S2048x1x2x1x8, .f32⟩
  | .hbm, ⟨34, _⟩ => ⟨S2048x1x2x8, .f32⟩
  | .hbm, ⟨35, _⟩ => ⟨S2048x1x2x1x8, .f32⟩
  | .hbm, ⟨36, _⟩ => ⟨S2048x1x2x8, .f32⟩
  | .hbm, ⟨37, _⟩ => ⟨S2048x1x2x8, .f32⟩
  | .hbm, ⟨38, _⟩ => ⟨S2048x1x2x8, .f32⟩
  | .hbm, ⟨39, _⟩ => ⟨S2048x1x2x8, .f32⟩
  | .hbm, ⟨40, _⟩ => ⟨S2048x1x2x8, .f32⟩
  | .hbm, ⟨41, _⟩ => ⟨S2048x1x2x8, .f32⟩
  | .hbm, ⟨42, _⟩ => ⟨S2048x1x2x8, .f32⟩
  | .hbm, ⟨43, _⟩ => ⟨S2048x1x2x8, .f32⟩
  | .hbm, ⟨44, _⟩ => ⟨S2048x1x2x8, .f32⟩
  | .hbm, ⟨45, _⟩ => ⟨S2048x1x2x8, .f32⟩
  | .hbm, ⟨46, _⟩ => ⟨S2048x1x2x1x8, .f32⟩
  | .hbm, ⟨47, _⟩ => ⟨S2048x1x2x1x8, .f32⟩
  | .hbm, ⟨48, _⟩ => ⟨S2048x1x2x2x8, .f32⟩
  | .hbm, ⟨49, _⟩ => ⟨S2048x2x2x8, .f32⟩
  | .hbm, ⟨50, _⟩ => ⟨S256x32, .f32⟩
  | .hbm, ⟨51, _⟩ => ⟨S256x2x2x8, .f32⟩
  | .hbm, ⟨52, _⟩ => ⟨S2304x2x2x8, .f32⟩
  | .hbm, ⟨53, _⟩ => ⟨S8x2048x2304, .f32⟩
  | .hbm, ⟨54, _⟩ => ⟨S2304x2048x8, .f32⟩
  | .hbm, ⟨55, _⟩ => ⟨S8x2048x2304, .f32⟩
  | .hbm, ⟨56, _⟩ => ⟨S8x2048x2304, .f32⟩
  | .hbm, ⟨57, _⟩ => ⟨S_, .f32⟩
  | .hbm, ⟨58, _⟩ => ⟨S_, .f32⟩
  | .hbm, ⟨59, _⟩ => ⟨S8x2048x2304, .f32⟩
  | .hbm, ⟨60, _⟩ => ⟨S8x2048x2304, .f32⟩
  | .hbm, ⟨61, _⟩ => ⟨S_, .f32⟩
  | .hbm, ⟨62, _⟩ => ⟨S8x2048, .f32⟩
  | .hbm, ⟨63, _⟩ => ⟨S8x2048x1, .f32⟩
  | .hbm, ⟨64, _⟩ => ⟨S8x2048x2304, .f32⟩
  | .hbm, ⟨65, _⟩ => ⟨S8x2048x2304, .f32⟩
  | .hbm, ⟨66, _⟩ => ⟨S8x2048x2304, .f32⟩
  | .hbm, ⟨67, _⟩ => ⟨S_, .f32⟩
  | .hbm, ⟨68, _⟩ => ⟨S8x2048, .f32⟩
  | .hbm, ⟨69, _⟩ => ⟨S8x2048, .f32⟩
  | .hbm, ⟨70, _⟩ => ⟨S8x2048, .f32⟩
  | .hbm, ⟨71, _⟩ => ⟨S2048x8, .f32⟩
  | .hbm, ⟨72, _⟩ => ⟨S2048x8x1, .f32⟩
  | .hbm, ⟨73, _⟩ => ⟨S2048x8x64, .f32⟩
  | .hbm, ⟨74, _⟩ => ⟨S2304x8x128, .f32⟩
  | .hbm, ⟨75, _⟩ => ⟨S2304x8x64, .f32⟩
  | .hbm, ⟨76, _⟩ => ⟨S_, .f32⟩
  | .hbm, ⟨77, _⟩ => ⟨S8x2048, .f32⟩
  | .hbm, ⟨78, _⟩ => ⟨S_, .f32⟩
  | .hbm, ⟨79, _⟩ => ⟨S8x2048, .f32⟩
  | .hbm, ⟨80, _⟩ => ⟨S8x2048, .f32⟩
  | .hbm, ⟨81, _⟩ => ⟨S8x2048x1, .f32⟩
  | .hbm, ⟨82, _⟩ => ⟨S8x2048x2304, .f32⟩
  | .hbm, ⟨83, _⟩ => ⟨S8x2048x2304, .f32⟩
  | .hbm, ⟨84, _⟩ => ⟨S8x2048x2304, .f32⟩
  | .hbm, ⟨85, _⟩ => ⟨S_, .f32⟩
  | .hbm, ⟨86, _⟩ => ⟨S8x2048, .f32⟩
  | .hbm, ⟨87, _⟩ => ⟨S8x2048x1, .f32⟩
  | .hbm, ⟨88, _⟩ => ⟨S8x2048x2304, .f32⟩
  | .hbm, ⟨89, _⟩ => ⟨S8x2048x2304, .f32⟩
  | .hbm, ⟨90, _⟩ => ⟨S8x64x2048, .f32⟩
  | .hbm, ⟨91, _⟩ => ⟨S2048x8x64, .f32⟩
  | .hbm, ⟨92, _⟩ => ⟨S2048x512, .f32⟩
  | .hbm, ⟨93, _⟩ => ⟨S2048x8x64, .f32⟩
  | .hbm, ⟨94, _⟩ => ⟨S2048x8x128, .f32⟩
  | .hbm, ⟨95, _⟩ => ⟨S2048x1024, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_cst : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_cst_0 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_cst_1 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_cst_2 : Ref sig .tc := ⟨.hbm, 76, rfl⟩
abbrev main_v69 : Ref sig .tc := ⟨.hbm, 77, rfl⟩
abbrev main_cst_3 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_cst_4 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩

abbrev nD : Nat := 1
abbrev τ : Topo := Topo.v7x

variable {F : FTy → Type} [FloatOps F]
-- ==== Up.lean ====
abbrev S2048x1024 : Shape := ⟨2, ![2048, 1024]⟩
abbrev S4x1024x1408 : Shape := ⟨3, ![4, 1024, 1408]⟩
abbrev S2048x5632 : Shape := ⟨2, ![2048, 5632]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S4x1024x1408, .bf16⟩
  | .hbm, ⟨2, _⟩ => ⟨S2048x5632, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .f32⟩
  | .local _ .vmem, ⟨5, _⟩ => ⟨S1024x1408, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S2048x1024 : Shape := ⟨2, ![2048, 1024]⟩
abbrev S4x1024x1408 : Shape := ⟨3, ![4, 1024, 1408]⟩
abbrev S2048x4x1408 : Shape := ⟨3, ![2048, 4, 1408]⟩
abbrev S2048x5632 : Shape := ⟨2, ![2048, 5632]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x1024x1408, .bf16⟩
  | .hbm, ⟨2, _⟩ => ⟨S2048x1024, .f32⟩
  | .hbm, ⟨3, _⟩ => ⟨S4x1024x1408, .f32⟩
  | .hbm, ⟨4, _⟩ => ⟨S2048x4x1408, .f32⟩
  | .hbm, ⟨5, _⟩ => ⟨S2048x5632, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== UpDw.lean ====
abbrev S2048x1024 : Shape := ⟨2, ![2048, 1024]⟩
abbrev S2x2048x2816 : Shape := ⟨3, ![2, 2048, 2816]⟩
abbrev S4x1024x1408 : Shape := ⟨3, ![4, 1024, 1408]⟩
abbrev S1x2048x1408 : Shape := ⟨3, ![1, 2048, 1408]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2x2048x2816, .bf16⟩
  | .hbm, ⟨2, _⟩ => ⟨S4x1024x1408, .bf16⟩
  | .local _ .vmem, ⟨0, _⟩ => ⟨S2048x1024, .bf16⟩
  | .local _ .vmem, ⟨1, _⟩ => ⟨S1x2048x1408, .bf16⟩
  | .local _ .vmem, ⟨2, _⟩ => ⟨S1x2048x1408, .bf16⟩
  | .local _ .vmem, ⟨3, _⟩ => ⟨S1x1024x1408, .bf16⟩
  | .local _ .vmem, ⟨4, _⟩ => ⟨S1x1024x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S2048x1024 : Shape := ⟨2, ![2048, 1024]⟩
abbrev S2x2048x2816 : Shape := ⟨3, ![2, 2048, 2816]⟩
abbrev S_ : Shape := ⟨0, ![]⟩
abbrev S4x1024x1408 : Shape := ⟨3, ![4, 1024, 1408]⟩
abbrev S2x2x1024x1408 : Shape := ⟨4, ![2, 2, 1024, 1408]⟩
abbrev S2x2x1408x2048 : Shape := ⟨4, ![2, 2, 1408, 2048]⟩
abbrev S2x2048x2x1408 : Shape := ⟨4, ![2, 2048, 2, 1408]⟩
abbrev S2x2x1408x1024 : Shape := ⟨4, ![2, 2, 1408, 1024]⟩

abbrev nBuf : Space → Nat
  | .hbm => 16
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2x2048x2816, .bf16⟩
  | .hbm, ⟨2, _⟩ => ⟨S2048x1024, .f32⟩
  | .hbm, ⟨3, _⟩ => ⟨S2x2048x2816, .f32⟩
  | .hbm, ⟨4, _⟩ => ⟨S_, .f32⟩
  | .hbm, ⟨5, _⟩ => ⟨S4x1024x1408, .f32⟩
  | .hbm, ⟨6, _⟩ => ⟨S2x2x1024x1408, .f32⟩
  | .hbm, ⟨7, _⟩ => ⟨S2x2x1408x2048, .f32⟩
  | .hbm, ⟨8, _⟩ => ⟨S2x2048x2x1408, .f32⟩
  | .hbm, ⟨9, _⟩ => ⟨S2x2048x2816, .f32⟩
  | .hbm, ⟨10, _⟩ => ⟨S2x2048x2x1408, .f32⟩
  | .hbm, ⟨11, _⟩ => ⟨S2x2x1408x2048, .f32⟩
  | .hbm, ⟨12, _⟩ => ⟨S2x2x1408x1024, .f32⟩
  | .hbm, ⟨13, _⟩ => ⟨S2x2x1024x1408, .f32⟩
  | .hbm, ⟨14, _⟩ => ⟨S4x1024x1408, .f32⟩
  | .hbm, ⟨15, _⟩ => ⟨S4x1024x1408, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== UpDx.lean ====
abbrev S2x2048x2816 : Shape := ⟨3, ![2, 2048, 2816]⟩
abbrev S4x1024x1408 : Shape := ⟨3, ![4, 1024, 1408]⟩
abbrev S2048x1024 : Shape := ⟨2, ![2048, 1024]⟩
abbrev S1x1024x1408 : Shape := ⟨3, ![1, 1024, 1408]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x2048x2816, .bf16⟩
  | .hbm, ⟨1, _⟩ => ⟨S4x1024x1408, .bf16⟩
  | .hbm, ⟨2, _⟩ => ⟨S2048x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_8 : BitVec 32 := 3#32
  let v13 : BitVec 1 := Scalar.cmpi .eq arg2 c3_i32_8
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S2x2048x2816 : Shape := ⟨3, ![2, 2048, 2816]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S_ : Shape := ⟨0, ![]⟩
abbrev S2048x1024 : Shape := ⟨2, ![2048, 1024]⟩
abbrev S2048x5632 : Shape := ⟨2, ![2048, 5632]⟩
abbrev S2048x2x2816 : Shape := ⟨3, ![2048, 2, 2816]⟩

abbrev nBuf : Space → Nat
  | .hbm => 14
  | .vmem => 0
  | .smem => 0
  | _ => 0

abbrev bufTy : (tb : Table) → Fin (tcTables nBuf tb) → BufTy
  | .hbm, ⟨0, _⟩ => ⟨S2x2048x2816, .bf16⟩
  | .hbm, ⟨1, _⟩ => ⟨S4x1024x1408, .bf16⟩
  | .hbm, ⟨2, _⟩ => ⟨S2x2048x2816, .f32⟩
  | .hbm, ⟨3, _⟩ => ⟨S4x1024x1408, .f32⟩
  | .hbm, ⟨4, _⟩ => ⟨S1024x4x1408, .f32⟩
  | .hbm, ⟨5, _⟩ => ⟨S1024x5632, .f32⟩
  | .hbm, ⟨6, _⟩ => ⟨S_, .f32⟩
  | .hbm, ⟨7, _⟩ => ⟨S2048x1024, .f32⟩
  | .hbm, ⟨8, _⟩ => ⟨S2048x5632, .f32⟩
  | .hbm, ⟨9, _⟩ => ⟨S2048x2x2816, .f32⟩
  | .hbm, ⟨10, _⟩ => ⟨S2x2048x2816, .f32⟩
  | .hbm, ⟨11, _⟩ => ⟨S2048x2x2816, .f32⟩
  | .hbm, ⟨12, _⟩ => ⟨S2048x5632, .f32⟩
  | .hbm, ⟨13, _⟩ => ⟨S2048x1024, .f32⟩
  | _, _ => ⟨S2x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Down.lean ====
abbrev S2048x2816 : Shape := ⟨2, ![2048, 2816]⟩
abbrev S2816x1024 : Shape := ⟨2, ![2816, 1024]⟩
abbrev S2048x1024 : Shape := ⟨2, ![2048, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S2048x2816 : Shape := ⟨2, ![2048, 2816]⟩
abbrev S2816x1024 : Shape := ⟨2, ![2816, 1024]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x2816, .f32⟩
  | .hbm, ⟨3, _⟩ => ⟨S2816x1024, .f32⟩
  | .hbm, ⟨4, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DownDw.lean ====
abbrev S2048x2816 : Shape := ⟨2, ![2048, 2816]⟩
abbrev S2048x1024 : Shape := ⟨2, ![2048, 1024]⟩
abbrev S2816x1024 : Shape := ⟨2, ![2816, 1024]⟩
abbrev S2048x1408 : Shape := ⟨2, ![2048, 1408]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S1408x1024, .bf16⟩
  | .local _ .vmem, ⟨4, _⟩ => ⟨S1408x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2048x2816, .f32⟩
  | .hbm, ⟨3, _⟩ => ⟨S2048x1024, .f32⟩
  | .hbm, ⟨4, _⟩ => ⟨S_, .f32⟩
  | .hbm, ⟨5, _⟩ => ⟨S2816x1024, .f32⟩
  | .hbm, ⟨6, _⟩ => ⟨S2048x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownDx.lean ====
abbrev S2048x1024 : Shape := ⟨2, ![2048, 1024]⟩
abbrev S2816x1024 : Shape := ⟨2, ![2816, 1024]⟩
abbrev S2048x2816 : Shape := ⟨2, ![2048, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2048x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S2048x1024 : Shape := ⟨2, ![2048, 1024]⟩
abbrev S2816x1024 : Shape := ⟨2, ![2816, 1024]⟩
abbrev S_ : Shape := ⟨0, ![]⟩
abbrev S2048x2816 : Shape := ⟨2, ![2048, 2816]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2048x1024, .f32⟩
  | .hbm, ⟨3, _⟩ => ⟨S2816x1024, .f32⟩
  | .hbm, ⟨4, _⟩ => ⟨S_, .f32⟩
  | .hbm, ⟨5, _⟩ => ⟨S2048x2816, .f32⟩
  | .hbm, ⟨6, _⟩ => ⟨S2048x1024, .f32⟩
  | .hbm, ⟨7, _⟩ => ⟨S2048x2816, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== In.lean ====
abbrev S2304x1024 : Shape := ⟨2, ![2304, 1024]⟩
abbrev S4352x1024 : Shape := ⟨2, ![4352, 1024]⟩
abbrev S2048x3584 : Shape := ⟨2, ![2048, 3584]⟩
abbrev S1024x1024 : Shape := ⟨2, ![1024, 1024]⟩
abbrev S1792x1024 : Shape := ⟨2, ![1792, 1024]⟩
abbrev S1024x1792 : Shape := ⟨2, ![1024, 1792]⟩

abbrev nBuf : Space → Nat
  | .hbm => 3
  | .vmem => 6
  | .smem => 0
  | _ => 0

abbrev bufTy : (tb : Table) → Fin (tcTables nBuf tb) → BufTy
  | .hbm, ⟨0, _⟩ => ⟨S2304x1024, .bf16⟩
  | .hbm, ⟨1, _⟩ => ⟨S4352x1024, .bf16⟩
  | .hbm, ⟨2, _⟩ => ⟨S2048x3584, .f32⟩
  | .local _ .vmem, ⟨0, _⟩ => ⟨S1024x1024, .bf16⟩
  | .local _ .vmem, ⟨1, _⟩ => ⟨S1024x1024, .bf16⟩
  | .local _ .vmem, ⟨2, _⟩ => ⟨S1792x1024, .bf16⟩
  | .local _ .vmem, ⟨3, _⟩ => ⟨S1792x1024, .bf16⟩
  | .local _ .vmem, ⟨4, _⟩ => ⟨S1024x1792, .f32⟩
  | .local _ .vmem, ⟨5, _⟩ => ⟨S1024x1792, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1792x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRefIdeal.lean ====
abbrev S2304x1024 : Shape := ⟨2, ![2304, 1024]⟩
abbrev S4352x1024 : Shape := ⟨2, ![4352, 1024]⟩
abbrev S1024x4352 : Shape := ⟨2, ![1024, 4352]⟩
abbrev S2304x4352 : Shape := ⟨2, ![2304, 4352]⟩
abbrev S2048x3584 : Shape := ⟨2, ![2048, 3584]⟩

abbrev nBuf : Space → Nat
  | .hbm => 7
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S4352x1024, .bf16⟩
  | .hbm, ⟨2, _⟩ => ⟨S2304x1024, .f32⟩
  | .hbm, ⟨3, _⟩ => ⟨S4352x1024, .f32⟩
  | .hbm, ⟨4, _⟩ => ⟨S1024x4352, .f32⟩
  | .hbm, ⟨5, _⟩ => ⟨S2304x4352, .f32⟩
  | .hbm, ⟨6, _⟩ => ⟨S2048x3584, .f32⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InDw.lean ====
abbrev S2304x1024 : Shape := ⟨2, ![2304, 1024]⟩
abbrev S2304x4352 : Shape := ⟨2, ![2304, 4352]⟩
abbrev S4352x1024 : Shape := ⟨2, ![4352, 1024]⟩
abbrev S2304x512 : Shape := ⟨2, ![2304, 512]⟩
abbrev S2304x2176 : Shape := ⟨2, ![2304, 2176]⟩
abbrev S2176x512 : Shape := ⟨2, ![2176, 512]⟩
abbrev S512x2176 : Shape := ⟨2, ![512, 2176]⟩

abbrev nBuf : Space → Nat
  | .hbm => 3
  | .vmem => 6
  | .smem => 0
  | _ => 0

abbrev bufTy : (tb : Table) → Fin (tcTables nBuf tb) → BufTy
  | .hbm, ⟨0, _⟩ => ⟨S2304x1024, .bf16⟩
  | .hbm, ⟨1, _⟩ => ⟨S2304x4352, .bf16⟩
  | .hbm, ⟨2, _⟩ => ⟨S4352x1024, .bf16⟩
  | .local _ .vmem, ⟨0, _⟩ => ⟨S2304x512, .bf16⟩
  | .local _ .vmem, ⟨1, _⟩ => ⟨S2304x512, .bf16⟩
  | .local _ .vmem, ⟨2, _⟩ => ⟨S2304x2176, .bf16⟩
  | .local _ .vmem, ⟨3, _⟩ => ⟨S2304x2176, .bf16⟩
  | .local _ .vmem, ⟨4, _⟩ => ⟨S2176x512, .bf16⟩
  | .local _ .vmem, ⟨5, _⟩ => ⟨S2176x512, .bf16⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2304x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S2304x1024 : Shape := ⟨2, ![2304, 1024]⟩
abbrev S2304x4352 : Shape := ⟨2, ![2304, 4352]⟩
abbrev S_ : Shape := ⟨0, ![]⟩
abbrev S4352x1024 : Shape := ⟨2, ![4352, 1024]⟩
abbrev S1024x4352 : Shape := ⟨2, ![1024, 4352]⟩

abbrev nBuf : Space → Nat
  | .hbm => 12
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S2304x4352, .bf16⟩
  | .hbm, ⟨2, _⟩ => ⟨S2304x1024, .f32⟩
  | .hbm, ⟨3, _⟩ => ⟨S2304x4352, .f32⟩
  | .hbm, ⟨4, _⟩ => ⟨S_, .f32⟩
  | .hbm, ⟨5, _⟩ => ⟨S4352x1024, .f32⟩
  | .hbm, ⟨6, _⟩ => ⟨S1024x4352, .f32⟩
  | .hbm, ⟨7, _⟩ => ⟨S2304x4352, .f32⟩
  | .hbm, ⟨8, _⟩ => ⟨S4352x1024, .f32⟩
  | .hbm, ⟨9, _⟩ => ⟨S1024x4352, .f32⟩
  | .hbm, ⟨10, _⟩ => ⟨S4352x1024, .f32⟩
  | .hbm, ⟨11, _⟩ => ⟨S4352x1024, .bf16⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InDx.lean ====
abbrev S2304x4352 : Shape := ⟨2, ![2304, 4352]⟩
abbrev S4352x1024 : Shape := ⟨2, ![4352, 1024]⟩
abbrev S2304x1024 : Shape := ⟨2, ![2304, 1024]⟩
abbrev S768x2176 : Shape := ⟨2, ![768, 2176]⟩
abbrev S2176x512 : Shape := ⟨2, ![2176, 512]⟩
abbrev S768x512 : Shape := ⟨2, ![768, 512]⟩

abbrev nBuf : Space → Nat
  | .hbm => 3
  | .vmem => 7
  | .smem => 0
  | _ => 0

abbrev bufTy : (tb : Table) → Fin (tcTables nBuf tb) → BufTy
  | .hbm, ⟨0, _⟩ => ⟨S2304x4352, .bf16⟩
  | .hbm, ⟨1, _⟩ => ⟨S4352x1024, .bf16⟩
  | .hbm, ⟨2, _⟩ => ⟨S2304x1024, .f32⟩
  | .local _ .vmem, ⟨0, _⟩ => ⟨S768x2176, .bf16⟩
  | .local _ .vmem, ⟨1, _⟩ => ⟨S768x2176, .bf16⟩
  | .local _ .vmem, ⟨2, _⟩ => ⟨S2176x512, .bf16⟩
  | .local _ .vmem, ⟨3, _⟩ => ⟨S2176x512, .bf16⟩
  | .local _ .vmem, ⟨4, _⟩ => ⟨S768x512, .f32⟩
  | .local _ .vmem, ⟨5, _⟩ => ⟨S768x512, .f32⟩
  | .local _ .vmem, ⟨6, _⟩ => ⟨S768x512, .f32⟩
  | _, _ => ⟨S2304x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S2304x4352 : Shape := ⟨2, ![2304, 4352]⟩
abbrev S4352x1024 : Shape := ⟨2, ![4352, 1024]⟩
abbrev S_ : Shape := ⟨0, ![]⟩
abbrev S2304x1024 : Shape := ⟨2, ![2304, 1024]⟩
abbrev S1024x4352 : Shape := ⟨2, ![1024, 4352]⟩

abbrev nBuf : Space → Nat
  | .hbm => 9
  | .vmem => 0
  | .smem => 0
  | _ => 0

abbrev bufTy : (tb : Table) → Fin (tcTables nBuf tb) → BufTy
  | .hbm, ⟨0, _⟩ => ⟨S2304x4352, .bf16⟩
  | .hbm, ⟨1, _⟩ => ⟨S4352x1024, .bf16⟩
  | .hbm, ⟨2, _⟩ => ⟨S2304x4352, .f32⟩
  | .hbm, ⟨3, _⟩ => ⟨S4352x1024, .f32⟩
  | .hbm, ⟨4, _⟩ => ⟨S_, .f32⟩
  | .hbm, ⟨5, _⟩ => ⟨S2304x1024, .f32⟩
  | .hbm, ⟨6, _⟩ => ⟨S1024x4352, .f32⟩
  | .hbm, ⟨7, _⟩ => ⟨S2304x4352, .f32⟩
  | .hbm, ⟨8, _⟩ => ⟨S2304x1024, .f32⟩
  | _, _ => ⟨S2304x4352, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Wo.lean ====
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WoRefIdeal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== WoDw.lean ====
abbrev S2048x1024 : Shape := ⟨2, ![2048, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WoDwRefIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WoDx.lean ====
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WoDxRefIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Ao.lean ====
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AoRefIdeal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S1024x1024, .f32⟩
  | .hbm, ⟨3, _⟩ => ⟨S2048x1024, .f32⟩
  | .hbm, ⟨4, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AoDw.lean ====
abbrev S2048x1024 : Shape := ⟨2, ![2048, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1024x1024, .bf16⟩
  | .local _ .vmem, ⟨0, _⟩ => ⟨S2048x1024, .f32⟩
  | .local _ .vmem, ⟨1, _⟩ => ⟨S2048x1024, .bf16⟩
  | .local _ .vmem, ⟨2, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AoDwRefIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AoDx.lean ====
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AoDxRefIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Co.lean ====
abbrev S2048x512 : Shape := ⟨2, ![2048, 512]⟩
abbrev S4x512x256 : Shape := ⟨3, ![4, 512, 256]⟩
abbrev S2048x1024 : Shape := ⟨2, ![2048, 1024]⟩
abbrev S1024x512 : Shape := ⟨2, ![1024, 512]⟩
abbrev S1x512x256 : Shape := ⟨3, ![1, 512, 256]⟩
abbrev S1024x256 : Shape := ⟨2, ![1024, 256]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S2048x512, .bf16⟩
  | .hbm, ⟨1, _⟩ => ⟨S4x512x256, .bf16⟩
  | .hbm, ⟨2, _⟩ => ⟨S2048x1024, .bf16⟩
  | .local _ .vmem, ⟨0, _⟩ => ⟨S1024x512, .bf16⟩
  | .local _ .vmem, ⟨1, _⟩ => ⟨S1024x512, .bf16⟩
  | .local _ .vmem, ⟨2, _⟩ => ⟨S1x512x256, .bf16⟩
  | .local _ .vmem, ⟨3, _⟩ => ⟨S1x512x256, .bf16⟩
  | .local _ .vmem, ⟨4, _⟩ => ⟨S1024x256, .bf16⟩
  | .local _ .vmem, ⟨5, _⟩ => ⟨S1024x256, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CoRefIdeal.lean ====
abbrev S2048x512 : Shape := ⟨2, ![2048, 512]⟩
abbrev S4x512x256 : Shape := ⟨3, ![4, 512, 256]⟩
abbrev S2048x4x256 : Shape := ⟨3, ![2048, 4, 256]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S4x512x256, .bf16⟩
  | .hbm, ⟨2, _⟩ => ⟨S2048x512, .f32⟩
  | .hbm, ⟨3, _⟩ => ⟨S4x512x256, .f32⟩
  | .hbm, ⟨4, _⟩ => ⟨S2048x4x256, .f32⟩
  | .hbm, ⟨5, _⟩ => ⟨S2048x1024, .f32⟩
  | .hbm, ⟨6, _⟩ => ⟨S2048x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== CoDw.lean ====
abbrev S2048x512 : Shape := ⟨2, ![2048, 512]⟩
abbrev S2048x1024 : Shape := ⟨2, ![2048, 1024]⟩
abbrev S4x512x256 : Shape := ⟨3, ![4, 512, 256]⟩
abbrev S2048x256 : Shape := ⟨2, ![2048, 256]⟩
abbrev S1x512x256 : Shape := ⟨3, ![1, 512, 256]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S4x512x256, .bf16⟩
  | .local _ .vmem, ⟨0, _⟩ => ⟨S2048x512, .bf16⟩
  | .local _ .vmem, ⟨1, _⟩ => ⟨S2048x256, .bf16⟩
  | .local _ .vmem, ⟨2, _⟩ => ⟨S2048x256, .bf16⟩
  | .local _ .vmem, ⟨3, _⟩ => ⟨S1x512x256, .bf16⟩
  | .local _ .vmem, ⟨4, _⟩ => ⟨S1x512x256, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CoDwRefIdeal.lean ====
abbrev S2048x512 : Shape := ⟨2, ![2048, 512]⟩
abbrev S2048x1024 : Shape := ⟨2, ![2048, 1024]⟩
abbrev S_ : Shape := ⟨0, ![]⟩
abbrev S4x512x256 : Shape := ⟨3, ![4, 512, 256]⟩
abbrev S2048x4x256 : Shape := ⟨3, ![2048, 4, 256]⟩
abbrev S4x256x512 : Shape := ⟨3, ![4, 256, 512]⟩

abbrev nBuf : Space → Nat
  | .hbm => 12
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S_, .f32⟩
  | .hbm, ⟨3, _⟩ => ⟨S4x512x256, .f32⟩
  | .hbm, ⟨4, _⟩ => ⟨S2048x512, .f32⟩
  | .hbm, ⟨5, _⟩ => ⟨S2048x4x256, .f32⟩
  | .hbm, ⟨6, _⟩ => ⟨S2048x1024, .f32⟩
  | .hbm, ⟨7, _⟩ => ⟨S2048x1024, .f32⟩
  | .hbm, ⟨8, _⟩ => ⟨S2048x4x256, .f32⟩
  | .hbm, ⟨9, _⟩ => ⟨S4x256x512, .f32⟩
  | .hbm, ⟨10, _⟩ => ⟨S4x512x256, .f32⟩
  | .hbm, ⟨11, _⟩ => ⟨S4x512x256, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== CoDx.lean ====
abbrev S2048x1024 : Shape := ⟨2, ![2048, 1024]⟩
abbrev S4x512x256 : Shape := ⟨3, ![4, 512, 256]⟩
abbrev S2048x512 : Shape := ⟨2, ![2048, 512]⟩
abbrev S1024x256 : Shape := ⟨2, ![1024, 256]⟩
abbrev S1x512x256 : Shape := ⟨3, ![1, 512, 256]⟩
abbrev S1024x512 : Shape := ⟨2, ![1024, 512]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S4x512x256, .bf16⟩
  | .hbm, ⟨2, _⟩ => ⟨S2048x512, .f32⟩
  | .local _ .vmem, ⟨0, _⟩ => ⟨S1024x256, .bf16⟩
  | .local _ .vmem, ⟨1, _⟩ => ⟨S1024x256, .bf16⟩
  | .local _ .vmem, ⟨2, _⟩ => ⟨S1x512x256, .bf16⟩
  | .local _ .vmem, ⟨3, _⟩ => ⟨S1x512x256, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CoDxRefIdeal.lean ====
abbrev S2048x1024 : Shape := ⟨2, ![2048, 1024]⟩
abbrev S4x512x256 : Shape := ⟨3, ![4, 512, 256]⟩
abbrev S512x4x256 : Shape := ⟨3, ![512, 4, 256]⟩
abbrev S512x1024 : Shape := ⟨2, ![512, 1024]⟩
abbrev S_ : Shape := ⟨0, ![]⟩
abbrev S2048x512 : Shape := ⟨2, ![2048, 512]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x512x256, .bf16⟩
  | .hbm, ⟨2, _⟩ => ⟨S512x4x256, .bf16⟩
  | .hbm, ⟨3, _⟩ => ⟨S512x1024, .bf16⟩
  | .hbm, ⟨4, _⟩ => ⟨S_, .f32⟩
  | .hbm, ⟨5, _⟩ => ⟨S2048x512, .f32⟩
  | .hbm, ⟨6, _⟩ => ⟨S512x1024, .f32⟩
  | .hbm, ⟨7, _⟩ => ⟨S2048x1024, .f32⟩
  | .hbm, ⟨8, _⟩ => ⟨S2048x1024, .f32⟩
  | .hbm, ⟨9, _⟩ => ⟨S2048x512, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InA.lean ====
abbrev S2304x1024 : Shape := ⟨2, ![2304, 1024]⟩
abbrev S896x1024 : Shape := ⟨2, ![896, 1024]⟩
abbrev S2304x896 : Shape := ⟨2, ![2304, 896]⟩
abbrev S768x1024 : Shape := ⟨2, ![768, 1024]⟩
abbrev S768x896 : Shape := ⟨2, ![768, 896]⟩

abbrev nBuf : Space → Nat
  | .hbm => 3
  | .vmem => 5
  | .smem => 0
  | _ => 0

abbrev bufTy : (tb : Table) → Fin (tcTables nBuf tb) → BufTy
  | .hbm, ⟨0, _⟩ => ⟨S2304x1024, .bf16⟩
  | .hbm, ⟨1, _⟩ => ⟨S896x1024, .bf16⟩
  | .hbm, ⟨2, _⟩ => ⟨S2304x896, .f32⟩
  | .local _ .vmem, ⟨0, _⟩ => ⟨S768x1024, .bf16⟩
  | .local _ .vmem, ⟨1, _⟩ => ⟨S768x1024, .bf16⟩
  | .local _ .vmem, ⟨2, _⟩ => ⟨S896x1024, .bf16⟩
  | .local _ .vmem, ⟨3, _⟩ => ⟨S768x896, .f32⟩
  | .local _ .vmem, ⟨4, _⟩ => ⟨S768x896, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S896x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InARefIdeal.lean ====
abbrev S2304x1024 : Shape := ⟨2, ![2304, 1024]⟩
abbrev S896x1024 : Shape := ⟨2, ![896, 1024]⟩
abbrev S1024x896 : Shape := ⟨2, ![1024, 896]⟩
abbrev S2304x896 : Shape := ⟨2, ![2304, 896]⟩

abbrev nBuf : Space → Nat
  | .hbm => 6
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S896x1024, .bf16⟩
  | .hbm, ⟨2, _⟩ => ⟨S2304x1024, .f32⟩
  | .hbm, ⟨3, _⟩ => ⟨S896x1024, .f32⟩
  | .hbm, ⟨4, _⟩ => ⟨S1024x896, .f32⟩
  | .hbm, ⟨5, _⟩ => ⟨S2304x896, .f32⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Uq.lean ====
abbrev S2304x384 : Shape := ⟨2, ![2304, 384]⟩
abbrev S1024x384 : Shape := ⟨2, ![1024, 384]⟩
abbrev S2304x1024 : Shape := ⟨2, ![2304, 1024]⟩
abbrev S768x384 : Shape := ⟨2, ![768, 384]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2304x384, .bf16⟩
  | .hbm, ⟨1, _⟩ => ⟨S1024x384, .bf16⟩
  | .hbm, ⟨2, _⟩ => ⟨S2304x1024, .f32⟩
  | .local _ .vmem, ⟨0, _⟩ => ⟨S768x384, .bf16⟩
  | .local _ .vmem, ⟨1, _⟩ => ⟨S768x384, .bf16⟩
  | .local _ .vmem, ⟨2, _⟩ => ⟨S1024x384, .bf16⟩
  | .local _ .vmem, ⟨3, _⟩ => ⟨S768x1024, .f32⟩
  | .local _ .vmem, ⟨4, _⟩ => ⟨S768x1024, .f32⟩
  | _, _ => ⟨S2304x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqRefIdeal.lean ====
abbrev S2304x384 : Shape := ⟨2, ![2304, 384]⟩
abbrev S1024x384 : Shape := ⟨2, ![1024, 384]⟩
abbrev S384x1024 : Shape := ⟨2, ![384, 1024]⟩
abbrev S2304x1024 : Shape := ⟨2, ![2304, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2304x384, .bf16⟩
  | .hbm, ⟨1, _⟩ => ⟨S1024x384, .bf16⟩
  | .hbm, ⟨2, _⟩ => ⟨S2304x384, .f32⟩
  | .hbm, ⟨3, _⟩ => ⟨S1024x384, .f32⟩
  | .hbm, ⟨4, _⟩ => ⟨S384x1024, .f32⟩
  | .hbm, ⟨5, _⟩ => ⟨S2304x1024, .f32⟩
  | _, _ => ⟨S2304x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== UqDw.lean ====
abbrev S2304x384 : Shape := ⟨2, ![2304, 384]⟩
abbrev S2048x1024 : Shape := ⟨2, ![2048, 1024]⟩
abbrev S1024x384 : Shape := ⟨2, ![1024, 384]⟩
abbrev S2048x384 : Shape := ⟨2, ![2048, 384]⟩
abbrev S384x1024 : Shape := ⟨2, ![384, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2304x384, .bf16⟩
  | .hbm, ⟨1, _⟩ => ⟨S2048x1024, .bf16⟩
  | .hbm, ⟨2, _⟩ => ⟨S1024x384, .f32⟩
  | .local _ .vmem, ⟨0, _⟩ => ⟨S2048x384, .bf16⟩
  | .local _ .vmem, ⟨1, _⟩ => ⟨S2048x1024, .bf16⟩
  | .local _ .vmem, ⟨2, _⟩ => ⟨S1024x384, .f32⟩
  | _, _ => ⟨S2304x384, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S2048x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== UqDwRefIdeal.lean ====
abbrev S2304x384 : Shape := ⟨2, ![2304, 384]⟩
abbrev S2048x1024 : Shape := ⟨2, ![2048, 1024]⟩
abbrev S2048x384 : Shape := ⟨2, ![2048, 384]⟩
abbrev S_ : Shape := ⟨0, ![]⟩
abbrev S1024x384 : Shape := ⟨2, ![1024, 384]⟩
abbrev S384x1024 : Shape := ⟨2, ![384, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2304x384, .bf16⟩
  | .hbm, ⟨1, _⟩ => ⟨S2048x1024, .bf16⟩
  | .hbm, ⟨2, _⟩ => ⟨S2048x384, .bf16⟩
  | .hbm, ⟨3, _⟩ => ⟨S_, .f32⟩
  | .hbm, ⟨4, _⟩ => ⟨S1024x384, .f32⟩
  | .hbm, ⟨5, _⟩ => ⟨S2048x384, .f32⟩
  | .hbm, ⟨6, _⟩ => ⟨S384x1024, .f32⟩
  | .hbm, ⟨7, _⟩ => ⟨S2048x1024, .f32⟩
  | .hbm, ⟨8, _⟩ => ⟨S2048x1024, .f32⟩
  | .hbm, ⟨9, _⟩ => ⟨S1024x384, .f32⟩
  | .hbm, ⟨10, _⟩ => ⟨S384x1024, .f32⟩
  | .hbm, ⟨11, _⟩ => ⟨S1024x384, .f32⟩
  | _, _ => ⟨S2304x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== UqDx.lean ====
abbrev S2048x1024 : Shape := ⟨2, ![2048, 1024]⟩
abbrev S1024x384 : Shape := ⟨2, ![1024, 384]⟩
abbrev S2048x384 : Shape := ⟨2, ![2048, 384]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x384, .bf16⟩
  | .hbm, ⟨2, _⟩ => ⟨S2048x384, .f32⟩
  | .local _ .vmem, ⟨0, _⟩ => ⟨S1024x1024, .bf16⟩
  | .local _ .vmem, ⟨1, _⟩ => ⟨S1024x1024, .bf16⟩
  | .local _ .vmem, ⟨2, _⟩ => ⟨S1024x384, .bf16⟩
  | .local _ .vmem, ⟨3, _⟩ => ⟨S1024x384, .f32⟩
  | .local _ .vmem, ⟨4, _⟩ => ⟨S1024x384, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqDxRefIdeal.lean ====
abbrev S2048x1024 : Shape := ⟨2, ![2048, 1024]⟩
abbrev S1024x384 : Shape := ⟨2, ![1024, 384]⟩
abbrev S_ : Shape := ⟨0, ![]⟩
abbrev S2048x384 : Shape := ⟨2, ![2048, 384]⟩
abbrev S384x1024 : Shape := ⟨2, ![384, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x384, .bf16⟩
  | .hbm, ⟨2, _⟩ => ⟨S_, .f32⟩
  | .hbm, ⟨3, _⟩ => ⟨S2048x384, .f32⟩
  | .hbm, ⟨4, _⟩ => ⟨S1024x384, .f32⟩
  | .hbm, ⟨5, _⟩ => ⟨S384x1024, .f32⟩
  | .hbm, ⟨6, _⟩ => ⟨S2048x1024, .f32⟩
  | .hbm, ⟨7, _⟩ => ⟨S2048x1024, .f32⟩
  | .hbm, ⟨8, _⟩ => ⟨S2048x384, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Ukv.lean ====
abbrev S2304x256 : Shape := ⟨2, ![2304, 256]⟩
abbrev S4x256x256 : Shape := ⟨3, ![4, 256, 256]⟩
abbrev S2304x1024 : Shape := ⟨2, ![2304, 1024]⟩
abbrev S768x256 : Shape := ⟨2, ![768, 256]⟩
abbrev S1x256x256 : Shape := ⟨3, ![1, 256, 256]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S2304x256, .bf16⟩
  | .hbm, ⟨1, _⟩ => ⟨S4x256x256, .bf16⟩
  | .hbm, ⟨2, _⟩ => ⟨S2304x1024, .f32⟩
  | .local _ .vmem, ⟨0, _⟩ => ⟨S768x256, .bf16⟩
  | .local _ .vmem, ⟨1, _⟩ => ⟨S768x256, .bf16⟩
  | .local _ .vmem, ⟨2, _⟩ => ⟨S1x256x256, .bf16⟩
  | .local _ .vmem, ⟨3, _⟩ => ⟨S1x256x256, .bf16⟩
  | .local _ .vmem, ⟨4, _⟩ => ⟨S768x256, .f32⟩
  | .local _ .vmem, ⟨5, _⟩ => ⟨S768x256, .f32⟩
  | _, _ => ⟨S2304x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvRefIdeal.lean ====
abbrev S2304x256 : Shape := ⟨2, ![2304, 256]⟩
abbrev S4x256x256 : Shape := ⟨3, ![4, 256, 256]⟩
abbrev S2304x4x256 : Shape := ⟨3, ![2304, 4, 256]⟩
abbrev S2304x1024 : Shape := ⟨2, ![2304, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2304x256, .bf16⟩
  | .hbm, ⟨1, _⟩ => ⟨S4x256x256, .bf16⟩
  | .hbm, ⟨2, _⟩ => ⟨S2304x256, .f32⟩
  | .hbm, ⟨3, _⟩ => ⟨S4x256x256, .f32⟩
  | .hbm, ⟨4, _⟩ => ⟨S2304x4x256, .f32⟩
  | .hbm, ⟨5, _⟩ => ⟨S2304x1024, .f32⟩
  | _, _ => ⟨S2304x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== UkvDw.lean ====
abbrev S2304x256 : Shape := ⟨2, ![2304, 256]⟩
abbrev S2304x1024 : Shape := ⟨2, ![2304, 1024]⟩
abbrev S4x256x256 : Shape := ⟨3, ![4, 256, 256]⟩
abbrev S1x256x256 : Shape := ⟨3, ![1, 256, 256]⟩
abbrev S256x256 : Shape := ⟨2, ![256, 256]⟩

abbrev nBuf : Space → Nat
  | .hbm => 3
  | .vmem => 5
  | .smem => 0
  | _ => 0

abbrev bufTy : (tb : Table) → Fin (tcTables nBuf tb) → BufTy
  | .hbm, ⟨0, _⟩ => ⟨S2304x256, .bf16⟩
  | .hbm, ⟨1, _⟩ => ⟨S2304x1024, .bf16⟩
  | .hbm, ⟨2, _⟩ => ⟨S4x256x256, .bf16⟩
  | .local _ .vmem, ⟨0, _⟩ => ⟨S2304x256, .bf16⟩
  | .local _ .vmem, ⟨1, _⟩ => ⟨S2304x256, .bf16⟩
  | .local _ .vmem, ⟨2, _⟩ => ⟨S2304x256, .bf16⟩
  | .local _ .vmem, ⟨3, _⟩ => ⟨S1x256x256, .bf16⟩
  | .local _ .vmem, ⟨4, _⟩ => ⟨S1x256x256, .bf16⟩
  | _, _ => ⟨S2304x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S2304x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvDwRefIdeal.lean ====
abbrev S2304x256 : Shape := ⟨2, ![2304, 256]⟩
abbrev S2304x1024 : Shape := ⟨2, ![2304, 1024]⟩
abbrev S_ : Shape := ⟨0, ![]⟩
abbrev S4x256x256 : Shape := ⟨3, ![4, 256, 256]⟩
abbrev S2304x4x256 : Shape := ⟨3, ![2304, 4, 256]⟩

abbrev nBuf : Space → Nat
  | .hbm => 12
  | .vmem => 0
  | .smem => 0
  | _ => 0

abbrev bufTy : (tb : Table) → Fin (tcTables nBuf tb) → BufTy
  | .hbm, ⟨0, _⟩ => ⟨S2304x256, .bf16⟩
  | .hbm, ⟨1, _⟩ => ⟨S2304x1024, .bf16⟩
  | .hbm, ⟨2, _⟩ => ⟨S_, .f32⟩
  | .hbm, ⟨3, _⟩ => ⟨S4x256x256, .f32⟩
  | .hbm, ⟨4, _⟩ => ⟨S2304x256, .f32⟩
  | .hbm, ⟨5, _⟩ => ⟨S2304x4x256, .f32⟩
  | .hbm, ⟨6, _⟩ => ⟨S2304x1024, .f32⟩
  | .hbm, ⟨7, _⟩ => ⟨S2304x1024, .f32⟩
  | .hbm, ⟨8, _⟩ => ⟨S2304x4x256, .f32⟩
  | .hbm, ⟨9, _⟩ => ⟨S4x256x256, .f32⟩
  | .hbm, ⟨10, _⟩ => ⟨S4x256x256, .f32⟩
  | .hbm, ⟨11, _⟩ => ⟨S4x256x256, .bf16⟩
  | _, _ => ⟨S2304x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== UkvDx.lean ====
abbrev S2304x1024 : Shape := ⟨2, ![2304, 1024]⟩
abbrev S4x256x256 : Shape := ⟨3, ![4, 256, 256]⟩
abbrev S2304x256 : Shape := ⟨2, ![2304, 256]⟩
abbrev S768x256 : Shape := ⟨2, ![768, 256]⟩
abbrev S1x256x256 : Shape := ⟨3, ![1, 256, 256]⟩
abbrev S256x256 : Shape := ⟨2, ![256, 256]⟩

abbrev nBuf : Space → Nat
  | .hbm => 3
  | .vmem => 7
  | .smem => 0
  | _ => 0

abbrev bufTy : (tb : Table) → Fin (tcTables nBuf tb) → BufTy
  | .hbm, ⟨0, _⟩ => ⟨S2304x1024, .bf16⟩
  | .hbm, ⟨1, _⟩ => ⟨S4x256x256, .bf16⟩
  | .hbm, ⟨2, _⟩ => ⟨S2304x256, .f32⟩
  | .local _ .vmem, ⟨0, _⟩ => ⟨S768x256, .bf16⟩
  | .local _ .vmem, ⟨1, _⟩ => ⟨S768x256, .bf16⟩
  | .local _ .vmem, ⟨2, _⟩ => ⟨S1x256x256, .bf16⟩
  | .local _ .vmem, ⟨3, _⟩ => ⟨S1x256x256, .bf16⟩
  | .local _ .vmem, ⟨4, _⟩ => ⟨S768x256, .f32⟩
  | .local _ .vmem, ⟨5, _⟩ => ⟨S768x256, .f32⟩
  | .local _ .vmem, ⟨6, _⟩ => ⟨S768x256, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvDxRefIdeal.lean ====
abbrev S2304x1024 : Shape := ⟨2, ![2304, 1024]⟩
abbrev S4x256x256 : Shape := ⟨3, ![4, 256, 256]⟩
abbrev S256x4x256 : Shape := ⟨3, ![256, 4, 256]⟩
abbrev S256x1024 : Shape := ⟨2, ![256, 1024]⟩
abbrev S_ : Shape := ⟨0, ![]⟩
abbrev S2304x256 : Shape := ⟨2, ![2304, 256]⟩

abbrev nBuf : Space → Nat
  | .hbm => 10
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S4x256x256, .bf16⟩
  | .hbm, ⟨2, _⟩ => ⟨S256x4x256, .bf16⟩
  | .hbm, ⟨3, _⟩ => ⟨S256x1024, .bf16⟩
  | .hbm, ⟨4, _⟩ => ⟨S_, .f32⟩
  | .hbm, ⟨5, _⟩ => ⟨S2304x256, .f32⟩
  | .hbm, ⟨6, _⟩ => ⟨S256x1024, .f32⟩
  | .hbm, ⟨7, _⟩ => ⟨S2304x1024, .f32⟩
  | .hbm, ⟨8, _⟩ => ⟨S2304x1024, .f32⟩
  | .hbm, ⟨9, _⟩ => ⟨S2304x256, .f32⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Ada.lean ====
abbrev S16x1024 : Shape := ⟨2, ![16, 1024]⟩
abbrev S1024x1536 : Shape := ⟨2, ![1024, 1536]⟩
abbrev S16x1536 : Shape := ⟨2, ![16, 1536]⟩
abbrev S1024x768 : Shape := ⟨2, ![1024, 768]⟩
abbrev S16x768 : Shape := ⟨2, ![16, 768]⟩

abbrev nBuf : Space → Nat
  | .hbm => 3
  | .vmem => 5
  | .smem => 0
  | _ => 0

abbrev bufTy : (tb : Table) → Fin (tcTables nBuf tb) → BufTy
  | .hbm, ⟨0, _⟩ => ⟨S16x1024, .f32⟩
  | .hbm, ⟨1, _⟩ => ⟨S1024x1536, .f32⟩
  | .hbm, ⟨2, _⟩ => ⟨S16x1536, .f32⟩
  | .local _ .vmem, ⟨0, _⟩ => ⟨S16x1024, .f32⟩
  | .local _ .vmem, ⟨1, _⟩ => ⟨S1024x768, .f32⟩
  | .local _ .vmem, ⟨2, _⟩ => ⟨S1024x768, .f32⟩
  | .local _ .vmem, ⟨3, _⟩ => ⟨S16x768, .f32⟩
  | .local _ .vmem, ⟨4, _⟩ => ⟨S16x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AdaRefIdeal.lean ====
abbrev S16x1024 : Shape := ⟨2, ![16, 1024]⟩
abbrev S1024x1536 : Shape := ⟨2, ![1024, 1536]⟩
abbrev S16x1536 : Shape := ⟨2, ![16, 1536]⟩

abbrev nBuf : Space → Nat
  | .hbm => 3
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x1536, .f32⟩
  | .hbm, ⟨2, _⟩ => ⟨S16x1536, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdaDw.lean ====
abbrev S16x1024 : Shape := ⟨2, ![16, 1024]⟩
abbrev S16x1536 : Shape := ⟨2, ![16, 1536]⟩
abbrev S1024x1536 : Shape := ⟨2, ![1024, 1536]⟩
abbrev S16x512 : Shape := ⟨2, ![16, 512]⟩
abbrev S16x768 : Shape := ⟨2, ![16, 768]⟩
abbrev S512x768 : Shape := ⟨2, ![512, 768]⟩

abbrev nBuf : Space → Nat
  | .hbm => 3
  | .vmem => 6
  | .smem => 0
  | _ => 0

abbrev bufTy : (tb : Table) → Fin (tcTables nBuf tb) → BufTy
  | .hbm, ⟨0, _⟩ => ⟨S16x1024, .f32⟩
  | .hbm, ⟨1, _⟩ => ⟨S16x1536, .f32⟩
  | .hbm, ⟨2, _⟩ => ⟨S1024x1536, .f32⟩
  | .local _ .vmem, ⟨0, _⟩ => ⟨S16x512, .f32⟩
  | .local _ .vmem, ⟨1, _⟩ => ⟨S16x512, .f32⟩
  | .local _ .vmem, ⟨2, _⟩ => ⟨S16x768, .f32⟩
  | .local _ .vmem, ⟨3, _⟩ => ⟨S16x768, .f32⟩
  | .local _ .vmem, ⟨4, _⟩ => ⟨S512x768, .f32⟩
  | .local _ .vmem, ⟨5, _⟩ => ⟨S512x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AdaDwRefIdeal.lean ====
abbrev S16x1024 : Shape := ⟨2, ![16, 1024]⟩
abbrev S16x1536 : Shape := ⟨2, ![16, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1536, .f32⟩
  | .hbm, ⟨2, _⟩ => ⟨S_, .f32⟩
  | .hbm, ⟨3, _⟩ => ⟨S1024x1536, .f32⟩
  | .hbm, ⟨4, _⟩ => ⟨S16x1536, .f32⟩
  | .hbm, ⟨5, _⟩ => ⟨S1536x1024, .f32⟩
  | .hbm, ⟨6, _⟩ => ⟨S1024x1536, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AdaDx.lean ====
abbrev S16x1536 : Shape := ⟨2, ![16, 1536]⟩
abbrev S1024x1536 : Shape := ⟨2, ![1024, 1536]⟩
abbrev S16x1024 : Shape := ⟨2, ![16, 1024]⟩
abbrev S512x1536 : Shape := ⟨2, ![512, 1536]⟩
abbrev S16x512 : Shape := ⟨2, ![16, 512]⟩

abbrev nBuf : Space → Nat
  | .hbm => 3
  | .vmem => 5
  | .smem => 0
  | _ => 0

abbrev bufTy : (tb : Table) → Fin (tcTables nBuf tb) → BufTy
  | .hbm, ⟨0, _⟩ => ⟨S16x1536, .f32⟩
  | .hbm, ⟨1, _⟩ => ⟨S1024x1536, .f32⟩
  | .hbm, ⟨2, _⟩ => ⟨S16x1024, .f32⟩
  | .local _ .vmem, ⟨0, _⟩ => ⟨S16x1536, .f32⟩
  | .local _ .vmem, ⟨1, _⟩ => ⟨S512x1536, .f32⟩
  | .local _ .vmem, ⟨2, _⟩ => ⟨S512x1536, .f32⟩
  | .local _ .vmem, ⟨3, _⟩ => ⟨S16x512, .f32⟩
  | .local _ .vmem, ⟨4, _⟩ => ⟨S16x512, .f32⟩
  | _, _ => ⟨S16x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AdaDxRefIdeal.lean ====
abbrev S16x1536 : Shape := ⟨2, ![16, 1536]⟩
abbrev S1024x1536 : Shape := ⟨2, ![1024, 1536]⟩
abbrev S_ : Shape := ⟨0, ![]⟩
abbrev S16x1024 : Shape := ⟨2, ![16, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16x1536, .f32⟩
  | .hbm, ⟨1, _⟩ => ⟨S1024x1536, .f32⟩
  | .hbm, ⟨2, _⟩ => ⟨S_, .f32⟩
  | .hbm, ⟨3, _⟩ => ⟨S16x1024, .f32⟩
  | .hbm, ⟨4, _⟩ => ⟨S16x1536, .f32⟩
  | .hbm, ⟨5, _⟩ => ⟨S16x1024, .f32⟩
  | _, _ => ⟨S16x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Merge.lean ====
abbrev S2048x3584 : Shape := ⟨2, ![2048, 3584]⟩
abbrev S2048x1024 : Shape := ⟨2, ![2048, 1024]⟩
abbrev S512x1024 : Shape := ⟨2, ![512, 1024]⟩

abbrev nBuf : Space → Nat
  | .hbm => 4
  | .vmem => 10
  | .smem => 0
  | _ => 0

abbrev bufTy : (tb : Table) → Fin (tcTables nBuf tb) → BufTy
  | .hbm, ⟨0, _⟩ => ⟨S2048x3584, .f32⟩
  | .hbm, ⟨1, _⟩ => ⟨S2048x1024, .bf16⟩
  | .hbm, ⟨2, _⟩ => ⟨S2048x1024, .bf16⟩
  | .hbm, ⟨3, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let c0_i32_0 : BitVec 32 := 0#32
  ![v0.toNat, c1_i32.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MergeIdeal.lean ====
variable {F : FTy → Type} [FloatOps F] [Named F]
def κ : String → Option EReal := fun
  | "neg_log2e" => some ((-((Real.log 2)⁻¹) : ℝ) : EReal)
  | _ => none
-- ==== MergeRefIdeal.lean ====
abbrev S2048x3584 : Shape := ⟨2, ![2048, 3584]⟩
abbrev S2048x1024 : Shape := ⟨2, ![2048, 1024]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S2048x3584, .f32⟩
  | .hbm, ⟨1, _⟩ => ⟨S2048x1024, .bf16⟩
  | .hbm, ⟨2, _⟩ => ⟨S2048x1024, .bf16⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .bf16⟩
  | _, _ => ⟨S2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== MergeBwd.lean ====
abbrev S2048x1024 : Shape := ⟨2, ![2048, 1024]⟩
abbrev S2048x3584 : Shape := ⟨2, ![2048, 3584]⟩
abbrev S512x1024 : Shape := ⟨2, ![512, 1024]⟩

abbrev nBuf : Space → Nat
  | .hbm => 8
  | .vmem => 18
  | .smem => 0
  | _ => 0

abbrev bufTy : (tb : Table) → Fin (tcTables nBuf tb) → BufTy
  | .hbm, ⟨0, _⟩ => ⟨S2048x1024, .bf16⟩
  | .hbm, ⟨1, _⟩ => ⟨S2048x3584, .f32⟩
  | .hbm, ⟨2, _⟩ => ⟨S2048x1024, .bf16⟩
  | .hbm, ⟨3, _⟩ => ⟨S2048x1024, .bf16⟩
  | .hbm, ⟨4, _⟩ => ⟨S2048x1024, .bf16⟩
  | .hbm, ⟨5, _⟩ => ⟨S2048x1024, .bf16⟩
  | .hbm, ⟨6, _⟩ => ⟨S2048x1024, .bf16⟩
  | .hbm, ⟨7, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let c0_i32_0 : BitVec 32 := 0#32
  ![v0.toNat, c1_i32.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeBwdIdeal.lean ====
variable {F : FTy → Type} [FloatOps F] [Named F]
def κ : String → Option EReal := fun
  | "neg_log2e" => some ((-((Real.log 2)⁻¹) : ℝ) : EReal)
  | _ => none
-- ==== MergeBwdRefIdeal.lean ====
abbrev S2048x1024 : Shape := ⟨2, ![2048, 1024]⟩
abbrev S2048x3584 : Shape := ⟨2, ![2048, 3584]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x3584, .f32⟩
  | .hbm, ⟨2, _⟩ => ⟨S2048x1024, .bf16⟩
  | .hbm, ⟨3, _⟩ => ⟨S2048x1024, .bf16⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .bf16⟩
  | .hbm, ⟨43, _⟩ => ⟨S2048x1024, .bf16⟩
  | .hbm, ⟨44, _⟩ => ⟨S2048x1024, .bf16⟩
  | .hbm, ⟨45, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Conv.lean ====
abbrev S2048x3584 : Shape := ⟨2, ![2048, 3584]⟩
abbrev S3x512 : Shape := ⟨2, ![3, 512]⟩
abbrev S1x512 : Shape := ⟨2, ![1, 512]⟩
abbrev S2048x512 : Shape := ⟨2, ![2048, 512]⟩
abbrev S2048x256 : Shape := ⟨2, ![2048, 256]⟩
abbrev S3x256 : Shape := ⟨2, ![3, 256]⟩
abbrev S1x256 : Shape := ⟨2, ![1, 256]⟩

abbrev nBuf : Space → Nat
  | .hbm => 4
  | .vmem => 12
  | .smem => 0
  | _ => 0

abbrev bufTy : (tb : Table) → Fin (tcTables nBuf tb) → BufTy
  | .hbm, ⟨0, _⟩ => ⟨S2048x3584, .f32⟩
  | .hbm, ⟨1, _⟩ => ⟨S3x512, .f32⟩
  | .hbm, ⟨2, _⟩ => ⟨S1x512, .f32⟩
  | .hbm, ⟨3, _⟩ => ⟨S2048x512, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S2048x256, .bf16⟩
  | .local _ .vmem, ⟨11, _⟩ => ⟨S2048x256, .bf16⟩
  | _, _ => ⟨S2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ConvRefIdeal.lean ====
abbrev S2048x3584 : Shape := ⟨2, ![2048, 3584]⟩
abbrev S3x512 : Shape := ⟨2, ![3, 512]⟩
abbrev S1x512 : Shape := ⟨2, ![1, 512]⟩
abbrev S2048x512 : Shape := ⟨2, ![2048, 512]⟩
abbrev S_ : Shape := ⟨0, ![]⟩
abbrev S2050x512 : Shape := ⟨2, ![2050, 512]⟩
abbrev S512 : Shape := ⟨1, ![512]⟩

abbrev nBuf : Space → Nat
  | .hbm => 34
  | .vmem => 0
  | .smem => 0
  | _ => 0

abbrev bufTy : (tb : Table) → Fin (tcTables nBuf tb) → BufTy
  | .hbm, ⟨0, _⟩ => ⟨S2048x3584, .f32⟩
  | .hbm, ⟨1, _⟩ => ⟨S3x512, .f32⟩
  | .hbm, ⟨2, _⟩ => ⟨S1x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S_, .f32⟩
  | .hbm, ⟨8, _⟩ => ⟨S1x512, .f32⟩
  | .hbm, ⟨9, _⟩ => ⟨S2050x512, .f32⟩
  | .hbm, ⟨10, _⟩ => ⟨S2048x512, .f32⟩
  | .hbm, ⟨11, _⟩ => ⟨S1x512, .f32⟩
  | .hbm, ⟨12, _⟩ => ⟨S512, .f32⟩
  | .hbm, ⟨13, _⟩ => ⟨S1x512, .f32⟩
  | .hbm, ⟨14, _⟩ => ⟨S2048x512, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S1x512, .f32⟩
  | .hbm, ⟨20, _⟩ => ⟨S512, .f32⟩
  | .hbm, ⟨21, _⟩ => ⟨S1x512, .f32⟩
  | .hbm, ⟨22, _⟩ => ⟨S2048x512, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S1x512, .f32⟩
  | .hbm, ⟨27, _⟩ => ⟨S512, .f32⟩
  | .hbm, ⟨28, _⟩ => ⟨S1x512, .f32⟩
  | .hbm, ⟨29, _⟩ => ⟨S2048x512, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S2048x512, .bf16⟩
  | _, _ => ⟨S2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩

abbrev nD : Nat := 1
abbrev τ : Topo := Topo.v7x

variable {F : FTy → Type} [FloatOps F]
-- ==== Proof.Products.lean ====
/-
  What the products share: two runs whose results agree, a run that leaves every semaphore at rest, and a sum kept over
  the four shards of a contracted axis.
-/
module

public import Idealize.ShloMosaic.Lib.Pipeline.ValueKit
public import Idealize.ShloMosaic.Lib.Quiescent
public import Idealize.ShloMosaic.Adequacy
public import Idealize.ShloMosaic.Init

@[expose] public section

noncomputable section

namespace Cert.Products

open Idealize.ShloMosaic Idealize.SL.Sem

variable {nD : ℕ} {τ τ' : Topo} {sig sig' : RefSig} {Val Val' : EltTy → Type} {Λ Λ' : Labels}
  {d : Defs nD τ sig Val Λ} {p : (c : Thread nD τ) → Prog (TpuEff nD τ sig Val Λ c.2) PUnit} {s : MemSt nD τ sig Val}
  {d' : Defs nD τ' sig' Val' Λ'} {p' : (c : Thread nD τ') → Prog (TpuEff nD τ' sig' Val' Λ' c.2) PUnit}
  {s' : MemSt nD τ' sig' Val'}

/-- Two runs whose named results are equal have one result, and each keeps what else it leaves. -/
theorem agree {α : Dev nD → Type} {f : _ → (c : Dev nD) → α c} {f' : _ → (c : Dev nD) → α c} {v w : (c : Dev nD) → α c}
    {K K' : _ → Dev nD → Prop} (hk : θ_run d p s fun r => ∀ c, f r c = v c ∧ K r c)
    (hr : θ_run d' p' s' fun r => ∀ c, f' r c = w c ∧ K' r c) (h : ∀ c, w c = v c) :
    ∃ o : (c : Dev nD) → α c, θ_run d p s (fun r => ∀ c, f r c = o c ∧ K r c)
      ∧ θ_run d' p' s' (fun r => ∀ c, f' r c = o c ∧ K' r c) :=
  ⟨v, hk, (θ_run d' p' s').mono (fun _ q c => ⟨(q c).1.trans (h c), (q c).2⟩) hr⟩

/-- A run of a program without semaphores ends with none raised; of its results only what it keeps is said. -/
theorem quiet {A K : _ → Dev nD → Prop} (n : sig.nSem + sig.nDmaSem = 0) (hr : θ_run d p s fun r => ∀ c, A r c ∧ K r c) :
    θ_run d p s (fun r => (∀ c, K r c) ∧ r.2.sem = fun _ => 0) :=
  (θ_run d p s).mono (fun r q => ⟨fun c => (q c).2, sem_eq_zero_of_no_sems n r.2⟩) hr

/-- A sum over a contracted axis is the sum over its four shards. -/
theorem shards (n : ℕ) (f : Fin (n + n + n + n) → EReal) : ∑ k, f k = ∑ k : Fin n, f ⟨k, by omega⟩
    + ∑ k : Fin n, f ⟨n + k, by omega⟩ + ∑ k : Fin n, f ⟨n + n + k, by omega⟩ + ∑ k : Fin n, f ⟨n + n + n + k, by omega⟩ := by
  rw [Fin.sum_univ_add, Fin.sum_univ_add, Fin.sum_univ_add]
  rfl

/-- What is added up in scratch over four grid points and written out at the last of them. -/
theorem four {N : ℕ} {S : Type} (out : ∀ n, n < N → (S → EReal) × (S → EReal)) (p : Fin N → S → EReal)
    (first : ∀ t : Fin N, t.val % 4 = 0 → ∀ y, (out t.val t.isLt).2 y = p t y)
    (next : ∀ t s : Fin N, 1 ≤ t.val % 4 ∧ t.val % 4 ≤ 2 → s.val + 1 = t.val → ∀ y,
      (out t.val t.isLt).2 y = (out s.val s.isLt).2 y + p t y)
    (last : ∀ t s : Fin N, t.val % 4 = 3 → s.val + 1 = t.val → ∀ y,
      (out t.val t.isLt).1 y = (out s.val s.isLt).2 y + p t y)
    (t : Fin N) (h : t.val % 4 = 3) : ∃ r s u : Fin N, r.val + 1 = t.val ∧ s.val + 1 = r.val ∧ u.val + 1 = s.val
      ∧ ∀ y, (out t.val t.isLt).1 y = p u y + p s y + p r y + p t y := by
  have earlier (n : ℕ) (hn : n ≤ 3) : ∃ s : Fin N, s.val + n = t.val :=
    ⟨⟨t.val - n, by have := t.isLt; omega⟩, by show t.val - n + n = _; omega⟩
  obtain ⟨r, hr⟩ := earlier 1 (by omega)
  obtain ⟨s, hs⟩ := earlier 2 (by omega)
  obtain ⟨u, hu⟩ := earlier 3 (by omega)
  refine ⟨r, s, u, hr, by omega, by omega, fun y => ?_⟩
  rw [last t r h hr, next r s (by omega) (by omega), next s u (by omega) (by omega), first u (by omega)]

end Cert.Products
-- ==== Proof.Spec.lean ====
/-
  The latent attention and its gradient over the real numbers, written once for both programs: the queries, keys and
  values as functions of real entries, the rotary embedding on the 32 lanes `(a, b, c)` of a head, the scaled scores,
  the softmax, and the products of the backward pass. No program is mentioned here.
-/
module

public import Idealize.ShloMosaic.Lib.Pointwise
public import Idealize.ShloMosaic.PureOps.Ideal
public import Idealize.ShloMosaic.PureOps.Ideal.Laws

@[expose] public section

noncomputable section

namespace Cert.Attn

open Idealize.ShloMosaic

/-! ## Real numbers inside the extended reals -/

/-- A finite sum of reals is the same sum of extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The running maximum of reals over a nonempty finite type, from minus infinity, is a real. -/
theorem exists_max {n : ℕ} (f : Fin (n + 1) → ℝ) :
    ∃ M : ℝ, Finset.univ.fold max (⊥ : EReal) (fun k => (f k : EReal)) = (M : EReal) := by
  classical
  have key : ∀ s : Finset (Fin (n + 1)), s.Nonempty →
      ∃ M : ℝ, s.fold max (⊥ : EReal) (fun k => (f k : EReal)) = (M : EReal) := by
    intro s hs
    induction hs using Finset.Nonempty.cons_induction with
    | singleton a => exact ⟨f a, by simp⟩
    | cons a s ha hs ih =>
      obtain ⟨M, hM⟩ := ih
      exact ⟨max (f a) M, by rw [Finset.fold_cons, hM, EReal.coe_strictMono.monotone.map_max]⟩
  exact key _ Finset.univ_nonempty

/-- Division of a real by a nonzero real. -/
theorem div_real (x y : ℝ) (hy : y ≠ 0) : Ideal.div (x : EReal) (y : EReal) = ((x / y : ℝ) : EReal) := by
  rw [Ideal.div_coe hy, ← EReal.coe_mul]
  congr 1
  ring

/-! ## Sums over lanes -/

/-- A sum over the 128 lanes of a head: 64 lanes, the 32 rotary lanes, and the 32 lanes of padding. -/
theorem sum_lanes {M : Type} [AddCommMonoid M] (f : Fin 128 → M) :
    ∑ l, f l = (∑ d : Fin 64, f ⟨d, by omega⟩)
      + (∑ a : Fin 2, ∑ b : Fin 2, ∑ c : Fin 8, f ⟨64 + 16 * a + 8 * b + c, by omega⟩)
      + ∑ e : Fin 32, f ⟨96 + e, by omega⟩ := by
  have h1 : ∑ l, f l = (∑ d : Fin 64, f ⟨d, by omega⟩) + ∑ e : Fin 64, f ⟨64 + e, by omega⟩ :=
    Fin.sum_univ_add (a := 64) (b := 64) f
  have h2 : ∑ e : Fin 64, f ⟨64 + e, by omega⟩
      = (∑ j : Fin 32, f ⟨64 + j, by omega⟩) + ∑ e : Fin 32, f ⟨96 + e, by omega⟩ := by
    refine (Fin.sum_univ_add (a := 32) (b := 32) fun e : Fin 64 => f ⟨64 + e, by omega⟩).trans ?_
    congr 1
  have h3 : ∑ j : Fin 32, f ⟨64 + j, by omega⟩
      = ∑ a : Fin 2, ∑ b : Fin 2, ∑ c : Fin 8, f ⟨64 + 16 * a + 8 * b + c, by omega⟩ := by
    simp only [Fin.sum_univ_succ, Fin.sum_univ_zero]
    simp [← add_assoc]
  rw [h1, h2, h3, add_assoc]

/-! ## The rotary embedding -/

/-- The rotation of the lane pairs `(a, 0, c)`, `(a, 1, c)` by the angle of cosine `C a c` and sine `S a c`. -/
def rot (x : Fin 2 → Fin 2 → Fin 8 → ℝ) (C S : Fin 2 → Fin 8 → ℝ) (a b : Fin 2) (c : Fin 8) : ℝ :=
  if b = 0 then x a 0 c * C a c - x a 1 c * S a c else x a 0 c * S a c + x a 1 c * C a c

/-- The rotation backward: the transposed map. -/
def unrot (x : Fin 2 → Fin 2 → Fin 8 → ℝ) (C S : Fin 2 → Fin 8 → ℝ) (a b : Fin 2) (c : Fin 8) : ℝ :=
  if b = 0 then x a 0 c * C a c + x a 1 c * S a c else x a 1 c * C a c - x a 0 c * S a c

section
variable (x0 : Fin 2048 → Fin 768 → ℝ) (x1 : Fin 2304 → Fin 1024 → ℝ) (x2 : Fin 2304 → Fin 32 → ℝ)
  (x3 : Fin 2048 → Fin 16 → ℝ) (x4 : Fin 2048 → Fin 512 → ℝ)

/-- Lane `d` of head `h` of query row `t`. -/
def Q (t : Fin 2048) (h : Fin 8) (d : Fin 96) : ℝ := x0 t ⟨96 * h + d, by omega⟩

/-- Lane `d` of head `h` of the latent row `k`: 64 lanes of the key, then 64 of the value. -/
def KV (k : Fin 2304) (h : Fin 8) (d : Fin 128) : ℝ := x1 k ⟨128 * h + d, by omega⟩

/-- Lane `d` of head `h` of the cotangent of the attention's output. -/
def CT (t : Fin 2048) (h : Fin 8) (d : Fin 64) : ℝ := x4 t ⟨64 * h + d, by omega⟩

/-- The cosine of row `k`'s rotary angle: the context rows after the 2048 positions are not rotated. -/
def cs (k : Fin 2304) (a : Fin 2) (c : Fin 8) : ℝ :=
  if h : (k : ℕ) < 2048 then Real.cos (x3 ⟨k, h⟩ ⟨8 * a + c, by omega⟩) else 1

/-- The sine of row `k`'s rotary angle. -/
def sn (k : Fin 2304) (a : Fin 2) (c : Fin 8) : ℝ :=
  if h : (k : ℕ) < 2048 then Real.sin (x3 ⟨k, h⟩ ⟨8 * a + c, by omega⟩) else 0

/-- A query row as a row of the key's positions. -/
def up (t : Fin 2048) : Fin 2304 := ⟨t, by omega⟩

/-- The rotated lanes of a query head. -/
def qro (t : Fin 2048) (h : Fin 8) : Fin 2 → Fin 2 → Fin 8 → ℝ :=
  rot (fun a b c => Q x0 t h ⟨64 + 16 * a + 8 * b + c, by omega⟩) (cs x3 (up t)) (sn x3 (up t))

/-- The rotated lanes of a key row, shared by the heads. -/
def kro (k : Fin 2304) : Fin 2 → Fin 2 → Fin 8 → ℝ :=
  rot (fun a b c => x2 k ⟨16 * a + 8 * b + c, by omega⟩) (cs x3 k) (sn x3 k)

/-- The product of a query with a key, over the 96 lanes. -/
def raw (t : Fin 2048) (h : Fin 8) (k : Fin 2304) : ℝ :=
  (∑ d : Fin 64, Q x0 t h ⟨d, by omega⟩ * KV x1 k h ⟨d, by omega⟩)
    + ∑ a : Fin 2, ∑ b : Fin 2, ∑ c : Fin 8, qro x0 x3 t h a b c * kro x2 x3 k a b c

/-- The scaled score. -/
def sc (t : Fin 2048) (h : Fin 8) (k : Fin 2304) : ℝ := raw x0 x1 x2 x3 t h k / Real.sqrt 96

/-- The softmax's denominator. -/
def Z (t : Fin 2048) (h : Fin 8) : ℝ := ∑ k, Real.exp (sc x0 x1 x2 x3 t h k)

/-- The softmax. -/
def P (t : Fin 2048) (h : Fin 8) (k : Fin 2304) : ℝ := Real.exp (sc x0 x1 x2 x3 t h k) / Z x0 x1 x2 x3 t h

/-- The attention's output. -/
def O (t : Fin 2048) (h : Fin 8) (d : Fin 64) : ℝ := ∑ k, P x0 x1 x2 x3 t h k * KV x1 k h ⟨64 + d, by omega⟩

/-- The cotangent of the softmax's output. -/
def DP (t : Fin 2048) (h : Fin 8) (k : Fin 2304) : ℝ := ∑ d : Fin 64, CT x4 t h d * KV x1 k h ⟨64 + d, by omega⟩

/-- The cotangent of the unscaled score. -/
def DS (t : Fin 2048) (h : Fin 8) (k : Fin 2304) : ℝ :=
  P x0 x1 x2 x3 t h k * (DP x1 x4 t h k - ∑ j, P x0 x1 x2 x3 t h j * DP x1 x4 t h j) / Real.sqrt 96

/-- The gradient of the query, by lane: the plain lanes, the rotary lanes rotated back, zero on the padding. -/
def dQ (t : Fin 2048) (h : Fin 8) (l : Fin 128) : ℝ :=
  if hl : (l : ℕ) < 64 then ∑ k, DS x0 x1 x2 x3 x4 t h k * KV x1 k h ⟨l, by omega⟩
  else if (l : ℕ) < 96 then
    unrot (fun a b c => ∑ k, DS x0 x1 x2 x3 x4 t h k * kro x2 x3 k a b c) (cs x3 (up t)) (sn x3 (up t))
      ⟨(l - 64) / 16 % 2, by omega⟩ ⟨l / 8 % 2, by omega⟩ ⟨l % 8, by omega⟩
  else 0

/-- The gradient of the latent rows, by lane: the key's 64 lanes, then the value's. -/
def dKV (k : Fin 2304) (h : Fin 8) (l : Fin 128) : ℝ :=
  if hl : (l : ℕ) < 64 then ∑ t, DS x0 x1 x2 x3 x4 t h k * Q x0 t h ⟨l, by omega⟩
  else ∑ t, P x0 x1 x2 x3 t h k * CT x4 t h ⟨l - 64, by omega⟩

/-- One head's part of the gradient of the rotated key lanes. -/
def dKro (k : Fin 2304) (h : Fin 8) (a b : Fin 2) (c : Fin 8) : ℝ :=
  ∑ t, DS x0 x1 x2 x3 x4 t h k * qro x0 x3 t h a b c

/-- The gradient of the shared rotary key lanes, in lanes 64 to 95 of 128. -/
def dKR (k : Fin 2304) (l : Fin 128) : ℝ :=
  if 64 ≤ (l : ℕ) ∧ (l : ℕ) < 96 then
    unrot (fun a b c => ∑ h, dKro x0 x1 x2 x3 x4 k h a b c) (cs x3 k) (sn x3 k)
      ⟨(l - 64) / 16 % 2, by omega⟩ ⟨l / 8 % 2, by omega⟩ ⟨l % 8, by omega⟩
  else 0

theorem Z_pos (t : Fin 2048) (h : Fin 8) : 0 < Z x0 x1 x2 x3 t h :=
  Finset.sum_pos (fun k _ => Real.exp_pos _) ⟨0, Finset.mem_univ _⟩

end

section
variable (x3 : Fin 2048 → Fin 16 → ℝ)

/-- The cosine at a query's own position. -/
theorem cs_up (t : Fin 2048) (a : Fin 2) (c : Fin 8) :
    cs x3 (up t) a c = Real.cos (x3 t ⟨8 * a + c, by omega⟩) := dif_pos t.isLt

/-- The sine at a query's own position. -/
theorem sn_up (t : Fin 2048) (a : Fin 2) (c : Fin 8) :
    sn x3 (up t) a c = Real.sin (x3 t ⟨8 * a + c, by omega⟩) := dif_pos t.isLt

end

/-! ## The softmax does not depend on the number subtracted -/

/-- The sum of the shifted exponentials. -/
theorem sum_shift {n : ℕ} (s : Fin n → ℝ) (M : ℝ) :
    ∑ k, Real.exp (s k - M) = (∑ k, Real.exp (s k)) * Real.exp (-M) := by
  rw [Finset.sum_mul]
  exact Finset.sum_congr rfl fun k _ => by rw [← Real.exp_add, sub_eq_add_neg]

/-- The shifted sum is positive. -/
theorem shift_pos {n : ℕ} (s : Fin n → ℝ) (M : ℝ) (h : 0 < ∑ j, Real.exp (s j)) :
    0 < ∑ k, Real.exp (s k - M) := by
  rw [sum_shift]
  exact mul_pos h (Real.exp_pos _)

/-- A shifted exponential over the sum of the shifted exponentials. -/
theorem shift_div {n : ℕ} (s : Fin n → ℝ) (M : ℝ) (k : Fin n) :
    Real.exp (s k - M) / ∑ j, Real.exp (s j - M) = Real.exp (s k) / ∑ j, Real.exp (s j) := by
  rw [sum_shift, sub_eq_add_neg, Real.exp_add, mul_div_mul_right _ _ (Real.exp_pos _).ne']

/-- The number subtracted plus the logarithm of the shifted sum. -/
theorem shift_log {n : ℕ} (s : Fin n → ℝ) (M : ℝ) (h : 0 < ∑ j, Real.exp (s j)) :
    M + Real.log (∑ j, Real.exp (s j - M)) = Real.log (∑ j, Real.exp (s j)) := by
  rw [sum_shift, Real.log_mul h.ne' (Real.exp_pos _).ne', Real.log_exp]
  ring

/-- A power of two whose exponent carries the reciprocal of log 2. -/
theorem rpow_two (x : ℝ) : Real.rpow 2 (x * (Real.log 2)⁻¹) = Real.exp x := by
  have : (0 : ℝ) < Real.log 2 := Real.log_pos (by norm_num)
  show (2 : ℝ) ^ (x * (Real.log 2)⁻¹) = _
  rw [Real.rpow_def_of_pos (by norm_num)]
  congr 1
  field_simp

/-! ## The gradient of the softmax -/

/-- The gradient of the softmax as the quotient rule writes it, with the denominator `l` and its square. -/
theorem softmax_grad {n : ℕ} (e dp : Fin n → ℝ) (l : ℝ) (hl : l ≠ 0) (k : Fin n) :
    (dp k / l + -∑ j, dp j * (1 / (l * l)) * e j) * e k = e k / l * (dp k - ∑ j, e j / l * dp j) := by
  have h : (∑ j, dp j * (1 / (l * l)) * e j) = (∑ j, e j / l * dp j) / l := by
    rw [Finset.sum_div]
    exact Finset.sum_congr rfl fun j _ => by field_simp
  rw [h]
  field_simp
  ring

/-! ## The lanes of a head -/

/-- Rotary lane `(a, b, c)` among the 128 lanes of a padded head. -/
def lane (a b : Fin 2) (c : Fin 8) : Fin 128 := ⟨64 + 16 * a + 8 * b + c, by omega⟩

/-- A lane is plain, rotary, or padding. -/
theorem lane_cases (l : Fin 128) :
    (∃ d : Fin 64, l = ⟨d, by omega⟩) ∨ (∃ a b c, l = lane a b c) ∨ ∃ e : Fin 32, l = ⟨96 + e, by omega⟩ := by
  rcases Nat.lt_or_ge l 64 with h | h
  · exact .inl ⟨⟨l, h⟩, rfl⟩
  rcases Nat.lt_or_ge l 96 with h' | h'
  · refine .inr (.inl ⟨⟨(l - 64) / 16, by omega⟩, ⟨(l - 64) / 8 % 2, by omega⟩, ⟨l % 8, by omega⟩, Fin.ext ?_⟩)
    show (l : ℕ) = 64 + 16 * ((l - 64) / 16) + 8 * ((l - 64) / 8 % 2) + l % 8
    omega
  · exact .inr (.inr ⟨⟨l - 96, by omega⟩, Fin.ext (by show (l : ℕ) = 96 + (l - 96); omega)⟩)

section
variable (x0 : Fin 2048 → Fin 768 → ℝ) (x1 : Fin 2304 → Fin 1024 → ℝ) (x2 : Fin 2304 → Fin 32 → ℝ)
  (x3 : Fin 2048 → Fin 16 → ℝ) (x4 : Fin 2048 → Fin 512 → ℝ)

/-- The query's gradient on a plain lane. -/
theorem dQ_plain (t : Fin 2048) (h : Fin 8) (d : Fin 64) :
    dQ x0 x1 x2 x3 x4 t h ⟨d, by omega⟩ = ∑ k, DS x0 x1 x2 x3 x4 t h k * KV x1 k h ⟨d, by omega⟩ := dif_pos d.isLt

/-- The query's gradient on a rotary lane. -/
theorem dQ_lane (t : Fin 2048) (h : Fin 8) (a b : Fin 2) (c : Fin 8) :
    dQ x0 x1 x2 x3 x4 t h (lane a b c)
      = unrot (fun a b c => ∑ k, DS x0 x1 x2 x3 x4 t h k * kro x2 x3 k a b c) (cs x3 (up t)) (sn x3 (up t)) a b c := by
  unfold dQ
  rw [dif_neg (by show ¬ 64 + 16 * (a : ℕ) + 8 * b + c < 64; omega), if_pos (by show 64 + 16 * (a : ℕ) + 8 * b + c < 96; omega)]
  congr 1
  · exact Fin.ext (by show (64 + 16 * (a : ℕ) + 8 * b + c - 64) / 16 % 2 = a; omega)
  · exact Fin.ext (by show (64 + 16 * (a : ℕ) + 8 * b + c) / 8 % 2 = b; omega)
  · exact Fin.ext (by show (64 + 16 * (a : ℕ) + 8 * b + c) % 8 = c; omega)

/-- The query's gradient on the padding. -/
theorem dQ_pad (t : Fin 2048) (h : Fin 8) (e : Fin 32) : dQ x0 x1 x2 x3 x4 t h ⟨96 + e, by omega⟩ = 0 := by
  unfold dQ
  rw [dif_neg (by show ¬ 96 + (e : ℕ) < 64; omega), if_neg (by show ¬ 96 + (e : ℕ) < 96; omega)]

/-- The shared key's gradient on a rotary lane. -/
theorem dKR_lane (k : Fin 2304) (a b : Fin 2) (c : Fin 8) :
    dKR x0 x1 x2 x3 x4 k (lane a b c)
      = unrot (fun a b c => ∑ h, dKro x0 x1 x2 x3 x4 k h a b c) (cs x3 k) (sn x3 k) a b c := by
  unfold dKR
  rw [if_pos (by show 64 ≤ 64 + 16 * (a : ℕ) + 8 * b + c ∧ 64 + 16 * (a : ℕ) + 8 * b + c < 96; omega)]
  congr 1
  · exact Fin.ext (by show (64 + 16 * (a : ℕ) + 8 * b + c - 64) / 16 % 2 = a; omega)
  · exact Fin.ext (by show (64 + 16 * (a : ℕ) + 8 * b + c) / 8 % 2 = b; omega)
  · exact Fin.ext (by show (64 + 16 * (a : ℕ) + 8 * b + c) % 8 = c; omega)

/-- The shared key's gradient below the rotary lanes. -/
theorem dKR_plain (k : Fin 2304) (d : Fin 64) : dKR x0 x1 x2 x3 x4 k ⟨d, by omega⟩ = 0 := by
  unfold dKR
  rw [if_neg (by show ¬ (64 ≤ (d : ℕ) ∧ (d : ℕ) < 96); omega)]

/-- The shared key's gradient above the rotary lanes. -/
theorem dKR_pad (k : Fin 2304) (e : Fin 32) : dKR x0 x1 x2 x3 x4 k ⟨96 + e, by omega⟩ = 0 := by
  unfold dKR
  rw [if_neg (by show ¬ (64 ≤ 96 + (e : ℕ) ∧ 96 + (e : ℕ) < 96); omega)]

end

end Cert.Attn
-- ==== Proof.Lanes.lean ====
/-
  The 128 lanes of a padded head: how the plain lanes, the rotary lanes and the padding lie in them, and the rotary
  embedding written with two rotations of the lanes and three rows of a table.
-/
module

public import proofs.«01_k».proof.Proof.Spec

@[expose] public section

noncomputable section

namespace Cert.Attn

/-- A head laid out in 128 lanes: 64 plain lanes, 32 rotary lanes, 32 zeros. -/
def pack (p : Fin 64 → ℝ) (r : Fin 2 → Fin 2 → Fin 8 → ℝ) (l : Fin 128) : ℝ :=
  if h : (l : ℕ) < 64 then p ⟨l, h⟩
  else if (l : ℕ) < 96 then r ⟨(l - 64) / 16 % 2, by omega⟩ ⟨l / 8 % 2, by omega⟩ ⟨l % 8, by omega⟩ else 0

/-- A head whose upper 64 lanes hold `f` and whose lower 64 lanes hold one number. -/
def upper (z : ℝ) (f : Fin 64 → ℝ) (l : Fin 128) : ℝ := if h : (l : ℕ) < 64 then z else f ⟨l - 64, by omega⟩

theorem pack_plain (p : Fin 64 → ℝ) (r : Fin 2 → Fin 2 → Fin 8 → ℝ) (d : Fin 64) : pack p r ⟨d, by omega⟩ = p d :=
  dif_pos d.isLt

theorem pack_lane (p : Fin 64 → ℝ) (r : Fin 2 → Fin 2 → Fin 8 → ℝ) (a b : Fin 2) (c : Fin 8) :
    pack p r (lane a b c) = r a b c := by
  unfold pack
  rw [dif_neg (by show ¬ 64 + 16 * (a : ℕ) + 8 * b + c < 64; omega), if_pos (by show 64 + 16 * (a : ℕ) + 8 * b + c < 96; omega)]
  congr 1
  · exact Fin.ext (by show (64 + 16 * (a : ℕ) + 8 * b + c - 64) / 16 % 2 = a; omega)
  · exact Fin.ext (by show (64 + 16 * (a : ℕ) + 8 * b + c) / 8 % 2 = b; omega)
  · exact Fin.ext (by show (64 + 16 * (a : ℕ) + 8 * b + c) % 8 = c; omega)

theorem pack_pad (p : Fin 64 → ℝ) (r : Fin 2 → Fin 2 → Fin 8 → ℝ) (e : Fin 32) : pack p r ⟨96 + e, by omega⟩ = 0 := by
  unfold pack
  rw [dif_neg (by show ¬ 96 + (e : ℕ) < 64; omega), if_neg (by show ¬ 96 + (e : ℕ) < 96; omega)]

/-- A sum of products over the lanes of two padded heads. -/
theorem sum_pack (p p' : Fin 64 → ℝ) (r r' : Fin 2 → Fin 2 → Fin 8 → ℝ) :
    ∑ l, pack p r l * pack p' r' l = (∑ d, p d * p' d) + ∑ a : Fin 2, ∑ b : Fin 2, ∑ c : Fin 8, r a b c * r' a b c := by
  rw [sum_lanes]
  have h1 : ∀ d : Fin 64, pack p r ⟨d, by omega⟩ * pack p' r' ⟨d, by omega⟩ = p d * p' d := fun d => by
    rw [pack_plain, pack_plain]
  have h2 : ∀ (a b : Fin 2) (c : Fin 8), pack p r ⟨64 + 16 * a + 8 * b + c, by omega⟩ * pack p' r' ⟨64 + 16 * a + 8 * b + c, by omega⟩
      = r a b c * r' a b c := fun a b c => by
    have := pack_lane p r a b c
    have := pack_lane p' r' a b c
    unfold lane at *
    simp_all
  have h3 : ∀ e : Fin 32, pack p r ⟨96 + e, by omega⟩ * pack p' r' ⟨96 + e, by omega⟩ = 0 := fun e => by
    rw [pack_pad, zero_mul]
  simp only [h1, h2, h3, Finset.sum_const_zero, add_zero]

/-- A sum of products over the lanes of two heads that hold values in their upper lanes. -/
theorem sum_upper (z : ℝ) (f g : Fin 64 → ℝ) : ∑ l, upper 0 f l * upper z g l = ∑ d, f d * g d := by
  have h := Fin.sum_univ_add (a := 64) (b := 64) fun l : Fin 128 => upper 0 f l * upper z g l
  refine h.trans ?_
  have h1 : ∀ i : Fin 64, upper 0 f (Fin.castAdd 64 i) * upper z g (Fin.castAdd 64 i) = 0 := fun i => by
    unfold upper
    rw [dif_pos (by exact i.isLt), zero_mul]
  have h2 : ∀ i : Fin 64, upper 0 f (Fin.natAdd 64 i) * upper z g (Fin.natAdd 64 i) = f i * g i := fun i => by
    unfold upper
    rw [dif_neg (by simp), dif_neg (by simp)]
    congr 2 <;> exact Fin.ext (by simp)
  rw [Finset.sum_congr rfl fun i _ => h1 i, Finset.sum_congr rfl fun i _ => h2 i]
  simp

/-- A weighted sum of padded heads is the padded head of the weighted sums. -/
theorem sum_mul_pack {n : ℕ} (w : Fin n → ℝ) (p : Fin n → Fin 64 → ℝ) (r : Fin n → Fin 2 → Fin 2 → Fin 8 → ℝ) (l : Fin 128) :
    ∑ k, w k * pack (p k) (r k) l = pack (fun d => ∑ k, w k * p k d) (fun a b c => ∑ k, w k * r k a b c) l := by
  unfold pack
  by_cases h : (l : ℕ) < 64
  · simp only [dif_pos h]
  · by_cases h' : (l : ℕ) < 96
    · simp only [dif_neg h, if_pos h']
    · simp only [dif_neg h, if_neg h', mul_zero, Finset.sum_const_zero]

/-! ## The table's rows -/

/-- The cosine row of the table: 1 outside the rotary lanes. -/
def tC (C : Fin 2 → Fin 8 → ℝ) (l : Fin 128) : ℝ :=
  if 64 ≤ (l : ℕ) ∧ (l : ℕ) < 96 then C ⟨(l - 64) / 16 % 2, by omega⟩ ⟨l % 8, by omega⟩ else 1

/-- The row that multiplies the lane 8 above: minus the sine on the first of a pair. -/
def tLo (S : Fin 2 → Fin 8 → ℝ) (l : Fin 128) : ℝ :=
  if (64 ≤ (l : ℕ) ∧ (l : ℕ) < 96) ∧ (l : ℕ) / 8 % 2 = 0 then -S ⟨(l - 64) / 16 % 2, by omega⟩ ⟨l % 8, by omega⟩ else 0

/-- The row that multiplies the lane 8 below: the sine on the second of a pair. -/
def tHi (S : Fin 2 → Fin 8 → ℝ) (l : Fin 128) : ℝ :=
  if (64 ≤ (l : ℕ) ∧ (l : ℕ) < 96) ∧ (l : ℕ) / 8 % 2 = 1 then S ⟨(l - 64) / 16 % 2, by omega⟩ ⟨l % 8, by omega⟩ else 0

/-- The rotary embedding as the kernels compute it: a lane, the lane 8 above and the lane 8 below, each times a row of
    the table. -/
def rope (x c lo hi : Fin 128 → ℝ) (l : Fin 128) : ℝ :=
  x l * c l + x ⟨(l + 8) % 128, by omega⟩ * lo l + x ⟨(l + 120) % 128, by omega⟩ * hi l

/-- On a padded head it is the rotation of the rotary lanes. -/
theorem rope_pack (p : Fin 64 → ℝ) (r : Fin 2 → Fin 2 → Fin 8 → ℝ) (C S : Fin 2 → Fin 8 → ℝ) (l : Fin 128) :
    rope (pack p r) (tC C) (tLo S) (tHi S) l = pack p (rot r C S) l := by
  rcases lane_cases l with ⟨d, rfl⟩ | ⟨a, b, c, rfl⟩ | ⟨e, rfl⟩
  · rw [pack_plain]
    unfold rope tC tLo tHi
    rw [if_neg (by dsimp only; omega), if_neg (by dsimp only; omega), if_neg (by dsimp only; omega), pack_plain]
    ring
  · rw [pack_lane]
    unfold rope
    rw [pack_lane]
    have ea : (⟨((lane a b c : Fin 128) - 64 : ℕ) / 16 % 2, by omega⟩ : Fin 2) = a :=
      Fin.ext (by show (64 + 16 * (a : ℕ) + 8 * b + c - 64) / 16 % 2 = a; omega)
    have ec : (⟨(lane a b c : Fin 128) % 8, by omega⟩ : Fin 8) = c :=
      Fin.ext (by show (64 + 16 * (a : ℕ) + 8 * b + c) % 8 = c; omega)
    have hin : 64 ≤ ((lane a b c : Fin 128) : ℕ) ∧ ((lane a b c : Fin 128) : ℕ) < 96 := by
      show 64 ≤ 64 + 16 * (a : ℕ) + 8 * b + c ∧ 64 + 16 * (a : ℕ) + 8 * b + c < 96
      omega
    have hb : ((lane a b c : Fin 128) : ℕ) / 8 % 2 = b := by
      show (64 + 16 * (a : ℕ) + 8 * b + c) / 8 % 2 = b
      omega
    unfold tC tLo tHi rot
    rw [if_pos hin, ea, ec, hb]
    rcases (by omega : b = 0 ∨ b = 1) with h | h
    · subst h
      have e8 : (⟨((lane a 0 c : Fin 128) + 8 : ℕ) % 128, by omega⟩ : Fin 128) = lane a 1 c :=
        Fin.ext (by show (64 + 16 * (a : ℕ) + 8 * 0 + c + 8) % 128 = 64 + 16 * a + 8 * 1 + c; omega)
      rw [if_pos ⟨hin, rfl⟩, if_neg (by simp), if_pos rfl, e8, pack_lane]
      ring
    · subst h
      have e8 : (⟨((lane a 1 c : Fin 128) + 120 : ℕ) % 128, by omega⟩ : Fin 128) = lane a 0 c :=
        Fin.ext (by show (64 + 16 * (a : ℕ) + 8 * 1 + c + 120) % 128 = 64 + 16 * a + 8 * 0 + c; omega)
      rw [if_neg (by simp), if_pos ⟨hin, rfl⟩, if_neg (by decide), e8, pack_lane]
      ring
  · rw [pack_pad]
    unfold rope tC tLo tHi
    rw [if_neg (by dsimp only; omega), if_neg (by dsimp only; omega), if_neg (by dsimp only; omega), pack_pad]
    ring

/-- Rotating by the negated sine is the rotation backward. -/
theorem rot_neg (r : Fin 2 → Fin 2 → Fin 8 → ℝ) (C S : Fin 2 → Fin 8 → ℝ) :
    rot r C (fun a c => -S a c) = unrot r C S := by
  funext a b c
  unfold rot unrot
  by_cases h : b = 0
  · rw [if_pos h, if_pos h]; ring
  · rw [if_neg h, if_neg h]; ring

/-- With the negated sines it is the rotation backward. -/
theorem rope_neg_pack (p : Fin 64 → ℝ) (r : Fin 2 → Fin 2 → Fin 8 → ℝ) (C S : Fin 2 → Fin 8 → ℝ) (l : Fin 128) :
    rope (pack p r) (tC C) (tLo fun a c => -S a c) (tHi fun a c => -S a c) l = pack p (unrot r C S) l := by
  rw [rope_pack, rot_neg]

/-- It is additive in the head. -/
theorem rope_add (x y c lo hi : Fin 128 → ℝ) (l : Fin 128) :
    rope x c lo hi l + rope y c lo hi l = rope (fun l => x l + y l) c lo hi l := by
  unfold rope
  ring

section
variable (x0 : Fin 2048 → Fin 768 → ℝ) (x1 : Fin 2304 → Fin 1024 → ℝ) (x2 : Fin 2304 → Fin 32 → ℝ)
  (x3 : Fin 2048 → Fin 16 → ℝ) (x4 : Fin 2048 → Fin 512 → ℝ)

/-- A query head before the rotary embedding, in its 128 lanes. -/
def Q0 (t : Fin 2048) (h : Fin 8) : Fin 128 → ℝ :=
  pack (fun d => Q x0 t h ⟨d, by omega⟩) fun a b c => Q x0 t h ⟨64 + 16 * a + 8 * b + c, by omega⟩

/-- A query head in its 128 lanes. -/
def Qf (t : Fin 2048) (h : Fin 8) : Fin 128 → ℝ := pack (fun d => Q x0 t h ⟨d, by omega⟩) (qro x0 x3 t h)

/-- A key head in its 128 lanes. -/
def Kf (k : Fin 2304) (h : Fin 8) : Fin 128 → ℝ := pack (fun d => KV x1 k h ⟨d, by omega⟩) (kro x2 x3 k)

/-- The shared key lanes before the rotary embedding, in 128 lanes. -/
def K0 (k : Fin 2304) : Fin 128 → ℝ := pack (fun _ => 0) fun a b c => x2 k ⟨16 * a + 8 * b + c, by omega⟩

/-- A value head in its upper lanes. -/
def Vf (k : Fin 2304) (h : Fin 8) : Fin 128 → ℝ := upper 0 fun d => KV x1 k h ⟨64 + d, by omega⟩

/-- A head of the output's cotangent in its upper lanes. -/
def Df (t : Fin 2048) (h : Fin 8) : Fin 128 → ℝ := upper 0 fun d => CT x4 t h d

/-- What the forward pass saves of a head: the logarithm of the softmax's denominator, and the output above it. -/
def Of (t : Fin 2048) (h : Fin 8) : Fin 128 → ℝ :=
  upper (Real.log (Z x0 x1 x2 x3 t h)) fun d => O x0 x1 x2 x3 t h d

/-- The query's rotary embedding on the table's rows. -/
theorem rope_Q0 (t : Fin 2048) (h : Fin 8) (l : Fin 128) :
    rope (Q0 x0 t h) (tC (cs x3 (up t))) (tLo (sn x3 (up t))) (tHi (sn x3 (up t))) l = Qf x0 x3 t h l := rope_pack _ _ _ _ _

/-- The key's rotary embedding on the table's rows: the key lanes 64 and up. -/
theorem rope_K0 (k : Fin 2304) (h : Fin 8) (l : Fin 128) :
    (if hl : (l : ℕ) < 64 then KV x1 k h ⟨l, by omega⟩ else rope (K0 x2 k) (tC (cs x3 k)) (tLo (sn x3 k)) (tHi (sn x3 k)) l)
      = Kf x1 x2 x3 k h l := by
  unfold K0
  rw [rope_pack]
  unfold Kf pack kro
  by_cases hl : (l : ℕ) < 64
  · rw [dif_pos hl, dif_pos hl]
  · rw [dif_neg hl, dif_neg hl, dif_neg hl]

/-- The product of a query head with a key head. -/
theorem sum_raw (t : Fin 2048) (h : Fin 8) (k : Fin 2304) :
    ∑ l, Qf x0 x3 t h l * Kf x1 x2 x3 k h l = raw x0 x1 x2 x3 t h k := sum_pack _ _ _ _

/-- The product of a head of the cotangent with a value head. -/
theorem sum_DP (t : Fin 2048) (h : Fin 8) (k : Fin 2304) : ∑ l, Df x4 t h l * Vf x1 k h l = DP x1 x4 t h k :=
  sum_upper _ _ _

/-- The row sum of the softmax's backward pass, read off the saved output. -/
theorem sum_dd (t : Fin 2048) (h : Fin 8) :
    ∑ l, Df x4 t h l * Of x0 x1 x2 x3 t h l = ∑ k, P x0 x1 x2 x3 t h k * DP x1 x4 t h k := by
  refine (sum_upper _ _ _).trans ?_
  unfold O DP
  simp only [Finset.mul_sum]
  rw [Finset.sum_comm]
  exact Finset.sum_congr rfl fun k _ => Finset.sum_congr rfl fun d _ => by ring

/-- The softmax from the saved logarithm, as a power of two. -/
theorem pow_P (t : Fin 2048) (h : Fin 8) (k : Fin 2304) :
    Real.rpow 2 (raw x0 x1 x2 x3 t h k * ((Real.sqrt 96)⁻¹ * (Real.log 2)⁻¹) - Real.log (Z x0 x1 x2 x3 t h) * (Real.log 2)⁻¹)
      = P x0 x1 x2 x3 t h k := by
  have e : raw x0 x1 x2 x3 t h k * ((Real.sqrt 96)⁻¹ * (Real.log 2)⁻¹) - Real.log (Z x0 x1 x2 x3 t h) * (Real.log 2)⁻¹
      = (sc x0 x1 x2 x3 t h k - Real.log (Z x0 x1 x2 x3 t h)) * (Real.log 2)⁻¹ := by
    rw [sc, div_eq_mul_inv]
    ring
  rw [e, rpow_two, Real.exp_sub, Real.exp_log (Z_pos x0 x1 x2 x3 t h)]
  rfl

/-- The cotangent of the score as the kernel computes it. -/
theorem mul_DS (t : Fin 2048) (h : Fin 8) (k : Fin 2304) :
    P x0 x1 x2 x3 t h k * (DP x1 x4 t h k - ∑ j, P x0 x1 x2 x3 t h j * DP x1 x4 t h j) * (Real.sqrt 96)⁻¹
      = DS x0 x1 x2 x3 x4 t h k := (div_eq_mul_inv _ _).symm

/-- The query's gradient: the weighted sum of the keys, rotated back. -/
theorem rope_dQ (t : Fin 2048) (h : Fin 8) (l : Fin 128) :
    rope (fun l => ∑ k, DS x0 x1 x2 x3 x4 t h k * Kf x1 x2 x3 k h l) (tC (cs x3 (up t))) (tLo fun a c => -sn x3 (up t) a c)
        (tHi fun a c => -sn x3 (up t) a c) l
      = dQ x0 x1 x2 x3 x4 t h l := by
  have e : (fun l => ∑ k, DS x0 x1 x2 x3 x4 t h k * Kf x1 x2 x3 k h l)
      = pack (fun d => ∑ k, DS x0 x1 x2 x3 x4 t h k * KV x1 k h ⟨d, by omega⟩)
          fun a b c => ∑ k, DS x0 x1 x2 x3 x4 t h k * kro x2 x3 k a b c := funext fun l => sum_mul_pack _ _ _ _
  rw [e, rope_neg_pack]
  rfl

/-- The latent row's gradient: its key lanes, then its value lanes. -/
theorem sel_dKV (k : Fin 2304) (h : Fin 8) (l : Fin 128) :
    (if (l : ℕ) < 64 then ∑ t, Qf x0 x3 t h l * DS x0 x1 x2 x3 x4 t h k else ∑ t, Df x4 t h l * P x0 x1 x2 x3 t h k)
      = dKV x0 x1 x2 x3 x4 k h l := by
  unfold dKV
  by_cases hl : (l : ℕ) < 64
  · rw [if_pos hl, dif_pos hl]
    exact Finset.sum_congr rfl fun t _ => by rw [Qf, pack, dif_pos hl, mul_comm]
  · rw [if_neg hl, dif_neg hl]
    exact Finset.sum_congr rfl fun t _ => by rw [Df, upper, dif_neg hl, mul_comm]

/-- One head's gradient of the rotated key lanes, in its lanes. -/
def dKl (k : Fin 2304) (h : Fin 8) (l : Fin 128) : ℝ :=
  if 64 ≤ (l : ℕ) ∧ (l : ℕ) < 96 then ∑ t, Qf x0 x3 t h l * DS x0 x1 x2 x3 x4 t h k else 0

/-- The heads' gradients of the rotated key lanes, summed and rotated back. -/
theorem rope_dKR (k : Fin 2304) (l : Fin 128) :
    rope (fun l => ∑ h, dKl x0 x1 x2 x3 x4 k h l) (tC (cs x3 k)) (tLo fun a c => -sn x3 k a c) (tHi fun a c => -sn x3 k a c) l
      = dKR x0 x1 x2 x3 x4 k l := by
  have e : (fun l => ∑ h, dKl x0 x1 x2 x3 x4 k h l)
      = pack (fun _ => 0) fun a b c => ∑ h, dKro x0 x1 x2 x3 x4 k h a b c := by
    funext l
    unfold dKl pack
    by_cases h : (l : ℕ) < 64
    · rw [dif_pos h]
      exact Finset.sum_eq_zero fun i _ => if_neg (by omega)
    · rw [dif_neg h]
      by_cases h' : (l : ℕ) < 96
      · rw [if_pos h']
        refine Finset.sum_congr rfl fun i _ => ?_
        rw [if_pos (by omega)]
        unfold dKro
        exact Finset.sum_congr rfl fun t _ => by rw [Qf, pack, dif_neg h, if_pos h', mul_comm]
      · rw [if_neg h']
        exact Finset.sum_eq_zero fun i _ => if_neg (by omega)
  rw [e, rope_neg_pack]
  unfold pack dKR
  by_cases h : (l : ℕ) < 64
  · rw [dif_pos h, if_neg (by omega)]
  · rw [dif_neg h]
    by_cases h' : (l : ℕ) < 96
    · rw [if_pos h', if_pos (by omega)]
    · rw [if_neg h', if_neg (by omega)]

end

/-! ## Sums taken tile by tile -/

/-- A sum over the rows below `512 * (i + 1)` is the sum below `512 * i` and the sum over tile `i`. -/
theorem sum_tile (f : Fin 2048 → ℝ) (i : ℕ) (hi : i < 4) :
    (∑ t : Fin 2048, if (t : ℕ) < 512 * (i + 1) then f t else 0)
      = (∑ t : Fin 2048, if (t : ℕ) < 512 * i then f t else 0) + ∑ r : Fin 512, f ⟨512 * i + r, by omega⟩ := by
  have h : ∑ r : Fin 512, f ⟨512 * i + r, by omega⟩
      = ∑ t : Fin 2048, if 512 * i ≤ (t : ℕ) ∧ (t : ℕ) < 512 * (i + 1) then f t else 0 := by
    rw [← Finset.sum_filter]
    refine Finset.sum_bij (fun r _ => (⟨512 * i + r, by omega⟩ : Fin 2048)) ?_ ?_ ?_ ?_
    · intro r _
      simp only [Finset.mem_filter, Finset.mem_univ, true_and]
      omega
    · intro r _ r' _ e
      have := congrArg Fin.val e
      exact Fin.ext (by dsimp only at this; omega)
    · intro t ht
      simp only [Finset.mem_filter, Finset.mem_univ, true_and] at ht
      exact ⟨⟨t - 512 * i, by omega⟩, Finset.mem_univ _, Fin.ext (by show 512 * i + (t - 512 * i) = (t : ℕ); omega)⟩
    · intro r _
      rfl
  rw [h, ← Finset.sum_add_distrib]
  refine Finset.sum_congr rfl fun t _ => ?_
  by_cases h1 : (t : ℕ) < 512 * i
  · rw [if_pos h1, if_pos (by omega), if_neg (by omega), add_zero]
  · by_cases h2 : (t : ℕ) < 512 * (i + 1)
    · rw [if_pos h2, if_neg h1, if_pos (by omega), zero_add]
    · rw [if_neg h2, if_neg h1, if_neg (by omega), add_zero]

/-- A sum over the heads below `2 * (g + 1)` is the sum below `2 * g` and the two heads of group `g`. -/
theorem sum_group (f : Fin 8 → ℝ) (g : ℕ) (hg : g < 4) :
    (∑ h : Fin 8, if (h : ℕ) < 2 * (g + 1) then f h else 0)
      = (∑ h : Fin 8, if (h : ℕ) < 2 * g then f h else 0) + (f ⟨2 * g, by omega⟩ + f ⟨2 * g + 1, by omega⟩) := by
  have h4 : g = 0 ∨ g = 1 ∨ g = 2 ∨ g = 3 := by omega
  rcases h4 with rfl | rfl | rfl | rfl <;> simp [Fin.sum_univ_succ] <;> ring_nf <;> rfl

end Cert.Attn
-- ==== Proof.KPay.lean ====
/-
  The backward kernel's stored values at an entry, from blocks whose entries are known reals.
-/
module

public import proofs.«01_k».proof.Proof.Gen.KernelIdeal.Value
public import proofs.«01_k».proof.Proof.Lanes
public import Idealize.ShloMosaic.Lib.Pipeline.ValueKit

@[expose] public section

set_option maxRecDepth 16384

noncomputable section

namespace Cert.KernelIdeal.Point

open Cert.KernelIdeal Cert.KernelIdeal.Gen Cert.KernelIdeal.Value Idealize.ShloMosaic Idealize.ShloMosaic.TcCoe Idealize.SL.Sem
open Idealize.ShloMosaic.Pipeline (Dat)
open Cert.Attn

/-! ## Words -/

/-- The lane test `l < 64` as a selection. -/
theorem sel_lt64 {α : Type} (l : Fin 128) (x y : α) :
    Scalar.select (IntOp.cmpi .slt (BitVec.ofNat 32 (l : ℕ)) 64#32) x y = if (l : ℕ) < 64 then x else y := by
  have h : ∀ l : Fin 128, IntOp.cmpi .slt (BitVec.ofNat 32 (l : ℕ)) 64#32 = if (l : ℕ) < 64 then 1#1 else 0#1 := by decide +kernel
  rw [h]
  by_cases hl : (l : ℕ) < 64
  · rw [if_pos hl, if_pos hl]; rfl
  · rw [if_neg hl, if_neg hl]; rfl

/-- The lane test `64 ≤ l` as a selection. -/
theorem sel_ge64 {α : Type} (l : Fin 128) (x y : α) :
    Scalar.select (IntOp.cmpi .sge (BitVec.ofNat 32 (l : ℕ)) 64#32) x y = if (l : ℕ) < 64 then y else x := by
  have h : ∀ l : Fin 128, IntOp.cmpi .sge (BitVec.ofNat 32 (l : ℕ)) 64#32 = if (l : ℕ) < 64 then 0#1 else 1#1 := by decide +kernel
  rw [h]
  by_cases hl : (l : ℕ) < 64
  · rw [if_pos hl, if_pos hl]; rfl
  · rw [if_neg hl, if_neg hl]; rfl

/-- The test for the rotary lanes as a selection. -/
theorem sel_rotary {α : Type} (l : Fin 128) (x y : α) :
    Scalar.select (IntOp.andi (IntOp.cmpi .sge (BitVec.ofNat 32 (l : ℕ)) 64#32) (IntOp.cmpi .slt (BitVec.ofNat 32 (l : ℕ)) 96#32)) x y
      = if 64 ≤ (l : ℕ) ∧ (l : ℕ) < 96 then x else y := by
  have h : ∀ l : Fin 128, IntOp.andi (IntOp.cmpi .sge (BitVec.ofNat 32 (l : ℕ)) 64#32) (IntOp.cmpi .slt (BitVec.ofNat 32 (l : ℕ)) 96#32)
      = if 64 ≤ (l : ℕ) ∧ (l : ℕ) < 96 then 1#1 else 0#1 := by decide +kernel
  rw [h]
  by_cases hl : 64 ≤ (l : ℕ) ∧ (l : ℕ) < 96
  · rw [if_pos hl, if_pos hl]; rfl
  · rw [if_neg hl, if_neg hl]; rfl

/-- A lane and the lanes 8 above and below, each times a row of the table. -/
theorem rope_coe (x c lo hi : Fin 128 → ℝ) (l : Fin 128) :
    (x l : EReal) * (c l : EReal) + (x ⟨((l : ℕ) + 128 - 120) % 128, by omega⟩ : EReal) * (lo l : EReal)
        + (x ⟨((l : ℕ) + 128 - 8) % 128, by omega⟩ : EReal) * (hi l : EReal)
      = ((rope x c lo hi l : ℝ) : EReal) := by
  have e1 : (⟨((l : ℕ) + 128 - 120) % 128, by omega⟩ : Fin 128) = ⟨((l : ℕ) + 8) % 128, by omega⟩ := Fin.ext (by dsimp only; omega)
  have e2 : (⟨((l : ℕ) + 128 - 8) % 128, by omega⟩ : Fin 128) = ⟨((l : ℕ) + 120) % 128, by omega⟩ := Fin.ext (by dsimp only; omega)
  rw [e1, e2, rope]
  simp only [EReal.coe_add, EReal.coe_mul]

/-! ## The stored values -/

/-- The query after its rotary embedding. -/
theorem pay17_real (X : Vec Ideal S512x768 .f32) (v : Vec Ideal S512x128 .f32) (x c lo hi : Fin 512 → Fin 128 → ℝ)
    (hv : ∀ r l, v (ix2 r l) = (x r l : EReal))
    (hc : ∀ (r : Fin 512) (l : Fin 128), X (ix2 r ⟨l, by omega⟩) = (c r l : EReal))
    (hlo : ∀ (r : Fin 512) (l : Fin 128), X (ix2 r ⟨128 + l, by omega⟩) = (lo r l : EReal))
    (hhi : ∀ (r : Fin 512) (l : Fin 128), X (ix2 r ⟨256 + l, by omega⟩) = (hi r l : EReal)) (r : Fin 512) (l : Fin 128) :
    k0_pay17 X v (ix2 r l) = ((rope (x r) (c r) (lo r) (hi r) l : ℝ) : EReal) := by
  pointwise [k0_pay17, k0_pay16]
  rw [hv, hv, hv, hc, hlo, hhi]
  exact rope_coe _ _ _ _ _

/-- The softmax of a tile, as a power of two of the scores and the saved logarithm. -/
theorem pay22_real (X : Vec Ideal S512x768 .f32) (v : Vec Ideal S512x128 .f32) (w : Vec Ideal S1x2304x128 .bf16)
    (o : Vec Ideal S512x128 .f32) (x : Fin 512 → Fin 128 → ℝ) (y : Fin 2304 → Fin 128 → ℝ) (z : Fin 512 → ℝ)
    (hq : ∀ r l, k0_pay17 X v (ix2 r l) = (x r l : EReal)) (hw : ∀ k l, w (ix3 (0 : Fin 1) k l) = (y k l : EReal))
    (ho : ∀ r, o (ix2 r (0 : Fin 128)) = (z r : EReal)) (r : Fin 512) (k : Fin 2304) :
    k0_pay22 X v w o (ix2 r k)
      = ((Real.rpow 2 ((∑ l, x r l * y k l) * ((Real.sqrt 96)⁻¹ * (Real.log 2)⁻¹) - z r * (Real.log 2)⁻¹) : ℝ) : EReal) := by
  have h1 : Named.named (F := Ideal) (φ := .f32) κ "scale_log2e" 0x3E16C740#32 = (((Real.sqrt 96)⁻¹ * (Real.log 2)⁻¹ : ℝ) : EReal) :=
    IdealRules.named_const.ideal_named_scalar _ _ _ _ rfl
  have h2 : Named.named (F := Ideal) (φ := .f32) κ "log2e" 0x3FB8AA3B#32 = (((Real.log 2)⁻¹ : ℝ) : EReal) :=
    IdealRules.named_const.ideal_named_scalar _ _ _ _ rfl
  unfold k0_pay22
  generalize k0_pay17 X v = q at hq ⊢
  pointwise [k0_pay18, k0_pay21]
  rw [h1, h2, ho]
  simp only [hq, hw, ← EReal.coe_mul, ← coe_sum]
  rw [← EReal.coe_sub]
  exact Ideal.exp2_coe _

/-- The cotangent of the scores of a tile. -/
theorem pay24_real (v : FVec Ideal S2304x128 .bf16) (d o : FVec Ideal S512x128 .f32) (p : FVec Ideal S512x2304 .f32)
    (e : FVec Ideal S512x128 .bf16) (y : Fin 2304 → Fin 128 → ℝ) (x z : Fin 512 → Fin 128 → ℝ) (w : Fin 512 → Fin 2304 → ℝ)
    (hv : ∀ k l, v (ix2 k l) = (y k l : EReal)) (hd : ∀ r l, d (ix2 r l) = (x r l : EReal))
    (ho : ∀ r l, o (ix2 r l) = (z r l : EReal)) (hp : ∀ r k, p (ix2 r k) = (w r k : EReal))
    (he : ∀ r l, e (ix2 r l) = (x r l : EReal)) (r : Fin 512) (k : Fin 2304) :
    k0_pay24 v d o p e (ix2 r k)
      = ((w r k * ((∑ l, x r l * y k l) - ∑ l, x r l * z r l) * (Real.sqrt 96)⁻¹ : ℝ) : EReal) := by
  have h1 : Named.named (F := Ideal) (φ := .f32) κ "scale" 0x3DD105EC#32 = (((Real.sqrt 96)⁻¹ : ℝ) : EReal) :=
    IdealRules.named_const.ideal_named_scalar _ _ _ _ rfl
  pointwise [k0_pay24]
  rw [h1, hp]
  simp only [hv, hd, ho, he, ← EReal.coe_mul, ← coe_sum]
  rw [← EReal.coe_sub, ← EReal.coe_mul, ← EReal.coe_mul]

/-- The query's gradient of a tile, rotated back. -/
theorem pay25_real (T : FVec Ideal S512x768 .f32) (kk v : FVec Ideal S2304x128 .bf16) (d o : FVec Ideal S512x128 .f32)
    (p : FVec Ideal S512x2304 .f32) (e : FVec Ideal S512x128 .bf16) (u : Fin 512 → Fin 2304 → ℝ) (y : Fin 2304 → Fin 128 → ℝ)
    (c lo hi : Fin 512 → Fin 128 → ℝ) (hu : ∀ r k, k0_pay24 v d o p e (ix2 r k) = (u r k : EReal))
    (hk : ∀ k l, kk (ix2 k l) = (y k l : EReal))
    (hc : ∀ (r : Fin 512) (l : Fin 128), T (ix2 r ⟨384 + l, by omega⟩) = (c r l : EReal))
    (hlo : ∀ (r : Fin 512) (l : Fin 128), T (ix2 r ⟨512 + l, by omega⟩) = (lo r l : EReal))
    (hhi : ∀ (r : Fin 512) (l : Fin 128), T (ix2 r ⟨640 + l, by omega⟩) = (hi r l : EReal)) (r : Fin 512) (l : Fin 128) :
    k0_pay25 T kk v d o p e (ix2 r l)
      = ((rope (fun l => ∑ k, u r k * y k l) (c r) (lo r) (hi r) l : ℝ) : EReal) := by
  unfold k0_pay25
  generalize k0_pay24 v d o p e = w at hu ⊢
  pointwise
  rw [hc, hlo, hhi]
  simp only [hu, hk, ← EReal.coe_mul, ← coe_sum]
  simp only [EReal.coe_mul]
  exact rope_coe (fun l => ∑ k, u r k * y k l) _ _ _ _

/-- The key's gradient, transposed: what was there and the tile's product. -/
theorem pay26_real (q : FVec Ideal S512x128 .bf16) (v : FVec Ideal S2304x128 .bf16) (d o : FVec Ideal S512x128 .f32)
    (p : FVec Ideal S512x2304 .f32) (e : FVec Ideal S512x128 .bf16) (a : Vec Ideal S1x128x2304 .f32)
    (u : Fin 512 → Fin 2304 → ℝ) (x : Fin 512 → Fin 128 → ℝ) (b : Fin 128 → Fin 2304 → ℝ)
    (hu : ∀ r k, k0_pay24 v d o p e (ix2 r k) = (u r k : EReal)) (hq : ∀ r l, q (ix2 r l) = (x r l : EReal))
    (ha : ∀ l k, a (ix3 (0 : Fin 1) l k) = (b l k : EReal)) (l : Fin 128) (k : Fin 2304) :
    k0_pay26 q v d o p e a (ix3 (0 : Fin 1) l k) = ((b l k + ∑ r, x r l * u r k : ℝ) : EReal) := by
  unfold k0_pay26
  generalize k0_pay24 v d o p e = w at hu ⊢
  pointwise
  rw [ha]
  simp only [hu, hq, ← EReal.coe_mul, ← coe_sum]
  rw [← EReal.coe_add]

/-- The value's gradient, transposed: what was there and the tile's product. -/
theorem pay28_real (p : FVec Ideal S512x2304 .f32) (e : FVec Ideal S512x128 .bf16) (a : Vec Ideal S1x128x2304 .f32)
    (w : Fin 512 → Fin 2304 → ℝ) (x : Fin 512 → Fin 128 → ℝ) (b : Fin 128 → Fin 2304 → ℝ)
    (hp : ∀ r k, p (ix2 r k) = (w r k : EReal)) (he : ∀ r l, e (ix2 r l) = (x r l : EReal))
    (ha : ∀ l k, a (ix3 (0 : Fin 1) l k) = (b l k : EReal)) (l : Fin 128) (k : Fin 2304) :
    k0_pay28 (k0_pay27 p e a) (ix3 (0 : Fin 1) l k) = ((b l k + ∑ r, x r l * w r k : ℝ) : EReal) := by
  pointwise [k0_pay28, k0_pay27]
  rw [ha]
  simp only [hp, he, ← EReal.coe_mul, ← coe_sum]
  rw [← EReal.coe_add]

/-- The key head kept in scratch: the latent's lanes, and above them the rotated shared lanes. -/
theorem pay2_real (a : Vec Ideal S2304x128 .f32) (b : Vec Ideal S2304x768 .f32) (v : Vec Ideal S2304x128 .f32)
    (x y c lo hi : Fin 2304 → Fin 128 → ℝ)
    (ha : ∀ k l, a (ix2 k l) = (x k l : EReal)) (hv : ∀ k l, v (ix2 k l) = (y k l : EReal))
    (hc : ∀ (r : Fin 2304) (l : Fin 128), b (ix2 r ⟨l, by omega⟩) = (c r l : EReal))
    (hlo : ∀ (r : Fin 2304) (l : Fin 128), b (ix2 r ⟨128 + l, by omega⟩) = (lo r l : EReal))
    (hhi : ∀ (r : Fin 2304) (l : Fin 128), b (ix2 r ⟨256 + l, by omega⟩) = (hi r l : EReal)) (k : Fin 2304) (l : Fin 128) :
    k0_pay2 a b v (ix3 (0 : Fin 1) k l)
      = ((if (l : ℕ) < 64 then y k l else rope (x k) (c k) (lo k) (hi k) l : ℝ) : EReal) := by
  pointwise [k0_pay2, k0_pay1]
  rw [sel_lt64, ha, ha, ha, hc, hlo, hhi, hv, rope_coe]
  by_cases hl : (l : ℕ) < 64
  · rw [if_pos hl, if_pos hl]
  · rw [if_neg hl, if_neg hl]

/-- The value head kept in scratch: the latent's upper lanes. -/
theorem pay3_real (v : Vec Ideal S2304x128 .f32) (y : Fin 2304 → Fin 128 → ℝ) (hv : ∀ k l, v (ix2 k l) = (y k l : EReal))
    (k : Fin 2304) (l : Fin 128) :
    k0_pay3 v (ix3 (0 : Fin 1) k l) = ((if (l : ℕ) < 64 then 0 else y k l : ℝ) : EReal) := by
  pointwise [k0_pay3]
  rw [sel_ge64, hv]
  by_cases hl : (l : ℕ) < 64
  · rw [if_pos hl, if_pos hl]; rfl
  · rw [if_neg hl, if_neg hl]

/-- A latent row's gradient: the key's lanes, and above them the value's. -/
theorem pay6_real (a b : Vec Ideal S1x128x2304 .f32) (x y : Fin 128 → Fin 2304 → ℝ)
    (ha : ∀ l k, a (ix3 (0 : Fin 1) l k) = (x l k : EReal)) (hb : ∀ l k, b (ix3 (0 : Fin 1) l k) = (y l k : EReal))
    (k : Fin 2304) (l : Fin 128) : k0_pay6 a b (ix2 k l) = ((if (l : ℕ) < 64 then x l k else y l k : ℝ) : EReal) := by
  pointwise [k0_pay6, k0_pay5]
  rw [sel_lt64, ha, hb]
  by_cases hl : (l : ℕ) < 64
  · rw [if_pos hl, if_pos hl]
  · rw [if_neg hl, if_neg hl]

/-- The two heads' rotary lanes of the key's gradient, summed and rotated back. -/
theorem pay40_real (a b : Vec Ideal S1x128x2304 .f32) (T : Vec Ideal S2304x768 .f32) (x y : Fin 128 → Fin 2304 → ℝ)
    (c lo hi : Fin 2304 → Fin 128 → ℝ)
    (ha : ∀ l k, a (ix3 (0 : Fin 1) l k) = (x l k : EReal)) (hb : ∀ l k, b (ix3 (0 : Fin 1) l k) = (y l k : EReal))
    (hc : ∀ (r : Fin 2304) (l : Fin 128), T (ix2 r ⟨384 + l, by omega⟩) = (c r l : EReal))
    (hlo : ∀ (r : Fin 2304) (l : Fin 128), T (ix2 r ⟨512 + l, by omega⟩) = (lo r l : EReal))
    (hhi : ∀ (r : Fin 2304) (l : Fin 128), T (ix2 r ⟨640 + l, by omega⟩) = (hi r l : EReal)) (k : Fin 2304) (l : Fin 128) :
    k0_pay40 (k0_pay7 a) (k0_pay8 b) k0_pay10 k0_pay11 T (ix2 k l)
      = ((rope (fun l => (if 64 ≤ (l : ℕ) ∧ (l : ℕ) < 96 then x l k else 0) + if 64 ≤ (l : ℕ) ∧ (l : ℕ) < 96 then y l k else 0)
          (c k) (lo k) (hi k) l : ℝ) : EReal) := by
  have h7 : ∀ (k : Fin 2304) (l : Fin 128), k0_pay7 a (ix2 k l) = ((if 64 ≤ (l : ℕ) ∧ (l : ℕ) < 96 then x l k else 0 : ℝ) : EReal) := by
    intro k l
    pointwise [k0_pay7, k0_pay5]
    rw [sel_rotary, ha]
    by_cases hl : 64 ≤ (l : ℕ) ∧ (l : ℕ) < 96
    · rw [if_pos hl, if_pos hl]
    · rw [if_neg hl, if_neg hl]; rfl
  have h8 : ∀ (k : Fin 2304) (l : Fin 128), k0_pay8 b (ix2 k l) = (y l k : EReal) := by
    intro k l
    pointwise [k0_pay8]
    rw [hb]
  generalize k0_pay7 a = A at h7 ⊢
  generalize k0_pay8 b = B at h8 ⊢
  pointwise [k0_pay40, k0_pay10, k0_pay11]
  have hs : ∀ (l : Fin 128), A (ix2 k l) + Scalar.select (IntOp.andi (IntOp.cmpi .sge (BitVec.ofNat 32 (l : ℕ)) 64#32)
      (IntOp.cmpi .slt (BitVec.ofNat 32 (l : ℕ)) 96#32)) (B (ix2 k l)) 0
      = (((if 64 ≤ (l : ℕ) ∧ (l : ℕ) < 96 then x l k else 0) + if 64 ≤ (l : ℕ) ∧ (l : ℕ) < 96 then y l k else 0 : ℝ) : EReal) := by
    intro l
    rw [sel_rotary, h7, h8, EReal.coe_add]
    congr 1
    by_cases hl : 64 ≤ (l : ℕ) ∧ (l : ℕ) < 96
    · rw [if_pos hl, if_pos hl]
    · rw [if_neg hl, if_neg hl]; rfl
  rw [hc, hlo, hhi]
  have e := rope_coe (fun l => (if 64 ≤ (l : ℕ) ∧ (l : ℕ) < 96 then x l k else 0) + if 64 ≤ (l : ℕ) ∧ (l : ℕ) < 96 then y l k else 0)
    (c k) (lo k) (hi k) l
  rw [← hs, ← hs, ← hs] at e
  exact e

/-- The same added to what was there. -/
theorem pay41_real (A B : FVec Ideal S2304x128 .f32) (M N : IVec S2304x128 1) (T : Vec Ideal S2304x768 .f32)
    (s : Vec Ideal S2304x128 .f32) (k : Fin 2304) (l : Fin 128) :
    k0_pay41 A B M N T s (ix2 k l) = s (ix2 k l) + k0_pay40 A B M N T (ix2 k l) := by
  unfold k0_pay41
  generalize k0_pay40 A B M N T = w
  pointwise

/-- The second head's values are the first head's operations. -/
theorem pay29_eq (X : Vec Ideal S512x768 .f32) (v : Vec Ideal S512x128 .f32) : k0_pay29 (k0_pay16 X) v = k0_pay17 X v := rfl
theorem pay33_eq (X : Vec Ideal S512x768 .f32) (v : Vec Ideal S512x128 .f32) (w : Vec Ideal S1x2304x128 .bf16)
    (o : Vec Ideal S512x128 .f32) : k0_pay33 (k0_pay16 X) v w o = k0_pay22 X v w o := rfl
theorem pay37_eq (X : Vec Ideal S512x768 .f32) (q : Vec Ideal S512x128 .f32) (kk v : Vec Ideal S1x2304x128 .bf16)
    (d o : Vec Ideal S512x128 .f32) :
    k0_pay37 (k0_pay16 X) (k0_pay30 kk) (k0_pay35 (k0_pay16 X) q kk v d o)
      = k0_pay25 (k0_pay16 X) (k0_pay18 kk) (k0_pay19 v) (k0_pay20 d) (k0_pay21 o) (k0_pay22 X q kk o) (k0_pay23 d) := rfl
theorem pay38_eq (X : Vec Ideal S512x768 .f32) (q : Vec Ideal S512x128 .f32) (kk v : Vec Ideal S1x2304x128 .bf16)
    (d o : Vec Ideal S512x128 .f32) (a : Vec Ideal S1x128x2304 .f32) :
    k0_pay38 (k0_pay29 (k0_pay16 X) q) (k0_pay35 (k0_pay16 X) q kk v d o) a
      = k0_pay26 (k0_pay17 X q) (k0_pay19 v) (k0_pay20 d) (k0_pay21 o) (k0_pay22 X q kk o) (k0_pay23 d) a := rfl
theorem pay39_eq (X : Vec Ideal S512x768 .f32) (q : Vec Ideal S512x128 .f32) (kk : Vec Ideal S1x2304x128 .bf16)
    (d o : Vec Ideal S512x128 .f32) (a : Vec Ideal S1x128x2304 .f32) :
    k0_pay39 (k0_pay33 (k0_pay16 X) q kk o) (k0_pay34 d) a = k0_pay28 (k0_pay27 (k0_pay22 X q kk o) (k0_pay23 d) a) := rfl

end Cert.KernelIdeal.Point
-- ==== Proof.Ref2.lean ====
/-
  The forward reference `Reference2Ideal` read at an index, on arguments that are real numbers.
-/
module

public import proofs.«01_k».proof.Proof.Gen.Reference2Ideal.Read
public import Idealize.ShloMosaic.Lib.Pointwise
public import proofs.«01_k».proof.Proof.Spec

@[expose] public section

set_option maxRecDepth 16384

noncomputable section

namespace Cert.Reference2Ideal.Point

open Cert.Reference2Ideal Cert.Reference2Ideal.Gen Cert.Reference2Ideal.Read Cert.Attn Idealize.ShloMosaic Idealize.ShloMosaic.TcCoe

variable (X0 : (⟨S2048x768, .f32⟩ : BufTy).Contents (Elt Ideal)) (X1 : (⟨S2304x1024, .f32⟩ : BufTy).Contents (Elt Ideal))
  (X2 : (⟨S2304x32, .f32⟩ : BufTy).Contents (Elt Ideal)) (X3 : (⟨S2048x16, .f32⟩ : BufTy).Contents (Elt Ideal))
  (x0 : Fin 2048 → Fin 768 → ℝ) (x1 : Fin 2304 → Fin 1024 → ℝ) (x2 : Fin 2304 → Fin 32 → ℝ)
  (x3 : Fin 2048 → Fin 16 → ℝ)
  (h0 : ∀ i j, X0 (ix2 i j) = (x0 i j : EReal)) (h1 : ∀ i j, X1 (ix2 i j) = (x1 i j : EReal))
  (h2 : ∀ i j, X2 (ix2 i j) = (x2 i j : EReal)) (h3 : ∀ i j, X3 (ix2 i j) = (x3 i j : EReal))

include h0 h3 in
/-- The rotated lanes of the queries. -/
theorem v23_real (t : Fin 2048) (h : Fin 8) (a b : Fin 2) (c : Fin 8) :
    val_main_v23 (F := Ideal) X0 X3 (ix5 t h a b c) = (qro x0 x3 t h a b c : EReal) := by
  pointwise [val_main_v23, val_main_v22, val_main_v21, val_main_v20, val_main_v19, val_main_v18, val_main_v17,
    val_main_v16, val_main_v15, val_main_v14, val_main_v13, val_main_v12, val_main_v11, val_main_v10, val_main_v9,
    val_main_v8, val_main_v7, val_main_v6, val_main_v5, val_main_v4, val_main_v3, val_main_v2, val_main_v1, val_main_v0]
  obtain rfl | rfl : b = 0 ∨ b = 1 := by omega
  all_goals
    simp [h0, h3, Ideal.cos_coe, Ideal.sin_coe, qro, rot, Q, cs_up, sn_up, Nat.mul_comm, Nat.add_comm, Nat.add_left_comm,
      Nat.add_assoc]

include h2 h3 in
/-- The rotated lanes of the keys. -/
theorem v48_real (k : Fin 2304) (a b : Fin 2) (c : Fin 8) :
    val_main_v48 (F := Ideal) X2 X3 (ix4 k a b c) = (kro x2 x3 k a b c : EReal) := by
  pointwise [val_main_v48, val_main_v47, val_main_v46, val_main_v45, val_main_v44, val_main_v43, val_main_v42,
    val_main_v41, val_main_v40, val_main_v39, val_main_v38, val_main_v37, val_main_v36, val_main_v35, val_main_v34,
    val_main_v33, val_main_v32, val_main_v31, val_main_v30, val_main_v29, val_main_v28, val_main_v27, val_main_v26]
  simp only [h2, h3, Ideal.cos_coe, Ideal.sin_coe]
  clear h2 h3
  unfold kro rot cs sn
  split
  next hk =>
    split
    next hb =>
      have hb' : b = 0 := Fin.ext (by omega)
      simp [hk, hb', Nat.mul_comm, Nat.add_comm, Nat.add_left_comm, Nat.add_assoc]
    next hb =>
      have hb' : b = 1 := Fin.ext (by omega)
      simp [hk, hb', Nat.mul_comm, Nat.add_comm, Nat.add_left_comm, Nat.add_assoc]
  next hk =>
    have e : (⟨2048 + (k - 2048), by omega⟩ : Fin 2304) = k := Fin.ext (by show 2048 + ((k : ℕ) - 2048) = k; omega)
    rcases (by omega : b = 0 ∨ b = 1) with hb | hb
    · simp [hk, e, hb, Nat.mul_comm]
    · simp [hk, e, hb, Nat.mul_comm]

/-- The indices of the contraction over the rotary lanes. -/
def lanes : Fin 2 × Fin 2 × Fin 8 ≃ dot_S2304x2x2x8_S2048x8x2x2x8_S2304x2048x8_123_234_0_01_n_n.contr.Idx where
  toFun k := fun p => match p with | ⟨0, _⟩ => k.1 | ⟨1, _⟩ => k.2.1 | ⟨2, _⟩ => k.2.2
  invFun kk := (kk ⟨0, by decide⟩, kk ⟨1, by decide⟩, kk ⟨2, by decide⟩)
  left_inv _ := rfl
  right_inv kk := by funext p; match p with | ⟨0, _⟩ => rfl | ⟨1, _⟩ => rfl | ⟨2, _⟩ => rfl

/-- The rotary part of the scores, from any rotated queries and keys. -/
theorem v50_sum (k : Fin 2304) (t : Fin 2048) (h : Fin 8) :
    val_main_v50 (F := Ideal) X0 X2 X3 (ix3 k t h)
      = ∑ a : Fin 2, ∑ b : Fin 2, ∑ c : Fin 8, val_main_v48 X2 X3 (ix4 k a b c) * val_main_v23 X0 X3 (ix5 t h a b c) := by
  unfold val_main_v50
  generalize val_main_v48 X2 X3 = x
  generalize val_main_v23 X0 X3 = y
  refine (Ideal.dotGeneral_apply dot_S2304x2x2x8_S2048x8x2x2x8_S2304x2048x8_123_234_0_01_n_n none _ x y (ix3 k t h)).trans ?_
  rw [← Fintype.sum_equiv lanes (fun p => x (ix4 k p.1 p.2.1 p.2.2) * y (ix5 t h p.1 p.2.1 p.2.2)) _ fun p => ?_]
  · simp only [Fintype.sum_prod_type]
  refine congrArg₂ (· * ·) (congrArg x ?_) (congrArg y ?_)
  · funext i; match i with | ⟨0, _⟩ => rfl | ⟨1, _⟩ => rfl | ⟨2, _⟩ => rfl | ⟨3, _⟩ => rfl
  · funext i; match i with | ⟨0, _⟩ => rfl | ⟨1, _⟩ => rfl | ⟨2, _⟩ => rfl | ⟨3, _⟩ => rfl | ⟨4, _⟩ => rfl

/-- The constant 96. -/
theorem c96 : Ideal.ofBits .f32 0x42C00000#32 = ((96 : ℝ) : EReal) := by
  simp [Ideal.ofBits, Ideal.ieee, -EReal.coe_mul]; norm_num

/-- Minus infinity as a constant. -/
theorem ninf : Ideal.ofBits .f32 0xFF800000#32 = (⊥ : EReal) := by
  simp [Ideal.ofBits, Ideal.ieee]

include h0 h1 h2 h3 in
/-- The scaled scores. -/
theorem v55_real (h : Fin 8) (t : Fin 2048) (k : Fin 2304) :
    val_main_v55 (F := Ideal) X0 X1 X2 X3 (ix3 h t k) = (sc x0 x1 x2 x3 t h k : EReal) := by
  have hr : val_main_v50 (F := Ideal) X0 X2 X3 (ix3 k t h)
      = ((∑ a : Fin 2, ∑ b : Fin 2, ∑ c : Fin 8, qro x0 x3 t h a b c * kro x2 x3 k a b c : ℝ) : EReal) := by
    rw [v50_sum]
    simp only [v48_real X2 X3 x2 x3 h2 h3, v23_real X0 X3 x0 x3 h0 h3, coe_sum, EReal.coe_mul, mul_comm]
  unfold val_main_v55 val_main_v52 val_main_v51
  generalize val_main_v50 X0 X2 X3 = y at hr ⊢
  pointwise [val_main_v54, val_main_v53, val_main_cst, val_main_v49, val_main_v1, val_main_v0, val_main_v25, val_main_v24]
  simp only [hr, h0, h1, ← EReal.coe_mul, ← coe_sum, ← EReal.coe_add, c96, Ideal.sqrt_coe]
  rw [if_neg (by norm_num), div_real _ _ (by positivity)]
  simp only [sc, raw, Q, KV, Nat.mul_comm]

/-- The row maximum of an array of reals is a real number. -/
theorem max_real (x : FVec Ideal S8x2048x2304 .f32) (s : Fin 8 → Fin 2048 → Fin 2304 → ℝ)
    (hx : ∀ h t k, x (ix3 h t k) = (s h t k : EReal)) (h : Fin 8) (t : Fin 2048) :
    ∃ M : ℝ, Host.reduce FloatOps.maximumf x (val_main_cst_0 (F := Ideal)) reducesTo_S8x2048x2304_S8x2048_d2 h_S_ (ix2 h t) = (M : EReal) := by
  obtain ⟨M, hM⟩ := exists_max fun k => s h t k
  refine ⟨M, ?_⟩
  pointwise [val_main_cst_0]
  simp only [hx, ninf, hM]

/-- The row sum of an array of reals. -/
theorem sum_real (x : FVec Ideal S8x2048x2304 .f32) (s : Fin 8 → Fin 2048 → Fin 2304 → ℝ)
    (hx : ∀ h t k, x (ix3 h t k) = (s h t k : EReal)) (h : Fin 8) (t : Fin 2048) :
    Host.reduceAdd x (val_main_cst_1 (F := Ideal)) reducesTo_S8x2048x2304_S8x2048_d2 h_S_ (ix2 h t) = ((∑ k, s h t k : ℝ) : EReal) := by
  pointwise [val_main_cst_1]
  simp only [hx, coe_sum]

include h0 h1 h2 h3 in
/-- The row maximum of the scores is a real number, written twice in the program. -/
theorem max_exists : ∃ M : Fin 8 → Fin 2048 → ℝ, ∀ h t, val_main_v56 (F := Ideal) X0 X1 X2 X3 (ix2 h t) = (M h t : EReal)
    ∧ val_main_v69 (F := Ideal) X0 X1 X2 X3 (ix2 h t) = (M h t : EReal) := by
  have hs := v55_real X0 X1 X2 X3 x0 x1 x2 x3 h0 h1 h2 h3
  unfold val_main_v56 val_main_v69
  generalize val_main_v55 X0 X1 X2 X3 = y at hs ⊢
  choose M hM using max_real y (fun h t k => sc x0 x1 x2 x3 t h k) hs
  exact ⟨M, fun h t => ⟨hM h t, hM h t⟩⟩

/-- The shifted exponential of the scores at an index. -/
theorem exp_real (y : FVec Ideal S8x2048x2304 .f32) (z : FVec Ideal S8x2048 .f32) (s : Fin 8 → Fin 2048 → Fin 2304 → ℝ)
    (M : Fin 8 → Fin 2048 → ℝ) (hy : ∀ h t k, y (ix3 h t k) = (s h t k : EReal)) (hz : ∀ h t, z (ix2 h t) = (M h t : EReal))
    (h : Fin 8) (t : Fin 2048) (k : Fin 2304) :
    Host.exp (subf y (broadcastInDim S8x2048x2304 ![0, 1, 2] bcast_S8x2048x1_S8x2048x2304_0_1_2
      (broadcastInDim S8x2048x1 ![0, 1] bcast_S8x2048_S8x2048x1_0_1 z))) (ix3 h t k) = (Real.exp (s h t k - M h t) : EReal) := by
  pointwise
  simp only [hy, hz, ← EReal.coe_sub, Ideal.exp_coe]

/-- A number plus the logarithm of a positive sum. -/
theorem add_log (y z : FVec Ideal S8x2048 .f32) (h : Fin 8) (t : Fin 2048) (a b : ℝ) (ha : z (ix2 h t) = (a : EReal))
    (hb : y (ix2 h t) = (b : EReal)) (hp : 0 < b) : addf z (Host.log y) (ix2 h t) = ((a + Real.log b : ℝ) : EReal) := by
  pointwise
  rw [ha, hb, Ideal.log_coe, if_neg (not_le.mpr hp), ← EReal.coe_add]

include h0 h1 h2 h3 in
/-- The logarithm of the softmax's denominator. -/
theorem v63_real (h : Fin 8) (t : Fin 2048) :
    val_main_v63 (F := Ideal) X0 X1 X2 X3 (ix2 h t) = (Real.log (Z x0 x1 x2 x3 t h) : EReal) := by
  obtain ⟨M, hM⟩ := max_exists X0 X1 X2 X3 x0 x1 x2 x3 h0 h1 h2 h3
  have he := exp_real _ _ _ M (v55_real X0 X1 X2 X3 x0 x1 x2 x3 h0 h1 h2 h3) (fun h t => (hM h t).1)
  have hl := sum_real _ _ he h t
  have hZ := Z_pos x0 x1 x2 x3 t h
  have hZ' := shift_pos _ (M h t) (Z_pos x0 x1 x2 x3 t h)
  have hv : val_main_v61 (F := Ideal) X0 X1 X2 X3 (ix2 h t) = _ := hl
  have hm := (hM h t).1
  refine (add_log _ _ h t _ _ hm hv hZ').trans ?_
  exact congrArg _ (shift_log _ _ hZ)

/-- The maximum with minus infinity. -/
theorem max_row (z : FVec Ideal S8x2048 .f32) (h : Fin 8) (t : Fin 2048) (a : ℝ) (ha : z (ix2 h t) = (a : EReal)) :
    maximumf (val_main_v70 (F := Ideal)) z (ix2 h t) = (a : EReal) := by
  have hb : val_main_v70 (F := Ideal) (ix2 h t) = (⊥ : EReal) := by
    rw [val_main_v70_apply, val_main_cst_3]
    exact ninf
  generalize val_main_v70 (F := Ideal) = y at hb ⊢
  pointwise
  rw [ha, hb, max_bot_left]

/-- A quotient of rows by a positive row sum. -/
theorem div_row (z : FVec Ideal S8x2048x2304 .f32) (y : FVec Ideal S8x2048 .f32) (h : Fin 8) (t : Fin 2048) (k : Fin 2304)
    (a b : ℝ) (ha : z (ix3 h t k) = (a : EReal)) (hb : y (ix2 h t) = (b : EReal)) (hp : 0 < b) :
    Host.divf z (broadcastInDim S8x2048x2304 ![0, 1, 2] bcast_S8x2048x1_S8x2048x2304_0_1_2
      (broadcastInDim S8x2048x1 ![0, 1] bcast_S8x2048_S8x2048x1_0_1 y)) (ix3 h t k) = ((a / b : ℝ) : EReal) := by
  pointwise
  rw [ha, hb, div_real _ _ hp.ne']

include h0 h1 h2 h3 in
/-- The shifted exponentials of the scores and their row sums, for some shift. -/
theorem exp_exists : ∃ M : Fin 8 → Fin 2048 → ℝ,
    (∀ h t k, val_main_v75 (F := Ideal) X0 X1 X2 X3 (ix3 h t k) = (Real.exp (sc x0 x1 x2 x3 t h k - M h t) : EReal))
    ∧ ∀ h t, val_main_v76 (F := Ideal) X0 X1 X2 X3 (ix2 h t) = ((∑ k, Real.exp (sc x0 x1 x2 x3 t h k - M h t) : ℝ) : EReal) := by
  obtain ⟨M, hM⟩ := max_exists X0 X1 X2 X3 x0 x1 x2 x3 h0 h1 h2 h3
  have hm : ∀ h t, val_main_v71 (F := Ideal) X0 X1 X2 X3 (ix2 h t) = (M h t : EReal) := by
    intro h t
    exact max_row _ h t _ (hM h t).2
  have he := exp_real _ _ _ M (v55_real X0 X1 X2 X3 x0 x1 x2 x3 h0 h1 h2 h3) hm
  exact ⟨M, fun h t k => he h t k, fun h t => sum_real _ _ he h t⟩

include h0 h1 h2 h3 in
/-- The softmax. -/
theorem v79_real (h : Fin 8) (t : Fin 2048) (k : Fin 2304) :
    val_main_v79 (F := Ideal) X0 X1 X2 X3 (ix3 h t k) = (P x0 x1 x2 x3 t h k : EReal) := by
  obtain ⟨M, he, hv⟩ := exp_exists X0 X1 X2 X3 x0 x1 x2 x3 h0 h1 h2 h3
  refine (div_row _ _ h t k _ _ (he h t k) (hv h t) (shift_pos _ (M h t) (Z_pos x0 x1 x2 x3 t h))).trans ?_
  exact congrArg _ (shift_div _ _ _)

include h0 h1 h2 h3 in
/-- The forward reference's result: per head, 64 lanes of the softmax's log denominator, then the output's 64 lanes. -/
theorem v85_real (t : Fin 2048) (h : Fin 8) (l : Fin 128) :
    val_main_v85 (F := Ideal) X0 X1 X2 X3 (ix2 t ⟨128 * h + l, by omega⟩)
      = ((if hl : (l : ℕ) < 64 then Real.log (Z x0 x1 x2 x3 t h) else O x0 x1 x2 x3 t h ⟨l - 64, by omega⟩ : ℝ) : EReal) := by
  have hz := v63_real X0 X1 X2 X3 x0 x1 x2 x3 h0 h1 h2 h3
  have hp := v79_real X0 X1 X2 X3 x0 x1 x2 x3 h0 h1 h2 h3
  unfold val_main_v85 val_main_v84 val_main_v83 val_main_v82 val_main_v81 val_main_v80 val_main_v66 val_main_v65 val_main_v64
  generalize val_main_v63 X0 X1 X2 X3 = z at hz ⊢
  generalize val_main_v79 X0 X1 X2 X3 = p at hp ⊢
  pointwise [val_main_v68, val_main_v67]
  simp only [hz, hp, h1, ← EReal.coe_mul, ← coe_sum]
  split
  · rfl
  · simp only [O, KV, Nat.mul_comm, mul_comm]

end Cert.Reference2Ideal.Point
-- ==== Proof.Ref1.lean ====
/-
  The reference of the gradient, `ReferenceIdeal`, read at an index, on arguments that are real numbers.
-/
module

public import proofs.«01_k».proof.Proof.Gen.ReferenceIdeal.Read
public import proofs.«01_k».proof.Proof.Ref2

@[expose] public section

set_option maxRecDepth 16384

noncomputable section

namespace Cert.ReferenceIdeal.Point

open Cert.ReferenceIdeal Cert.ReferenceIdeal.Gen Cert.ReferenceIdeal.Read Cert.Attn Idealize.ShloMosaic
  Idealize.ShloMosaic.TcCoe

variable (X0 : (⟨S2048x768, .f32⟩ : BufTy).Contents (Elt Ideal)) (X1 : (⟨S2304x1024, .f32⟩ : BufTy).Contents (Elt Ideal))
  (X2 : (⟨S2304x32, .f32⟩ : BufTy).Contents (Elt Ideal)) (X3 : (⟨S2048x16, .f32⟩ : BufTy).Contents (Elt Ideal))
  (X4 : (⟨S2048x512, .f32⟩ : BufTy).Contents (Elt Ideal))
  (x0 : Fin 2048 → Fin 768 → ℝ) (x1 : Fin 2304 → Fin 1024 → ℝ) (x2 : Fin 2304 → Fin 32 → ℝ)
  (x3 : Fin 2048 → Fin 16 → ℝ) (x4 : Fin 2048 → Fin 512 → ℝ)
  (h0 : ∀ i j, X0 (ix2 i j) = (x0 i j : EReal)) (h1 : ∀ i j, X1 (ix2 i j) = (x1 i j : EReal))
  (h2 : ∀ i j, X2 (ix2 i j) = (x2 i j : EReal)) (h3 : ∀ i j, X3 (ix2 i j) = (x3 i j : EReal))
  (h4 : ∀ i j, X4 (ix2 i j) = (x4 i j : EReal))

include h0 h3 in
/-- The rotated lanes of the queries. -/
theorem v23_real (t : Fin 2048) (h : Fin 8) (a b : Fin 2) (c : Fin 8) :
    val_main_v23 (F := Ideal) X0 X3 (ix5 t h a b c) = (qro x0 x3 t h a b c : EReal) :=
  Cert.Reference2Ideal.Point.v23_real X0 X3 x0 x3 h0 h3 t h a b c

include h2 h3 in
/-- The rotated lanes of the keys. -/
theorem v48_real (k : Fin 2304) (a b : Fin 2) (c : Fin 8) :
    val_main_v48 (F := Ideal) X2 X3 (ix4 k a b c) = (kro x2 x3 k a b c : EReal) :=
  Cert.Reference2Ideal.Point.v48_real X2 X3 x2 x3 h2 h3 k a b c

include h0 h1 h2 h3 in
/-- The scaled scores. -/
theorem v55_real (h : Fin 8) (t : Fin 2048) (k : Fin 2304) :
    val_main_v55 (F := Ideal) X0 X1 X2 X3 (ix3 h t k) = (sc x0 x1 x2 x3 t h k : EReal) :=
  Cert.Reference2Ideal.Point.v55_real X0 X1 X2 X3 x0 x1 x2 x3 h0 h1 h2 h3 h t k

include h0 h1 h2 h3 in
/-- The softmax. -/
theorem v82_real (h : Fin 8) (t : Fin 2048) (k : Fin 2304) :
    val_main_v82 (F := Ideal) X0 X1 X2 X3 (ix3 h t k) = (P x0 x1 x2 x3 t h k : EReal) :=
  Cert.Reference2Ideal.Point.v79_real X0 X1 X2 X3 x0 x1 x2 x3 h0 h1 h2 h3 h t k

include h0 h1 h2 h3 in
/-- The shifted exponentials and their row sums, for some shift. -/
theorem exp_exists : ∃ M : Fin 8 → Fin 2048 → ℝ,
    (∀ h t k, val_main_v78 (F := Ideal) X0 X1 X2 X3 (ix3 h t k) = (Real.exp (sc x0 x1 x2 x3 t h k - M h t) : EReal))
    ∧ ∀ h t, val_main_v79 (F := Ideal) X0 X1 X2 X3 (ix2 h t) = ((∑ k, Real.exp (sc x0 x1 x2 x3 t h k - M h t) : ℝ) : EReal) := by
  obtain ⟨M, he, hv⟩ := Cert.Reference2Ideal.Point.exp_exists X0 X1 X2 X3 x0 x1 x2 x3 h0 h1 h2 h3
  exact ⟨M, he, hv⟩

include h1 h4 in
/-- The cotangent of the softmax's output. -/
theorem v91_real (h : Fin 8) (t : Fin 2048) (k : Fin 2304) :
    val_main_v91 (F := Ideal) X1 X4 (ix3 h t k) = (DP x1 x4 t h k : EReal) := by
  pointwise [val_main_v91, val_main_v90, val_main_v89, val_main_v57, val_main_v56]
  simp only [h1, h4, ← EReal.coe_mul, ← coe_sum]
  simp only [DP, CT, KV, Nat.mul_comm]

/-- The row sum of an array of reals. -/
theorem sum_real (x : FVec Ideal S8x2048x2304 .f32) (s : Fin 8 → Fin 2048 → Fin 2304 → ℝ)
    (hx : ∀ h t k, x (ix3 h t k) = (s h t k : EReal)) (h : Fin 8) (t : Fin 2048) :
    Host.reduceAdd x (val_main_cst_10 (F := Ideal)) reducesTo_S8x2048x2304_S8x2048_d2 h_S_ (ix2 h t) = ((∑ k, s h t k : ℝ) : EReal) :=
  Cert.Reference2Ideal.Point.sum_real x s hx h t

/-- The reciprocal of the squared denominator. -/
theorem recip_real (y : FVec Ideal S8x2048x1 .f32) (l : Fin 8 → Fin 2048 → ℝ) (hl : ∀ h t, l h t ≠ 0)
    (hy : ∀ h t e, y (ix3 h t e) = (l h t : EReal)) (h : Fin 8) (t : Fin 2048) (e : Fin 1) :
    Host.divf (val_main_v84 (F := Ideal)) (mulf y y) (ix3 h t e) = ((1 / (l h t * l h t) : ℝ) : EReal) := by
  have h1 : val_main_v84 (F := Ideal) (ix3 h t e) = ((1 : ℝ) : EReal) := by
    rw [val_main_v84_apply, val_main_cst_9]
    exact (Ideal.ofBits_one_f32).trans EReal.coe_one.symm
  generalize val_main_v84 (F := Ideal) = o at h1 ⊢
  pointwise
  rw [h1, hy, ← EReal.coe_mul, div_real _ _ (mul_ne_zero (hl h t) (hl h t))]

/-- The products under the row sum of the softmax's gradient. -/
theorem prod_real (dp e : FVec Ideal S8x2048x2304 .f32) (r : FVec Ideal S8x2048x1 .f32)
    (a b : Fin 8 → Fin 2048 → Fin 2304 → ℝ) (c : Fin 8 → Fin 2048 → ℝ)
    (ha : ∀ h t k, dp (ix3 h t k) = (a h t k : EReal)) (hb : ∀ h t k, e (ix3 h t k) = (b h t k : EReal))
    (hc : ∀ h t i, r (ix3 h t i) = (c h t : EReal)) (h : Fin 8) (t : Fin 2048) (k : Fin 2304) :
    mulf (mulf dp (broadcastInDim S8x2048x2304 ![0, 1, 2] bcast_S8x2048x1_S8x2048x2304_0_1_2 r)) e (ix3 h t k)
      = ((a h t k * c h t * b h t k : ℝ) : EReal) := by
  pointwise
  rw [ha, hb, hc, EReal.coe_mul, EReal.coe_mul]

/-- The negated row sum, through an axis of size one. -/
theorem neg_real (v : FVec Ideal S8x2048 .f32) (a : Fin 8 → Fin 2048 → ℝ) (ha : ∀ h t, v (ix2 h t) = (a h t : EReal))
    (h : Fin 8) (t : Fin 2048) :
    Host.reduceAdd (Host.negf (shapeCast S8x2048x1 v shapeCasts_S8x2048_S8x2048x1)) (val_main_cst_11 (F := Ideal))
      reducesTo_S8x2048x1_S8x2048_d2 h_S_ (ix2 h t) = ((-a h t : ℝ) : EReal) := by
  have hn : ∀ e : Fin 1, Host.negf (shapeCast S8x2048x1 v shapeCasts_S8x2048_S8x2048x1) (ix3 h t e) = ((-a h t : ℝ) : EReal) := by
    intro e
    pointwise
    rw [ha, EReal.coe_neg]
  generalize Host.negf (shapeCast S8x2048x1 v shapeCasts_S8x2048_S8x2048x1) = y at hn ⊢
  pointwise [val_main_cst_11]
  simp [hn]

/-- The softmax's gradient divided by the scores' scale. -/
theorem grad_real (dp e : FVec Ideal S8x2048x2304 .f32) (y : FVec Ideal S8x2048x1 .f32) (n : FVec Ideal S8x2048 .f32)
    (a b : Fin 8 → Fin 2048 → Fin 2304 → ℝ) (l c : Fin 8 → Fin 2048 → ℝ) (hl : ∀ h t, l h t ≠ 0)
    (ha : ∀ h t k, dp (ix3 h t k) = (a h t k : EReal)) (hb : ∀ h t k, e (ix3 h t k) = (b h t k : EReal))
    (hy : ∀ h t e, y (ix3 h t e) = (l h t : EReal)) (hc : ∀ h t, n (ix2 h t) = (c h t : EReal))
    (h : Fin 8) (t : Fin 2048) (k : Fin 2304) :
    Host.divf (mulf (addf (Host.divf dp (broadcastInDim S8x2048x2304 ![0, 1, 2] bcast_S8x2048x1_S8x2048x2304_0_1_2 y))
      (broadcastInDim S8x2048x2304 ![0, 1] bcast_S8x2048_S8x2048x2304_0_1 n)) e) (val_main_v108 (F := Ideal)) (ix3 h t k)
      = (((a h t k / l h t + c h t) * b h t k / Real.sqrt 96 : ℝ) : EReal) := by
  have hs : val_main_v108 (F := Ideal) (ix3 h t k) = (Real.sqrt 96 : EReal) := by
    rw [val_main_v108_apply, val_main_v53_apply, val_main_cst]
    refine (congrArg Ideal.sqrt Cert.Reference2Ideal.Point.c96).trans ?_
    rw [Ideal.sqrt_coe, if_neg (by norm_num)]
  generalize val_main_v108 (F := Ideal) = o at hs ⊢
  pointwise
  rw [ha, hb, hy, hc, hs, div_real _ _ (hl h t), ← EReal.coe_add, ← EReal.coe_mul, div_real _ _ (by positivity)]

/-- A broadcast along a new axis of size one. -/
theorem col_real (v : FVec Ideal S8x2048 .f32) (a : Fin 8 → Fin 2048 → ℝ) (ha : ∀ h t, v (ix2 h t) = (a h t : EReal))
    (h : Fin 8) (t : Fin 2048) (e : Fin 1) :
    broadcastInDim S8x2048x1 ![0, 1] bcast_S8x2048_S8x2048x1_0_1 v (ix3 h t e) = (a h t : EReal) := by
  pointwise
  rw [ha]

include h0 h1 h2 h3 h4 in
/-- The cotangent of the unscaled scores. -/
theorem v109_real (h : Fin 8) (t : Fin 2048) (k : Fin 2304) :
    val_main_v109 (F := Ideal) X0 X1 X2 X3 X4 (ix3 h t k) = (DS x0 x1 x2 x3 x4 t h k : EReal) := by
  obtain ⟨M, he, hv⟩ := exp_exists X0 X1 X2 X3 x0 x1 x2 x3 h0 h1 h2 h3
  have hpos : ∀ h t, (∑ k, Real.exp (sc x0 x1 x2 x3 t h k - M h t)) ≠ 0 := fun h t =>
    (shift_pos _ (M h t) (Z_pos x0 x1 x2 x3 t h)).ne'
  have hd := v91_real X1 X4 x1 x4 h1 h4
  have hc := col_real _ _ hv
  have hr := recip_real _ _ hpos hc
  have hp := prod_real _ _ _ _ _ _ hd he hr
  have hn := neg_real _ _ (sum_real _ _ hp)
  refine (grad_real _ _ _ _ _ _ _ _ hpos hd he hc hn h t k).trans (congrArg _ ?_)
  rw [softmax_grad _ _ _ (hpos h t)]
  simp only [shift_div]
  rfl

include h0 h1 h2 h3 h4 in
/-- The gradient of the rotated query lanes. -/
theorem v111_real (t : Fin 2048) (h : Fin 8) (a b : Fin 2) (c : Fin 8) :
    val_main_v111 (F := Ideal) X0 X1 X2 X3 X4 (ix5 t h a b c)
      = ((∑ k, DS x0 x1 x2 x3 x4 t h k * kro x2 x3 k a b c : ℝ) : EReal) := by
  have hy := v109_real X0 X1 X2 X3 X4 x0 x1 x2 x3 x4 h0 h1 h2 h3 h4
  have hz := v48_real X2 X3 x2 x3 h2 h3
  unfold val_main_v111 val_main_v110
  generalize val_main_v109 X0 X1 X2 X3 X4 = y at hy ⊢
  generalize val_main_v48 X2 X3 = z at hz ⊢
  pointwise
  simp only [hy, hz, ← EReal.coe_mul, ← coe_sum]

include h0 h1 h2 h3 h4 in
/-- The gradient of the rotated key lanes. -/
theorem v112_real (k : Fin 2304) (a b : Fin 2) (c : Fin 8) :
    val_main_v112 (F := Ideal) X0 X1 X2 X3 X4 (ix4 k a b c) = ((∑ h, dKro x0 x1 x2 x3 x4 k h a b c : ℝ) : EReal) := by
  have hy := v109_real X0 X1 X2 X3 X4 x0 x1 x2 x3 x4 h0 h1 h2 h3 h4
  have hz := v23_real X0 X3 x0 x3 h0 h3
  unfold val_main_v112 val_main_v110
  generalize val_main_v109 X0 X1 X2 X3 X4 = y at hy ⊢
  generalize val_main_v23 X0 X3 = z at hz ⊢
  pointwise
  simp only [hy, hz, ← EReal.coe_mul, ← coe_sum]
  exact congrArg _ Finset.sum_comm

include h0 h1 h2 h3 h4 in
/-- The gradient of the plain key lanes. -/
theorem v114_real (k : Fin 2304) (h : Fin 8) (d : Fin 64) :
    val_main_v114 (F := Ideal) X0 X1 X2 X3 X4 (ix3 k h d)
      = ((∑ t, DS x0 x1 x2 x3 x4 t h k * Q x0 t h ⟨d, by omega⟩ : ℝ) : EReal) := by
  have hy := v109_real X0 X1 X2 X3 X4 x0 x1 x2 x3 x4 h0 h1 h2 h3 h4
  unfold val_main_v114 val_main_v113
  generalize val_main_v109 X0 X1 X2 X3 X4 = y at hy ⊢
  pointwise [val_main_v1, val_main_v0]
  simp only [hy, h0, ← EReal.coe_mul, ← coe_sum, Q, Nat.mul_comm]

include h0 h1 h2 h3 h4 in
/-- The gradient of the plain query lanes. -/
theorem v116_real (t : Fin 2048) (h : Fin 8) (d : Fin 64) :
    val_main_v116 (F := Ideal) X0 X1 X2 X3 X4 (ix3 t h d)
      = ((∑ k, DS x0 x1 x2 x3 x4 t h k * KV x1 k h ⟨d, by omega⟩ : ℝ) : EReal) := by
  have hy := v109_real X0 X1 X2 X3 X4 x0 x1 x2 x3 x4 h0 h1 h2 h3 h4
  unfold val_main_v116 val_main_v115
  generalize val_main_v109 X0 X1 X2 X3 X4 = y at hy ⊢
  pointwise [val_main_v25, val_main_v24]
  simp only [hy, h1, ← EReal.coe_mul, ← coe_sum, KV, Nat.mul_comm]

include h0 h1 h2 h3 h4 in
/-- The gradient of the values. -/
theorem v93_real (k : Fin 2304) (h : Fin 8) (d : Fin 64) :
    val_main_v93 (F := Ideal) X0 X1 X2 X3 X4 (ix3 k h d)
      = ((∑ t, P x0 x1 x2 x3 t h k * CT x4 t h d : ℝ) : EReal) := by
  have hy := v82_real X0 X1 X2 X3 x0 x1 x2 x3 h0 h1 h2 h3
  unfold val_main_v93 val_main_v92
  generalize val_main_v82 X0 X1 X2 X3 = y at hy ⊢
  pointwise [val_main_v90, val_main_v89]
  simp only [hy, h4, ← EReal.coe_mul, ← coe_sum, CT, Nat.mul_comm, mul_comm]

/-- The integer zero as a float. -/
theorem zero_int : FloatOps.sitofp (F := Ideal) .f32 0#32 = ((0 : ℝ) : EReal) := by
  show (((0#32 : BitVec 32).toInt : ℝ) : EReal) = _
  simp

include h3 in
/-- The query's rotation backward, over any gradient of the rotated lanes. -/
theorem v164_real (y : FVec Ideal S2048x8x2x2x8 .f32) (g : Fin 2048 → Fin 8 → Fin 2 → Fin 2 → Fin 8 → ℝ)
    (hy : ∀ t h a b c, y (ix5 t h a b c) = (g t h a b c : EReal)) (hv : val_main_v111 (F := Ideal) X0 X1 X2 X3 X4 = y)
    (t : Fin 2048) (h : Fin 8) (a b : Fin 2) (c : Fin 8) :
    val_main_v164 (F := Ideal) X0 X1 X2 X3 X4 (ix5 t h a b c)
      = (unrot (g t h) (cs x3 (up t)) (sn x3 (up t)) a b c : EReal) := by
  unfold val_main_v164 val_main_v163 val_main_v162 val_main_v161 val_main_v160 val_main_v159 val_main_v158 val_main_v156
    val_main_v155 val_main_v153 val_main_v152 val_main_v150 val_main_v148 val_main_v147 val_main_v146 val_main_v145
  rw [hv]
  pointwise [val_main_v157, val_main_v154, val_main_v151, val_main_v149, val_main_v8, val_main_v9, val_main_v10,
    val_main_cst_19, val_main_cst_20]
  simp only [h3, hy, Ideal.cos_coe, Ideal.sin_coe]
  rcases (by omega : b = 0 ∨ b = 1) with hb | hb
  · rw [dif_neg (by rw [hb]; simp), dif_pos (by rw [hb]; simp), zero_add, ← EReal.coe_mul, ← EReal.coe_mul, ← EReal.coe_add]
    simp only [unrot, cs_up, sn_up, hb, if_true, Nat.mul_comm]
    exact congrArg _ (add_comm _ _)
  · rw [dif_pos (by rw [hb]; simp), dif_neg (by rw [hb]; simp), add_zero, ← EReal.coe_neg, ← EReal.coe_mul, ← EReal.coe_mul,
      ← EReal.coe_add]
    simp only [unrot, cs_up, sn_up, hb, Nat.mul_comm]
    exact congrArg _ (by rw [if_neg (by decide)]; ring)

include h2 h3 in
/-- The shared key's gradient on the 32 rotary lanes, over any gradient of the rotated lanes: rotated back on the 2048
    positions, plain on the context rows. -/
theorem v141_real (y : FVec Ideal S2304x2x2x8 .f32) (g : Fin 2304 → Fin 2 → Fin 2 → Fin 8 → ℝ)
    (hy : ∀ k a b c, y (ix4 k a b c) = (g k a b c : EReal)) (hv : val_main_v112 (F := Ideal) X0 X1 X2 X3 X4 = y)
    (k : Fin 2304) (a b : Fin 2) (c : Fin 8) :
    val_main_v141 (F := Ideal) X0 X1 X2 X3 X4 (ix2 k ⟨16 * a + 8 * b + c, by omega⟩)
      = (unrot (g k) (cs x3 k) (sn x3 k) a b c : EReal) := by
  have hr : ∀ (t : Fin 2048) (e : Fin 1) (a b : Fin 2) (c : Fin 8),
      val_main_v137 (F := Ideal) X0 X1 X2 X3 X4 (ix5 t e a b c)
        = (unrot (g (up t)) (cs x3 (up t)) (sn x3 (up t)) a b c : EReal) := by
    intro t e a b c
    unfold val_main_v137 val_main_v136 val_main_v135 val_main_v134 val_main_v133 val_main_v132 val_main_v131 val_main_v130
      val_main_v129 val_main_v128 val_main_v127 val_main_v126 val_main_v125 val_main_v124 val_main_v123 val_main_v122
      val_main_v121 val_main_v117
    rw [hv]
    pointwise [val_main_v33, val_main_v34, val_main_v35, val_main_cst_14, val_main_cst_15]
    simp only [h3, hy, Ideal.cos_coe, Ideal.sin_coe]
    rcases (by omega : b = 0 ∨ b = 1) with hb | hb
    · rw [dif_neg (by rw [hb]; simp), dif_pos (by rw [hb]; simp), zero_add, ← EReal.coe_mul, ← EReal.coe_mul, ← EReal.coe_add]
      simp only [unrot, cs_up, sn_up, hb, if_true, Nat.mul_comm]
      exact congrArg _ (add_comm _ _)
    · rw [dif_pos (by rw [hb]; simp), dif_neg (by rw [hb]; simp), add_zero, ← EReal.coe_neg, ← EReal.coe_mul,
        ← EReal.coe_mul, ← EReal.coe_add]
      simp only [unrot, cs_up, sn_up, hb, Nat.mul_comm]
      refine congrArg _ ?_
      rw [if_neg (by decide), neg_mul, ← sub_eq_add_neg]
      rfl
  have hs : ∀ (t : Fin 2048) (j : Fin 32), val_main_v139 (F := Ideal) X0 X1 X2 X3 X4 (ix2 t j)
      = val_main_v138 (F := Ideal) X0 X1 X2 X3 X4 (ix3 t 0 j) := by
    intro t j
    unfold val_main_v139
    generalize val_main_v138 (F := Ideal) X0 X1 X2 X3 X4 = z
    pointwise [val_main_cst_16]
    simp
  have hj : ∀ t : Fin 2048, val_main_v139 (F := Ideal) X0 X1 X2 X3 X4 (ix2 t ⟨16 * a + 8 * b + c, by omega⟩)
      = (unrot (g (up t)) (cs x3 (up t)) (sn x3 (up t)) a b c : EReal) := by
    intro t
    rw [hs, ← hr t 0 a b c]
    unfold val_main_v138
    generalize val_main_v137 (F := Ideal) X0 X1 X2 X3 X4 = z
    pointwise
  unfold val_main_v141 val_main_v140 val_main_v120 val_main_v119 val_main_v118
  generalize val_main_v139 (F := Ideal) X0 X1 X2 X3 X4 = z at hj ⊢
  rw [hv]
  pointwise [val_main_cst_13, val_main_cst_17]
  rcases Nat.lt_or_ge k 2048 with hk | hk
  · rw [dif_neg (by omega), dif_pos (by omega), zero_add]
    exact hj ⟨k, hk⟩
  · rw [dif_pos (by omega), dif_neg (by omega), add_zero]
    have e : (⟨2048 + (k - 2048), by omega⟩ : Fin 2304) = k := Fin.ext (by show 2048 + ((k : ℕ) - 2048) = k; omega)
    refine (congrArg (fun k' => y (ix4 k' a b c)) e).trans ((hy k a b c).trans (congrArg _ ?_))
    have hc : ∀ a c, cs x3 k a c = 1 := fun a c => dif_neg (by omega)
    have hn : ∀ a c, sn x3 k a c = 0 := fun a c => dif_neg (by omega)
    simp only [unrot, hc, hn, mul_one, mul_zero, add_zero, sub_zero]
    rcases (by omega : b = 0 ∨ b = 1) with hb | hb
    · rw [hb, if_pos rfl]
    · rw [hb, if_neg (by decide)]

end Cert.ReferenceIdeal.Point
-- ==== Proof.Ref1Out.lean ====
/-
  The results of the gradient's reference, `ReferenceIdeal`, read lane by lane.
-/
module

public import proofs.«01_k».proof.Proof.Gen.ReferenceIdeal.Read
public import proofs.«01_k».proof.Proof.Ref1

@[expose] public section

set_option maxRecDepth 16384

noncomputable section

namespace Cert.ReferenceIdeal.Point

open Cert.ReferenceIdeal Cert.ReferenceIdeal.Gen Cert.ReferenceIdeal.Read Cert.Attn Idealize.ShloMosaic
  Idealize.ShloMosaic.TcCoe

variable (X0 : (⟨S2048x768, .f32⟩ : BufTy).Contents (Elt Ideal)) (X1 : (⟨S2304x1024, .f32⟩ : BufTy).Contents (Elt Ideal))
  (X2 : (⟨S2304x32, .f32⟩ : BufTy).Contents (Elt Ideal)) (X3 : (⟨S2048x16, .f32⟩ : BufTy).Contents (Elt Ideal))
  (X4 : (⟨S2048x512, .f32⟩ : BufTy).Contents (Elt Ideal))
  (x0 : Fin 2048 → Fin 768 → ℝ) (x1 : Fin 2304 → Fin 1024 → ℝ) (x2 : Fin 2304 → Fin 32 → ℝ)
  (x3 : Fin 2048 → Fin 16 → ℝ) (x4 : Fin 2048 → Fin 512 → ℝ)
  (h0 : ∀ i j, X0 (ix2 i j) = (x0 i j : EReal)) (h1 : ∀ i j, X1 (ix2 i j) = (x1 i j : EReal))
  (h2 : ∀ i j, X2 (ix2 i j) = (x2 i j : EReal)) (h3 : ∀ i j, X3 (ix2 i j) = (x3 i j : EReal))
  (h4 : ∀ i j, X4 (ix2 i j) = (x4 i j : EReal))

include h0 h1 h2 h3 h4 in
/-- The two parts of a head's query gradient, put side by side. -/
theorem v168_real (t : Fin 2048) (h : Fin 8) (d : Fin 96) :
    val_main_v168 (F := Ideal) X0 X1 X2 X3 X4 (ix3 t h d) = (dQ x0 x1 x2 x3 x4 t h ⟨d, by omega⟩ : EReal) := by
  have hr := v164_real X0 X1 X2 X3 X4 x3 h3 _ _ (v111_real X0 X1 X2 X3 X4 x0 x1 x2 x3 x4 h0 h1 h2 h3 h4) rfl t h
  have hp := v116_real X0 X1 X2 X3 X4 x0 x1 x2 x3 x4 h0 h1 h2 h3 h4 t h
  unfold val_main_v168 val_main_v167 val_main_v166 val_main_v165
  generalize val_main_v164 X0 X1 X2 X3 X4 = y at hr ⊢
  generalize val_main_v116 X0 X1 X2 X3 X4 = z at hp ⊢
  obtain ⟨l, hl⟩ : ∃ l : Fin 128, l = ⟨d, by omega⟩ := ⟨_, rfl⟩
  rw [← hl]
  have hd : (d : ℕ) = l := by rw [hl]
  rcases lane_cases l with ⟨e, rfl⟩ | ⟨a, b, c, rfl⟩ | ⟨e, rfl⟩
  · rw [(Fin.ext hd : d = ⟨e, by omega⟩), dQ_plain, ← hp]
    pointwise [val_main_cst_21, val_main_cst_22]
    rw [dif_neg (fun h => h.1), zero_add]
  · rw [(Fin.ext hd : d = ⟨64 + 16 * a + 8 * b + c, by omega⟩), dQ_lane, ← hr]
    pointwise [val_main_cst_21, val_main_cst_22]
    have ea : (64 + 16 * (a : ℕ) + 8 * b + c - 64) / 16 = a := by omega
    have eb : (64 + 16 * (a : ℕ) + 8 * b + c - 64) / 8 % 2 = b := by omega
    have ec : (64 + 16 * (a : ℕ) + 8 * b + c - 64) % 8 = c := by omega
    rw [dif_pos (by omega), dif_neg (by omega), add_zero]
    simp only [ea, eb, ec]
  · exact absurd hd (by dsimp only; omega)

/-- Padding a head to the lanes of a tile, and laying the heads side by side. -/
theorem v173_of (f : Fin 2048 → Fin 8 → Fin 128 → ℝ)
    (hf : ∀ t h (d : Fin 96), val_main_v168 (F := Ideal) X0 X1 X2 X3 X4 (ix3 t h d) = (f t h ⟨d, by omega⟩ : EReal))
    (hz : ∀ t h (l : Fin 128), ¬ (l : ℕ) < 96 → f t h l = 0) (t : Fin 2048) (h : Fin 8) (l : Fin 128) :
    val_main_v171 (F := Ideal) X0 X1 X2 X3 X4 (ix3 t h l) = (f t h l : EReal) := by
  unfold val_main_v171 val_main_v170 val_main_v169
  generalize val_main_v168 X0 X1 X2 X3 X4 = y at hf ⊢
  pointwise [val_main_call0_v0, val_main_c]
  split
  · rw [hf]
  · rename_i hl
    rw [hz t h l hl]
    exact zero_int

include h0 h1 h2 h3 h4 in
/-- The query's gradient, lane by lane of a padded head. -/
theorem v173_real (t : Fin 2048) (h : Fin 8) (l : Fin 128) :
    val_main_v173 (F := Ideal) X0 X1 X2 X3 X4 (ix2 t ⟨128 * h + l, by omega⟩) = (dQ x0 x1 x2 x3 x4 t h l : EReal) := by
  refine Eq.trans ?_ (v173_of X0 X1 X2 X3 X4 _ (v168_real X0 X1 X2 X3 X4 x0 x1 x2 x3 x4 h0 h1 h2 h3 h4) ?_ t h l)
  · unfold val_main_v173 val_main_v172
    generalize val_main_v171 X0 X1 X2 X3 X4 = y
    pointwise
  · intro t h l hl
    have hl' : ¬ (l : ℕ) < 64 := by omega
    unfold dQ
    rw [dif_neg hl', if_neg hl]

include h0 h1 h2 h3 h4 in
/-- The latent rows' gradient, lane by lane. -/
theorem v174_real (k : Fin 2304) (h : Fin 8) (l : Fin 128) :
    val_main_v174 (F := Ideal) X0 X1 X2 X3 X4 (ix2 k ⟨128 * h + l, by omega⟩) = (dKV x0 x1 x2 x3 x4 k h l : EReal) := by
  have hk := v114_real X0 X1 X2 X3 X4 x0 x1 x2 x3 x4 h0 h1 h2 h3 h4 k h
  have hv := v93_real X0 X1 X2 X3 X4 x0 x1 x2 x3 x4 h0 h1 h2 h3 h4 k h
  unfold val_main_v174 val_main_v144 val_main_v143 val_main_v142 val_main_v107 val_main_v106
  generalize val_main_v114 X0 X1 X2 X3 X4 = y at hk ⊢
  generalize val_main_v93 X0 X1 X2 X3 X4 = z at hv ⊢
  pointwise [val_main_cst_12, val_main_cst_18]
  unfold dKV
  rcases Nat.lt_or_ge l 64 with hl | hl
  · rw [dif_neg (by omega), dif_pos (by omega), dif_pos hl, zero_add, ← hk ⟨l, hl⟩]
  · rw [dif_pos (by omega), dif_neg (by omega), dif_neg (by omega), add_zero, ← hv ⟨l - 64, by omega⟩]

include h0 h1 h2 h3 h4 in
/-- The shared key's gradient, lane by lane. -/
theorem v175_real (k : Fin 2304) (l : Fin 128) :
    val_main_v175 (F := Ideal) X0 X1 X2 X3 X4 (ix2 k l) = (dKR x0 x1 x2 x3 x4 k l : EReal) := by
  have hr := v141_real X0 X1 X2 X3 X4 x2 x3 h2 h3 _ _ (v112_real X0 X1 X2 X3 X4 x0 x1 x2 x3 x4 h0 h1 h2 h3 h4) rfl k
  unfold val_main_v175
  generalize val_main_v141 X0 X1 X2 X3 X4 = y at hr ⊢
  rcases lane_cases l with ⟨d, rfl⟩ | ⟨a, b, c, rfl⟩ | ⟨e, rfl⟩
  · rw [dKR_plain]
    pointwise [val_main_call1_v0, val_main_c_23]
    rw [dif_neg (fun h => h.1)]
    exact zero_int
  · rw [dKR_lane, ← hr, lane]
    pointwise [val_main_call1_v0, val_main_c_23]
    rw [dif_pos (by omega)]
    exact congrArg y (by congr 1; exact Fin.ext (by dsimp only; omega))
  · rw [dKR_pad]
    pointwise [val_main_call1_v0, val_main_c_23]
    rw [dif_neg (by omega)]
    exact zero_int

end Cert.ReferenceIdeal.Point
-- ==== Proof.KHost.lean ====
/-
  What the backward kernel's windows read, at an entry: the padded queries and cotangent, the shared key lanes, the table of
  the rotary embedding, and what the forward pass saved.
-/
module

public import proofs.«01_k».proof.Proof.Gen.KernelIdeal.Value
public import proofs.«01_k».proof.Proof.KPay
public import proofs.«01_k».proof.Proof.Ref1Out
public import Idealize.ShloMosaic.Lib.Pipeline.ValueKit
public import Idealize.ShloMosaic.Lib.StableHlo.ReadAt

@[expose] public section

set_option maxRecDepth 16384

noncomputable section

namespace Cert.KernelIdeal.Point

open Cert.KernelIdeal Cert.KernelIdeal.Gen Cert.KernelIdeal.Value Idealize.ShloMosaic Idealize.ShloMosaic.TcCoe Idealize.SL.Sem
open Idealize.ShloMosaic.Pipeline (Dat)
open Cert.Attn

variable (m : (ℓ : Loc nD τ sig) → Buf (Elt Ideal) ℓ) (c : Dev nD)
  (x0 : Fin 2048 → Fin 768 → ℝ) (x1 : Fin 2304 → Fin 1024 → ℝ) (x2 : Fin 2304 → Fin 32 → ℝ)
  (x3 : Fin 2048 → Fin 16 → ℝ) (x4 : Fin 2048 → Fin 512 → ℝ)
  (h0 : ∀ i j, m (c, Proc.devRef .tc main_arg0) (ix2 i j) = (x0 i j : EReal))
  (h1 : ∀ i j, m (c, Proc.devRef .tc main_arg1) (ix2 i j) = (x1 i j : EReal))
  (h2 : ∀ i j, m (c, Proc.devRef .tc main_arg2) (ix2 i j) = (x2 i j : EReal))
  (h3 : ∀ i j, m (c, Proc.devRef .tc main_arg3) (ix2 i j) = (x3 i j : EReal))
  (h4 : ∀ i j, m (c, Proc.devRef .tc main_arg4) (ix2 i j) = (x4 i j : EReal))

/-- The integer zero as a float. -/
theorem sitofp_zero : (FloatOps.sitofp (F := Ideal) .f32 0#32 : EReal) = 0 := by
  show (((0#32 : BitVec 32).toInt : ℝ) : EReal) = 0
  simp

/-- A padded query head, lane by lane. -/
theorem Q0_apply (t : Fin 2048) (h : Fin 8) (l : Fin 128) :
    Q0 x0 t h l = if hl : (l : ℕ) < 96 then x0 t ⟨h * 96 + l, by omega⟩ else 0 := by
  unfold Q0 pack Q
  by_cases h1 : (l : ℕ) < 64
  · rw [dif_pos h1, dif_pos (by omega)]
    exact congrArg (x0 t) (Fin.ext (by dsimp only; omega))
  · rw [dif_neg h1]
    by_cases h2 : (l : ℕ) < 96
    · rw [if_pos h2, dif_pos h2]
      exact congrArg (x0 t) (Fin.ext (by dsimp only; omega))
    · rw [if_neg h2, dif_neg h2]

set_option maxHeartbeats 1600000 in
/-- The last host line before the call computes what the forward pass saves, as the forward reference does. -/
theorem saved (W : Valuation τ sig (Elt Ideal)) :
    (StableHlo.after hostOps0_4 W (Proc.devRef .tc main_v141) : (⟨S2048x1024, .f32⟩ : BufTy).Contents (Elt Ideal))
      = Cert.Reference2Ideal.Read.val_main_v85 (W (Proc.devRef .tc main_arg0)) (W (Proc.devRef .tc main_arg1))
          (W (Proc.devRef .tc main_arg2)) (W (Proc.devRef .tc main_arg3)) := by
  simp only [hostOps0_4]
  entry_read
  rfl

include h0 in
/-- The padded queries. -/
theorem v2_real (t : Fin 2048) (h : Fin 8) (l : Fin 128) :
    V m c main_v2 (ix2 t ⟨128 * h + l, by omega⟩) = (Q0 x0 t h l : EReal) := by
  rw [Q0_apply]
  unfold V
  after_reads_at
  by_cases hl : (l : ℕ) < 96
  · rw [dif_pos hl, dif_pos hl, h0]
  · rw [dif_neg hl, dif_neg hl, sitofp_zero]
    rfl

include h4 in
/-- The padded cotangent. -/
theorem v55_real (t : Fin 2048) (h : Fin 8) (l : Fin 128) :
    V m c main_v55 (ix2 t ⟨128 * h + l, by omega⟩) = (Df x4 t h l : EReal) := by
  unfold V
  after_reads_at
  unfold Df upper CT
  by_cases hl : (l : ℕ) < 64
  · rw [dif_neg (by omega), dif_pos hl, sitofp_zero]
    rfl
  · rw [dif_pos (by omega), dif_neg hl, h4]
    simp only [Nat.mul_comm]

include h2 in
/-- The shared key lanes in the columns the kernel reads. -/
theorem v5_real (k : Fin 2304) (l : Fin 128) : V m c main_v5 (ix2 k ⟨768 + l, by omega⟩) = (K0 x2 k l : EReal) := by
  unfold V
  after_reads_at
  after_reads_at
  unfold K0
  rcases lane_cases l with ⟨d, rfl⟩ | ⟨a, b, cc, rfl⟩ | ⟨e, rfl⟩
  · rw [dif_pos (by dsimp only; omega), pack_plain]
    rfl
  · have e : ((lane a b cc : Fin 128) : ℕ) = 64 + 16 * (a : ℕ) + 8 * b + cc := rfl
    rw [dif_neg (by omega), dif_pos (by omega), h2, pack_lane]
    congr 2
    exact Fin.ext (by dsimp only; omega)
  · rw [dif_neg (by dsimp only; omega), dif_neg (by dsimp only; omega), pack_pad]
    rfl

set_option maxHeartbeats 1600000 in
include h3 in
/-- The table's cosine row. -/
theorem tab0 (k : Fin 2304) (l : Fin 128) : V m c main_v52 (ix2 k ⟨l, by omega⟩) = (tC (cs x3 k) l : EReal) := by
  unfold V
  after_reads_simp
  pointwise
  after_reads_at
  after_reads_at
  simp only [h3, Ideal.cos_coe, ← EReal.coe_neg]
  unfold tC cs
  clear h3
  by_cases hc : 64 ≤ (l : ℕ) ∧ (l : ℕ) < 96
  · rw [if_pos hc]
    dsimp only
    split_ifs
    all_goals first
      | (exfalso; omega)
      | with_reducible rfl
      | exact EReal.coe_one.symm
      | (simp only [neg_zero, neg_neg, EReal.coe_zero]; done)
      | (congr 3; exact Fin.ext (by dsimp only; omega))
      | (congr 4; exact Fin.ext (by dsimp only; omega))
      | (simp only [neg_neg]; congr 3; exact Fin.ext (by dsimp only; omega))
  · rw [if_neg hc]
    split_ifs
    all_goals first
      | (exfalso; omega)
      | with_reducible rfl
      | exact EReal.coe_one.symm
      | (simp only [neg_zero, EReal.coe_zero]; done)

set_option maxHeartbeats 1600000 in
include h3 in
/-- The table's row for the lane 8 above. -/
theorem tab1 (k : Fin 2304) (l : Fin 128) : V m c main_v52 (ix2 k ⟨128 + l, by omega⟩) = (tLo (sn x3 k) l : EReal) := by
  unfold V
  after_reads_simp
  pointwise
  after_reads_at
  after_reads_at
  simp only [h3, Ideal.sin_coe, ← EReal.coe_neg]
  unfold tLo sn
  clear h3
  by_cases hc : (64 ≤ (l : ℕ) ∧ (l : ℕ) < 96) ∧ (l : ℕ) / 8 % 2 = 0
  · rw [if_pos hc]
    dsimp only
    split_ifs
    all_goals first
      | (exfalso; omega)
      | with_reducible rfl
      | exact EReal.coe_one.symm
      | (simp only [neg_zero, neg_neg, EReal.coe_zero]; done)
      | (congr 3; exact Fin.ext (by dsimp only; omega))
      | (congr 4; exact Fin.ext (by dsimp only; omega))
      | (simp only [neg_neg]; congr 3; exact Fin.ext (by dsimp only; omega))
  · rw [if_neg hc]
    split_ifs
    all_goals first
      | (exfalso; omega)
      | with_reducible rfl
      | exact EReal.coe_one.symm
      | (simp only [neg_zero, EReal.coe_zero]; done)

set_option maxHeartbeats 1600000 in
include h3 in
/-- The table's row for the lane 8 below. -/
theorem tab2 (k : Fin 2304) (l : Fin 128) : V m c main_v52 (ix2 k ⟨256 + l, by omega⟩) = (tHi (sn x3 k) l : EReal) := by
  unfold V
  after_reads_simp
  pointwise
  rw [dif_neg (by omega), dif_neg (by omega), dif_pos (by omega), (Fin.ext (by dsimp only; omega) : (⟨256 + (l : ℕ) - 128 - 128, by omega⟩ : Fin 128) = l)]
  after_reads_at
  after_reads_at
  simp only [h3, Ideal.sin_coe, ← EReal.coe_neg]
  unfold tHi sn
  clear h3
  by_cases hc : (64 ≤ (l : ℕ) ∧ (l : ℕ) < 96) ∧ (l : ℕ) / 8 % 2 = 1
  · rw [if_pos hc]
    dsimp only
    split_ifs
    all_goals first
      | (exfalso; omega)
      | with_reducible rfl
      | exact EReal.coe_one.symm
      | (simp only [neg_zero, neg_neg, EReal.coe_zero]; done)
      | (congr 3; exact Fin.ext (by dsimp only; omega))
      | (congr 4; exact Fin.ext (by dsimp only; omega))
      | (simp only [neg_neg]; congr 3; exact Fin.ext (by dsimp only; omega))
  · rw [if_neg hc]
    split_ifs
    all_goals first
      | (exfalso; omega)
      | with_reducible rfl
      | exact EReal.coe_one.symm
      | (simp only [neg_zero, EReal.coe_zero]; done)

set_option maxHeartbeats 1600000 in
include h3 in
/-- The cosine row of the rotation backward. -/
theorem tab3 (k : Fin 2304) (l : Fin 128) : V m c main_v52 (ix2 k ⟨384 + l, by omega⟩) = (tC (cs x3 k) l : EReal) := by
  unfold V
  after_reads_simp
  pointwise
  rw [dif_neg (by omega), dif_neg (by omega), dif_neg (by omega), dif_pos (by omega), (Fin.ext (by dsimp only; omega) : (⟨384 + (l : ℕ) - 128 - 128 - 128, by omega⟩ : Fin 128) = l)]
  after_reads_at
  after_reads_at
  simp only [h3, Ideal.cos_coe, ← EReal.coe_neg]
  unfold tC cs
  clear h3
  by_cases hc : 64 ≤ (l : ℕ) ∧ (l : ℕ) < 96
  · rw [if_pos hc]
    dsimp only
    split_ifs
    all_goals first
      | (exfalso; omega)
      | with_reducible rfl
      | exact EReal.coe_one.symm
      | (simp only [neg_zero, neg_neg, EReal.coe_zero]; done)
      | (congr 3; exact Fin.ext (by dsimp only; omega))
      | (congr 4; exact Fin.ext (by dsimp only; omega))
      | (simp only [neg_neg]; congr 3; exact Fin.ext (by dsimp only; omega))
  · rw [if_neg hc]
    split_ifs
    all_goals first
      | (exfalso; omega)
      | with_reducible rfl
      | exact EReal.coe_one.symm
      | (simp only [neg_zero, EReal.coe_zero]; done)

set_option maxHeartbeats 1600000 in
include h3 in
/-- The row of the rotation backward for the lane 8 above. -/
theorem tab4 (k : Fin 2304) (l : Fin 128) : V m c main_v52 (ix2 k ⟨512 + l, by omega⟩) = (tLo (fun a c => -sn x3 k a c) l : EReal) := by
  unfold V
  after_reads_simp
  pointwise
  rw [dif_neg (by omega), dif_neg (by omega), dif_neg (by omega), dif_neg (by omega), dif_pos (by omega), (Fin.ext (by dsimp only; omega) : (⟨512 + (l : ℕ) - 128 - 128 - 128 - 128, by omega⟩ : Fin 128) = l)]
  after_reads_at
  after_reads_at
  simp only [h3, Ideal.sin_coe, ← EReal.coe_neg]
  unfold tLo sn
  clear h3
  by_cases hc : (64 ≤ (l : ℕ) ∧ (l : ℕ) < 96) ∧ (l : ℕ) / 8 % 2 = 0
  · rw [if_pos hc]
    dsimp only
    split_ifs
    all_goals first
      | (exfalso; omega)
      | with_reducible rfl
      | exact EReal.coe_one.symm
      | (simp only [neg_zero, neg_neg, EReal.coe_zero]; done)
      | (congr 3; exact Fin.ext (by dsimp only; omega))
      | (congr 4; exact Fin.ext (by dsimp only; omega))
      | (simp only [neg_neg]; congr 3; exact Fin.ext (by dsimp only; omega))
  · rw [if_neg hc]
    split_ifs
    all_goals first
      | (exfalso; omega)
      | with_reducible rfl
      | exact EReal.coe_one.symm
      | (simp only [neg_zero, EReal.coe_zero]; done)

set_option maxHeartbeats 1600000 in
include h3 in
/-- The row of the rotation backward for the lane 8 below. -/
theorem tab5 (k : Fin 2304) (l : Fin 128) : V m c main_v52 (ix2 k ⟨640 + l, by omega⟩) = (tHi (fun a c => -sn x3 k a c) l : EReal) := by
  unfold V
  after_reads_simp
  pointwise
  rw [dif_neg (by omega), dif_neg (by omega), dif_neg (by omega), dif_neg (by omega), dif_neg (by omega), (Fin.ext (by dsimp only; omega) : (⟨640 + (l : ℕ) - 128 - 128 - 128 - 128 - 128, by omega⟩ : Fin 128) = l)]
  after_reads_at
  after_reads_at
  simp only [h3, Ideal.sin_coe, ← EReal.coe_neg]
  unfold tHi sn
  clear h3
  by_cases hc : (64 ≤ (l : ℕ) ∧ (l : ℕ) < 96) ∧ (l : ℕ) / 8 % 2 = 1
  · rw [if_pos hc]
    dsimp only
    split_ifs
    all_goals first
      | (exfalso; omega)
      | with_reducible rfl
      | exact EReal.coe_one.symm
      | (simp only [neg_zero, neg_neg, EReal.coe_zero]; done)
      | (congr 3; exact Fin.ext (by dsimp only; omega))
      | (congr 4; exact Fin.ext (by dsimp only; omega))
      | (simp only [neg_neg]; congr 3; exact Fin.ext (by dsimp only; omega))
  · rw [if_neg hc]
    split_ifs
    all_goals first
      | (exfalso; omega)
      | with_reducible rfl
      | exact EReal.coe_one.symm
      | (simp only [neg_zero, EReal.coe_zero]; done)

include h0 h1 h2 h3 in
/-- What the forward pass saves, computed on the host by the reference's lines. -/
theorem v141_real (t : Fin 2048) (h : Fin 8) (l : Fin 128) :
    V m c main_v141 (ix2 t ⟨128 * h + l, by omega⟩) = (Of x0 x1 x2 x3 t h l : EReal) := by
  have e : (V m c main_v141 : (⟨S2048x1024, .f32⟩ : BufTy).Contents (Elt Ideal))
      = Cert.Reference2Ideal.Read.val_main_v85 (m (c, Proc.devRef .tc main_arg0)) (m (c, Proc.devRef .tc main_arg1))
          (m (c, Proc.devRef .tc main_arg2)) (m (c, Proc.devRef .tc main_arg3)) := by
    unfold V
    rw [show [hostOps0, hostOps0_1, hostOps0_2, hostOps0_3, hostOps0_4].flatten
        = [hostOps0, hostOps0_1, hostOps0_2, hostOps0_3].flatten ++ hostOps0_4 (F := Ideal) from rfl,
      StableHlo.after_append]
    refine (saved _).trans ?_
    congr 1
    all_goals after_reads_simp
  rw [e]
  exact (Cert.Reference2Ideal.Point.v85_real _ _ _ _ x0 x1 x2 x3 h0 h1 h2 h3 t h l).trans rfl

end Cert.KernelIdeal.Point
-- ==== Proof.KTile.lean ====
/-
  One query tile of one head in the backward kernel: its stored values from the tile's query, cotangent and saved rows, the
  head's keys and values, and the table.
-/
module

public import proofs.«01_k».proof.Proof.KHost

@[expose] public section

set_option maxRecDepth 16384

noncomputable section

namespace Cert.KernelIdeal.Point

open Cert.KernelIdeal Cert.KernelIdeal.Gen Cert.KernelIdeal.Value Idealize.ShloMosaic Idealize.ShloMosaic.TcCoe Idealize.SL.Sem
open Idealize.ShloMosaic.Pipeline (Dat)
open Cert.Attn

/-- Row `r` of query tile `i`. -/
def row (i : Fin 4) (r : Fin 512) : Fin 2048 := ⟨512 * i + r, by omega⟩

/-- Head `u` of head group `g`. -/
def hd (g : Fin 4) (u : Fin 2) : Fin 8 := ⟨2 * g + u, by omega⟩

variable (x0 : Fin 2048 → Fin 768 → ℝ) (x1 : Fin 2304 → Fin 1024 → ℝ) (x2 : Fin 2304 → Fin 32 → ℝ)
  (x3 : Fin 2048 → Fin 16 → ℝ) (x4 : Fin 2048 → Fin 512 → ℝ)

/-- The six tables in the lanes of a block of the table, whose row `r` is the table's row `ρ r`. -/
structure Tab {n : ℕ} (ρ : Fin n → Fin 2304) (X : Vec Ideal ⟨2, ![n, 768]⟩ .f32) : Prop where
  t0 : ∀ (r : Fin n) (l : Fin 128), X (ix2 r ⟨l, by omega⟩) = (tC (cs x3 (ρ r)) l : EReal)
  t1 : ∀ (r : Fin n) (l : Fin 128), X (ix2 r ⟨128 + l, by omega⟩) = (tLo (sn x3 (ρ r)) l : EReal)
  t2 : ∀ (r : Fin n) (l : Fin 128), X (ix2 r ⟨256 + l, by omega⟩) = (tHi (sn x3 (ρ r)) l : EReal)
  t3 : ∀ (r : Fin n) (l : Fin 128), X (ix2 r ⟨384 + l, by omega⟩) = (tC (cs x3 (ρ r)) l : EReal)
  t4 : ∀ (r : Fin n) (l : Fin 128), X (ix2 r ⟨512 + l, by omega⟩) = (tLo (fun a c => -sn x3 (ρ r) a c) l : EReal)
  t5 : ∀ (r : Fin n) (l : Fin 128), X (ix2 r ⟨640 + l, by omega⟩) = (tHi (fun a c => -sn x3 (ρ r) a c) l : EReal)

variable (i : Fin 4) (h : Fin 8) (X : Vec Ideal S512x768 .f32) (q d o : Vec Ideal S512x128 .f32)
  (kk v : Vec Ideal S1x2304x128 .bf16)
  (hX : Tab x3 (fun r => up (row i r)) X)
  (hq : ∀ r l, q (ix2 r l) = (Q0 x0 (row i r) h l : EReal))
  (hD : ∀ r l, d (ix2 r l) = (Df x4 (row i r) h l : EReal))
  (ho : ∀ r l, o (ix2 r l) = (Of x0 x1 x2 x3 (row i r) h l : EReal))
  (hk : ∀ k l, kk (ix3 (0 : Fin 1) k l) = (Kf x1 x2 x3 k h l : EReal))
  (hv : ∀ k l, v (ix3 (0 : Fin 1) k l) = (Vf x1 k h l : EReal))

include hX hq in
/-- The tile's rotated queries. -/
theorem tile_q (r : Fin 512) (l : Fin 128) : k0_pay17 X q (ix2 r l) = (Qf x0 x3 (row i r) h l : EReal) := by
  rw [pay17_real X q _ _ _ _ hq hX.t0 hX.t1 hX.t2, rope_Q0]

include hX hq ho hk in
/-- The tile's softmax. -/
theorem tile_p (r : Fin 512) (k : Fin 2304) : k0_pay22 X q kk o (ix2 r k) = (P x0 x1 x2 x3 (row i r) h k : EReal) := by
  have hz : ∀ r, o (ix2 r (0 : Fin 128)) = ((Real.log (Z x0 x1 x2 x3 (row i r) h) : ℝ) : EReal) := fun r => (ho r 0).trans rfl
  rw [pay22_real X q kk o _ _ _ (tile_q x0 x3 i h X q hX hq) hk hz, sum_raw, pow_P]

include hD in
/-- The cotangent's block as it is read. -/
theorem tile_e (r : Fin 512) (l : Fin 128) : k0_pay23 d (ix2 r l) = (Df x4 (row i r) h l : EReal) := by
  unfold k0_pay23 k0_pay20
  pointwise
  exact hD r l

include hD in
/-- The same for the other reading of it. -/
theorem tile_d (r : Fin 512) (l : Fin 128) : k0_pay20 d (ix2 r l) = (Df x4 (row i r) h l : EReal) := by
  unfold k0_pay20
  pointwise
  exact hD r l

include ho in
/-- The saved block as it is read. -/
theorem tile_o (r : Fin 512) (l : Fin 128) : k0_pay21 o (ix2 r l) = (Of x0 x1 x2 x3 (row i r) h l : EReal) := by
  unfold k0_pay21
  pointwise
  exact ho r l

include hv in
/-- The head's values. -/
theorem tile_v (k : Fin 2304) (l : Fin 128) : k0_pay19 v (ix2 k l) = (Vf x1 k h l : EReal) := by
  unfold k0_pay19
  pointwise
  exact hv k l

include hk in
/-- The head's keys. -/
theorem tile_k (k : Fin 2304) (l : Fin 128) : k0_pay18 kk (ix2 k l) = (Kf x1 x2 x3 k h l : EReal) := by
  unfold k0_pay18
  pointwise
  exact hk k l

include hX hq hD ho hk hv in
/-- The tile's cotangent of the scores. -/
theorem tile_s (r : Fin 512) (k : Fin 2304) :
    k0_pay24 (k0_pay19 v) (k0_pay20 d) (k0_pay21 o) (k0_pay22 X q kk o) (k0_pay23 d) (ix2 r k)
      = (DS x0 x1 x2 x3 x4 (row i r) h k : EReal) := by
  rw [pay24_real _ _ _ _ _ _ _ _ _ (tile_v x1 h v hv) (tile_d x4 i h d hD) (tile_o x0 x1 x2 x3 i h o ho)
    (tile_p x0 x1 x2 x3 i h X q o kk hX hq ho hk) (tile_e x4 i h d hD), sum_DP, sum_dd, mul_DS]

include hX hq hD ho hk hv in
/-- The tile's gradient of the queries. -/
theorem tile_dq (r : Fin 512) (l : Fin 128) :
    k0_pay25 (k0_pay16 X) (k0_pay18 kk) (k0_pay19 v) (k0_pay20 d) (k0_pay21 o) (k0_pay22 X q kk o) (k0_pay23 d) (ix2 r l)
      = (dQ x0 x1 x2 x3 x4 (row i r) h l : EReal) := by
  have e : k0_pay16 X = X := by
    unfold k0_pay16
    exact shapeCast_self _ _
  rw [e, pay25_real X _ _ _ _ _ _ _ _ _ _ _ (tile_s x0 x1 x2 x3 x4 i h X q d o kk v hX hq hD ho hk hv) (tile_k x1 x2 x3 h kk hk)
    hX.t3 hX.t4 hX.t5, rope_dQ]

include hX hq hD ho hk hv in
/-- The tile's part of the keys' gradient, added to the part of the tiles before it. -/
theorem tile_dk (a : Vec Ideal S1x128x2304 .f32)
    (ha : ∀ l k, a (ix3 (0 : Fin 1) l k)
      = ((∑ t : Fin 2048, if (t : ℕ) < 512 * i then Qf x0 x3 t h l * DS x0 x1 x2 x3 x4 t h k else 0 : ℝ) : EReal))
    (l : Fin 128) (k : Fin 2304) :
    k0_pay26 (k0_pay17 X q) (k0_pay19 v) (k0_pay20 d) (k0_pay21 o) (k0_pay22 X q kk o) (k0_pay23 d) a (ix3 (0 : Fin 1) l k)
      = ((∑ t : Fin 2048, if (t : ℕ) < 512 * (i + 1) then Qf x0 x3 t h l * DS x0 x1 x2 x3 x4 t h k else 0 : ℝ) : EReal) := by
  rw [pay26_real _ _ _ _ _ _ a _ _ _ (tile_s x0 x1 x2 x3 x4 i h X q d o kk v hX hq hD ho hk hv) (tile_q x0 x3 i h X q hX hq) ha,
    sum_tile _ i i.isLt]
  rfl

include hX hq hD ho hk in
/-- The tile's part of the values' gradient, added to the part of the tiles before it. -/
theorem tile_dv (a : Vec Ideal S1x128x2304 .f32)
    (ha : ∀ l k, a (ix3 (0 : Fin 1) l k)
      = ((∑ t : Fin 2048, if (t : ℕ) < 512 * i then Df x4 t h l * P x0 x1 x2 x3 t h k else 0 : ℝ) : EReal))
    (l : Fin 128) (k : Fin 2304) :
    k0_pay28 (k0_pay27 (k0_pay22 X q kk o) (k0_pay23 d) a) (ix3 (0 : Fin 1) l k)
      = ((∑ t : Fin 2048, if (t : ℕ) < 512 * (i + 1) then Df x4 t h l * P x0 x1 x2 x3 t h k else 0 : ℝ) : EReal) := by
  rw [pay28_real _ _ a _ _ _ (tile_p x0 x1 x2 x3 i h X q o kk hX hq ho hk) (tile_e x4 i h d hD) ha, sum_tile _ i i.isLt]
  rfl

end Cert.KernelIdeal.Point
-- ==== Proof.KBlk.lean ====
/-
  What a grid point of the backward kernel reads: its blocks at an entry, and its three stores from what it loads.
-/
module

public import proofs.«01_k».proof.Proof.KTile
public import Idealize.ShloMosaic.Lib.Pipeline.ReadBack

@[expose] public section

set_option maxRecDepth 16384

noncomputable section

namespace Cert.KernelIdeal.Point

open Cert.KernelIdeal Cert.KernelIdeal.Gen Cert.KernelIdeal.Value Idealize.ShloMosaic Idealize.ShloMosaic.TcCoe Idealize.SL.Sem
open Idealize.ShloMosaic.Pipeline (Dat)
open Cert.Attn

variable (m : (ℓ : Loc nD τ sig) → Buf (Elt Ideal) ℓ) (c : Dev nD)
  (x0 : Fin 2048 → Fin 768 → ℝ) (x1 : Fin 2304 → Fin 1024 → ℝ) (x2 : Fin 2304 → Fin 32 → ℝ)
  (x3 : Fin 2048 → Fin 16 → ℝ) (x4 : Fin 2048 → Fin 512 → ℝ)
  (h0 : ∀ i j, m (c, Proc.devRef .tc main_arg0) (ix2 i j) = (x0 i j : EReal))
  (h1 : ∀ i j, m (c, Proc.devRef .tc main_arg1) (ix2 i j) = (x1 i j : EReal))
  (h2 : ∀ i j, m (c, Proc.devRef .tc main_arg2) (ix2 i j) = (x2 i j : EReal))
  (h3 : ∀ i j, m (c, Proc.devRef .tc main_arg3) (ix2 i j) = (x3 i j : EReal))
  (h4 : ∀ i j, m (c, Proc.devRef .tc main_arg4) (ix2 i j) = (x4 i j : EReal))

/-- The blocks' indices at a point. -/
theorem idx : ∀ t : Fin cfg0.N, win0_0.index t = ![(t : ℕ) % 4, (t : ℕ) / 4] ∧ win0_1.index t = ![0, (t : ℕ) / 4]
    ∧ win0_2.index t = ![0, 6] ∧ win0_3.index t = ![(t : ℕ) % 4, 0] ∧ win0_4.index t = ![0, 0]
    ∧ win0_5.index t = ![(t : ℕ) % 4, (t : ℕ) / 4] ∧ win0_6.index t = ![(t : ℕ) % 4, (t : ℕ) / 4] :=
  (by decide +kernel : ∀ t : Fin grid0.N, _)

include h0 in
/-- The queries' block. -/
theorem blk0 (t : Fin cfg0.N) (i g : Fin 4) (u : Fin 2) (ht : (t : ℕ) = 4 * g + i) (r : Fin 512) (l : Fin 128) :
    iblk m c 0 t (ix2 r (⟨128 * (u : ℕ) + l, by omega⟩ : Fin 256))
      = (Q0 x0 ⟨512 * i + r, by omega⟩ ⟨2 * g + u, by omega⟩ l : EReal) := by
  obtain ⟨e0, e1, e2, e3, e4, e5, e6⟩ := idx t
  rw [← v2_real m c x0 h0]
  blk_ext [iblk, e0]

include h1 in
/-- The latent's block. -/
theorem blk1 (t : Fin cfg0.N) (i g : Fin 4) (u : Fin 2) (ht : (t : ℕ) = 4 * g + i) (k : Fin 2304) (l : Fin 128) :
    iblk m c 1 t (ix2 k (⟨128 * (u : ℕ) + l, by omega⟩ : Fin 256)) = (KV x1 k ⟨2 * g + u, by omega⟩ l : EReal) := by
  obtain ⟨e0, e1, e2, e3, e4, e5, e6⟩ := idx t
  rw [KV, ← h1]
  blk_ext [iblk, V, e1]

include h2 in
/-- The shared key lanes' block. -/
theorem blk2 (t : Fin cfg0.N) (k : Fin 2304) (l : Fin 128) : iblk m c 2 t (ix2 k l) = (K0 x2 k l : EReal) := by
  obtain ⟨e0, e1, e2, e3, e4, e5, e6⟩ := idx t
  rw [← v5_real m c x2 h2]
  blk_ext [iblk, e2]

/-- The table's block of a query tile. -/
theorem blk3 (t : Fin cfg0.N) (i g : Fin 4) (ht : (t : ℕ) = 4 * g + i) (r : Fin 512) (l : Fin 768) :
    X0_3 m c t (ix2 r l) = V m c main_v52 (ix2 (⟨512 * i + r, by omega⟩ : Fin 2304) l) := by
  obtain ⟨e0, e1, e2, e3, e4, e5, e6⟩ := idx t
  unfold X0_3 Pipeline.Window.fill
  rw [dif_pos (moved0_3 t _)]
  blk_ext [iblk, e3]

/-- The table's block of all keys. -/
theorem blk4 (t : Fin cfg0.N) (k : Fin 2304) (l : Fin 768) : iblk m c 4 t (ix2 k l) = V m c main_v52 (ix2 k l) := by
  obtain ⟨e0, e1, e2, e3, e4, e5, e6⟩ := idx t
  blk_ext [iblk, e4]

include h0 h1 h2 h3 in
/-- The saved values' block. -/
theorem blk5 (t : Fin cfg0.N) (i g : Fin 4) (u : Fin 2) (ht : (t : ℕ) = 4 * g + i) (r : Fin 512) (l : Fin 128) :
    iblk m c 5 t (ix2 r (⟨128 * (u : ℕ) + l, by omega⟩ : Fin 256))
      = (Of x0 x1 x2 x3 ⟨512 * i + r, by omega⟩ ⟨2 * g + u, by omega⟩ l : EReal) := by
  obtain ⟨e0, e1, e2, e3, e4, e5, e6⟩ := idx t
  rw [← v141_real m c x0 x1 x2 x3 h0 h1 h2 h3]
  blk_ext [iblk, e5]

include h4 in
/-- The cotangent's block. -/
theorem blk6 (t : Fin cfg0.N) (i g : Fin 4) (u : Fin 2) (ht : (t : ℕ) = 4 * g + i) (r : Fin 512) (l : Fin 128) :
    iblk m c 6 t (ix2 r (⟨128 * (u : ℕ) + l, by omega⟩ : Fin 256))
      = (Df x4 ⟨512 * i + r, by omega⟩ ⟨2 * g + u, by omega⟩ l : EReal) := by
  obtain ⟨e0, e1, e2, e3, e4, e5, e6⟩ := idx t
  rw [← v55_real m c x4 h4]
  blk_ext [iblk, e6]

include h3 in
/-- The table's block of all keys holds the tables. -/
theorem tabAll (t : Fin cfg0.N) : Tab x3 (fun k => k) (iblk m c 4 t) :=
  ⟨fun r l => (blk4 m c t r _).trans (tab0 m c x3 h3 r l), fun r l => (blk4 m c t r _).trans (tab1 m c x3 h3 r l),
    fun r l => (blk4 m c t r _).trans (tab2 m c x3 h3 r l), fun r l => (blk4 m c t r _).trans (tab3 m c x3 h3 r l),
    fun r l => (blk4 m c t r _).trans (tab4 m c x3 h3 r l), fun r l => (blk4 m c t r _).trans (tab5 m c x3 h3 r l)⟩

include h3 in
/-- So does a query tile's. -/
theorem tabTile (t : Fin cfg0.N) (i g : Fin 4) (ht : (t : ℕ) = 4 * g + i) : Tab x3 (fun r => up (row i r)) (X0_3 m c t) :=
  ⟨fun r l => (blk3 m c t i g ht r _).trans (tab0 m c x3 h3 _ l), fun r l => (blk3 m c t i g ht r _).trans (tab1 m c x3 h3 _ l),
    fun r l => (blk3 m c t i g ht r _).trans (tab2 m c x3 h3 _ l), fun r l => (blk3 m c t i g ht r _).trans (tab3 m c x3 h3 _ l),
    fun r l => (blk3 m c t i g ht r _).trans (tab4 m c x3 h3 _ l), fun r l => (blk3 m c t i g ht r _).trans (tab5 m c x3 h3 _ l)⟩

/-- The keys' gradient summed over the first `n` tiles. -/
def sK (n : ℕ) (k : Fin 2304) (h : Fin 8) (l : Fin 128) : ℝ :=
  ∑ t : Fin 2048, if (t : ℕ) < 512 * n then Qf x0 x3 t h l * DS x0 x1 x2 x3 x4 t h k else 0

/-- The values' gradient summed over the first `n` tiles. -/
def sV (n : ℕ) (k : Fin 2304) (h : Fin 8) (l : Fin 128) : ℝ :=
  ∑ t : Fin 2048, if (t : ℕ) < 512 * n then Df x4 t h l * P x0 x1 x2 x3 t h k else 0

include h0 h1 h2 h3 h4 in
/-- A point's stores of the query's and the key's gradient for head `u` of its group, from what it loads. -/
theorem point (t : Fin cfg0.N) (i g : Fin 4) (u : Fin 2) (ht : (t : ℕ) = 4 * g + i) (q d o : Vec Ideal S512x128 .f32)
    (kk v : Vec Ideal S1x2304x128 .bf16)
    (eq : ∀ (r : Fin 512) (l : Fin 128), q (ix2 r l) = iblk m c 0 t (ix2 r (⟨128 * (u : ℕ) + l, by omega⟩ : Fin 256)))
    (ed : ∀ (r : Fin 512) (l : Fin 128), d (ix2 r l) = iblk m c 6 t (ix2 r (⟨128 * (u : ℕ) + l, by omega⟩ : Fin 256)))
    (eo : ∀ (r : Fin 512) (l : Fin 128), o (ix2 r l) = iblk m c 5 t (ix2 r (⟨128 * (u : ℕ) + l, by omega⟩ : Fin 256)))
    (hk : ∀ k l, kk (ix3 (0 : Fin 1) k l) = (Kf x1 x2 x3 k (hd g u) l : EReal))
    (hv : ∀ k l, v (ix3 (0 : Fin 1) k l) = (Vf x1 k (hd g u) l : EReal)) :
    (∀ r l, k0_pay25 (k0_pay16 (X0_3 m c t)) (k0_pay18 kk) (k0_pay19 v) (k0_pay20 d) (k0_pay21 o)
        (k0_pay22 (X0_3 m c t) q kk o) (k0_pay23 d) (ix2 r l) = (dQ x0 x1 x2 x3 x4 (row i r) (hd g u) l : EReal))
    ∧ (∀ a : Vec Ideal S1x128x2304 .f32, (∀ l k, a (ix3 (0 : Fin 1) l k) = (sK x0 x1 x2 x3 x4 i k (hd g u) l : EReal)) →
        ∀ l k, k0_pay26 (k0_pay17 (X0_3 m c t) q) (k0_pay19 v) (k0_pay20 d) (k0_pay21 o) (k0_pay22 (X0_3 m c t) q kk o)
          (k0_pay23 d) a (ix3 (0 : Fin 1) l k) = (sK x0 x1 x2 x3 x4 (i + 1) k (hd g u) l : EReal)) := by
  have hX := tabTile m c x3 h3 t i g ht
  have hq := fun r l => (eq r l).trans (blk0 m c x0 h0 t i g u ht r l)
  have hD := fun r l => (ed r l).trans (blk6 m c x4 h4 t i g u ht r l)
  have ho := fun r l => (eo r l).trans (blk5 m c x0 x1 x2 x3 h0 h1 h2 h3 t i g u ht r l)
  exact ⟨tile_dq x0 x1 x2 x3 x4 i (hd g u) (X0_3 m c t) q d o kk v hX hq hD ho hk hv,
    tile_dk x0 x1 x2 x3 x4 i (hd g u) (X0_3 m c t) q d o kk v hX hq hD ho hk hv⟩

include h0 h1 h2 h3 h4 in
/-- And the values' store, which reads no values. -/
theorem pointV (t : Fin cfg0.N) (i g : Fin 4) (u : Fin 2) (ht : (t : ℕ) = 4 * g + i) (q d o : Vec Ideal S512x128 .f32)
    (kk : Vec Ideal S1x2304x128 .bf16)
    (eq : ∀ (r : Fin 512) (l : Fin 128), q (ix2 r l) = iblk m c 0 t (ix2 r (⟨128 * (u : ℕ) + l, by omega⟩ : Fin 256)))
    (ed : ∀ (r : Fin 512) (l : Fin 128), d (ix2 r l) = iblk m c 6 t (ix2 r (⟨128 * (u : ℕ) + l, by omega⟩ : Fin 256)))
    (eo : ∀ (r : Fin 512) (l : Fin 128), o (ix2 r l) = iblk m c 5 t (ix2 r (⟨128 * (u : ℕ) + l, by omega⟩ : Fin 256)))
    (hk : ∀ k l, kk (ix3 (0 : Fin 1) k l) = (Kf x1 x2 x3 k (hd g u) l : EReal)) :
    ∀ a : Vec Ideal S1x128x2304 .f32, (∀ l k, a (ix3 (0 : Fin 1) l k) = (sV x0 x1 x2 x3 x4 i k (hd g u) l : EReal)) →
        ∀ l k, k0_pay28 (k0_pay27 (k0_pay22 (X0_3 m c t) q kk o) (k0_pay23 d) a) (ix3 (0 : Fin 1) l k)
          = (sV x0 x1 x2 x3 x4 (i + 1) k (hd g u) l : EReal) :=
  tile_dv x0 x1 x2 x3 x4 i (hd g u) (X0_3 m c t) q d o kk (tabTile m c x3 h3 t i g ht)
    (fun r l => (eq r l).trans (blk0 m c x0 h0 t i g u ht r l)) (fun r l => (ed r l).trans (blk6 m c x4 h4 t i g u ht r l))
    (fun r l => (eo r l).trans (blk5 m c x0 x1 x2 x3 h0 h1 h2 h3 t i g u ht r l)) hk

end Cert.KernelIdeal.Point
-- ==== Proof.KLater.lean ====
/-
  The backward kernel's points after a group's first: what they leave, from what the point before left.
-/
module

public import proofs.«01_k».proof.Proof.KBlk
public import Idealize.ShloMosaic.Lib.Pipeline.ReadBack

@[expose] public section

set_option maxRecDepth 16384

noncomputable section

namespace Cert.KernelIdeal.Point

open Cert.KernelIdeal Cert.KernelIdeal.Gen Cert.KernelIdeal.Value Idealize.ShloMosaic Idealize.ShloMosaic.TcCoe Idealize.SL.Sem
open Idealize.ShloMosaic.Pipeline (Dat)
open Cert.Attn

variable (m : (ℓ : Loc nD τ sig) → Buf (Elt Ideal) ℓ) (c : Dev nD)
  (x0 : Fin 2048 → Fin 768 → ℝ) (x1 : Fin 2304 → Fin 1024 → ℝ) (x2 : Fin 2304 → Fin 32 → ℝ)
  (x3 : Fin 2048 → Fin 16 → ℝ) (x4 : Fin 2048 → Fin 512 → ℝ)
  (h0 : ∀ i j, m (c, Proc.devRef .tc main_arg0) (ix2 i j) = (x0 i j : EReal))
  (h1 : ∀ i j, m (c, Proc.devRef .tc main_arg1) (ix2 i j) = (x1 i j : EReal))
  (h2 : ∀ i j, m (c, Proc.devRef .tc main_arg2) (ix2 i j) = (x2 i j : EReal))
  (h3 : ∀ i j, m (c, Proc.devRef .tc main_arg3) (ix2 i j) = (x3 i j : EReal))
  (h4 : ∀ i j, m (c, Proc.devRef .tc main_arg4) (ix2 i j) = (x4 i j : EReal))

include h0 h1 h2 h3 h4 in
/-- The queries' gradient after a point that is not its group's first. -/
theorem later7 (t : Fin cfg0.N) (i g : Fin 4) (ht : (t : ℕ) = 4 * g + i) (hi : ¬(t : ℕ) % 4 = 0)
    (hk : ∀ (u : Fin 2) k l, (outsAt0 m c (t.val - 1) (Nat.lt_of_le_of_lt (Nat.sub_le _ _) t.isLt)).2.2.2.1 (ix3 u k l)
      = (Kf x1 x2 x3 k (hd g u) l : EReal))
    (hv : ∀ (u : Fin 2) k l, (outsAt0 m c (t.val - 1) (Nat.lt_of_le_of_lt (Nat.sub_le _ _) t.isLt)).2.2.2.2.1 (ix3 u k l)
      = (Vf x1 k (hd g u) l : EReal))
    (u : Fin 2) (r : Fin 512) (l : Fin 128) :
    (outsAt0 m c t.val t.isLt).1 (ix2 r (⟨128 * (u : ℕ) + l, by omega⟩ : Fin 256)) = (dQ x0 x1 x2 x3 x4 (row i r) (hd g u) l : EReal) := by
  rcases (by omega : ¬(t : ℕ) % 4 = 3 ∨ ((t : ℕ) % 4 = 3 ∧ (t : ℕ) < 4) ∨ ((t : ℕ) % 4 = 3 ∧ ¬(t : ℕ) < 4)) with e | ⟨e, f⟩ | ⟨e, f⟩
  all_goals
    first
      | rw [outsAt0_B m c t hi e]
      | rw [outsAt0_C m c t hi e f (by omega)]
      | rw [outsAt0_D m c t hi e f (by omega)]
    frame_out
    simp only [read_unread_whole]
    canon_tiles x e
    · change (r : ℕ) = (x 0 : ℕ) at e0
      change 128 * (u : ℕ) + (l : ℕ) = 128 + (x 1 : ℕ) at e1
      idx_bounds x
      obtain rfl : u = 1 := Fin.ext (by show (u : ℕ) = 1; omega)
      obtain rfl : x = ix2 r l := by
        blk_ext
      rw [pay37_eq]
      refine (point m c x0 x1 x2 x3 x4 h0 h1 h2 h3 h4 t i g 1 ht _ _ _ _ _ ?_ ?_ ?_ ?_ ?_).1 r l
      · intro r l; pointwise <;> rfl
      · intro r l; pointwise <;> rfl
      · intro r l; pointwise <;> rfl
      · intro k l; pointwise; exact hk 1 k l
      · intro k l; pointwise; exact hv 1 k l
    · change (r : ℕ) = (x 0 : ℕ) at e0
      change 128 * (u : ℕ) + (l : ℕ) = (x 1 : ℕ) at e1
      idx_bounds x
      obtain rfl : u = 0 := Fin.ext (by show (u : ℕ) = 0; omega)
      obtain rfl : x = ix2 r l := by
        blk_ext
      refine (point m c x0 x1 x2 x3 x4 h0 h1 h2 h3 h4 t i g 0 ht _ _ _ _ _ ?_ ?_ ?_ ?_ ?_).1 r l
      · intro r l; pointwise <;> rfl
      · intro r l; pointwise <;> rfl
      · intro r l; pointwise <;> rfl
      · intro k l; pointwise; exact hk 0 k l
      · intro k l; pointwise; exact hv 0 k l

include h0 h1 h2 h3 h4 in
/-- The keys' gradient after such a point. -/
theorem laterK (t : Fin cfg0.N) (i g : Fin 4) (ht : (t : ℕ) = 4 * g + i) (hi : ¬(t : ℕ) % 4 = 0)
    (hk : ∀ (u : Fin 2) k l, (outsAt0 m c (t.val - 1) (Nat.lt_of_le_of_lt (Nat.sub_le _ _) t.isLt)).2.2.2.1 (ix3 u k l)
      = (Kf x1 x2 x3 k (hd g u) l : EReal))
    (hv : ∀ (u : Fin 2) k l, (outsAt0 m c (t.val - 1) (Nat.lt_of_le_of_lt (Nat.sub_le _ _) t.isLt)).2.2.2.2.1 (ix3 u k l)
      = (Vf x1 k (hd g u) l : EReal))
    (ha : ∀ (u : Fin 2) l k, (outsAt0 m c (t.val - 1) (Nat.lt_of_le_of_lt (Nat.sub_le _ _) t.isLt)).2.2.2.2.2.1 (ix3 u l k) = (sK x0 x1 x2 x3 x4 i k (hd g u) l : EReal))
    (u : Fin 2) (l : Fin 128) (k : Fin 2304) :
    (outsAt0 m c t.val t.isLt).2.2.2.2.2.1 (ix3 u l k) = (sK x0 x1 x2 x3 x4 (i + 1) k (hd g u) l : EReal) := by
  rcases (by omega : ¬(t : ℕ) % 4 = 3 ∨ ((t : ℕ) % 4 = 3 ∧ (t : ℕ) < 4) ∨ ((t : ℕ) % 4 = 3 ∧ ¬(t : ℕ) < 4)) with e | ⟨e, f⟩ | ⟨e, f⟩
  all_goals
    first
      | rw [outsAt0_B m c t hi e]
      | rw [outsAt0_C m c t hi e f (by omega)]
      | rw [outsAt0_D m c t hi e f (by omega)]
    frame_out
    simp only [read_unread_whole]
    canon_tiles x e
    · change (u : ℕ) = 1 + (x 0 : ℕ) at e0
      change (l : ℕ) = (x 1 : ℕ) at e1
      change (k : ℕ) = (x 2 : ℕ) at e2
      idx_bounds x
      obtain rfl : u = 1 := Fin.ext (by show (u : ℕ) = 1; omega)
      obtain rfl : x = ix3 (0 : Fin 1) l k := by
        blk_ext
      rw [pay38_eq]
      refine (point m c x0 x1 x2 x3 x4 h0 h1 h2 h3 h4 t i g 1 ht _ _ _ _ _ ?_ ?_ ?_ ?_ ?_).2 _ ?_ l k
      · intro r l; pointwise <;> rfl
      · intro r l; pointwise <;> rfl
      · intro r l; pointwise <;> rfl
      · intro k l; pointwise; exact hk 1 k l
      · intro k l; pointwise; exact hv 1 k l
      · intro l k; pointwise; exact ha 1 l k
    · change (u : ℕ) = (x 0 : ℕ) at e0
      change (l : ℕ) = (x 1 : ℕ) at e1
      change (k : ℕ) = (x 2 : ℕ) at e2
      idx_bounds x
      obtain rfl : u = 0 := Fin.ext (by show (u : ℕ) = 0; omega)
      obtain rfl : x = ix3 (0 : Fin 1) l k := by
        blk_ext
      refine (point m c x0 x1 x2 x3 x4 h0 h1 h2 h3 h4 t i g 0 ht _ _ _ _ _ ?_ ?_ ?_ ?_ ?_).2 _ ?_ l k
      · intro r l; pointwise <;> rfl
      · intro r l; pointwise <;> rfl
      · intro r l; pointwise <;> rfl
      · intro k l; pointwise; exact hk 0 k l
      · intro k l; pointwise; exact hv 0 k l
      · intro l k; pointwise; exact ha 0 l k

include h0 h1 h2 h3 h4 in
/-- The values' gradient after such a point. -/
theorem laterV (t : Fin cfg0.N) (i g : Fin 4) (ht : (t : ℕ) = 4 * g + i) (hi : ¬(t : ℕ) % 4 = 0)
    (hk : ∀ (u : Fin 2) k l, (outsAt0 m c (t.val - 1) (Nat.lt_of_le_of_lt (Nat.sub_le _ _) t.isLt)).2.2.2.1 (ix3 u k l)
      = (Kf x1 x2 x3 k (hd g u) l : EReal))
    (ha : ∀ (u : Fin 2) l k, (outsAt0 m c (t.val - 1) (Nat.lt_of_le_of_lt (Nat.sub_le _ _) t.isLt)).2.2.2.2.2.2 (ix3 u l k) = (sV x0 x1 x2 x3 x4 i k (hd g u) l : EReal))
    (u : Fin 2) (l : Fin 128) (k : Fin 2304) :
    (outsAt0 m c t.val t.isLt).2.2.2.2.2.2 (ix3 u l k) = (sV x0 x1 x2 x3 x4 (i + 1) k (hd g u) l : EReal) := by
  rcases (by omega : ¬(t : ℕ) % 4 = 3 ∨ ((t : ℕ) % 4 = 3 ∧ (t : ℕ) < 4) ∨ ((t : ℕ) % 4 = 3 ∧ ¬(t : ℕ) < 4)) with e | ⟨e, f⟩ | ⟨e, f⟩
  all_goals
    first
      | rw [outsAt0_B m c t hi e]
      | rw [outsAt0_C m c t hi e f (by omega)]
      | rw [outsAt0_D m c t hi e f (by omega)]
    frame_out
    simp only [read_unread_whole]
    canon_tiles x e
    · change (u : ℕ) = 1 + (x 0 : ℕ) at e0
      change (l : ℕ) = (x 1 : ℕ) at e1
      change (k : ℕ) = (x 2 : ℕ) at e2
      idx_bounds x
      obtain rfl : u = 1 := Fin.ext (by show (u : ℕ) = 1; omega)
      obtain rfl : x = ix3 (0 : Fin 1) l k := by
        blk_ext
      rw [pay39_eq]
      refine pointV m c x0 x1 x2 x3 x4 h0 h1 h2 h3 h4 t i g 1 ht _ _ _ _ ?_ ?_ ?_ ?_ _ ?_ l k
      · intro r l; pointwise <;> rfl
      · intro r l; pointwise <;> rfl
      · intro r l; pointwise <;> rfl
      · intro k l; pointwise; exact hk 1 k l
      · intro l k; pointwise; exact ha 1 l k
    · change (u : ℕ) = (x 0 : ℕ) at e0
      change (l : ℕ) = (x 1 : ℕ) at e1
      change (k : ℕ) = (x 2 : ℕ) at e2
      idx_bounds x
      obtain rfl : u = 0 := Fin.ext (by show (u : ℕ) = 0; omega)
      obtain rfl : x = ix3 (0 : Fin 1) l k := by
        blk_ext
      refine pointV m c x0 x1 x2 x3 x4 h0 h1 h2 h3 h4 t i g 0 ht _ _ _ _ ?_ ?_ ?_ ?_ _ ?_ l k
      · intro r l; pointwise <;> rfl
      · intro r l; pointwise <;> rfl
      · intro r l; pointwise <;> rfl
      · intro k l; pointwise; exact hk 0 k l
      · intro l k; pointwise; exact ha 0 l k

/-- Such a point leaves the keys it found. -/
theorem later_k (t : Fin cfg0.N) (hi : ¬(t : ℕ) % 4 = 0) : (outsAt0 m c t.val t.isLt).2.2.2.1 = (outsAt0 m c (t.val - 1) (Nat.lt_of_le_of_lt (Nat.sub_le _ _) t.isLt)).2.2.2.1 := by
  rcases (by omega : ¬(t : ℕ) % 4 = 3 ∨ ((t : ℕ) % 4 = 3 ∧ (t : ℕ) < 4) ∨ ((t : ℕ) % 4 = 3 ∧ ¬(t : ℕ) < 4)) with e | ⟨e, f⟩ | ⟨e, f⟩
  · rw [outsAt0_B m c t hi e]; rfl
  · rw [outsAt0_C m c t hi e f (by omega)]; rfl
  · rw [outsAt0_D m c t hi e f (by omega)]; rfl

/-- And the values. -/
theorem later_v (t : Fin cfg0.N) (hi : ¬(t : ℕ) % 4 = 0) : (outsAt0 m c t.val t.isLt).2.2.2.2.1 = (outsAt0 m c (t.val - 1) (Nat.lt_of_le_of_lt (Nat.sub_le _ _) t.isLt)).2.2.2.2.1 := by
  rcases (by omega : ¬(t : ℕ) % 4 = 3 ∨ ((t : ℕ) % 4 = 3 ∧ (t : ℕ) < 4) ∨ ((t : ℕ) % 4 = 3 ∧ ¬(t : ℕ) < 4)) with e | ⟨e, f⟩ | ⟨e, f⟩
  · rw [outsAt0_B m c t hi e]; rfl
  · rw [outsAt0_C m c t hi e f (by omega)]; rfl
  · rw [outsAt0_D m c t hi e f (by omega)]; rfl

/-- A point that is not a group's last leaves the shared lanes' gradient it found. -/
theorem kept9 (t : Fin cfg0.N) (e : ¬(t : ℕ) % 4 = 3) : (outsAt0 m c t.val t.isLt).2.2.1 = (outsAt0 m c (t.val - 1) (Nat.lt_of_le_of_lt (Nat.sub_le _ _) t.isLt)).2.2.1 := by
  by_cases hi : (t : ℕ) % 4 = 0
  · rw [outsAt0_A m c t hi e]; rfl
  · rw [outsAt0_B m c t hi e]; rfl

end Cert.KernelIdeal.Point
-- ==== Proof.KFirst.lean ====
/-
  A group's first point of the backward kernel: the keys and values it stores, and its gradients.
-/
module

public import proofs.«01_k».proof.Proof.KLater
public import Idealize.ShloMosaic.Lib.Pipeline.ReadBack

@[expose] public section

set_option maxRecDepth 16384

noncomputable section

namespace Cert.KernelIdeal.Point

open Cert.KernelIdeal Cert.KernelIdeal.Gen Cert.KernelIdeal.Value Idealize.ShloMosaic Idealize.ShloMosaic.TcCoe Idealize.SL.Sem
open Idealize.ShloMosaic.Pipeline (Dat)
open Cert.Attn

variable (m : (ℓ : Loc nD τ sig) → Buf (Elt Ideal) ℓ) (c : Dev nD)
  (x0 : Fin 2048 → Fin 768 → ℝ) (x1 : Fin 2304 → Fin 1024 → ℝ) (x2 : Fin 2304 → Fin 32 → ℝ)
  (x3 : Fin 2048 → Fin 16 → ℝ) (x4 : Fin 2048 → Fin 512 → ℝ)
  (h0 : ∀ i j, m (c, Proc.devRef .tc main_arg0) (ix2 i j) = (x0 i j : EReal))
  (h1 : ∀ i j, m (c, Proc.devRef .tc main_arg1) (ix2 i j) = (x1 i j : EReal))
  (h2 : ∀ i j, m (c, Proc.devRef .tc main_arg2) (ix2 i j) = (x2 i j : EReal))
  (h3 : ∀ i j, m (c, Proc.devRef .tc main_arg3) (ix2 i j) = (x3 i j : EReal))
  (h4 : ∀ i j, m (c, Proc.devRef .tc main_arg4) (ix2 i j) = (x4 i j : EReal))

include h1 h2 h3 in
/-- The key head a group's first point stores. -/
theorem keyHead (t : Fin cfg0.N) (i g : Fin 4) (u : Fin 2) (ht : (t : ℕ) = 4 * g + i) (v : Vec Ideal S2304x128 .f32)
    (ev : ∀ (k : Fin 2304) (l : Fin 128), v (ix2 k l) = iblk m c 1 t (ix2 k (⟨128 * (u : ℕ) + l, by omega⟩ : Fin 256)))
    (k : Fin 2304) (l : Fin 128) :
    k0_pay2 (iblk m c 2 t) (iblk m c 4 t) v (ix3 (0 : Fin 1) k l) = (Kf x1 x2 x3 k (hd g u) l : EReal) := by
  have hT := tabAll m c x3 h3 t
  rw [pay2_real (iblk m c 2 t) (iblk m c 4 t) v (K0 x2) (fun k => KV x1 k (hd g u)) _ _ _ (blk2 m c x2 h2 t)
    (fun k l => (ev k l).trans (blk1 m c x1 h1 t i g u ht k l)) hT.t0 hT.t1 hT.t2, ← rope_K0]
  by_cases hl : (l : ℕ) < 64
  · rw [if_pos hl, dif_pos hl]
  · rw [if_neg hl, dif_neg hl]

include h1 in
/-- The value head it stores. -/
theorem valueHead (t : Fin cfg0.N) (i g : Fin 4) (u : Fin 2) (ht : (t : ℕ) = 4 * g + i) (v : Vec Ideal S2304x128 .f32)
    (ev : ∀ (k : Fin 2304) (l : Fin 128), v (ix2 k l) = iblk m c 1 t (ix2 k (⟨128 * (u : ℕ) + l, by omega⟩ : Fin 256)))
    (k : Fin 2304) (l : Fin 128) : k0_pay3 v (ix3 (0 : Fin 1) k l) = (Vf x1 k (hd g u) l : EReal) := by
  rw [pay3_real v (fun k => KV x1 k (hd g u)) (fun k l => (ev k l).trans (blk1 m c x1 h1 t i g u ht k l))]
  unfold Vf upper
  by_cases hl : (l : ℕ) < 64
  · rw [if_pos hl, dif_pos hl]
  · rw [if_neg hl, dif_neg hl]
    congr 2
    exact Fin.ext (by dsimp only; omega)

/-- Before the first tile there is no sum. -/
theorem sK_zero (k : Fin 2304) (h : Fin 8) (l : Fin 128) : sK x0 x1 x2 x3 x4 0 k h l = 0 :=
  Finset.sum_eq_zero fun t _ => if_neg (by omega)

/-- Nor for the values. -/
theorem sV_zero (k : Fin 2304) (h : Fin 8) (l : Fin 128) : sV x0 x1 x2 x3 x4 0 k h l = 0 :=
  Finset.sum_eq_zero fun t _ => if_neg (by omega)

/-- The cleared scratch. -/
theorem pay14_real (y) : k0_pay14 (F := Ideal) y = ((0 : ℝ) : EReal) := by
  pointwise [k0_pay14]
  rfl

/-- The other cleared scratch. -/
theorem pay15_real (y) : k0_pay15 (F := Ideal) y = ((0 : ℝ) : EReal) := by
  pointwise [k0_pay15]
  rfl

include h1 h2 h3 in
/-- The keys after a group's first point. -/
theorem first_k (t : Fin cfg0.N) (g : Fin 4) (ht : (t : ℕ) = 4 * g + (0 : Fin 4)) (hi : (t : ℕ) % 4 = 0) (u : Fin 2) (k : Fin 2304) (l : Fin 128) :
    (outsAt0 m c t.val t.isLt).2.2.2.1 (ix3 u k l) = (Kf x1 x2 x3 k (hd g u) l : EReal) := by
  rw [outsAt0_A m c t hi (by omega)]
  frame_out
  canon_tiles x e
  · change (u : ℕ) = 1 + (x 0 : ℕ) at e0
    change (k : ℕ) = (x 1 : ℕ) at e1
    change (l : ℕ) = (x 2 : ℕ) at e2
    idx_bounds x
    obtain rfl : u = 1 := Fin.ext (by show (u : ℕ) = 1; omega)
    obtain rfl : x = ix3 (0 : Fin 1) k l := by
      blk_ext
    refine keyHead m c x1 x2 x3 h1 h2 h3 t 0 g 1 ht _ ?_ k l
    intro k l; pointwise <;> rfl
  · change (u : ℕ) = (x 0 : ℕ) at e0
    change (k : ℕ) = (x 1 : ℕ) at e1
    change (l : ℕ) = (x 2 : ℕ) at e2
    idx_bounds x
    obtain rfl : u = 0 := Fin.ext (by show (u : ℕ) = 0; omega)
    obtain rfl : x = ix3 (0 : Fin 1) k l := by
      blk_ext
    refine keyHead m c x1 x2 x3 h1 h2 h3 t 0 g 0 ht _ ?_ k l
    intro k l; pointwise <;> rfl

include h1 in
/-- The values after it. -/
theorem first_v (t : Fin cfg0.N) (g : Fin 4) (ht : (t : ℕ) = 4 * g + (0 : Fin 4)) (hi : (t : ℕ) % 4 = 0) (u : Fin 2) (k : Fin 2304) (l : Fin 128) :
    (outsAt0 m c t.val t.isLt).2.2.2.2.1 (ix3 u k l) = (Vf x1 k (hd g u) l : EReal) := by
  rw [outsAt0_A m c t hi (by omega)]
  frame_out
  canon_tiles x e
  · change (u : ℕ) = 1 + (x 0 : ℕ) at e0
    change (k : ℕ) = (x 1 : ℕ) at e1
    change (l : ℕ) = (x 2 : ℕ) at e2
    idx_bounds x
    obtain rfl : u = 1 := Fin.ext (by show (u : ℕ) = 1; omega)
    obtain rfl : x = ix3 (0 : Fin 1) k l := by
      blk_ext
    refine valueHead m c x1 h1 t 0 g 1 ht _ ?_ k l
    intro k l; pointwise <;> rfl
  · change (u : ℕ) = (x 0 : ℕ) at e0
    change (k : ℕ) = (x 1 : ℕ) at e1
    change (l : ℕ) = (x 2 : ℕ) at e2
    idx_bounds x
    obtain rfl : u = 0 := Fin.ext (by show (u : ℕ) = 0; omega)
    obtain rfl : x = ix3 (0 : Fin 1) k l := by
      blk_ext
    refine valueHead m c x1 h1 t 0 g 0 ht _ ?_ k l
    intro k l; pointwise <;> rfl

include h0 h1 h2 h3 h4 in
/-- The queries' gradient after it. -/
theorem first7 (t : Fin cfg0.N) (g : Fin 4) (ht : (t : ℕ) = 4 * g + (0 : Fin 4)) (hi : (t : ℕ) % 4 = 0) (u : Fin 2) (r : Fin 512) (l : Fin 128) :
    (outsAt0 m c t.val t.isLt).1 (ix2 r (⟨128 * (u : ℕ) + l, by omega⟩ : Fin 256)) = (dQ x0 x1 x2 x3 x4 (row 0 r) (hd g u) l : EReal) := by
  rw [outsAt0_A m c t hi (by omega)]
  frame_out
  simp (disch := decide) only [↓View.readCov_skip, ↓View.readCov_fill, ↓View.readCov_cons_toLoadRect]
  canon_tiles x e
  · change (r : ℕ) = (x 0 : ℕ) at e0
    change 128 * (u : ℕ) + (l : ℕ) = 128 + (x 1 : ℕ) at e1
    idx_bounds x
    obtain rfl : u = 1 := Fin.ext (by show (u : ℕ) = 1; omega)
    obtain rfl : x = ix2 r l := by
      blk_ext
    rw [pay37_eq]
    refine (point m c x0 x1 x2 x3 x4 h0 h1 h2 h3 h4 t 0 g 1 ht _ _ _ _ _ ?_ ?_ ?_ ?_ ?_).1 r l
    · intro r l; pointwise <;> rfl
    · intro r l; pointwise <;> rfl
    · intro r l; pointwise <;> rfl
    · intro k l; refine keyHead m c x1 x2 x3 h1 h2 h3 t 0 g 1 ht _ ?_ k l; intro k l; pointwise <;> rfl
    · intro k l; refine valueHead m c x1 h1 t 0 g 1 ht _ ?_ k l; intro k l; pointwise <;> rfl
  · change (r : ℕ) = (x 0 : ℕ) at e0
    change 128 * (u : ℕ) + (l : ℕ) = (x 1 : ℕ) at e1
    idx_bounds x
    obtain rfl : u = 0 := Fin.ext (by show (u : ℕ) = 0; omega)
    obtain rfl : x = ix2 r l := by
      blk_ext
    refine (point m c x0 x1 x2 x3 x4 h0 h1 h2 h3 h4 t 0 g 0 ht _ _ _ _ _ ?_ ?_ ?_ ?_ ?_).1 r l
    · intro r l; pointwise <;> rfl
    · intro r l; pointwise <;> rfl
    · intro r l; pointwise <;> rfl
    · intro k l; refine keyHead m c x1 x2 x3 h1 h2 h3 t 0 g 0 ht _ ?_ k l; intro k l; pointwise <;> rfl
    · intro k l; refine valueHead m c x1 h1 t 0 g 0 ht _ ?_ k l; intro k l; pointwise <;> rfl

include h0 h1 h2 h3 h4 in
/-- The keys' gradient after it. -/
theorem firstK (t : Fin cfg0.N) (g : Fin 4) (ht : (t : ℕ) = 4 * g + (0 : Fin 4)) (hi : (t : ℕ) % 4 = 0) (u : Fin 2) (l : Fin 128) (k : Fin 2304) :
    (outsAt0 m c t.val t.isLt).2.2.2.2.2.1 (ix3 u l k) = (sK x0 x1 x2 x3 x4 1 k (hd g u) l : EReal) := by
  rw [outsAt0_A m c t hi (by omega)]
  frame_out
  simp (disch := decide) only [↓View.readCov_skip, ↓View.readCov_fill, ↓View.readCov_cons_toLoadRect]
  refine View.canon_append_of_piecesOf (Val := Elt Ideal) (e := .f32) (s := S2x128x2304) (fun y => (sK x0 x1 x2 x3 x4 1 (y 2) (hd g (y 0)) (y 1) : EReal)) [_] [_, _] ⟨?_, ?_, trivial⟩ _ ?_
  · intro x
    obtain ⟨z, l, k, rfl⟩ : ∃ (z : Fin 1) (l : Fin 128) (k : Fin 2304), x = ix3 z l k := ⟨x 0, x 1, x 2, by blk_ext⟩
    obtain rfl : z = 0 := Fin.ext (by omega)
    have y0 : (Rect.unit (s := S2x128x2304) ![1, 0, 0] ![1, 128, 2304] inb_S2x128x2304_S1x128x2304_1_0_0).emb (ix3 (0 : Fin 1) l k) = ix3 (1 : Fin 2) l k := by blk_ext
    show _ = ((fun y => (sK x0 x1 x2 x3 x4 1 (y 2) (hd g (y 0)) (y 1) : EReal)) : S2x128x2304.Idx → EReal) _
    rw [y0]
    dsimp only
    rw [pay38_eq]
    refine (point m c x0 x1 x2 x3 x4 h0 h1 h2 h3 h4 t 0 g 1 ht _ _ _ _ _ ?_ ?_ ?_ ?_ ?_).2 _ ?_ l k
    · intro r l; pointwise <;> rfl
    · intro r l; pointwise <;> rfl
    · intro r l; pointwise <;> rfl
    · intro k l; refine keyHead m c x1 x2 x3 h1 h2 h3 t 0 g 1 ht _ ?_ k l; intro k l; pointwise <;> rfl
    · intro k l; refine valueHead m c x1 h1 t 0 g 1 ht _ ?_ k l; intro k l; pointwise <;> rfl
    · intro l k; exact (pay14_real _).trans (congrArg _ (sK_zero x0 x1 x2 x3 x4 k _ l).symm)
  · intro x
    obtain ⟨z, l, k, rfl⟩ : ∃ (z : Fin 1) (l : Fin 128) (k : Fin 2304), x = ix3 z l k := ⟨x 0, x 1, x 2, by blk_ext⟩
    obtain rfl : z = 0 := Fin.ext (by omega)
    have y0 : (Rect.unit (s := S2x128x2304) ![0, 0, 0] ![1, 128, 2304] inb_S2x128x2304_S1x128x2304_0_0_0).emb (ix3 (0 : Fin 1) l k) = ix3 (0 : Fin 2) l k := by blk_ext
    show _ = ((fun y => (sK x0 x1 x2 x3 x4 1 (y 2) (hd g (y 0)) (y 1) : EReal)) : S2x128x2304.Idx → EReal) _
    rw [y0]
    dsimp only
    refine (point m c x0 x1 x2 x3 x4 h0 h1 h2 h3 h4 t 0 g 0 ht _ _ _ _ _ ?_ ?_ ?_ ?_ ?_).2 _ ?_ l k
    · intro r l; pointwise <;> rfl
    · intro r l; pointwise <;> rfl
    · intro r l; pointwise <;> rfl
    · intro k l; refine keyHead m c x1 x2 x3 h1 h2 h3 t 0 g 0 ht _ ?_ k l; intro k l; pointwise <;> rfl
    · intro k l; refine valueHead m c x1 h1 t 0 g 0 ht _ ?_ k l; intro k l; pointwise <;> rfl
    · intro l k; exact (pay14_real _).trans (congrArg _ (sK_zero x0 x1 x2 x3 x4 k _ l).symm)
  · refine View.cover_of_tiledL (s := S2x128x2304) _ S1x128x2304.size ?_ _
    sl_kernel_rfl

include h0 h1 h2 h3 h4 in
/-- The values' gradient after it. -/
theorem firstV (t : Fin cfg0.N) (g : Fin 4) (ht : (t : ℕ) = 4 * g + (0 : Fin 4)) (hi : (t : ℕ) % 4 = 0) (u : Fin 2) (l : Fin 128) (k : Fin 2304) :
    (outsAt0 m c t.val t.isLt).2.2.2.2.2.2 (ix3 u l k) = (sV x0 x1 x2 x3 x4 1 k (hd g u) l : EReal) := by
  rw [outsAt0_A m c t hi (by omega)]
  frame_out
  simp (disch := decide) only [↓View.readCov_skip, ↓View.readCov_fill, ↓View.readCov_cons_toLoadRect]
  refine View.canon_append_of_piecesOf (Val := Elt Ideal) (e := .f32) (s := S2x128x2304) (fun y => (sV x0 x1 x2 x3 x4 1 (y 2) (hd g (y 0)) (y 1) : EReal)) [_] [_, _] ⟨?_, ?_, trivial⟩ _ ?_
  · intro x
    obtain ⟨z, l, k, rfl⟩ : ∃ (z : Fin 1) (l : Fin 128) (k : Fin 2304), x = ix3 z l k := ⟨x 0, x 1, x 2, by blk_ext⟩
    obtain rfl : z = 0 := Fin.ext (by omega)
    have y0 : (Rect.unit (s := S2x128x2304) ![1, 0, 0] ![1, 128, 2304] inb_S2x128x2304_S1x128x2304_1_0_0).emb (ix3 (0 : Fin 1) l k) = ix3 (1 : Fin 2) l k := by blk_ext
    show _ = ((fun y => (sV x0 x1 x2 x3 x4 1 (y 2) (hd g (y 0)) (y 1) : EReal)) : S2x128x2304.Idx → EReal) _
    rw [y0]
    dsimp only
    rw [pay39_eq]
    refine pointV m c x0 x1 x2 x3 x4 h0 h1 h2 h3 h4 t 0 g 1 ht _ _ _ _ ?_ ?_ ?_ ?_ _ ?_ l k
    · intro r l; pointwise <;> rfl
    · intro r l; pointwise <;> rfl
    · intro r l; pointwise <;> rfl
    · intro k l; refine keyHead m c x1 x2 x3 h1 h2 h3 t 0 g 1 ht _ ?_ k l; intro k l; pointwise <;> rfl
    · intro l k; exact (pay15_real _).trans (congrArg _ (sV_zero x0 x1 x2 x3 x4 k _ l).symm)
  · intro x
    obtain ⟨z, l, k, rfl⟩ : ∃ (z : Fin 1) (l : Fin 128) (k : Fin 2304), x = ix3 z l k := ⟨x 0, x 1, x 2, by blk_ext⟩
    obtain rfl : z = 0 := Fin.ext (by omega)
    have y0 : (Rect.unit (s := S2x128x2304) ![0, 0, 0] ![1, 128, 2304] inb_S2x128x2304_S1x128x2304_0_0_0).emb (ix3 (0 : Fin 1) l k) = ix3 (0 : Fin 2) l k := by blk_ext
    show _ = ((fun y => (sV x0 x1 x2 x3 x4 1 (y 2) (hd g (y 0)) (y 1) : EReal)) : S2x128x2304.Idx → EReal) _
    rw [y0]
    dsimp only
    refine pointV m c x0 x1 x2 x3 x4 h0 h1 h2 h3 h4 t 0 g 0 ht _ _ _ _ ?_ ?_ ?_ ?_ _ ?_ l k
    · intro r l; pointwise <;> rfl
    · intro r l; pointwise <;> rfl
    · intro r l; pointwise <;> rfl
    · intro k l; refine keyHead m c x1 x2 x3 h1 h2 h3 t 0 g 0 ht _ ?_ k l; intro k l; pointwise <;> rfl
    · intro l k; exact (pay15_real _).trans (congrArg _ (sV_zero x0 x1 x2 x3 x4 k _ l).symm)
  · refine View.cover_of_tiledL (s := S2x128x2304) _ S1x128x2304.size ?_ _
    sl_kernel_rfl

end Cert.KernelIdeal.Point
-- ==== Proof.KLast.lean ====
/-
  A group's last point of the backward kernel: the latent rows' gradient, and the shared key lanes'.
-/
module

public import proofs.«01_k».proof.Proof.KFirst
public import Idealize.ShloMosaic.Lib.Pipeline.ReadBack

@[expose] public section

set_option maxRecDepth 16384

noncomputable section

namespace Cert.KernelIdeal.Point

open Cert.KernelIdeal Cert.KernelIdeal.Gen Cert.KernelIdeal.Value Idealize.ShloMosaic Idealize.ShloMosaic.TcCoe Idealize.SL.Sem
open Idealize.ShloMosaic.Pipeline (Dat)
open Cert.Attn

variable (m : (ℓ : Loc nD τ sig) → Buf (Elt Ideal) ℓ) (c : Dev nD)
  (x0 : Fin 2048 → Fin 768 → ℝ) (x1 : Fin 2304 → Fin 1024 → ℝ) (x2 : Fin 2304 → Fin 32 → ℝ)
  (x3 : Fin 2048 → Fin 16 → ℝ) (x4 : Fin 2048 → Fin 512 → ℝ)
  (h0 : ∀ i j, m (c, Proc.devRef .tc main_arg0) (ix2 i j) = (x0 i j : EReal))
  (h1 : ∀ i j, m (c, Proc.devRef .tc main_arg1) (ix2 i j) = (x1 i j : EReal))
  (h2 : ∀ i j, m (c, Proc.devRef .tc main_arg2) (ix2 i j) = (x2 i j : EReal))
  (h3 : ∀ i j, m (c, Proc.devRef .tc main_arg3) (ix2 i j) = (x3 i j : EReal))
  (h4 : ∀ i j, m (c, Proc.devRef .tc main_arg4) (ix2 i j) = (x4 i j : EReal))

/-- After the last tile the keys' gradient is summed over all rows. -/
theorem sK_all (k : Fin 2304) (h : Fin 8) (l : Fin 128) :
    sK x0 x1 x2 x3 x4 ((3 : Fin 4) + 1) k h l = ∑ t, Qf x0 x3 t h l * DS x0 x1 x2 x3 x4 t h k :=
  Finset.sum_congr rfl fun t _ => if_pos (show (t : ℕ) < 2048 from t.isLt)

/-- And the values'. -/
theorem sV_all (k : Fin 2304) (h : Fin 8) (l : Fin 128) :
    sV x0 x1 x2 x3 x4 ((3 : Fin 4) + 1) k h l = ∑ t, Df x4 t h l * P x0 x1 x2 x3 t h k :=
  Finset.sum_congr rfl fun t _ => if_pos (show (t : ℕ) < 2048 from t.isLt)

/-- The shared lanes' gradient summed over the first `n` head groups, rotated back. -/
def sR (n : ℕ) (k : Fin 2304) (l : Fin 128) : ℝ :=
  rope (fun l => ∑ h : Fin 8, if (h : ℕ) < 2 * n then dKl x0 x1 x2 x3 x4 k h l else 0) (tC (cs x3 k))
    (tLo fun a c => -sn x3 k a c) (tHi fun a c => -sn x3 k a c) l

/-- A group adds its two heads. -/
theorem sR_succ (g : Fin 4) (k : Fin 2304) (l : Fin 128) :
    sR x0 x1 x2 x3 x4 (g + 1) k l = sR x0 x1 x2 x3 x4 g k l
      + rope (fun l => (if 64 ≤ (l : ℕ) ∧ (l : ℕ) < 96 then sK x0 x1 x2 x3 x4 ((3 : Fin 4) + 1) k (hd g 0) l else 0)
          + if 64 ≤ (l : ℕ) ∧ (l : ℕ) < 96 then sK x0 x1 x2 x3 x4 ((3 : Fin 4) + 1) k (hd g 1) l else 0)
        (tC (cs x3 k)) (tLo fun a c => -sn x3 k a c) (tHi fun a c => -sn x3 k a c) l := by
  unfold sR
  rw [rope_add]
  congr 1
  funext l
  rw [sum_group _ g g.isLt, sK_all, sK_all]
  rfl

/-- No group, no gradient. -/
theorem sR_zero (k : Fin 2304) (l : Fin 128) : sR x0 x1 x2 x3 x4 0 k l = 0 := by
  have e : (fun l => ∑ h : Fin 8, if (h : ℕ) < 2 * 0 then dKl x0 x1 x2 x3 x4 k h l else 0) = fun _ => (0 : ℝ) :=
    funext fun l => Finset.sum_eq_zero fun h _ => if_neg (by omega)
  unfold sR
  rw [e, rope]
  ring

include h0 h1 h2 h3 h4 in
/-- The latent rows' gradient a group's last point stores. -/
theorem last8 (t : Fin cfg0.N) (g : Fin 4) (ht : (t : ℕ) = 4 * g + (3 : Fin 4)) (e : (t : ℕ) % 4 = 3)
    (hk : ∀ (u : Fin 2) k l, (outsAt0 m c (t.val - 1) (Nat.lt_of_le_of_lt (Nat.sub_le _ _) t.isLt)).2.2.2.1 (ix3 u k l)
      = (Kf x1 x2 x3 k (hd g u) l : EReal))
    (hv : ∀ (u : Fin 2) k l, (outsAt0 m c (t.val - 1) (Nat.lt_of_le_of_lt (Nat.sub_le _ _) t.isLt)).2.2.2.2.1 (ix3 u k l)
      = (Vf x1 k (hd g u) l : EReal))
    (ha : ∀ (u : Fin 2) l k, (outsAt0 m c (t.val - 1) (Nat.lt_of_le_of_lt (Nat.sub_le _ _) t.isLt)).2.2.2.2.2.1 (ix3 u l k) = (sK x0 x1 x2 x3 x4 (3 : Fin 4) k (hd g u) l : EReal))
    (hb : ∀ (u : Fin 2) l k, (outsAt0 m c (t.val - 1) (Nat.lt_of_le_of_lt (Nat.sub_le _ _) t.isLt)).2.2.2.2.2.2 (ix3 u l k) = (sV x0 x1 x2 x3 x4 (3 : Fin 4) k (hd g u) l : EReal))
    (u : Fin 2) (k : Fin 2304) (l : Fin 128) :
    (outsAt0 m c t.val t.isLt).2.1 (ix2 k (⟨128 * (u : ℕ) + l, by omega⟩ : Fin 256)) = (dKV x0 x1 x2 x3 x4 k (hd g u) l : EReal) := by
  rw [← sel_dKV, ← sK_all, ← sV_all]
  by_cases f : (t : ℕ) < 4
  all_goals
    first
      | rw [outsAt0_C m c t (by omega) e f (by omega)]
      | rw [outsAt0_D m c t (by omega) e f (by omega)]
    frame_out
    simp (disch := decide) only [↓View.readCov_skip, ↓View.readCov_fill, ↓View.readCov_cons_toLoadRect, read_unread_whole]
    canon_tiles x e
    · change (k : ℕ) = (x 0 : ℕ) at e0
      change 128 * (u : ℕ) + (l : ℕ) = 128 + (x 1 : ℕ) at e1
      idx_bounds x
      obtain rfl : u = 1 := Fin.ext (by show (u : ℕ) = 1; omega)
      obtain rfl : x = ix2 k l := by
        blk_ext
      refine pay6_real _ _ (fun l k => sK x0 x1 x2 x3 x4 ((3 : Fin 4) + 1) k (hd g 1) l)
        (fun l k => sV x0 x1 x2 x3 x4 ((3 : Fin 4) + 1) k (hd g 1) l) ?_ ?_ k l
      · intro l k
        rw [pay38_eq]
        refine (point m c x0 x1 x2 x3 x4 h0 h1 h2 h3 h4 t 3 g 1 ht _ _ _ _ _ ?_ ?_ ?_ ?_ ?_).2 _ ?_ l k
        · intro r l; pointwise <;> rfl
        · intro r l; pointwise <;> rfl
        · intro r l; pointwise <;> rfl
        · intro k l; pointwise; exact hk 1 k l
        · intro k l; pointwise; exact hv 1 k l
        · intro l k; pointwise; exact ha 1 l k
      · intro l k
        rw [pay39_eq]
        refine pointV m c x0 x1 x2 x3 x4 h0 h1 h2 h3 h4 t 3 g 1 ht _ _ _ _ ?_ ?_ ?_ ?_ _ ?_ l k
        · intro r l; pointwise <;> rfl
        · intro r l; pointwise <;> rfl
        · intro r l; pointwise <;> rfl
        · intro k l; pointwise; exact hk 1 k l
        · intro l k; pointwise; exact hb 1 l k
    · change (k : ℕ) = (x 0 : ℕ) at e0
      change 128 * (u : ℕ) + (l : ℕ) = (x 1 : ℕ) at e1
      idx_bounds x
      obtain rfl : u = 0 := Fin.ext (by show (u : ℕ) = 0; omega)
      obtain rfl : x = ix2 k l := by
        blk_ext
      refine pay6_real _ _ (fun l k => sK x0 x1 x2 x3 x4 ((3 : Fin 4) + 1) k (hd g 0) l)
        (fun l k => sV x0 x1 x2 x3 x4 ((3 : Fin 4) + 1) k (hd g 0) l) ?_ ?_ k l
      · intro l k
        refine (point m c x0 x1 x2 x3 x4 h0 h1 h2 h3 h4 t 3 g 0 ht _ _ _ _ _ ?_ ?_ ?_ ?_ ?_).2 _ ?_ l k
        · intro r l; pointwise <;> rfl
        · intro r l; pointwise <;> rfl
        · intro r l; pointwise <;> rfl
        · intro k l; pointwise; exact hk 0 k l
        · intro k l; pointwise; exact hv 0 k l
        · intro l k; pointwise; exact ha 0 l k
      · intro l k
        refine pointV m c x0 x1 x2 x3 x4 h0 h1 h2 h3 h4 t 3 g 0 ht _ _ _ _ ?_ ?_ ?_ ?_ _ ?_ l k
        · intro r l; pointwise <;> rfl
        · intro r l; pointwise <;> rfl
        · intro r l; pointwise <;> rfl
        · intro k l; pointwise; exact hk 0 k l
        · intro l k; pointwise; exact hb 0 l k

include h0 h1 h2 h3 h4 in
/-- The shared lanes' gradient after the first group. -/
theorem last9_C (t : Fin cfg0.N) (g : Fin 4) (ht : (t : ℕ) = 4 * g + (3 : Fin 4)) (e : (t : ℕ) % 4 = 3) (f : (t : ℕ) < 4)
    (hk : ∀ (u : Fin 2) k l, (outsAt0 m c (t.val - 1) (Nat.lt_of_le_of_lt (Nat.sub_le _ _) t.isLt)).2.2.2.1 (ix3 u k l)
      = (Kf x1 x2 x3 k (hd g u) l : EReal))
    (hv : ∀ (u : Fin 2) k l, (outsAt0 m c (t.val - 1) (Nat.lt_of_le_of_lt (Nat.sub_le _ _) t.isLt)).2.2.2.2.1 (ix3 u k l)
      = (Vf x1 k (hd g u) l : EReal))
    (ha : ∀ (u : Fin 2) l k, (outsAt0 m c (t.val - 1) (Nat.lt_of_le_of_lt (Nat.sub_le _ _) t.isLt)).2.2.2.2.2.1 (ix3 u l k) = (sK x0 x1 x2 x3 x4 (3 : Fin 4) k (hd g u) l : EReal))
    (k : Fin 2304) (l : Fin 128) :
    (outsAt0 m c t.val t.isLt).2.2.1 (ix2 k l) = (sR x0 x1 x2 x3 x4 (g + 1) k l : EReal) := by
  have hT := tabAll m c x3 h3 t
  rw [sR_succ]
  have hg : sR x0 x1 x2 x3 x4 g k l = 0 := by
    rw [show (g : ℕ) = 0 by omega, sR_zero]
  rw [hg, zero_add]
  rw [outsAt0_C m c t (by omega) e f (by omega)]
  frame_out
  simp (disch := decide) only [↓View.readCov_skip, ↓View.readCov_fill, ↓View.readCov_cons_toLoadRect, read_unread_whole]
  refine (pay40_real _ _ (iblk m c 4 t) (fun l k => sK x0 x1 x2 x3 x4 ((3 : Fin 4) + 1) k (hd g 0) l)
      (fun l k => sK x0 x1 x2 x3 x4 ((3 : Fin 4) + 1) k (hd g 1) l) _ _ _ ?_ ?_ hT.t3 hT.t4 hT.t5 k l)
  · intro l k
    refine (point m c x0 x1 x2 x3 x4 h0 h1 h2 h3 h4 t 3 g 0 ht _ _ _ _ _ ?_ ?_ ?_ ?_ ?_).2 _ ?_ l k
    · intro r l; pointwise <;> rfl
    · intro r l; pointwise <;> rfl
    · intro r l; pointwise <;> rfl
    · intro k l; pointwise; exact hk 0 k l
    · intro k l; pointwise; exact hv 0 k l
    · intro l k; pointwise; exact ha 0 l k
  · intro l k
    rw [pay38_eq]
    refine (point m c x0 x1 x2 x3 x4 h0 h1 h2 h3 h4 t 3 g 1 ht _ _ _ _ _ ?_ ?_ ?_ ?_ ?_).2 _ ?_ l k
    · intro r l; pointwise <;> rfl
    · intro r l; pointwise <;> rfl
    · intro r l; pointwise <;> rfl
    · intro k l; pointwise; exact hk 1 k l
    · intro k l; pointwise; exact hv 1 k l
    · intro l k; pointwise; exact ha 1 l k

include h0 h1 h2 h3 h4 in
/-- And after a later group, added to what was there. -/
theorem last9_D (t : Fin cfg0.N) (g : Fin 4) (ht : (t : ℕ) = 4 * g + (3 : Fin 4)) (e : (t : ℕ) % 4 = 3) (f : ¬(t : ℕ) < 4)
    (hk : ∀ (u : Fin 2) k l, (outsAt0 m c (t.val - 1) (Nat.lt_of_le_of_lt (Nat.sub_le _ _) t.isLt)).2.2.2.1 (ix3 u k l)
      = (Kf x1 x2 x3 k (hd g u) l : EReal))
    (hv : ∀ (u : Fin 2) k l, (outsAt0 m c (t.val - 1) (Nat.lt_of_le_of_lt (Nat.sub_le _ _) t.isLt)).2.2.2.2.1 (ix3 u k l)
      = (Vf x1 k (hd g u) l : EReal))
    (ha : ∀ (u : Fin 2) l k, (outsAt0 m c (t.val - 1) (Nat.lt_of_le_of_lt (Nat.sub_le _ _) t.isLt)).2.2.2.2.2.1 (ix3 u l k) = (sK x0 x1 x2 x3 x4 (3 : Fin 4) k (hd g u) l : EReal))
    (hr : ∀ k l, (outsAt0 m c (t.val - 1) (Nat.lt_of_le_of_lt (Nat.sub_le _ _) t.isLt)).2.2.1 (ix2 k l) = (sR x0 x1 x2 x3 x4 g k l : EReal))
    (k : Fin 2304) (l : Fin 128) :
    (outsAt0 m c t.val t.isLt).2.2.1 (ix2 k l) = (sR x0 x1 x2 x3 x4 (g + 1) k l : EReal) := by
  have hT := tabAll m c x3 h3 t
  rw [sR_succ]
  rw [outsAt0_D m c t (by omega) e f (by omega)]
  frame_out
  simp (disch := decide) only [↓View.readCov_skip, ↓View.readCov_fill, ↓View.readCov_cons_toLoadRect, read_unread_whole]
  rw [pay41_real, hr, EReal.coe_add]
  congr 1
  refine (pay40_real _ _ (iblk m c 4 t) (fun l k => sK x0 x1 x2 x3 x4 ((3 : Fin 4) + 1) k (hd g 0) l)
      (fun l k => sK x0 x1 x2 x3 x4 ((3 : Fin 4) + 1) k (hd g 1) l) _ _ _ ?_ ?_ hT.t3 hT.t4 hT.t5 k l)
  · intro l k
    refine (point m c x0 x1 x2 x3 x4 h0 h1 h2 h3 h4 t 3 g 0 ht _ _ _ _ _ ?_ ?_ ?_ ?_ ?_).2 _ ?_ l k
    · intro r l; pointwise <;> rfl
    · intro r l; pointwise <;> rfl
    · intro r l; pointwise <;> rfl
    · intro k l; pointwise; exact hk 0 k l
    · intro k l; pointwise; exact hv 0 k l
    · intro l k; pointwise; exact ha 0 l k
  · intro l k
    rw [pay38_eq]
    refine (point m c x0 x1 x2 x3 x4 h0 h1 h2 h3 h4 t 3 g 1 ht _ _ _ _ _ ?_ ?_ ?_ ?_ ?_).2 _ ?_ l k
    · intro r l; pointwise <;> rfl
    · intro r l; pointwise <;> rfl
    · intro r l; pointwise <;> rfl
    · intro k l; pointwise; exact hk 1 k l
    · intro k l; pointwise; exact hv 1 k l
    · intro l k; pointwise; exact ha 1 l k

end Cert.KernelIdeal.Point
-- ==== Proof.KInv.lean ====
/-
  What the backward kernel's grid leaves in its three results, by induction over the points.
-/
module

public import proofs.«01_k».proof.Proof.KLast
public import Idealize.ShloMosaic.Lib.Pipeline.ReadBack

@[expose] public section

set_option maxRecDepth 16384

noncomputable section

namespace Cert.KernelIdeal.Point

open Cert.KernelIdeal Cert.KernelIdeal.Gen Cert.KernelIdeal.Value Idealize.ShloMosaic Idealize.ShloMosaic.TcCoe Idealize.SL.Sem
open Idealize.ShloMosaic.Pipeline (Dat)
open Cert.Attn

variable (m : (ℓ : Loc nD τ sig) → Buf (Elt Ideal) ℓ) (c : Dev nD)
  (x0 : Fin 2048 → Fin 768 → ℝ) (x1 : Fin 2304 → Fin 1024 → ℝ) (x2 : Fin 2304 → Fin 32 → ℝ)
  (x3 : Fin 2048 → Fin 16 → ℝ) (x4 : Fin 2048 → Fin 512 → ℝ)
  (h0 : ∀ i j, m (c, Proc.devRef .tc main_arg0) (ix2 i j) = (x0 i j : EReal))
  (h1 : ∀ i j, m (c, Proc.devRef .tc main_arg1) (ix2 i j) = (x1 i j : EReal))
  (h2 : ∀ i j, m (c, Proc.devRef .tc main_arg2) (ix2 i j) = (x2 i j : EReal))
  (h3 : ∀ i j, m (c, Proc.devRef .tc main_arg3) (ix2 i j) = (x3 i j : EReal))
  (h4 : ∀ i j, m (c, Proc.devRef .tc main_arg4) (ix2 i j) = (x4 i j : EReal))

/-- What the carried arrays hold after point `t`, the tile `i` of the group `g`. -/
structure Held (t : Fin cfg0.N) (i g : Fin 4) : Prop where
  k : ∀ (u : Fin 2) k l, (outsAt0 m c t.val t.isLt).2.2.2.1 (ix3 u k l) = (Kf x1 x2 x3 k (hd g u) l : EReal)
  v : ∀ (u : Fin 2) k l, (outsAt0 m c t.val t.isLt).2.2.2.2.1 (ix3 u k l) = (Vf x1 k (hd g u) l : EReal)
  dk : ∀ (u : Fin 2) l k, (outsAt0 m c t.val t.isLt).2.2.2.2.2.1 (ix3 u l k) = (sK x0 x1 x2 x3 x4 (i + 1) k (hd g u) l : EReal)
  dv : ∀ (u : Fin 2) l k, (outsAt0 m c t.val t.isLt).2.2.2.2.2.2 (ix3 u l k) = (sV x0 x1 x2 x3 x4 (i + 1) k (hd g u) l : EReal)
  r : ∀ n : ℕ, 0 < n → 4 * n ≤ t + 1 → (t : ℕ) + 1 < 4 * n + 4 → ∀ k l, (outsAt0 m c t.val t.isLt).2.2.1 (ix2 k l) = (sR x0 x1 x2 x3 x4 n k l : EReal)

include h0 h1 h2 h3 h4 in
/-- Every point holds it. -/
theorem held : ∀ (n : ℕ) (hn : n < cfg0.N) (i g : Fin 4), n = 4 * g + i → Held m c x0 x1 x2 x3 x4 ⟨n, hn⟩ i g := by
  intro n
  induction n with
  | zero =>
    intro hn i g e
    obtain rfl : i = 0 := Fin.ext (by show (i : ℕ) = 0; omega)
    have e0 : ((⟨0, hn⟩ : Fin cfg0.N) : ℕ) % 4 = 0 := rfl
    exact ⟨fun u => first_k m c x1 x2 x3 h1 h2 h3 _ g e e0 u, fun u => first_v m c x1 h1 _ g e e0 u,
      fun u => firstK m c x0 x1 x2 x3 x4 h0 h1 h2 h3 h4 _ g e e0 u, fun u => firstV m c x0 x1 x2 x3 x4 h0 h1 h2 h3 h4 _ g e e0 u,
      fun n p q => absurd q (by show ¬4 * n ≤ 0 + 1; omega)⟩
  | succ n ih =>
    intro hn i g e
    by_cases hi : (n + 1) % 4 = 0
    · obtain rfl : i = 0 := Fin.ext (by show (i : ℕ) = 0; omega)
      refine ⟨fun u => first_k m c x1 x2 x3 h1 h2 h3 _ g e hi u, fun u => first_v m c x1 h1 _ g e hi u,
        fun u => firstK m c x0 x1 x2 x3 x4 h0 h1 h2 h3 h4 _ g e hi u, fun u => firstV m c x0 x1 x2 x3 x4 h0 h1 h2 h3 h4 _ g e hi u, fun q p a b => ?_⟩
      have H := ih (Nat.lt_of_succ_lt hn) 3 ⟨g - 1, by omega⟩ (by show n = 4 * (g - 1) + 3; omega)
      rw [kept9 m c ⟨n + 1, hn⟩ (by show ¬(n + 1) % 4 = 3; omega)]
      exact H.r q p (by have : 4 * q ≤ n + 1 + 1 := a; show 4 * q ≤ n + 1; omega)
        (by have : n + 1 + 1 < 4 * q + 4 := b; show n + 1 < 4 * q + 4; omega)
    · have hp : 0 < (i : ℕ) := by omega
      have H := ih (Nat.lt_of_succ_lt hn) ⟨i - 1, by omega⟩ g (by show n = 4 * g + (i - 1); omega)
      have ei : ((⟨(i : ℕ) - 1, by omega⟩ : Fin 4) : ℕ) + 1 = i := Nat.succ_pred_eq_of_pos hp
      have dk := H.dk
      have dv := H.dv
      rw [ei] at dk dv
      refine ⟨fun u k l => ?_, fun u k l => ?_, fun u => laterK m c x0 x1 x2 x3 x4 h0 h1 h2 h3 h4 ⟨n + 1, hn⟩ i g e hi H.k H.v dk u,
        fun u => laterV m c x0 x1 x2 x3 x4 h0 h1 h2 h3 h4 ⟨n + 1, hn⟩ i g e hi H.k dv u, fun q p a b k l => ?_⟩
      · rw [later_k m c ⟨n + 1, hn⟩ hi]
        exact H.k u k l
      · rw [later_v m c ⟨n + 1, hn⟩ hi]
        exact H.v u k l
      · have a' : 4 * q ≤ n + 1 + 1 := a
        have b' : n + 1 + 1 < 4 * q + 4 := b
        by_cases e3 : (n + 1) % 4 = 3
        · obtain rfl : i = 3 := Fin.ext (by show (i : ℕ) = 3; omega)
          obtain rfl : q = g + 1 := by omega
          by_cases f : n + 1 < 4
          · exact last9_C m c x0 x1 x2 x3 x4 h0 h1 h2 h3 h4 ⟨n + 1, hn⟩ g e e3 f H.k H.v dk k l
          · exact last9_D m c x0 x1 x2 x3 x4 h0 h1 h2 h3 h4 ⟨n + 1, hn⟩ g e e3 f H.k H.v dk
              (H.r g (by omega) (by show 4 * (g : ℕ) ≤ n + 1; omega) (by show n + 1 < 4 * (g : ℕ) + 4; omega)) k l
        · rw [kept9 m c ⟨n + 1, hn⟩ e3]
          exact H.r q p (by show 4 * q ≤ n + 1; omega) (by show n + 1 < 4 * q + 4; omega) k l

/-- The results' index maps. -/
theorem idxOut : ∀ t : Fin cfg0.N, win0_7.index t = ![t.val % 4, t.val / 4] ∧ win0_8.index t = ![0, t.val / 4]
    ∧ win0_9.index t = ![0, 0] ∧ t.val < 16 :=
  (by decide +kernel : ∀ t : Fin grid0.N, _)

/-- When the second and third results are written back. -/
theorem flushOut : ∀ t : Fin cfg0.N, ((cfg0.win 8).flush t = true → t.val % 4 = 3) ∧ ((cfg0.win 9).flush t = true → t.val = 15) :=
  (by decide +kernel : ∀ t : Fin grid0.N, _)

include h0 h1 h2 h3 h4 in
/-- The first result is the queries' gradient. -/
theorem final7 (G : FVec Ideal S2048x1024 .bf16)
    (hG : ∀ (t : Fin 2048) (h : Fin 8) (l : Fin 128), G (ix2 t (⟨128 * (h : ℕ) + l, by omega⟩ : Fin 1024)) = (dQ x0 x1 x2 x3 x4 t h l : EReal)) :
    (dats m 0 c).arrAt 7 (cfgs 0).N = G := by
  refine (dats m 0 c).arrAt_eq_of_covers 7 _ (by decide +kernel) fun t hf y => ?_
  obtain ⟨e7, -, -, e16⟩ := idxOut t
  obtain ⟨r, u, l, rfl⟩ : ∃ (r : Fin 512) (u : Fin 2) (l : Fin 128), y = ix2 r (⟨128 * (u : ℕ) + l, by omega⟩ : Fin 256) := by
    have b1 : (y 1 : ℕ) < 256 := (y 1).isLt
    refine ⟨y 0, ⟨(y 1 : ℕ) / 128, by omega⟩, ⟨(y 1 : ℕ) % 128, by omega⟩, ?_⟩
    have e : 128 * ((y 1 : ℕ) / 128) + (y 1 : ℕ) % 128 = (y 1 : ℕ) := Nat.div_add_mod _ _
    blk_ext
  blk_simp
  rw [after0_7]
  have et : (t : ℕ) = 4 * ((⟨(t : ℕ) / 4, by omega⟩ : Fin 4) : ℕ) + ((⟨(t : ℕ) % 4, by omega⟩ : Fin 4) : ℕ) := by
    show (t : ℕ) = 4 * ((t : ℕ) / 4) + (t : ℕ) % 4
    omega
  have key : (outsAt0 m c t.val t.isLt).1 (ix2 r (⟨128 * (u : ℕ) + l, by omega⟩ : Fin 256))
      = (dQ x0 x1 x2 x3 x4 (row ⟨(t : ℕ) % 4, by omega⟩ r) (hd ⟨(t : ℕ) / 4, by omega⟩ u) l : EReal) := by
    by_cases hi : (t : ℕ) % 4 = 0
    · have z : (⟨(t : ℕ) % 4, by omega⟩ : Fin 4) = 0 := Fin.ext hi
      rw [z] at et ⊢
      exact first7 m c x0 x1 x2 x3 x4 h0 h1 h2 h3 h4 t _ et hi u r l
    · obtain ⟨n, hn⟩ := t
      obtain ⟨n, rfl⟩ : ∃ k, n = k + 1 := ⟨n - 1, by have : ¬n % 4 = 0 := hi; omega⟩
      have hi' : ¬(n + 1) % 4 = 0 := hi
      have H := held m c x0 x1 x2 x3 x4 h0 h1 h2 h3 h4 n (Nat.lt_of_succ_lt hn) ⟨n % 4, by omega⟩ ⟨(n + 1) / 4, by have : n + 1 < 16 := e16; omega⟩
        (by show n = 4 * ((n + 1) / 4) + n % 4; omega)
      exact later7 m c x0 x1 x2 x3 x4 h0 h1 h2 h3 h4 ⟨n + 1, hn⟩ _ _ et hi H.k H.v u r l
  refine key.trans ((hG _ _ l).symm.trans (congrArg G ?_))
  blk_ext [e7, row, hd]

include h0 h1 h2 h3 h4 in
/-- The second is the latent rows' gradient. -/
theorem final8 (G : FVec Ideal S2304x1024 .bf16)
    (hG : ∀ (k : Fin 2304) (h : Fin 8) (l : Fin 128), G (ix2 k (⟨128 * (h : ℕ) + l, by omega⟩ : Fin 1024)) = (dKV x0 x1 x2 x3 x4 k h l : EReal)) :
    (dats m 0 c).arrAt 8 (cfgs 0).N = G := by
  refine (dats m 0 c).arrAt_eq_of_covers 8 _ (by decide +kernel) fun t hf y => ?_
  obtain ⟨-, e8, -, e16⟩ := idxOut t
  have e3 := (flushOut t).1 hf
  obtain ⟨k, u, l, rfl⟩ : ∃ (k : Fin 2304) (u : Fin 2) (l : Fin 128), y = ix2 k (⟨128 * (u : ℕ) + l, by omega⟩ : Fin 256) := by
    have b1 : (y 1 : ℕ) < 256 := (y 1).isLt
    refine ⟨y 0, ⟨(y 1 : ℕ) / 128, by omega⟩, ⟨(y 1 : ℕ) % 128, by omega⟩, ?_⟩
    have e : 128 * ((y 1 : ℕ) / 128) + (y 1 : ℕ) % 128 = (y 1 : ℕ) := Nat.div_add_mod _ _
    blk_ext
  blk_simp
  rw [after0_8]
  have key : (outsAt0 m c t.val t.isLt).2.1 (ix2 k (⟨128 * (u : ℕ) + l, by omega⟩ : Fin 256))
      = (dKV x0 x1 x2 x3 x4 k (hd ⟨(t : ℕ) / 4, by omega⟩ u) l : EReal) := by
    obtain ⟨n, hn⟩ := t
    have e3' : n % 4 = 3 := e3
    obtain ⟨n, rfl⟩ : ∃ k, n = k + 1 := ⟨n - 1, by omega⟩
    have H := held m c x0 x1 x2 x3 x4 h0 h1 h2 h3 h4 n (Nat.lt_of_succ_lt hn) 2 ⟨(n + 1) / 4, by have : n + 1 < 16 := e16; omega⟩
      (by show n = 4 * ((n + 1) / 4) + 2; omega)
    exact last8 m c x0 x1 x2 x3 x4 h0 h1 h2 h3 h4 ⟨n + 1, hn⟩ _ (by show n + 1 = 4 * ((n + 1) / 4) + 3; omega) e3' H.k H.v H.dk H.dv u k l
  refine key.trans ((hG _ _ l).symm.trans (congrArg G ?_))
  blk_ext [e8, hd]

include h0 h1 h2 h3 h4 in
/-- The third is the shared key lanes' gradient. -/
theorem final9 (G : FVec Ideal S2304x128 .f32)
    (hG : ∀ (k : Fin 2304) (l : Fin 128), G (ix2 k l) = (dKR x0 x1 x2 x3 x4 k l : EReal)) :
    (dats m 0 c).arrAt 9 (cfgs 0).N = G := by
  refine (dats m 0 c).arrAt_eq_of_covers 9 _ (by decide +kernel) fun t hf y => ?_
  obtain ⟨-, -, e9, e16⟩ := idxOut t
  have e15 := (flushOut t).2 hf
  obtain ⟨k, l, rfl⟩ : ∃ (k : Fin 2304) (l : Fin 128), y = ix2 k l := ⟨y 0, y 1, by blk_ext⟩
  blk_simp
  rw [after0_9]
  have key : (outsAt0 m c t.val t.isLt).2.2.1 (ix2 k l) = (dKR x0 x1 x2 x3 x4 k l : EReal) := by
    obtain ⟨n, hn⟩ := t
    have e15' : n = 15 := e15
    have H := (held m c x0 x1 x2 x3 x4 h0 h1 h2 h3 h4 n hn 3 3 e15').r 4 (by omega) (by show 4 * 4 ≤ n + 1; omega) (by show n + 1 < 4 * 4 + 4; omega) k l
    refine H.trans ?_
    rw [← rope_dKR]
    unfold sR
    simp only [show ∀ h : Fin 8, ((h : ℕ) < 2 * 4) = True from fun h => eq_true (by omega), if_true]
  refine key.trans ((hG _ l).symm.trans (congrArg G ?_))
  blk_ext [e9]

end Cert.KernelIdeal.Point
-- ==== Proof.Pre.lean ====
/-
  What the precondition of the gradient's claim says: every entry of every argument is a real number.
-/
module

public import proofs.«01_k».proof.Proof.Gen.Pre_finite
public import Idealize.ShloMosaic.Lib.ReduceAll
public import Idealize.ShloMosaic.PureOps.Ideal.Laws

@[expose] public section

set_option maxRecDepth 16384

noncomputable section

namespace Cert.Attn

open Idealize.ShloMosaic

/-- A value whose absolute value is below the positive infinity is a real number. -/
theorem real_of_abs_lt (x : Ideal .f32)
    (h : FloatOps.cmpf .olt (FloatOps.hostAbsf x) (FloatOps.ofBits (F := Ideal) .f32 0x7F800000#32) = 1#1) :
    x = ((EReal.toReal x : ℝ) : EReal) := by
  have htop : Ideal.ofBits .f32 0x7F800000#32 = ⊤ := by simp [Ideal.ofBits, Ideal.ieee]
  have hlt : max (x : EReal) (-(x : EReal)) < ⊤ := by
    by_contra hn
    refine absurd h ?_
    show ¬ Ideal.cmp .olt (max (x : EReal) (-(x : EReal))) (Ideal.ofBits .f32 0x7F800000#32) = 1#1
    rw [htop]
    unfold Ideal.cmp
    simp [hn]
  rw [max_lt_iff] at hlt
  refine (EReal.coe_toReal (ne_of_lt hlt.1) fun hb => ?_).symm
  rw [hb] at hlt
  exact absurd hlt.2 (by simp)

section
open Cert.Pre_finite

/-- The precondition of the gradient's claim, read: the five arguments are real numbers. -/
theorem reals (X0 : FVec Ideal S2048x768 .f32) (X1 : FVec Ideal S2304x1024 .f32) (X2 : FVec Ideal S2304x32 .f32)
    (X3 : FVec Ideal S2048x16 .f32) (X4 : FVec Ideal S2048x512 .f32) (i₀ : S_.Idx) (e : fn X0 X1 X2 X3 X4 i₀ = 1#1) :
    (∀ i, X0 i = ((EReal.toReal (X0 i) : ℝ) : EReal)) ∧ (∀ i, X1 i = ((EReal.toReal (X1 i) : ℝ) : EReal))
      ∧ (∀ i, X2 i = ((EReal.toReal (X2 i) : ℝ) : EReal)) ∧ (∀ i, X3 i = ((EReal.toReal (X3 i) : ℝ) : EReal))
      ∧ ∀ i, X4 i = ((EReal.toReal (X4 i) : ℝ) : EReal) := by
  have : Subsingleton S_.Idx := ⟨fun a b => funext fun i => i.elim0⟩
  dsimp only [fn, fn_part1] at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun i => real_of_abs_lt _ (Host.reduce_andi_all _ _ _ _ _ e0 i),
    fun i => real_of_abs_lt _ (Host.reduce_andi_all _ _ _ _ _ e1 i),
    fun i => real_of_abs_lt _ (Host.reduce_andi_all _ _ _ _ _ e2 i),
    fun i => real_of_abs_lt _ (Host.reduce_andi_all _ _ _ _ _ e3 i),
    fun i => real_of_abs_lt _ (Host.reduce_andi_all _ _ _ _ _ e4 i)⟩

end

end Cert.Attn
-- ==== Proof.Back.lean ====
/-
  The backward kernel's idealization and the plain mathematics leave the same three gradients.
-/
module

public import proofs.«01_k».proof.Defs
public import proofs.«01_k».proof.Proof.KInv
public import proofs.«01_k».proof.Proof.Pre
public import proofs.«01_k».proof.Proof.Gen.KernelIdeal.Frame
public import proofs.«01_k».proof.Proof.Gen.ReferenceIdeal.Run
public import proofs.«01_k».proof.Proof.Gen.Pre_finite
public import Idealize.ShloMosaic.Adequacy
public import Idealize.ShloMosaic.Init

@[expose] public section

set_option maxRecDepth 16384

noncomputable section

namespace Cert.Attn

open Idealize.ShloMosaic Idealize.ShloMosaic.TcCoe Idealize.SL.Sem Idealize.ShloMosaic.StableHlo

set_option maxHeartbeats 1600000 in
/-- For finite arguments the three results agree. -/
theorem backward : algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp ha
  refine ⟨fun c => (Cert.KernelIdeal.Gen.dats m 0 c).arrAt 7 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N, ?_, ?_⟩
  · exact (θ_run Cert.KernelIdeal.defs _ _).mono (fun r h c =>
      ⟨(h c).1.trans (Cert.KernelIdeal.Value.final7 m c).symm, (h c).2.1.trans (Cert.KernelIdeal.Value.final8 m c).symm,
        (h c).2.2.1.trans (Cert.KernelIdeal.Value.final9 m c).symm, (h c).2.2.2⟩) (Cert.KernelIdeal.Value.run m g)
  · refine (θ_run Cert.ReferenceIdeal.defs _ _).mono (fun r h c => ?_) (Cert.ReferenceIdeal.Value.run m' g')
    obtain ⟨f0, f1, f2, f3, f4⟩ := reals _ _ _ _ _ (fun a => a.elim0) (congrFun (hp c) (fun a => a.elim0))
    obtain ⟨a0, a1, a2, a3, a4⟩ := ha c
    obtain ⟨r0, r1, r2, rest⟩ := h c
    refine ⟨?_, ?_, ?_, rest⟩
    · refine (r0.trans (Cert.ReferenceIdeal.Read.val_main_v173_eq (launchContents m' c))).trans (Eq.symm ?_)
      refine Cert.KernelIdeal.Point.final7 m c _ _ _ _ _ (fun i j => f0 (ix2 i j)) (fun i j => f1 (ix2 i j)) (fun i j => f2 (ix2 i j))
        (fun i j => f3 (ix2 i j)) (fun i j => f4 (ix2 i j)) _ ?_
      exact Cert.ReferenceIdeal.Point.v173_real _ _ _ _ _ _ _ _ _ _ (fun i j => (congrFun a0 _).trans (f0 (ix2 i j)))
        (fun i j => (congrFun a1 _).trans (f1 (ix2 i j))) (fun i j => (congrFun a2 _).trans (f2 (ix2 i j)))
        (fun i j => (congrFun a3 _).trans (f3 (ix2 i j))) (fun i j => (congrFun a4 _).trans (f4 (ix2 i j)))
    · refine (r1.trans (Cert.ReferenceIdeal.Read.val_main_v174_eq (launchContents m' c))).trans (Eq.symm ?_)
      refine Cert.KernelIdeal.Point.final8 m c _ _ _ _ _ (fun i j => f0 (ix2 i j)) (fun i j => f1 (ix2 i j)) (fun i j => f2 (ix2 i j))
        (fun i j => f3 (ix2 i j)) (fun i j => f4 (ix2 i j)) _ ?_
      exact Cert.ReferenceIdeal.Point.v174_real _ _ _ _ _ _ _ _ _ _ (fun i j => (congrFun a0 _).trans (f0 (ix2 i j)))
        (fun i j => (congrFun a1 _).trans (f1 (ix2 i j))) (fun i j => (congrFun a2 _).trans (f2 (ix2 i j)))
        (fun i j => (congrFun a3 _).trans (f3 (ix2 i j))) (fun i j => (congrFun a4 _).trans (f4 (ix2 i j)))
    · refine (r2.trans (Cert.ReferenceIdeal.Read.val_main_v175_eq (launchContents m' c))).trans (Eq.symm ?_)
      refine Cert.KernelIdeal.Point.final9 m c _ _ _ _ _ (fun i j => f0 (ix2 i j)) (fun i j => f1 (ix2 i j)) (fun i j => f2 (ix2 i j))
        (fun i j => f3 (ix2 i j)) (fun i j => f4 (ix2 i j)) _ ?_
      exact Cert.ReferenceIdeal.Point.v175_real _ _ _ _ _ _ _ _ _ _ (fun i j => (congrFun a0 _).trans (f0 (ix2 i j)))
        (fun i j => (congrFun a1 _).trans (f1 (ix2 i j))) (fun i j => (congrFun a2 _).trans (f2 (ix2 i j)))
        (fun i j => (congrFun a3 _).trans (f3 (ix2 i j))) (fun i j => (congrFun a4 _).trans (f4 (ix2 i j)))

end Cert.Attn
-- ==== Proof.FHost.lean ====
/-
  What the forward kernel's windows read, at an entry: the padded queries, the shared key lanes, and the table of the rotary
  embedding.
-/
module

public import proofs.«01_k».proof.Proof.Gen.Kernel2Ideal.Value
public import proofs.«01_k».proof.Proof.Back
public import Idealize.ShloMosaic.Lib.Pipeline.ValueKit
public import Idealize.ShloMosaic.Lib.StableHlo.ReadAt

@[expose] public section

set_option maxRecDepth 16384

noncomputable section

namespace Cert.Kernel2Ideal.Point

open Cert.Kernel2Ideal Cert.Kernel2Ideal.Gen Cert.Kernel2Ideal.Value Idealize.ShloMosaic Idealize.ShloMosaic.TcCoe Idealize.SL.Sem
open Idealize.ShloMosaic.Pipeline (Dat)
open Cert.Attn
open Cert.KernelIdeal.Point (Q0_apply sitofp_zero)

variable (m : (ℓ : Loc nD τ sig) → Buf (Elt Ideal) ℓ) (c : Dev nD)
  (x0 : Fin 2048 → Fin 768 → ℝ) (x1 : Fin 2304 → Fin 1024 → ℝ) (x2 : Fin 2304 → Fin 32 → ℝ) (x3 : Fin 2048 → Fin 16 → ℝ)
  (h0 : ∀ i j, m (c, Proc.devRef .tc main_arg0) (ix2 i j) = (x0 i j : EReal))
  (h1 : ∀ i j, m (c, Proc.devRef .tc main_arg1) (ix2 i j) = (x1 i j : EReal))
  (h2 : ∀ i j, m (c, Proc.devRef .tc main_arg2) (ix2 i j) = (x2 i j : EReal))
  (h3 : ∀ i j, m (c, Proc.devRef .tc main_arg3) (ix2 i j) = (x3 i j : EReal))

include h0 in
/-- The padded queries. -/
theorem v2_real (t : Fin 2048) (h : Fin 8) (l : Fin 128) :
    V m c main_v2 (ix2 t ⟨128 * h + l, by omega⟩) = (Q0 x0 t h l : EReal) := by
  rw [Q0_apply]
  unfold V
  after_reads_at
  by_cases hl : (l : ℕ) < 96
  · rw [dif_pos hl, dif_pos hl, h0]
  · rw [dif_neg hl, dif_neg hl, sitofp_zero]
    rfl

include h2 in
/-- The shared key lanes in the columns the kernel reads. -/
theorem v5_real (k : Fin 2304) (l : Fin 128) : V m c main_v5 (ix2 k ⟨768 + l, by omega⟩) = (K0 x2 k l : EReal) := by
  unfold V
  after_reads_at
  after_reads_at
  unfold K0
  rcases lane_cases l with ⟨d, rfl⟩ | ⟨a, b, cc, rfl⟩ | ⟨e, rfl⟩
  · rw [dif_pos (by dsimp only; omega), pack_plain]
    rfl
  · have e : ((lane a b cc : Fin 128) : ℕ) = 64 + 16 * (a : ℕ) + 8 * b + cc := rfl
    rw [dif_neg (by omega), dif_pos (by omega), h2, pack_lane]
    congr 2
    exact Fin.ext (by dsimp only; omega)
  · rw [dif_neg (by dsimp only; omega), dif_neg (by dsimp only; omega), pack_pad]
    rfl

set_option maxHeartbeats 1600000 in
include h3 in
/-- The table's cosine row. -/
theorem tab0 (k : Fin 2304) (l : Fin 128) : V m c main_v52 (ix2 k ⟨l, by omega⟩) = (tC (cs x3 k) l : EReal) := by
  unfold V
  after_reads_simp
  pointwise
  after_reads_at
  after_reads_at
  simp only [h3, Ideal.cos_coe, ← EReal.coe_neg]
  unfold tC cs
  clear h3
  by_cases hc : 64 ≤ (l : ℕ) ∧ (l : ℕ) < 96
  · rw [if_pos hc]
    dsimp only
    split_ifs
    all_goals first
      | (exfalso; omega)
      | with_reducible rfl
      | exact EReal.coe_one.symm
      | (simp only [neg_zero, neg_neg, EReal.coe_zero]; done)
      | (congr 3; exact Fin.ext (by dsimp only; omega))
      | (congr 4; exact Fin.ext (by dsimp only; omega))
      | (simp only [neg_neg]; congr 3; exact Fin.ext (by dsimp only; omega))
  · rw [if_neg hc]
    split_ifs
    all_goals first
      | (exfalso; omega)
      | with_reducible rfl
      | exact EReal.coe_one.symm
      | (simp only [neg_zero, EReal.coe_zero]; done)

set_option maxHeartbeats 1600000 in
include h3 in
/-- The table's row for the lane 8 above. -/
theorem tab1 (k : Fin 2304) (l : Fin 128) : V m c main_v52 (ix2 k ⟨128 + l, by omega⟩) = (tLo (sn x3 k) l : EReal) := by
  unfold V
  after_reads_simp
  pointwise
  after_reads_at
  after_reads_at
  simp only [h3, Ideal.sin_coe, ← EReal.coe_neg]
  unfold tLo sn
  clear h3
  by_cases hc : (64 ≤ (l : ℕ) ∧ (l : ℕ) < 96) ∧ (l : ℕ) / 8 % 2 = 0
  · rw [if_pos hc]
    dsimp only
    split_ifs
    all_goals first
      | (exfalso; omega)
      | with_reducible rfl
      | exact EReal.coe_one.symm
      | (simp only [neg_zero, neg_neg, EReal.coe_zero]; done)
      | (congr 3; exact Fin.ext (by dsimp only; omega))
      | (congr 4; exact Fin.ext (by dsimp only; omega))
      | (simp only [neg_neg]; congr 3; exact Fin.ext (by dsimp only; omega))
  · rw [if_neg hc]
    split_ifs
    all_goals first
      | (exfalso; omega)
      | with_reducible rfl
      | exact EReal.coe_one.symm
      | (simp only [neg_zero, EReal.coe_zero]; done)

set_option maxHeartbeats 1600000 in
include h3 in
/-- The table's row for the lane 8 below. -/
theorem tab2 (k : Fin 2304) (l : Fin 128) : V m c main_v52 (ix2 k ⟨256 + l, by omega⟩) = (tHi (sn x3 k) l : EReal) := by
  unfold V
  after_reads_simp
  pointwise
  rw [dif_neg (by omega), dif_neg (by omega), dif_pos (by omega), (Fin.ext (by dsimp only; omega) : (⟨256 + (l : ℕ) - 128 - 128, by omega⟩ : Fin 128) = l)]
  after_reads_at
  after_reads_at
  simp only [h3, Ideal.sin_coe, ← EReal.coe_neg]
  unfold tHi sn
  clear h3
  by_cases hc : (64 ≤ (l : ℕ) ∧ (l : ℕ) < 96) ∧ (l : ℕ) / 8 % 2 = 1
  · rw [if_pos hc]
    dsimp only
    split_ifs
    all_goals first
      | (exfalso; omega)
      | with_reducible rfl
      | exact EReal.coe_one.symm
      | (simp only [neg_zero, neg_neg, EReal.coe_zero]; done)
      | (congr 3; exact Fin.ext (by dsimp only; omega))
      | (congr 4; exact Fin.ext (by dsimp only; omega))
      | (simp only [neg_neg]; congr 3; exact Fin.ext (by dsimp only; omega))
  · rw [if_neg hc]
    split_ifs
    all_goals first
      | (exfalso; omega)
      | with_reducible rfl
      | exact EReal.coe_one.symm
      | (simp only [neg_zero, EReal.coe_zero]; done)

/-- The blocks' indices at a point. -/
theorem idx : ∀ t : Fin cfg0.N, win0_0.index t = ![(t : ℕ) % 8, (t : ℕ) / 8] ∧ win0_1.index t = ![0, (t : ℕ) / 8]
    ∧ win0_2.index t = ![0, 6] ∧ win0_3.index t = ![(t : ℕ) % 8, 0] ∧ win0_4.index t = ![0, 0]
    ∧ win0_5.index t = ![(t : ℕ) % 8, (t : ℕ) / 8] ∧ (t : ℕ) < 16 :=
  (by decide +kernel : ∀ t : Fin grid0.N, _)

/-- Row `r` of query tile `i`. -/
def row (i : Fin 8) (r : Fin 256) : Fin 2048 := ⟨256 * i + r, by omega⟩

/-- Head `u` of head group `g`. -/
def hd (g : Fin 2) (u : Fin 4) : Fin 8 := ⟨4 * g + u, by omega⟩

include h0 in
/-- The queries' block. -/
theorem blk0 (t : Fin cfg0.N) (i : Fin 8) (g : Fin 2) (u : Fin 4) (ht : (t : ℕ) = 8 * g + i) (r : Fin 256) (l : Fin 128) :
    iblk m c 0 t (ix2 r (⟨128 * (u : ℕ) + l, by omega⟩ : Fin 512)) = (Q0 x0 (row i r) (hd g u) l : EReal) := by
  obtain ⟨e0, e1, e2, e3, e4, -, -⟩ := idx t
  rw [← v2_real m c x0 h0]
  blk_ext [iblk, e0, row, hd]

include h1 in
/-- The latent's block. -/
theorem blk1 (t : Fin cfg0.N) (i : Fin 8) (g : Fin 2) (u : Fin 4) (ht : (t : ℕ) = 8 * g + i) (k : Fin 2304) (l : Fin 128) :
    iblk m c 1 t (ix2 k (⟨128 * (u : ℕ) + l, by omega⟩ : Fin 512)) = (KV x1 k (hd g u) l : EReal) := by
  obtain ⟨e0, e1, e2, e3, e4, -, -⟩ := idx t
  rw [KV, ← h1]
  blk_ext [iblk, V, e1, hd]

include h2 in
/-- The shared key lanes' block. -/
theorem blk2 (t : Fin cfg0.N) (k : Fin 2304) (l : Fin 128) : iblk m c 2 t (ix2 k l) = (K0 x2 k l : EReal) := by
  obtain ⟨e0, e1, e2, e3, e4, -, -⟩ := idx t
  rw [← v5_real m c x2 h2]
  blk_ext [iblk, e2]

/-- The table's block of a query tile. -/
theorem blk3 (t : Fin cfg0.N) (i : Fin 8) (g : Fin 2) (ht : (t : ℕ) = 8 * g + i) (r : Fin 256) (l : Fin 384) :
    iblk m c 3 t (ix2 r l) = V m c main_v52 (ix2 (up (row i r)) (⟨l, by omega⟩ : Fin 768)) := by
  obtain ⟨e0, e1, e2, e3, e4, -, -⟩ := idx t
  blk_ext [iblk, e3, row, up]

/-- The table's block of all keys. -/
theorem blk4 (t : Fin cfg0.N) (k : Fin 2304) (l : Fin 384) :
    iblk m c 4 t (ix2 k l) = V m c main_v52 (ix2 k (⟨l, by omega⟩ : Fin 768)) := by
  obtain ⟨e0, e1, e2, e3, e4, -, -⟩ := idx t
  blk_ext [iblk, e4]

/-- The three tables in the lanes of a block of the table, whose row `r` is the table's row `ρ r`. -/
structure Tab {n : ℕ} (ρ : Fin n → Fin 2304) (X : Vec Ideal ⟨2, ![n, 384]⟩ .f32) : Prop where
  t0 : ∀ (r : Fin n) (l : Fin 128), X (ix2 r ⟨l, by omega⟩) = (tC (cs x3 (ρ r)) l : EReal)
  t1 : ∀ (r : Fin n) (l : Fin 128), X (ix2 r ⟨128 + l, by omega⟩) = (tLo (sn x3 (ρ r)) l : EReal)
  t2 : ∀ (r : Fin n) (l : Fin 128), X (ix2 r ⟨256 + l, by omega⟩) = (tHi (sn x3 (ρ r)) l : EReal)

include h3 in
/-- The table's block of all keys holds the tables. -/
theorem tabAll (t : Fin cfg0.N) : Tab x3 (fun k => k) (iblk m c 4 t) :=
  ⟨fun r l => (blk4 m c t r _).trans (tab0 m c x3 h3 r l), fun r l => (blk4 m c t r _).trans (tab1 m c x3 h3 r l),
    fun r l => (blk4 m c t r _).trans (tab2 m c x3 h3 r l)⟩

include h3 in
/-- So does a query tile's. -/
theorem tabTile (t : Fin cfg0.N) (i : Fin 8) (g : Fin 2) (ht : (t : ℕ) = 8 * g + i) : Tab x3 (fun r => up (row i r)) (iblk m c 3 t) :=
  ⟨fun r l => (blk3 m c t i g ht r _).trans (tab0 m c x3 h3 _ l), fun r l => (blk3 m c t i g ht r _).trans (tab1 m c x3 h3 _ l),
    fun r l => (blk3 m c t i g ht r _).trans (tab2 m c x3 h3 _ l)⟩

end Cert.Kernel2Ideal.Point
-- ==== Proof.FPay.lean ====
/-
  The forward kernel's stored values at an entry, from blocks whose entries are known reals.
-/
module

public import proofs.«01_k».proof.Proof.FHost
public import Idealize.ShloMosaic.Lib.Pipeline.ValueKit

@[expose] public section

set_option maxRecDepth 16384

noncomputable section

namespace Cert.Kernel2Ideal.Point

open Cert.Kernel2Ideal Cert.Kernel2Ideal.Gen Cert.Kernel2Ideal.Value Idealize.ShloMosaic Idealize.ShloMosaic.TcCoe Idealize.SL.Sem
open Idealize.ShloMosaic.Pipeline (Dat)
open Cert.Attn
open Cert.KernelIdeal.Point (sel_lt64 sel_ge64 rope_coe)

/-- The key head kept in scratch: the latent's lanes, and above them the rotated shared lanes. -/
theorem pay3_real (a : Vec Ideal S2304x128 .f32) (b : Vec Ideal S2304x384 .f32) (v : Vec Ideal S2304x128 .f32)
    (x y c lo hi : Fin 2304 → Fin 128 → ℝ)
    (ha : ∀ k l, a (ix2 k l) = (x k l : EReal)) (hv : ∀ k l, v (ix2 k l) = (y k l : EReal))
    (hc : ∀ (r : Fin 2304) (l : Fin 128), b (ix2 r ⟨l, by omega⟩) = (c r l : EReal))
    (hlo : ∀ (r : Fin 2304) (l : Fin 128), b (ix2 r ⟨128 + l, by omega⟩) = (lo r l : EReal))
    (hhi : ∀ (r : Fin 2304) (l : Fin 128), b (ix2 r ⟨256 + l, by omega⟩) = (hi r l : EReal)) (k : Fin 2304) (l : Fin 128) :
    k0_pay3 a b v (ix3 (0 : Fin 1) k l)
      = ((if (l : ℕ) < 64 then y k l else rope (x k) (c k) (lo k) (hi k) l : ℝ) : EReal) := by
  pointwise [k0_pay3, k0_pay2]
  rw [sel_lt64, ha, ha, ha, hc, hlo, hhi, hv, rope_coe]
  by_cases hl : (l : ℕ) < 64
  · rw [if_pos hl, if_pos hl]
  · rw [if_neg hl, if_neg hl]

/-- The value head kept in scratch: the latent's upper lanes. -/
theorem pay4_real (v : Vec Ideal S2304x128 .f32) (y : Fin 2304 → Fin 128 → ℝ) (hv : ∀ k l, v (ix2 k l) = (y k l : EReal))
    (k : Fin 2304) (l : Fin 128) :
    k0_pay4 v (ix3 (0 : Fin 1) k l) = ((if (l : ℕ) < 64 then 0 else y k l : ℝ) : EReal) := by
  pointwise [k0_pay4]
  rw [sel_ge64, hv]
  by_cases hl : (l : ℕ) < 64
  · rw [if_pos hl, if_pos hl]; rfl
  · rw [if_neg hl, if_neg hl]

/-- One head of the output's block, from the table's block, the queries, the keys and the values. -/
def headOut (X : Vec Ideal S256x384 .f32) (q : Vec Ideal S256x128 .f32) (kk v : Vec Ideal S1x2304x128 .bf16) : FVec Ideal S256x128 .f32 :=
  k0_pay20 (k0_pay15 X q kk) (k0_pay17 X q kk) (k0_pay18 X q kk v) k0_pay19

/-- The later heads' outputs are the first head's operations. -/
theorem pay26_eq (X : Vec Ideal S256x384 .f32) (q : Vec Ideal S256x128 .f32) (kk v : Vec Ideal S1x2304x128 .bf16) :
    k0_pay26 (k0_pay22 (k0_pay13 X) q kk) (k0_pay24 (k0_pay13 X) q kk) (k0_pay25 (k0_pay13 X) q kk v)
      (iota .tc S256x128 32 [1] iota_S256x128_d1_w32) 64#32 = headOut X q kk v := rfl
theorem pay32_eq (X : Vec Ideal S256x384 .f32) (q : Vec Ideal S256x128 .f32) (kk v : Vec Ideal S1x2304x128 .bf16) :
    k0_pay32 (k0_pay28 (k0_pay13 X) q kk) (k0_pay30 (k0_pay13 X) q kk) (k0_pay31 (k0_pay13 X) q kk v) = headOut X q kk v := rfl
theorem pay1_eq (X : Vec Ideal S256x384 .f32) (q : Vec Ideal S256x128 .f32) (kk v : Vec Ideal S1x2304x128 .bf16) :
    k0_pay1 (k0_pay34 (k0_pay13 X) q kk) (k0_pay36 (k0_pay13 X) q kk) (k0_pay37 (k0_pay13 X) q kk) (k0_pay38 v) = headOut X q kk v := rfl

/-- The unscaled scores. -/
theorem pay14_real (X : Vec Ideal S256x384 .f32) (q : Vec Ideal S256x128 .f32) (kk : Vec Ideal S1x2304x128 .bf16)
    (x c lo hi : Fin 256 → Fin 128 → ℝ) (y : Fin 2304 → Fin 128 → ℝ)
    (hq : ∀ r l, q (ix2 r l) = (x r l : EReal)) (hk : ∀ k l, kk (ix3 (0 : Fin 1) k l) = (y k l : EReal))
    (hc : ∀ (r : Fin 256) (l : Fin 128), X (ix2 r ⟨l, by omega⟩) = (c r l : EReal))
    (hlo : ∀ (r : Fin 256) (l : Fin 128), X (ix2 r ⟨128 + l, by omega⟩) = (lo r l : EReal))
    (hhi : ∀ (r : Fin 256) (l : Fin 128), X (ix2 r ⟨256 + l, by omega⟩) = (hi r l : EReal)) (r : Fin 256) (k : Fin 2304) :
    k0_pay14 X q kk (ix2 r k) = ((∑ l, rope (x r) (c r) (lo r) (hi r) l * y k l : ℝ) : EReal) := by
  pointwise [k0_pay14, k0_pay13]
  rw [coe_sum]
  refine Finset.sum_congr rfl fun l _ => ?_
  rw [hq, hq, hq, hc, hlo, hhi, hk, rope_coe, EReal.coe_mul]

section
variable (X : Vec Ideal S256x384 .f32) (q : Vec Ideal S256x128 .f32) (kk v : Vec Ideal S1x2304x128 .bf16)
  (s : Fin 256 → Fin 2304 → ℝ) (w : Fin 2304 → Fin 128 → ℝ)
  (hs : ∀ r k, k0_pay14 X q kk (ix2 r k) = (s r k : EReal)) (hv : ∀ k l, v (ix3 (0 : Fin 1) k l) = (w k l : EReal))

/-- A scaled score. -/
def ex (r : Fin 256) (k : Fin 2304) : ℝ := s r k / Real.sqrt 96

include hs in
/-- A row's maximum is a real number, and the exponentials are those of the scaled scores less the scaled maximum. -/
theorem pay16_real (r : Fin 256) : ∃ M : ℝ, k0_pay15 X q kk (ix2 r (0 : Fin 1)) = (M : EReal)
    ∧ ∀ k, k0_pay16 X q kk (ix2 r k) = ((Real.exp (ex s r k - M * (Real.sqrt 96)⁻¹) : ℝ) : EReal) := by
  have h1 : Named.named (F := Ideal) (φ := .f32) κ "scale_log2e" 0x3E16C740#32 = (((Real.sqrt 96)⁻¹ * (Real.log 2)⁻¹ : ℝ) : EReal) :=
    IdealRules.named_const.ideal_named_scalar _ _ _ _ rfl
  obtain ⟨M, hM⟩ := exists_max fun k => s r k
  have hm : k0_pay15 X q kk (ix2 r (0 : Fin 1)) = (M : EReal) := by
    unfold k0_pay15
    generalize k0_pay14 X q kk = z at hs ⊢
    pointwise
    simp only [hs, Cert.Reference2Ideal.Point.ninf, hM]
  refine ⟨M, hm, fun k => ?_⟩
  unfold k0_pay16
  generalize k0_pay15 X q kk = y at hm ⊢
  generalize k0_pay14 X q kk = z at hs ⊢
  pointwise
  rw [h1, hm, hs, ← EReal.coe_sub, ← EReal.coe_mul]
  refine (Ideal.exp2_coe _).trans ?_
  rw [show (s r k - M) * ((Real.sqrt 96)⁻¹ * (Real.log 2)⁻¹) = (ex s r k - M * (Real.sqrt 96)⁻¹) * (Real.log 2)⁻¹ by
    rw [ex, div_eq_mul_inv]; ring]
  exact congrArg _ (rpow_two _)

include hs hv in
/-- A head of the output: the logarithm of the softmax's denominator, and from lane 64 the softmax times the values. -/
theorem head_real (r : Fin 256) (l : Fin 128) :
    headOut X q kk v (ix2 r l)
      = ((if (l : ℕ) < 64 then Real.log (∑ k, Real.exp (ex s r k)) else ∑ k, Real.exp (ex s r k) / (∑ j, Real.exp (ex s r j)) * w k l : ℝ) : EReal) := by
  have h1 : Named.named (F := Ideal) (φ := .f32) κ "scale" 0x3DD105EC#32 = (((Real.sqrt 96)⁻¹ : ℝ) : EReal) :=
    IdealRules.named_const.ideal_named_scalar _ _ _ _ rfl
  have hp : 0 < ∑ k, Real.exp (ex s r k) := Finset.sum_pos (fun k _ => Real.exp_pos _) ⟨0, Finset.mem_univ _⟩
  obtain ⟨M, hm, hx⟩ := pay16_real X q kk s hs r
  have hp' := shift_pos (ex s r) (M * (Real.sqrt 96)⁻¹) hp
  have hl : k0_pay17 X q kk (ix2 r (0 : Fin 1)) = ((∑ k, Real.exp (ex s r k - M * (Real.sqrt 96)⁻¹) : ℝ) : EReal) := by
    unfold k0_pay17
    generalize k0_pay16 X q kk = z at hx ⊢
    pointwise
    rw [coe_sum]
    exact Finset.sum_congr rfl fun k _ => hx k
  have ho : k0_pay18 X q kk v (ix2 r l) = ((∑ k, Real.exp (ex s r k - M * (Real.sqrt 96)⁻¹) * w k l : ℝ) : EReal) := by
    unfold k0_pay18
    generalize k0_pay16 X q kk = z at hx ⊢
    pointwise
    simp only [coe_sum, EReal.coe_mul, hx, hv]
  unfold headOut
  generalize k0_pay15 X q kk = a at hm ⊢
  generalize k0_pay17 X q kk = b at hl ⊢
  generalize k0_pay18 X q kk v = d at ho ⊢
  pointwise [k0_pay20, k0_pay19]
  rw [sel_lt64, h1, hm, hl, ho]
  by_cases h : (l : ℕ) < 64
  · rw [if_pos h, if_pos h, Ideal.log_coe, if_neg (not_le.2 hp'), ← EReal.coe_mul, ← EReal.coe_add, shift_log _ _ hp]
  · rw [if_neg h, if_neg h, div_real _ _ hp'.ne', Finset.sum_div]
    refine congrArg _ (Finset.sum_congr rfl fun k _ => ?_)
    rw [← shift_div _ (M * (Real.sqrt 96)⁻¹)]
    ring

end

end Cert.Kernel2Ideal.Point
-- ==== Proof.FPoint.lean ====
/-
  What a point of the forward kernel's grid leaves: the keys and values in scratch, and its block of the output.
-/
module

public import proofs.«01_k».proof.Proof.FPay
public import Idealize.ShloMosaic.Lib.Pipeline.ReadBack

@[expose] public section

set_option maxRecDepth 16384

noncomputable section

namespace Cert.Kernel2Ideal.Point

open Cert.Kernel2Ideal Cert.Kernel2Ideal.Gen Cert.Kernel2Ideal.Value Idealize.ShloMosaic Idealize.ShloMosaic.TcCoe Idealize.SL.Sem
open Idealize.ShloMosaic.Pipeline (Dat)
open Cert.Attn

variable (m : (ℓ : Loc nD τ sig) → Buf (Elt Ideal) ℓ) (c : Dev nD)
  (x0 : Fin 2048 → Fin 768 → ℝ) (x1 : Fin 2304 → Fin 1024 → ℝ) (x2 : Fin 2304 → Fin 32 → ℝ) (x3 : Fin 2048 → Fin 16 → ℝ)
  (h0 : ∀ i j, m (c, Proc.devRef .tc main_arg0) (ix2 i j) = (x0 i j : EReal))
  (h1 : ∀ i j, m (c, Proc.devRef .tc main_arg1) (ix2 i j) = (x1 i j : EReal))
  (h2 : ∀ i j, m (c, Proc.devRef .tc main_arg2) (ix2 i j) = (x2 i j : EReal))
  (h3 : ∀ i j, m (c, Proc.devRef .tc main_arg3) (ix2 i j) = (x3 i j : EReal))

include h1 h2 h3 in
/-- The key head a group's first point stores. -/
theorem keyHead (t : Fin cfg0.N) (i : Fin 8) (g : Fin 2) (u : Fin 4) (ht : (t : ℕ) = 8 * g + i) (v : Vec Ideal S2304x128 .f32)
    (ev : ∀ (k : Fin 2304) (l : Fin 128), v (ix2 k l) = iblk m c 1 t (ix2 k (⟨128 * (u : ℕ) + l, by omega⟩ : Fin 512)))
    (k : Fin 2304) (l : Fin 128) :
    k0_pay3 (iblk m c 2 t) (iblk m c 4 t) v (ix3 (0 : Fin 1) k l) = (Kf x1 x2 x3 k (hd g u) l : EReal) := by
  have hT := tabAll m c x3 h3 t
  rw [pay3_real (iblk m c 2 t) (iblk m c 4 t) v (K0 x2) (fun k => KV x1 k (hd g u)) _ _ _ (blk2 m c x2 h2 t)
    (fun k l => (ev k l).trans (blk1 m c x1 h1 t i g u ht k l)) hT.t0 hT.t1 hT.t2, ← rope_K0]
  by_cases hl : (l : ℕ) < 64
  · rw [if_pos hl, dif_pos hl]
  · rw [if_neg hl, dif_neg hl]

include h1 in
/-- The value head it stores. -/
theorem valueHead (t : Fin cfg0.N) (i : Fin 8) (g : Fin 2) (u : Fin 4) (ht : (t : ℕ) = 8 * g + i) (v : Vec Ideal S2304x128 .f32)
    (ev : ∀ (k : Fin 2304) (l : Fin 128), v (ix2 k l) = iblk m c 1 t (ix2 k (⟨128 * (u : ℕ) + l, by omega⟩ : Fin 512)))
    (k : Fin 2304) (l : Fin 128) : k0_pay4 v (ix3 (0 : Fin 1) k l) = (Vf x1 k (hd g u) l : EReal) := by
  rw [pay4_real v (fun k => KV x1 k (hd g u)) (fun k l => (ev k l).trans (blk1 m c x1 h1 t i g u ht k l))]
  unfold Vf upper
  by_cases hl : (l : ℕ) < 64
  · rw [if_pos hl, dif_pos hl]
  · rw [if_neg hl, dif_neg hl]
    congr 2
    exact Fin.ext (by dsimp only; omega)

include h0 h3 in
/-- A point's output for head `u` of its group, from what it loads. -/
theorem point (t : Fin cfg0.N) (i : Fin 8) (g : Fin 2) (u : Fin 4) (ht : (t : ℕ) = 8 * g + i) (q : Vec Ideal S256x128 .f32)
    (kk v : Vec Ideal S1x2304x128 .bf16)
    (eq : ∀ (r : Fin 256) (l : Fin 128), q (ix2 r l) = iblk m c 0 t (ix2 r (⟨128 * (u : ℕ) + l, by omega⟩ : Fin 512)))
    (hk : ∀ k l, kk (ix3 (0 : Fin 1) k l) = (Kf x1 x2 x3 k (hd g u) l : EReal))
    (hv : ∀ k l, v (ix3 (0 : Fin 1) k l) = (Vf x1 k (hd g u) l : EReal)) (r : Fin 256) (l : Fin 128) :
    headOut (iblk m c 3 t) q kk v (ix2 r l) = (Of x0 x1 x2 x3 (row i r) (hd g u) l : EReal) := by
  have hX := tabTile m c x3 h3 t i g ht
  have hs : ∀ r k, k0_pay14 (iblk m c 3 t) q kk (ix2 r k) = (raw x0 x1 x2 x3 (row i r) (hd g u) k : EReal) := fun r k => by
    rw [pay14_real (iblk m c 3 t) q kk (fun r => Q0 x0 (row i r) (hd g u)) _ _ _ (fun k => Kf x1 x2 x3 k (hd g u))
      (fun r l => (eq r l).trans (blk0 m c x0 h0 t i g u ht r l)) hk hX.t0 hX.t1 hX.t2]
    simp only [rope_Q0, sum_raw]
  rw [head_real (iblk m c 3 t) q kk v (fun r k => raw x0 x1 x2 x3 (row i r) (hd g u) k) (fun k => Vf x1 k (hd g u)) hs hv]
  unfold Of upper
  by_cases hl : (l : ℕ) < 64
  · rw [if_pos hl, dif_pos hl]
    rfl
  · rw [if_neg hl, dif_neg hl]
    unfold O Vf upper
    refine congrArg _ (Finset.sum_congr rfl fun k _ => ?_)
    rw [dif_neg hl]
    rfl

include h1 h2 h3 in
/-- The keys after a group's first point. -/
theorem first_k (t : Fin cfg0.N) (g : Fin 2) (ht : (t : ℕ) = 8 * g + (0 : Fin 8)) (hi : (t : ℕ) % 8 = 0) (u : Fin 4) (k : Fin 2304) (l : Fin 128) :
    (outsAt0 m c t.val t.isLt).2.1 (ix3 u k l) = (Kf x1 x2 x3 k (hd g u) l : EReal) := by
  rw [outsAt0_A m c t hi]
  frame_out
  canon_tiles x e
  · change (u : ℕ) = 3 + (x 0 : ℕ) at e0
    change (k : ℕ) = (x 1 : ℕ) at e1
    change (l : ℕ) = (x 2 : ℕ) at e2
    idx_bounds x
    obtain rfl : u = 3 := Fin.ext (by show (u : ℕ) = 3; omega)
    obtain rfl : x = ix3 (0 : Fin 1) k l := by
      blk_ext
    refine keyHead m c x1 x2 x3 h1 h2 h3 t 0 g 3 ht _ ?_ k l
    intro k l; pointwise <;> rfl
  · change (u : ℕ) = 2 + (x 0 : ℕ) at e0
    change (k : ℕ) = (x 1 : ℕ) at e1
    change (l : ℕ) = (x 2 : ℕ) at e2
    idx_bounds x
    obtain rfl : u = 2 := Fin.ext (by show (u : ℕ) = 2; omega)
    obtain rfl : x = ix3 (0 : Fin 1) k l := by
      blk_ext
    refine keyHead m c x1 x2 x3 h1 h2 h3 t 0 g 2 ht _ ?_ k l
    intro k l; pointwise <;> rfl
  · change (u : ℕ) = 1 + (x 0 : ℕ) at e0
    change (k : ℕ) = (x 1 : ℕ) at e1
    change (l : ℕ) = (x 2 : ℕ) at e2
    idx_bounds x
    obtain rfl : u = 1 := Fin.ext (by show (u : ℕ) = 1; omega)
    obtain rfl : x = ix3 (0 : Fin 1) k l := by
      blk_ext
    refine keyHead m c x1 x2 x3 h1 h2 h3 t 0 g 1 ht _ ?_ k l
    intro k l; pointwise <;> rfl
  · change (u : ℕ) = (x 0 : ℕ) at e0
    change (k : ℕ) = (x 1 : ℕ) at e1
    change (l : ℕ) = (x 2 : ℕ) at e2
    idx_bounds x
    obtain rfl : u = 0 := Fin.ext (by show (u : ℕ) = 0; omega)
    obtain rfl : x = ix3 (0 : Fin 1) k l := by
      blk_ext
    refine keyHead m c x1 x2 x3 h1 h2 h3 t 0 g 0 ht _ ?_ k l
    intro k l; pointwise <;> rfl

include h1 in
/-- The values after it. -/
theorem first_v (t : Fin cfg0.N) (g : Fin 2) (ht : (t : ℕ) = 8 * g + (0 : Fin 8)) (hi : (t : ℕ) % 8 = 0) (u : Fin 4) (k : Fin 2304) (l : Fin 128) :
    (outsAt0 m c t.val t.isLt).2.2 (ix3 u k l) = (Vf x1 k (hd g u) l : EReal) := by
  rw [outsAt0_A m c t hi]
  frame_out
  canon_tiles x e
  · change (u : ℕ) = 3 + (x 0 : ℕ) at e0
    change (k : ℕ) = (x 1 : ℕ) at e1
    change (l : ℕ) = (x 2 : ℕ) at e2
    idx_bounds x
    obtain rfl : u = 3 := Fin.ext (by show (u : ℕ) = 3; omega)
    obtain rfl : x = ix3 (0 : Fin 1) k l := by
      blk_ext
    refine valueHead m c x1 h1 t 0 g 3 ht _ ?_ k l
    intro k l; pointwise <;> rfl
  · change (u : ℕ) = 2 + (x 0 : ℕ) at e0
    change (k : ℕ) = (x 1 : ℕ) at e1
    change (l : ℕ) = (x 2 : ℕ) at e2
    idx_bounds x
    obtain rfl : u = 2 := Fin.ext (by show (u : ℕ) = 2; omega)
    obtain rfl : x = ix3 (0 : Fin 1) k l := by
      blk_ext
    refine valueHead m c x1 h1 t 0 g 2 ht _ ?_ k l
    intro k l; pointwise <;> rfl
  · change (u : ℕ) = 1 + (x 0 : ℕ) at e0
    change (k : ℕ) = (x 1 : ℕ) at e1
    change (l : ℕ) = (x 2 : ℕ) at e2
    idx_bounds x
    obtain rfl : u = 1 := Fin.ext (by show (u : ℕ) = 1; omega)
    obtain rfl : x = ix3 (0 : Fin 1) k l := by
      blk_ext
    refine valueHead m c x1 h1 t 0 g 1 ht _ ?_ k l
    intro k l; pointwise <;> rfl
  · change (u : ℕ) = (x 0 : ℕ) at e0
    change (k : ℕ) = (x 1 : ℕ) at e1
    change (l : ℕ) = (x 2 : ℕ) at e2
    idx_bounds x
    obtain rfl : u = 0 := Fin.ext (by show (u : ℕ) = 0; omega)
    obtain rfl : x = ix3 (0 : Fin 1) k l := by
      blk_ext
    refine valueHead m c x1 h1 t 0 g 0 ht _ ?_ k l
    intro k l; pointwise <;> rfl

include h0 h1 h2 h3 in
/-- The output's block after it. -/
theorem first5 (t : Fin cfg0.N) (g : Fin 2) (ht : (t : ℕ) = 8 * g + (0 : Fin 8)) (hi : (t : ℕ) % 8 = 0) (u : Fin 4) (r : Fin 256) (l : Fin 128) :
    (outsAt0 m c t.val t.isLt).1 (ix2 r (⟨128 * (u : ℕ) + l, by omega⟩ : Fin 512)) = (Of x0 x1 x2 x3 (row 0 r) (hd g u) l : EReal) := by
  rw [outsAt0_A m c t hi]
  frame_out
  simp (disch := decide) only [↓View.readCov_skip, ↓View.readCov_fill, ↓View.readCov_cons_toLoadRect]
  canon_tiles x e
  · change (r : ℕ) = (x 0 : ℕ) at e0
    change 128 * (u : ℕ) + (l : ℕ) = 384 + (x 1 : ℕ) at e1
    idx_bounds x
    obtain rfl : u = 3 := Fin.ext (by show (u : ℕ) = 3; omega)
    obtain rfl : x = ix2 r l := by
      blk_ext
    rw [pay1_eq]
    refine point m c x0 x1 x2 x3 h0 h3 t 0 g 3 ht _ _ _ ?_ ?_ ?_ r l
    · intro r l; pointwise <;> rfl
    · intro k l
      refine keyHead m c x1 x2 x3 h1 h2 h3 t 0 g 3 ht _ ?_ k l
      intro k l; pointwise <;> rfl
    · intro k l
      refine valueHead m c x1 h1 t 0 g 3 ht _ ?_ k l
      intro k l; pointwise <;> rfl
  · change (r : ℕ) = (x 0 : ℕ) at e0
    change 128 * (u : ℕ) + (l : ℕ) = 256 + (x 1 : ℕ) at e1
    idx_bounds x
    obtain rfl : u = 2 := Fin.ext (by show (u : ℕ) = 2; omega)
    obtain rfl : x = ix2 r l := by
      blk_ext
    rw [pay32_eq]
    refine point m c x0 x1 x2 x3 h0 h3 t 0 g 2 ht _ _ _ ?_ ?_ ?_ r l
    · intro r l; pointwise <;> rfl
    · intro k l
      refine keyHead m c x1 x2 x3 h1 h2 h3 t 0 g 2 ht _ ?_ k l
      intro k l; pointwise <;> rfl
    · intro k l
      refine valueHead m c x1 h1 t 0 g 2 ht _ ?_ k l
      intro k l; pointwise <;> rfl
  · change (r : ℕ) = (x 0 : ℕ) at e0
    change 128 * (u : ℕ) + (l : ℕ) = 128 + (x 1 : ℕ) at e1
    idx_bounds x
    obtain rfl : u = 1 := Fin.ext (by show (u : ℕ) = 1; omega)
    obtain rfl : x = ix2 r l := by
      blk_ext
    rw [pay26_eq]
    refine point m c x0 x1 x2 x3 h0 h3 t 0 g 1 ht _ _ _ ?_ ?_ ?_ r l
    · intro r l; pointwise <;> rfl
    · intro k l
      refine keyHead m c x1 x2 x3 h1 h2 h3 t 0 g 1 ht _ ?_ k l
      intro k l; pointwise <;> rfl
    · intro k l
      refine valueHead m c x1 h1 t 0 g 1 ht _ ?_ k l
      intro k l; pointwise <;> rfl
  · change (r : ℕ) = (x 0 : ℕ) at e0
    change 128 * (u : ℕ) + (l : ℕ) = (x 1 : ℕ) at e1
    idx_bounds x
    obtain rfl : u = 0 := Fin.ext (by show (u : ℕ) = 0; omega)
    obtain rfl : x = ix2 r l := by
      blk_ext
    refine point m c x0 x1 x2 x3 h0 h3 t 0 g 0 ht _ _ _ ?_ ?_ ?_ r l
    · intro r l; pointwise <;> rfl
    · intro k l
      refine keyHead m c x1 x2 x3 h1 h2 h3 t 0 g 0 ht _ ?_ k l
      intro k l; pointwise <;> rfl
    · intro k l
      refine valueHead m c x1 h1 t 0 g 0 ht _ ?_ k l
      intro k l; pointwise <;> rfl

include h0 h3 in
/-- The output's block after a point that is not its group's first. -/
theorem later5 (t : Fin cfg0.N) (i : Fin 8) (g : Fin 2) (ht : (t : ℕ) = 8 * g + i) (hi : ¬(t : ℕ) % 8 = 0)
    (hk : ∀ (u : Fin 4) k l, (outsAt0 m c (t.val - 1) (Nat.lt_of_le_of_lt (Nat.sub_le _ _) t.isLt)).2.1 (ix3 u k l)
      = (Kf x1 x2 x3 k (hd g u) l : EReal))
    (hv : ∀ (u : Fin 4) k l, (outsAt0 m c (t.val - 1) (Nat.lt_of_le_of_lt (Nat.sub_le _ _) t.isLt)).2.2 (ix3 u k l)
      = (Vf x1 k (hd g u) l : EReal))
    (u : Fin 4) (r : Fin 256) (l : Fin 128) :
    (outsAt0 m c t.val t.isLt).1 (ix2 r (⟨128 * (u : ℕ) + l, by omega⟩ : Fin 512)) = (Of x0 x1 x2 x3 (row i r) (hd g u) l : EReal) := by
  rw [outsAt0_B m c t hi]
  frame_out
  simp only [read_unread_whole]
  canon_tiles x e
  · change (r : ℕ) = (x 0 : ℕ) at e0
    change 128 * (u : ℕ) + (l : ℕ) = 384 + (x 1 : ℕ) at e1
    idx_bounds x
    obtain rfl : u = 3 := Fin.ext (by show (u : ℕ) = 3; omega)
    obtain rfl : x = ix2 r l := by
      blk_ext
    rw [pay1_eq]
    refine point m c x0 x1 x2 x3 h0 h3 t i g 3 ht _ _ _ ?_ ?_ ?_ r l
    · intro r l; pointwise <;> rfl
    · intro k l; pointwise; exact hk 3 k l
    · intro k l; pointwise; exact hv 3 k l
  · change (r : ℕ) = (x 0 : ℕ) at e0
    change 128 * (u : ℕ) + (l : ℕ) = 256 + (x 1 : ℕ) at e1
    idx_bounds x
    obtain rfl : u = 2 := Fin.ext (by show (u : ℕ) = 2; omega)
    obtain rfl : x = ix2 r l := by
      blk_ext
    rw [pay32_eq]
    refine point m c x0 x1 x2 x3 h0 h3 t i g 2 ht _ _ _ ?_ ?_ ?_ r l
    · intro r l; pointwise <;> rfl
    · intro k l; pointwise; exact hk 2 k l
    · intro k l; pointwise; exact hv 2 k l
  · change (r : ℕ) = (x 0 : ℕ) at e0
    change 128 * (u : ℕ) + (l : ℕ) = 128 + (x 1 : ℕ) at e1
    idx_bounds x
    obtain rfl : u = 1 := Fin.ext (by show (u : ℕ) = 1; omega)
    obtain rfl : x = ix2 r l := by
      blk_ext
    rw [pay26_eq]
    refine point m c x0 x1 x2 x3 h0 h3 t i g 1 ht _ _ _ ?_ ?_ ?_ r l
    · intro r l; pointwise <;> rfl
    · intro k l; pointwise; exact hk 1 k l
    · intro k l; pointwise; exact hv 1 k l
  · change (r : ℕ) = (x 0 : ℕ) at e0
    change 128 * (u : ℕ) + (l : ℕ) = (x 1 : ℕ) at e1
    idx_bounds x
    obtain rfl : u = 0 := Fin.ext (by show (u : ℕ) = 0; omega)
    obtain rfl : x = ix2 r l := by
      blk_ext
    refine point m c x0 x1 x2 x3 h0 h3 t i g 0 ht _ _ _ ?_ ?_ ?_ r l
    · intro r l; pointwise <;> rfl
    · intro k l; pointwise; exact hk 0 k l
    · intro k l; pointwise; exact hv 0 k l

/-- Such a point leaves the keys as they were. -/
theorem later_k (t : Fin cfg0.N) (hi : ¬(t : ℕ) % 8 = 0) : (outsAt0 m c t.val t.isLt).2.1
    = (outsAt0 m c (t.val - 1) (Nat.lt_of_le_of_lt (Nat.sub_le _ _) t.isLt)).2.1 := by
  rw [outsAt0_B m c t hi]
  rfl
/-- And the values. -/
theorem later_v (t : Fin cfg0.N) (hi : ¬(t : ℕ) % 8 = 0) : (outsAt0 m c t.val t.isLt).2.2
    = (outsAt0 m c (t.val - 1) (Nat.lt_of_le_of_lt (Nat.sub_le _ _) t.isLt)).2.2 := by
  rw [outsAt0_B m c t hi]
  rfl
end Cert.Kernel2Ideal.Point
-- ==== Proof.FInv.lean ====
/-
  What the forward kernel's grid leaves in its result, by induction over the points.
-/
module

public import proofs.«01_k».proof.Proof.FPoint
public import Idealize.ShloMosaic.Lib.Pipeline.ReadBack

@[expose] public section

set_option maxRecDepth 16384

noncomputable section

namespace Cert.Kernel2Ideal.Point

open Cert.Kernel2Ideal Cert.Kernel2Ideal.Gen Cert.Kernel2Ideal.Value Idealize.ShloMosaic Idealize.ShloMosaic.TcCoe Idealize.SL.Sem
open Idealize.ShloMosaic.Pipeline (Dat)
open Cert.Attn

variable (m : (ℓ : Loc nD τ sig) → Buf (Elt Ideal) ℓ) (c : Dev nD)
  (x0 : Fin 2048 → Fin 768 → ℝ) (x1 : Fin 2304 → Fin 1024 → ℝ) (x2 : Fin 2304 → Fin 32 → ℝ) (x3 : Fin 2048 → Fin 16 → ℝ)
  (h0 : ∀ i j, m (c, Proc.devRef .tc main_arg0) (ix2 i j) = (x0 i j : EReal))
  (h1 : ∀ i j, m (c, Proc.devRef .tc main_arg1) (ix2 i j) = (x1 i j : EReal))
  (h2 : ∀ i j, m (c, Proc.devRef .tc main_arg2) (ix2 i j) = (x2 i j : EReal))
  (h3 : ∀ i j, m (c, Proc.devRef .tc main_arg3) (ix2 i j) = (x3 i j : EReal))

/-- What the scratch holds after point `t` of the group `g`: its heads' keys and values. -/
structure Held (t : Fin cfg0.N) (g : Fin 2) : Prop where
  k : ∀ (u : Fin 4) k l, (outsAt0 m c t.val t.isLt).2.1 (ix3 u k l) = (Kf x1 x2 x3 k (hd g u) l : EReal)
  v : ∀ (u : Fin 4) k l, (outsAt0 m c t.val t.isLt).2.2 (ix3 u k l) = (Vf x1 k (hd g u) l : EReal)

include h1 h2 h3 in
/-- Every point holds it. -/
theorem held : ∀ (n : ℕ) (hn : n < cfg0.N) (i : Fin 8) (g : Fin 2), n = 8 * g + i → Held m c x1 x2 x3 ⟨n, hn⟩ g := by
  intro n
  induction n with
  | zero =>
    intro hn i g e
    obtain rfl : i = 0 := Fin.ext (by show (i : ℕ) = 0; omega)
    have e0 : ((⟨0, hn⟩ : Fin cfg0.N) : ℕ) % 8 = 0 := rfl
    exact ⟨fun u => first_k m c x1 x2 x3 h1 h2 h3 _ g e e0 u, fun u => first_v m c x1 h1 _ g e e0 u⟩
  | succ n ih =>
    intro hn i g e
    by_cases hi : (n + 1) % 8 = 0
    · obtain rfl : i = 0 := Fin.ext (by show (i : ℕ) = 0; omega)
      exact ⟨fun u => first_k m c x1 x2 x3 h1 h2 h3 _ g e hi u, fun u => first_v m c x1 h1 _ g e hi u⟩
    · have H := ih (Nat.lt_of_succ_lt hn) ⟨i - 1, by omega⟩ g (by show n = 8 * g + (i - 1); omega)
      refine ⟨fun u k l => ?_, fun u k l => ?_⟩
      · rw [later_k m c ⟨n + 1, hn⟩ hi]
        exact H.k u k l
      · rw [later_v m c ⟨n + 1, hn⟩ hi]
        exact H.v u k l

include h0 h1 h2 h3 in
/-- The result is each row's logarithm of the softmax's denominator beside the attention's output. -/
theorem final_real (G : FVec Ideal S2048x1024 .f32)
    (hG : ∀ (t : Fin 2048) (h : Fin 8) (l : Fin 128), G (ix2 t (⟨128 * (h : ℕ) + l, by omega⟩ : Fin 1024)) = (Of x0 x1 x2 x3 t h l : EReal)) :
    (dats m 0 c).arrAt 5 (cfgs 0).N = G := by
  refine (dats m 0 c).arrAt_eq_of_covers 5 _ (by decide +kernel) fun t hf y => ?_
  obtain ⟨-, -, -, -, -, e5, e16⟩ := idx t
  obtain ⟨r, u, l, rfl⟩ : ∃ (r : Fin 256) (u : Fin 4) (l : Fin 128), y = ix2 r (⟨128 * (u : ℕ) + l, by omega⟩ : Fin 512) := by
    have b1 : (y 1 : ℕ) < 512 := (y 1).isLt
    refine ⟨y 0, ⟨(y 1 : ℕ) / 128, by omega⟩, ⟨(y 1 : ℕ) % 128, by omega⟩, ?_⟩
    have e : 128 * ((y 1 : ℕ) / 128) + (y 1 : ℕ) % 128 = (y 1 : ℕ) := Nat.div_add_mod _ _
    blk_ext
  blk_simp
  rw [after0_5]
  have et : (t : ℕ) = 8 * ((⟨(t : ℕ) / 8, by omega⟩ : Fin 2) : ℕ) + ((⟨(t : ℕ) % 8, by omega⟩ : Fin 8) : ℕ) := by
    show (t : ℕ) = 8 * ((t : ℕ) / 8) + (t : ℕ) % 8
    omega
  have key : (outsAt0 m c t.val t.isLt).1 (ix2 r (⟨128 * (u : ℕ) + l, by omega⟩ : Fin 512))
      = (Of x0 x1 x2 x3 (row ⟨(t : ℕ) % 8, by omega⟩ r) (hd ⟨(t : ℕ) / 8, by omega⟩ u) l : EReal) := by
    by_cases hi : (t : ℕ) % 8 = 0
    · have z : (⟨(t : ℕ) % 8, by omega⟩ : Fin 8) = 0 := Fin.ext hi
      rw [z] at et ⊢
      exact first5 m c x0 x1 x2 x3 h0 h1 h2 h3 t _ et hi u r l
    · obtain ⟨n, hn⟩ := t
      obtain ⟨n, rfl⟩ : ∃ k, n = k + 1 := ⟨n - 1, by have : ¬n % 8 = 0 := hi; omega⟩
      have hi' : ¬(n + 1) % 8 = 0 := hi
      have H := held m c x1 x2 x3 h1 h2 h3 n (Nat.lt_of_succ_lt hn) ⟨n % 8, by omega⟩ ⟨(n + 1) / 8, by have : n + 1 < 16 := e16; omega⟩
        (by show n = 8 * ((n + 1) / 8) + n % 8; omega)
      exact later5 m c x0 x1 x2 x3 h0 h3 ⟨n + 1, hn⟩ _ _ et hi H.k H.v u r l
  refine key.trans ((hG _ _ l).symm.trans (congrArg G ?_))
  blk_ext [e5, row, hd]

end Cert.Kernel2Ideal.Point
-- ==== Proof.Pre2.lean ====
/-
  What the precondition of the forward call's claim says: every entry of every argument is a real number.
-/
module

public import proofs.«01_k».proof.Proof.Gen.Pre_finite2
public import proofs.«01_k».proof.Proof.Pre
public import Idealize.ShloMosaic.Lib.ReduceAll
public import Idealize.ShloMosaic.PureOps.Ideal.Laws

@[expose] public section

set_option maxRecDepth 16384

noncomputable section

namespace Cert.Attn

open Idealize.ShloMosaic

section
open Cert.Pre_finite2

/-- The precondition of the forward call's claim, read: the four arguments are real numbers. -/
theorem reals2 (X0 : FVec Ideal S2048x768 .f32) (X1 : FVec Ideal S2304x1024 .f32) (X2 : FVec Ideal S2304x32 .f32)
    (X3 : FVec Ideal S2048x16 .f32) (i₀ : S_.Idx) (e : fn X0 X1 X2 X3 i₀ = 1#1) :
    (∀ i, X0 i = ((EReal.toReal (X0 i) : ℝ) : EReal)) ∧ (∀ i, X1 i = ((EReal.toReal (X1 i) : ℝ) : EReal))
      ∧ (∀ i, X2 i = ((EReal.toReal (X2 i) : ℝ) : EReal)) ∧ ∀ i, X3 i = ((EReal.toReal (X3 i) : ℝ) : EReal) := by
  have : Subsingleton S_.Idx := ⟨fun a b => funext fun i => i.elim0⟩
  dsimp only [fn, fn_part1] at e
  obtain ⟨e, e3⟩ := IntOp.andi_eq_one.1 e
  obtain ⟨e, e2⟩ := IntOp.andi_eq_one.1 e
  obtain ⟨e0, e1⟩ := IntOp.andi_eq_one.1 e
  exact ⟨fun i => real_of_abs_lt _ (Host.reduce_andi_all _ _ _ _ _ e0 i),
    fun i => real_of_abs_lt _ (Host.reduce_andi_all _ _ _ _ _ e1 i),
    fun i => real_of_abs_lt _ (Host.reduce_andi_all _ _ _ _ _ e2 i),
    fun i => real_of_abs_lt _ (Host.reduce_andi_all _ _ _ _ _ e3 i)⟩

end

end Cert.Attn
-- ==== Proof.Forward.lean ====
/-
  The forward kernel's idealization and the plain mathematics leave the same output and logarithms.
-/
module

public import proofs.«01_k».proof.Defs
public import proofs.«01_k».proof.Proof.FInv
public import proofs.«01_k».proof.Proof.Pre2
public import proofs.«01_k».proof.Proof.Gen.Kernel2Ideal.Frame
public import proofs.«01_k».proof.Proof.Gen.Reference2Ideal.Run
public import proofs.«01_k».proof.Proof.Gen.Pre_finite2
public import Idealize.ShloMosaic.Adequacy
public import Idealize.ShloMosaic.Init

@[expose] public section

set_option maxRecDepth 16384

noncomputable section

namespace Cert.Attn

open Idealize.ShloMosaic Idealize.ShloMosaic.TcCoe Idealize.SL.Sem Idealize.ShloMosaic.StableHlo

set_option maxHeartbeats 1600000 in
/-- For finite arguments the result agrees. -/
theorem forward : algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m g m' g' hp ha
  refine ⟨fun c => (Cert.Kernel2Ideal.Gen.dats m 0 c).arrAt 5 Cert.Kernel2Ideal.cfg0.N, ?_, ?_⟩
  · exact (θ_run Cert.Kernel2Ideal.defs _ _).mono (fun r h c =>
      ⟨(h c).1.trans (Cert.Kernel2Ideal.Value.final5 m c).symm, (h c).2⟩) (Cert.Kernel2Ideal.Value.run m g)
  · refine (θ_run Cert.Reference2Ideal.defs _ _).mono (fun r h c => ?_) (Cert.Reference2Ideal.Value.run m' g')
    obtain ⟨f0, f1, f2, f3⟩ := reals2 _ _ _ _ (fun a => a.elim0) (congrFun (hp c) (fun a => a.elim0))
    obtain ⟨a0, a1, a2, a3⟩ := ha c
    obtain ⟨r0, rest⟩ := h c
    refine ⟨?_, rest⟩
    refine (r0.trans (Cert.Reference2Ideal.Read.val_main_v85_eq m' c)).trans (Eq.symm ?_)
    refine Cert.Kernel2Ideal.Point.final_real m c _ _ _ _ (fun i j => f0 (ix2 i j)) (fun i j => f1 (ix2 i j)) (fun i j => f2 (ix2 i j))
      (fun i j => f3 (ix2 i j)) _ ?_
    exact fun t h l => (Cert.Reference2Ideal.Point.v85_real _ _ _ _ _ _ _ _ (fun i j => (congrFun a0 _).trans (f0 (ix2 i j)))
      (fun i j => (congrFun a1 _).trans (f1 (ix2 i j))) (fun i j => (congrFun a2 _).trans (f2 (ix2 i j)))
      (fun i j => (congrFun a3 _).trans (f3 (ix2 i j))) t h l).trans rfl

end Cert.Attn
-- ==== Proof.Up.lean ====
/-
  The feed-forward part's products by `w_up`: forward, and the weight's gradient.
-/
module

public import proofs.«01_k».proof.Proof.Gen.UpIdeal.Value
public import proofs.«01_k».proof.Proof.Gen.UpRefIdeal.Run
public import proofs.«01_k».proof.Proof.Gen.UpRefIdeal.Read
public import proofs.«01_k».proof.Proof.Gen.UpDwIdeal.Value
public import proofs.«01_k».proof.Proof.Gen.UpDwRefIdeal.Run
public import proofs.«01_k».proof.Proof.Gen.UpDwRefIdeal.Read
public import proofs.«01_k».proof.Proof.Products
public import proofs.«01_k».proof.Defs
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.UpIdeal.Product

open Cert.UpIdeal Cert.UpIdeal.Gen Cert.UpIdeal.Value Idealize.ShloMosaic Idealize.ShloMosaic.TcCoe Idealize.SL.Sem
open Idealize.ShloMosaic.ValueIdx
open Cert.UpRefIdeal.Read

variable (m : (ℓ : Loc nD τ sig) → Buf (Elt Ideal) ℓ) (c : Dev nD)

/-- The windows' blocks at a grid point. -/
theorem idx : ∀ t : Fin cfg0.N, win0_0.index t = ![(t : ℕ) / 4, 0] ∧ win0_1.index t = ![(t : ℕ) % 4, 0, 0] ∧ win0_2.index t = ![(t : ℕ) / 4, (t : ℕ) % 4] ∧ (t : ℕ) < 8 :=
  (by decide +kernel : ∀ t : Fin grid0.N, _)

/-- The result array is the reference's. -/
theorem final : (dats m 0 c).arrAt 2 (cfgs 0).N
    = val_main_v3 (F := Ideal) (m (c, Proc.devRef .tc main_arg0)) (m (c, Proc.devRef .tc main_arg1)) := by
  refine (dats m 0 c).arrAt_eq_of_covers 2 _ (by decide +kernel) fun t hf y => ?_
  obtain ⟨e0, e1, e2, e16⟩ := idx t
  blk_simp
  rw [after0_2]
  frame_out
  pointwise [k0_pay1, val_main_v0, val_main_v1, val_main_v2, val_main_v3]
  refine Fin.sum_fin_congr fun k => ?_
  blk_point [iblk, V, e0, e1, e2]

/-- For all arguments the result is the reference's. -/
theorem claim : algebraic_UpIdeal_UpRefIdeal (hUpIdeal := Cert.UpIdeal.Gen.facts) (hUpRefIdeal := Cert.UpRefIdeal.Gen.facts) :=
  fun m g m' g' _ ha => Cert.Products.agree (Value.run_blocks m g) (Cert.UpRefIdeal.Value.run m' g')
    fun c => (congrArg₂ val_main_v3 (ha c).1 (ha c).2).trans (final m c).symm

end Cert.UpIdeal.Product

namespace Cert.UpDwIdeal.Product

open Cert.UpDwIdeal Cert.UpDwIdeal.Gen Cert.UpDwIdeal.Value Idealize.ShloMosaic Idealize.ShloMosaic.TcCoe Idealize.SL.Sem
open Idealize.ShloMosaic.ValueIdx
open Cert.UpDwRefIdeal.Read

variable (m : (ℓ : Loc nD τ sig) → Buf (Elt Ideal) ℓ) (c : Dev nD)

/-- The windows' blocks at a grid point. -/
theorem idx : ∀ t : Fin cfg0.N, win0_0.index t = ![0, 0] ∧ win0_1.index t = ![(t : ℕ) / 2, 0, (t : ℕ) % 2] ∧ win0_2.index t = ![(t : ℕ), 0, 0] ∧ (t : ℕ) < 4 :=
  (by decide +kernel : ∀ t : Fin grid0.N, _)

/-- The result array is the reference's. -/
theorem final : (dats m 0 c).arrAt 2 (cfgs 0).N
    = val_main_v12 (F := Ideal) (m (c, Proc.devRef .tc main_arg0)) (m (c, Proc.devRef .tc main_arg1)) := by
  refine (dats m 0 c).arrAt_eq_of_covers 2 _ (by decide +kernel) fun t hf y => ?_
  obtain ⟨e0, e1, e2, e16⟩ := idx t
  blk_simp
  rw [after0_2]
  frame_out
  pointwise [k0_pay1, val_main_v0, val_main_v1, val_main_v7, val_main_v8, val_main_v9, val_main_v10, val_main_v11, val_main_v12]
  refine Fin.sum_fin_congr fun k => (EReal.mul_comm _ _).trans ?_
  blk_point [iblk, V, e0, e1, e2]

/-- For all arguments the result is the reference's. -/
theorem claim : algebraic_UpDwIdeal_UpDwRefIdeal (hUpDwIdeal := Cert.UpDwIdeal.Gen.facts) (hUpDwRefIdeal := Cert.UpDwRefIdeal.Gen.facts) :=
  fun m g m' g' _ ha => Cert.Products.agree (Value.run_blocks m g) (Cert.UpDwRefIdeal.Value.run m' g')
    fun c => (congrArg₂ val_main_v12 (ha c).1 (ha c).2).trans (final m c).symm

end Cert.UpDwIdeal.Product
-- ==== Proof.UpDx.lean ====
/-
  The feed-forward part's gradient of the activations before `w_up`: the kernel adds up the weight's four column shards.
-/
module

public import proofs.«01_k».proof.Proof.Gen.UpDxIdeal.Value
public import proofs.«01_k».proof.Proof.Gen.UpDxRefIdeal.Run
public import proofs.«01_k».proof.Proof.Gen.UpDxRefIdeal.Read
public import proofs.«01_k».proof.Proof.Products
public import proofs.«01_k».proof.Defs
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.UpDxIdeal.Product

open Cert.UpDxIdeal Cert.UpDxIdeal.Gen Cert.UpDxIdeal.Value Idealize.ShloMosaic Idealize.ShloMosaic.TcCoe Idealize.SL.Sem
open Idealize.ShloMosaic.ValueIdx
open Cert.UpDxRefIdeal.Read

variable (m : (ℓ : Loc nD τ sig) → Buf (Elt Ideal) ℓ) (c : Dev nD)

/-- The windows' blocks at a grid point. -/
theorem idx : ∀ t : Fin cfg0.N, win0_0.index t = ![(t : ℕ) % 4 / 2, (t : ℕ) / 4, (t : ℕ) % 2] ∧ win0_1.index t = ![(t : ℕ) % 4, 0, 0]
    ∧ win0_2.index t = ![(t : ℕ) / 4, 0] ∧ (t : ℕ) < 8 :=
  (by decide +kernel : ∀ t : Fin grid0.N, _)

/-- What a grid point adds. -/
def part (a b : S1x1024x1408.Idx → EReal) (y : S1024x1024.Idx) : EReal :=
  ∑ k : Fin 1408, a (Idealize.ShloMosaic.ix3 0 (y 0) k) * b (Idealize.ShloMosaic.ix3 0 (y 1) k)

/-- The scratch after the first of four grid points. -/
theorem scratch_first (t : Fin cfg0.N) (h : t.val % 4 = 0) (y : S1024x1024.Idx) :
    (outsAt0 m c t.val t.isLt).2 y = part (iblk m c 0 t) (iblk m c 1 t) y := by
  rw [outsAt0_A m c t h (by omega) (by omega)]
  frame_out
  pointwise [k0_pay1, k0_pay2]
  rfl

/-- The scratch after the second and the third. -/
theorem scratch_next (t s : Fin cfg0.N) (h : 1 ≤ t.val % 4 ∧ t.val % 4 ≤ 2) (hs : s.val + 1 = t.val) (y : S1024x1024.Idx) :
    (outsAt0 m c t.val t.isLt).2 y = (outsAt0 m c s.val s.isLt).2 y + part (iblk m c 0 t) (iblk m c 1 t) y := by
  have e : t.val - 1 = s.val := by omega
  rw [outsAt0_B m c t (by omega) h (by omega)]
  simp only [e]
  generalize (outsAt0 m c s.val s.isLt).2 = p
  frame_out
  pointwise [k0_pay1, k0_pay3]
  exact congrArg₂ _ (congrFun (Memref.IsWhole.read_unread _ p) y) rfl

/-- The output's block after the fourth. -/
theorem output_last (t s : Fin cfg0.N) (h : t.val % 4 = 3) (hs : s.val + 1 = t.val) (y : S1024x1024.Idx) :
    (outsAt0 m c t.val t.isLt).1 y = (outsAt0 m c s.val s.isLt).2 y + part (iblk m c 0 t) (iblk m c 1 t) y := by
  have e : t.val - 1 = s.val := by omega
  rw [outsAt0_C m c t (by omega) (by omega) h]
  simp only [e]
  generalize (outsAt0 m c s.val s.isLt).2 = p
  frame_out
  pointwise [k0_pay1, k0_pay4]
  exact congrArg₂ _ (congrFun (Memref.IsWhole.read_unread _ p) y) rfl

/-- The result array is the reference's. -/
theorem final : (dats m 0 c).arrAt 2 (cfgs 0).N
    = val_main_v10 (F := Ideal) (m (c, Proc.devRef .tc main_arg0)) (m (c, Proc.devRef .tc main_arg1)) := by
  refine (dats m 0 c).arrAt_eq_of_covers 2 _ (by decide +kernel) fun t hf y => ?_
  have h := (flush0_2 t).mp hf
  obtain ⟨e0, e1, e2, e16⟩ := idx t
  obtain ⟨r, s, u, hr, hs, hu, sum⟩ := Cert.Products.four (outsAt0 m c) (fun t => part (iblk m c 0 t) (iblk m c 1 t))
    (scratch_first m c) (scratch_next m c) (output_last m c) t h
  obtain ⟨r0, r1, -, -⟩ := idx r
  obtain ⟨s0, s1, -, -⟩ := idx s
  obtain ⟨u0, u1, -, -⟩ := idx u
  blk_simp
  rw [after0_2, sum]
  pointwise [val_main_v10, val_main_v9, val_main_v8, val_main_v3, val_main_v2, val_main_v1, val_main_v0]
  rw [show ∑ k : Fin 5632, _ = _ from Cert.Products.shards 1408 _]
  unfold part
  refine congrArg₂ _ (congrArg₂ _ (congrArg₂ _ ?_ ?_) ?_) ?_ <;> refine Fin.sum_fin_congr fun k => ?_
  · blk_point [iblk, V, u0, u1, e2]
  · blk_point [iblk, V, s0, s1, e2]
  · blk_point [iblk, V, r0, r1, e2]
  · blk_point [iblk, V, e0, e1, e2]

/-- For all arguments the result is the reference's. -/
theorem claim : algebraic_UpDxIdeal_UpDxRefIdeal (hUpDxIdeal := Cert.UpDxIdeal.Gen.facts) (hUpDxRefIdeal := Cert.UpDxRefIdeal.Gen.facts) :=
  fun m g m' g' _ ha => Cert.Products.agree (Value.run_blocks m g) (Cert.UpDxRefIdeal.Value.run m' g')
    fun c => (congrArg₂ val_main_v10 (ha c).1 (ha c).2).trans (final m c).symm

end Cert.UpDxIdeal.Product
-- ==== Proof.Down.lean ====
/-
  The feed-forward part's products by `w_down`: forward, and the two gradients.
-/
module

public import proofs.«01_k».proof.Proof.Gen.DownIdeal.Value
public import proofs.«01_k».proof.Proof.Gen.DownRefIdeal.Run
public import proofs.«01_k».proof.Proof.Gen.DownRefIdeal.Read
public import proofs.«01_k».proof.Proof.Gen.DownDwIdeal.Value
public import proofs.«01_k».proof.Proof.Gen.DownDwRefIdeal.Run
public import proofs.«01_k».proof.Proof.Gen.DownDwRefIdeal.Read
public import proofs.«01_k».proof.Proof.Gen.DownDxIdeal.Value
public import proofs.«01_k».proof.Proof.Gen.DownDxRefIdeal.Run
public import proofs.«01_k».proof.Proof.Gen.DownDxRefIdeal.Read
public import proofs.«01_k».proof.Proof.Products
public import proofs.«01_k».proof.Defs
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.DownIdeal.Product

open Cert.DownIdeal Cert.DownIdeal.Gen Cert.DownIdeal.Value Idealize.ShloMosaic Idealize.ShloMosaic.TcCoe Idealize.SL.Sem
open Idealize.ShloMosaic.ValueIdx
open Cert.DownRefIdeal.Read

variable (m : (ℓ : Loc nD τ sig) → Buf (Elt Ideal) ℓ) (c : Dev nD)

/-- The windows' blocks at a grid point. -/
theorem idx : ∀ t : Fin cfg0.N, win0_0.index t = ![(t : ℕ), 0] ∧ win0_1.index t = ![0, 0] ∧ win0_2.index t = ![(t : ℕ), 0] ∧ (t : ℕ) < 2 :=
  (by decide +kernel : ∀ t : Fin grid0.N, _)

/-- The result array is the reference's. -/
theorem final : (dats m 0 c).arrAt 2 (cfgs 0).N
    = val_main_v2 (F := Ideal) (m (c, Proc.devRef .tc main_arg0)) (m (c, Proc.devRef .tc main_arg1)) := by
  refine (dats m 0 c).arrAt_eq_of_covers 2 _ (by decide +kernel) fun t hf y => ?_
  obtain ⟨e0, e1, e2, e16⟩ := idx t
  blk_simp
  rw [after0_2]
  frame_out
  pointwise [k0_pay1, val_main_v0, val_main_v1, val_main_v2]
  refine Fin.sum_fin_congr fun k => ?_
  blk_point [iblk, V, e0, e1, e2]

/-- For all arguments the result is the reference's. -/
theorem claim : algebraic_DownIdeal_DownRefIdeal (hDownIdeal := Cert.DownIdeal.Gen.facts) (hDownRefIdeal := Cert.DownRefIdeal.Gen.facts) :=
  fun m g m' g' _ ha => Cert.Products.agree (Value.run_blocks m g) (Cert.DownRefIdeal.Value.run m' g')
    fun c => (congrArg₂ val_main_v2 (ha c).1 (ha c).2).trans (final m c).symm

end Cert.DownIdeal.Product

namespace Cert.DownDwIdeal.Product

open Cert.DownDwIdeal Cert.DownDwIdeal.Gen Cert.DownDwIdeal.Value Idealize.ShloMosaic Idealize.ShloMosaic.TcCoe Idealize.SL.Sem
open Idealize.ShloMosaic.ValueIdx
open Cert.DownDwRefIdeal.Read

variable (m : (ℓ : Loc nD τ sig) → Buf (Elt Ideal) ℓ) (c : Dev nD)

/-- The windows' blocks at a grid point. -/
theorem idx : ∀ t : Fin cfg0.N, win0_0.index t = ![0, (t : ℕ)] ∧ win0_1.index t = ![0, 0] ∧ win0_2.index t = ![(t : ℕ), 0] ∧ (t : ℕ) < 2 :=
  (by decide +kernel : ∀ t : Fin grid0.N, _)

/-- The result array is the reference's. -/
theorem final : (dats m 0 c).arrAt 2 (cfgs 0).N
    = val_main_v6 (F := Ideal) (m (c, Proc.devRef .tc main_arg0)) (m (c, Proc.devRef .tc main_arg1)) := by
  refine (dats m 0 c).arrAt_eq_of_covers 2 _ (by decide +kernel) fun t hf y => ?_
  obtain ⟨e0, e1, e2, e16⟩ := idx t
  blk_simp
  rw [after0_2]
  frame_out
  pointwise [k0_pay1, val_main_v0, val_main_v1, val_main_v4, val_main_v5, val_main_v6]
  refine Fin.sum_fin_congr fun k => (EReal.mul_comm _ _).trans ?_
  blk_point [iblk, V, e0, e1, e2]

/-- For all arguments the result is the reference's. -/
theorem claim : algebraic_DownDwIdeal_DownDwRefIdeal (hDownDwIdeal := Cert.DownDwIdeal.Gen.facts) (hDownDwRefIdeal := Cert.DownDwRefIdeal.Gen.facts) :=
  fun m g m' g' _ ha => Cert.Products.agree (Value.run_blocks m g) (Cert.DownDwRefIdeal.Value.run m' g')
    fun c => (congrArg₂ val_main_v6 (ha c).1 (ha c).2).trans (final m c).symm

end Cert.DownDwIdeal.Product

namespace Cert.DownDxIdeal.Product

open Cert.DownDxIdeal Cert.DownDxIdeal.Gen Cert.DownDxIdeal.Value Idealize.ShloMosaic Idealize.ShloMosaic.TcCoe Idealize.SL.Sem
open Idealize.ShloMosaic.ValueIdx
open Cert.DownDxRefIdeal.Read

variable (m : (ℓ : Loc nD τ sig) → Buf (Elt Ideal) ℓ) (c : Dev nD)

/-- The windows' blocks at a grid point. -/
theorem idx : ∀ t : Fin cfg0.N, win0_0.index t = ![(t : ℕ) / 2, 0] ∧ win0_1.index t = ![(t : ℕ) % 2, 0] ∧ win0_2.index t = ![(t : ℕ) / 2, (t : ℕ) % 2] ∧ (t : ℕ) < 4 :=
  (by decide +kernel : ∀ t : Fin grid0.N, _)

/-- The result array is the reference's. -/
theorem final : (dats m 0 c).arrAt 2 (cfgs 0).N
    = val_main_v4 (F := Ideal) (m (c, Proc.devRef .tc main_arg0)) (m (c, Proc.devRef .tc main_arg1)) := by
  refine (dats m 0 c).arrAt_eq_of_covers 2 _ (by decide +kernel) fun t hf y => ?_
  obtain ⟨e0, e1, e2, e16⟩ := idx t
  blk_simp
  rw [after0_2]
  frame_out
  pointwise [k0_pay1, val_main_v0, val_main_v1, val_main_v4]
  refine Fin.sum_fin_congr fun k => ?_
  blk_point [iblk, V, e0, e1, e2]

/-- For all arguments the result is the reference's. -/
theorem claim : algebraic_DownDxIdeal_DownDxRefIdeal (hDownDxIdeal := Cert.DownDxIdeal.Gen.facts) (hDownDxRefIdeal := Cert.DownDxRefIdeal.Gen.facts) :=
  fun m g m' g' _ ha => Cert.Products.agree (Value.run_blocks m g) (Cert.DownDxRefIdeal.Value.run m' g')
    fun c => (congrArg₂ val_main_v4 (ha c).1 (ha c).2).trans (final m c).symm

end Cert.DownDxIdeal.Product
-- ==== Proof.Input.lean ====
/-
  The input projection's products: forward, and the weight's gradient.
-/
module

public import proofs.«01_k».proof.Proof.Gen.InIdeal.Value
public import proofs.«01_k».proof.Proof.Gen.InRefIdeal.Run
public import proofs.«01_k».proof.Proof.Gen.InRefIdeal.Read
public import proofs.«01_k».proof.Proof.Gen.InDwIdeal.Value
public import proofs.«01_k».proof.Proof.Gen.InDwRefIdeal.Run
public import proofs.«01_k».proof.Proof.Gen.InDwRefIdeal.Read
public import proofs.«01_k».proof.Proof.Products
public import proofs.«01_k».proof.Defs
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.InIdeal.Product

open Cert.InIdeal Cert.InIdeal.Gen Cert.InIdeal.Value Idealize.ShloMosaic Idealize.ShloMosaic.TcCoe Idealize.SL.Sem
open Idealize.ShloMosaic.ValueIdx
open Cert.InRefIdeal.Read

variable (m : (ℓ : Loc nD τ sig) → Buf (Elt Ideal) ℓ) (c : Dev nD)

/-- The windows' blocks at a grid point. -/
theorem idx : ∀ t : Fin cfg0.N, win0_0.index t = ![(t : ℕ) / 2, 0] ∧ win0_1.index t = ![(t : ℕ) % 2, 0] ∧ win0_2.index t = ![(t : ℕ) / 2, (t : ℕ) % 2] ∧ (t : ℕ) < 4 :=
  (by decide +kernel : ∀ t : Fin grid0.N, _)

/-- The result array is the reference's. -/
theorem final : (dats m 0 c).arrAt 2 (cfgs 0).N
    = val_main_v4 (F := Ideal) (m (c, Proc.devRef .tc main_arg0)) (m (c, Proc.devRef .tc main_arg1)) := by
  refine (dats m 0 c).arrAt_eq_of_covers 2 _ (by decide +kernel) fun t hf y => ?_
  obtain ⟨e0, e1, e2, e16⟩ := idx t
  blk_simp
  rw [after0_2]
  unfold outsAt0
  frame_out
  generalize hX : X0_0 m c t = X
  generalize hY : X0_1 m c t = Y
  rw [val_main_v4_apply, val_main_v3_apply]
  generalize hz : ((View.whole main_v0).slice (win0_2.rect t)).emb y = z
  pointwise [k0_pay1, val_main_v0, val_main_v1, val_main_v2]
  refine Fin.sum_fin_congr fun k => congrArg₂ _ ?_ ?_
  · rw [← hX, ← hz]
    unfold X0_0 Pipeline.Window.fill
    rw [dif_pos (moved0_0 t _)]
    blk_point [iblk, V, e0, e1, e2]
  · rw [← hY, ← hz]
    unfold X0_1 Pipeline.Window.fill
    rw [dif_pos (moved0_1 t _)]
    blk_point [iblk, V, e0, e1, e2]

/-- For all arguments the result is the reference's. -/
theorem claim : algebraic_InIdeal_InRefIdeal (hInIdeal := Cert.InIdeal.Gen.facts) (hInRefIdeal := Cert.InRefIdeal.Gen.facts) :=
  fun m g m' g' _ ha => Cert.Products.agree (Value.run_blocks m g) (Cert.InRefIdeal.Value.run m' g')
    fun c => (congrArg₂ val_main_v4 (ha c).1 (ha c).2).trans (final m c).symm

end Cert.InIdeal.Product

namespace Cert.InDwIdeal.Product

open Cert.InDwIdeal Cert.InDwIdeal.Gen Cert.InDwIdeal.Value Idealize.ShloMosaic Idealize.ShloMosaic.TcCoe Idealize.SL.Sem
open Idealize.ShloMosaic.ValueIdx
open Cert.InDwRefIdeal.Read

variable (m : (ℓ : Loc nD τ sig) → Buf (Elt Ideal) ℓ) (c : Dev nD)

/-- The windows' blocks at a grid point. -/
theorem idx : ∀ t : Fin cfg0.N, win0_0.index t = ![0, (t : ℕ) / 2] ∧ win0_1.index t = ![0, (t : ℕ) % 2] ∧ win0_2.index t = ![(t : ℕ) % 2, (t : ℕ) / 2] ∧ (t : ℕ) < 4 :=
  (by decide +kernel : ∀ t : Fin grid0.N, _)

/-- The result array is the reference's. -/
theorem final : (dats m 0 c).arrAt 2 (cfgs 0).N
    = val_main_v8 (F := Ideal) (m (c, Proc.devRef .tc main_arg0)) (m (c, Proc.devRef .tc main_arg1)) := by
  refine (dats m 0 c).arrAt_eq_of_covers 2 _ (by decide +kernel) fun t hf y => ?_
  obtain ⟨e0, e1, e2, e16⟩ := idx t
  blk_simp
  rw [after0_2]
  frame_out
  pointwise [k0_pay1, val_main_v0, val_main_v1, val_main_v5, val_main_v6, val_main_v7, val_main_v8]
  refine Fin.sum_fin_congr fun k => (EReal.mul_comm _ _).trans ?_
  blk_point [iblk, V, e0, e1, e2]

/-- For all arguments the result is the reference's. -/
theorem claim : algebraic_InDwIdeal_InDwRefIdeal (hInDwIdeal := Cert.InDwIdeal.Gen.facts) (hInDwRefIdeal := Cert.InDwRefIdeal.Gen.facts) :=
  fun m g m' g' _ ha => Cert.Products.agree (Value.run_blocks m g) (Cert.InDwRefIdeal.Value.run m' g')
    fun c => (congrArg₂ val_main_v8 (ha c).1 (ha c).2).trans (final m c).symm

end Cert.InDwIdeal.Product
-- ==== Proof.InputDx.lean ====
/-
  The input projection's gradient of the activations: the kernel adds up the two halves of the contracted axis.
-/
module

public import proofs.«01_k».proof.Proof.Gen.InDxIdeal.Value
public import proofs.«01_k».proof.Proof.Gen.InDxRefIdeal.Run
public import proofs.«01_k».proof.Proof.Gen.InDxRefIdeal.Read
public import proofs.«01_k».proof.Proof.Products
public import proofs.«01_k».proof.Defs
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.InDxIdeal.Product

open Cert.InDxIdeal Cert.InDxIdeal.Gen Cert.InDxIdeal.Value Idealize.ShloMosaic Idealize.ShloMosaic.TcCoe Idealize.SL.Sem
open Idealize.ShloMosaic.ValueIdx
open Cert.InDxRefIdeal.Read

variable (m : (ℓ : Loc nD τ sig) → Buf (Elt Ideal) ℓ) (c : Dev nD)

/-- The windows' blocks at a grid point. -/
theorem idx : ∀ t : Fin cfg0.N, win0_0.index t = ![(t : ℕ) / 4, (t : ℕ) % 2] ∧ win0_1.index t = ![(t : ℕ) % 2, (t : ℕ) / 2 % 2]
    ∧ win0_2.index t = ![(t : ℕ) / 4, (t : ℕ) / 2 % 2] ∧ (t : ℕ) < 12 :=
  (by decide +kernel : ∀ t : Fin grid0.N, _)

/-- A sum over the contracted axis is the sum of its halves. -/
theorem halves (f : Fin 4352 → EReal) :
    ∑ k, f k = ∑ k : Fin 2176, f ⟨k, by omega⟩ + ∑ k : Fin 2176, f ⟨2176 + k, by omega⟩ :=
  Fin.sum_univ_add (a := 2176) (b := 2176) f

/-- What a grid point adds. -/
def part (a : S768x2176.Idx → EReal) (b : S2176x512.Idx → EReal) (y : S768x512.Idx) : EReal :=
  ∑ k : Fin 2176, a (Idealize.ShloMosaic.ix2 (y 0) k) * b (Idealize.ShloMosaic.ix2 k (y 1))

/-- The scratch after an even grid point. -/
theorem scratch (t : Fin cfg0.N) (h : t.val % 2 = 0) (y : S768x512.Idx) : (outsAt0 m c t.val t.isLt).2 y = part (iblk m c 0 t) (iblk m c 1 t) y := by
  rw [outsAt0_A m c t h (by omega)]
  frame_out
  pointwise [k0_pay1, k0_pay2]
  rfl

/-- The output's block after an odd grid point. -/
theorem output (t : Fin cfg0.N) (h : t.val % 2 = 1) (s : Fin cfg0.N) (hs : s.val + 1 = t.val) (y : S768x512.Idx) :
    (outsAt0 m c t.val t.isLt).1 y = part (iblk m c 0 s) (iblk m c 1 s) y + part (iblk m c 0 t) (iblk m c 1 t) y := by
  have e : t.val - 1 = s.val := by omega
  have hp := scratch m c s (by omega) y
  rw [outsAt0_B m c t (by omega) h]
  simp only [e]
  generalize (outsAt0 m c s.val s.isLt).2 = p at hp
  frame_out
  pointwise [k0_pay1, k0_pay4]
  exact congrArg₂ _ ((congrFun (Memref.IsWhole.read_unread _ p) y).trans hp) rfl

/-- The result array is the reference's. -/
theorem final : (dats m 0 c).arrAt 2 (cfgs 0).N
    = val_main_v5 (F := Ideal) (m (c, Proc.devRef .tc main_arg0)) (m (c, Proc.devRef .tc main_arg1)) := by
  refine (dats m 0 c).arrAt_eq_of_covers 2 _ (by decide +kernel) fun t hf y => ?_
  have h := (flush0_2 t).mp hf
  obtain ⟨e0, e1, e2, e16⟩ := idx t
  obtain ⟨s, hs⟩ : ∃ s : Fin cfg0.N, s.val + 1 = t.val := ⟨⟨t.val - 1, by have := t.isLt; omega⟩, by simp; omega⟩
  obtain ⟨f0, f1, -, -⟩ := idx s
  blk_simp
  rw [after0_2, output m c t h s hs]
  pointwise [val_main_v5, val_main_v4, val_main_v3, val_main_v1, val_main_v0]
  rw [halves]
  unfold part
  refine congrArg₂ _ (Fin.sum_fin_congr fun k => ?_) (Fin.sum_fin_congr fun k => ?_)
  · blk_point [iblk, V, f0, f1, e2]
  · blk_point [iblk, V, e0, e1, e2]

/-- For all arguments the result is the reference's. -/
theorem claim : algebraic_InDxIdeal_InDxRefIdeal (hInDxIdeal := Cert.InDxIdeal.Gen.facts) (hInDxRefIdeal := Cert.InDxRefIdeal.Gen.facts) :=
  fun m g m' g' _ ha => Cert.Products.agree (Value.run_blocks m g) (Cert.InDxRefIdeal.Value.run m' g')
    fun c => (congrArg₂ val_main_v5 (ha c).1 (ha c).2).trans (final m c).symm

end Cert.InDxIdeal.Product
-- ==== Proof.Outs.lean ====
/-
  The products of the merge and of the attention's output: forward, and the two gradients.
-/
module

public import proofs.«01_k».proof.Proof.Gen.WoIdeal.Value
public import proofs.«01_k».proof.Proof.Gen.WoRefIdeal.Run
public import proofs.«01_k».proof.Proof.Gen.WoRefIdeal.Read
public import proofs.«01_k».proof.Proof.Gen.WoDwIdeal.Value
public import proofs.«01_k».proof.Proof.Gen.WoDwRefIdeal.Run
public import proofs.«01_k».proof.Proof.Gen.WoDwRefIdeal.Read
public import proofs.«01_k».proof.Proof.Gen.WoDxIdeal.Value
public import proofs.«01_k».proof.Proof.Gen.WoDxRefIdeal.Run
public import proofs.«01_k».proof.Proof.Gen.WoDxRefIdeal.Read
public import proofs.«01_k».proof.Proof.Gen.AoIdeal.Value
public import proofs.«01_k».proof.Proof.Gen.AoRefIdeal.Run
public import proofs.«01_k».proof.Proof.Gen.AoRefIdeal.Read
public import proofs.«01_k».proof.Proof.Gen.AoDwIdeal.Value
public import proofs.«01_k».proof.Proof.Gen.AoDwRefIdeal.Run
public import proofs.«01_k».proof.Proof.Gen.AoDwRefIdeal.Read
public import proofs.«01_k».proof.Proof.Gen.AoDxIdeal.Value
public import proofs.«01_k».proof.Proof.Gen.AoDxRefIdeal.Run
public import proofs.«01_k».proof.Proof.Gen.AoDxRefIdeal.Read
public import proofs.«01_k».proof.Proof.Products
public import proofs.«01_k».proof.Defs
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.WoIdeal.Product

open Cert.WoIdeal Cert.WoIdeal.Gen Cert.WoIdeal.Value Idealize.ShloMosaic Idealize.ShloMosaic.TcCoe Idealize.SL.Sem
open Idealize.ShloMosaic.ValueIdx
open Cert.WoRefIdeal.Read

variable (m : (ℓ : Loc nD τ sig) → Buf (Elt Ideal) ℓ) (c : Dev nD)

/-- The windows' blocks at a grid point. -/
theorem idx : ∀ t : Fin cfg0.N, win0_0.index t = ![(t : ℕ), 0] ∧ win0_1.index t = ![0, 0] ∧ win0_2.index t = ![(t : ℕ), 0] ∧ (t : ℕ) < 2 :=
  (by decide +kernel : ∀ t : Fin grid0.N, _)

/-- The result array is the reference's. -/
theorem final : (dats m 0 c).arrAt 2 (cfgs 0).N
    = val_main_v2 (F := Ideal) (m (c, Proc.devRef .tc main_arg0)) (m (c, Proc.devRef .tc main_arg1)) := by
  refine (dats m 0 c).arrAt_eq_of_covers 2 _ (by decide +kernel) fun t hf y => ?_
  obtain ⟨e0, e1, e2, e16⟩ := idx t
  blk_simp
  rw [after0_2]
  frame_out
  pointwise [k0_pay1, val_main_v2, val_main_v1, val_main_v0]
  refine Fin.sum_fin_congr fun k => ?_
  blk_point [iblk, V, e0, e1, e2]

/-- For all arguments the result is the reference's. -/
theorem claim : algebraic_WoIdeal_WoRefIdeal (hWoIdeal := Cert.WoIdeal.Gen.facts) (hWoRefIdeal := Cert.WoRefIdeal.Gen.facts) :=
  fun m g m' g' _ ha => Cert.Products.agree (Value.run_blocks m g) (Cert.WoRefIdeal.Value.run m' g')
    fun c => (congrArg₂ val_main_v2 (ha c).1 (ha c).2).trans (final m c).symm

end Cert.WoIdeal.Product

namespace Cert.WoDwIdeal.Product

open Cert.WoDwIdeal Cert.WoDwIdeal.Gen Cert.WoDwIdeal.Value Idealize.ShloMosaic Idealize.ShloMosaic.TcCoe Idealize.SL.Sem
open Idealize.ShloMosaic.ValueIdx
open Cert.WoDwRefIdeal.Read

variable (m : (ℓ : Loc nD τ sig) → Buf (Elt Ideal) ℓ) (c : Dev nD)

/-- The windows' blocks at a grid point. -/
theorem idx : ∀ t : Fin cfg0.N, win0_0.index t = ![0, 0] ∧ win0_1.index t = ![0, 0] ∧ win0_2.index t = ![0, 0] ∧ (t : ℕ) < 1 :=
  (by decide +kernel : ∀ t : Fin grid0.N, _)

/-- The result array is the reference's. -/
theorem final : (dats m 0 c).arrAt 2 (cfgs 0).N
    = val_main_v6 (F := Ideal) (m (c, Proc.devRef .tc main_arg0)) (m (c, Proc.devRef .tc main_arg1)) := by
  refine (dats m 0 c).arrAt_eq_of_covers 2 _ (by decide +kernel) fun t hf y => ?_
  obtain ⟨e0, e1, e2, e16⟩ := idx t
  blk_simp
  rw [after0_2]
  frame_out
  pointwise [k0_pay1, val_main_v6, val_main_v5, val_main_v4, val_main_v3, val_main_v1]
  refine Fin.sum_fin_congr fun k => (EReal.mul_comm _ _).trans ?_
  blk_point [iblk, V, e0, e1, e2]

/-- For all arguments the result is the reference's. -/
theorem claim : algebraic_WoDwIdeal_WoDwRefIdeal (hWoDwIdeal := Cert.WoDwIdeal.Gen.facts) (hWoDwRefIdeal := Cert.WoDwRefIdeal.Gen.facts) :=
  fun m g m' g' _ ha => Cert.Products.agree (Value.run_blocks m g) (Cert.WoDwRefIdeal.Value.run m' g')
    fun c => (congrArg₂ val_main_v6 (ha c).1 (ha c).2).trans (final m c).symm

end Cert.WoDwIdeal.Product

namespace Cert.WoDxIdeal.Product

open Cert.WoDxIdeal Cert.WoDxIdeal.Gen Cert.WoDxIdeal.Value Idealize.ShloMosaic Idealize.ShloMosaic.TcCoe Idealize.SL.Sem
open Idealize.ShloMosaic.ValueIdx
open Cert.WoDxRefIdeal.Read

variable (m : (ℓ : Loc nD τ sig) → Buf (Elt Ideal) ℓ) (c : Dev nD)

/-- The windows' blocks at a grid point. -/
theorem idx : ∀ t : Fin cfg0.N, win0_0.index t = ![(t : ℕ), 0] ∧ win0_1.index t = ![0, 0] ∧ win0_2.index t = ![(t : ℕ), 0] ∧ (t : ℕ) < 2 :=
  (by decide +kernel : ∀ t : Fin grid0.N, _)

/-- The result array is the reference's. -/
theorem final : (dats m 0 c).arrAt 2 (cfgs 0).N
    = val_main_v5 (F := Ideal) (m (c, Proc.devRef .tc main_arg0)) (m (c, Proc.devRef .tc main_arg1)) := by
  refine (dats m 0 c).arrAt_eq_of_covers 2 _ (by decide +kernel) fun t hf y => ?_
  obtain ⟨e0, e1, e2, e16⟩ := idx t
  blk_simp
  rw [after0_2]
  frame_out
  pointwise [k0_pay1, val_main_v5, val_main_v4, val_main_v3, val_main_v1]
  refine Fin.sum_fin_congr fun k => ?_
  blk_point [iblk, V, e0, e1, e2]

/-- For all arguments the result is the reference's. -/
theorem claim : algebraic_WoDxIdeal_WoDxRefIdeal (hWoDxIdeal := Cert.WoDxIdeal.Gen.facts) (hWoDxRefIdeal := Cert.WoDxRefIdeal.Gen.facts) :=
  fun m g m' g' _ ha => Cert.Products.agree (Value.run_blocks m g) (Cert.WoDxRefIdeal.Value.run m' g')
    fun c => (congrArg₂ val_main_v5 (ha c).1 (ha c).2).trans (final m c).symm

end Cert.WoDxIdeal.Product

namespace Cert.AoIdeal.Product

open Cert.AoIdeal Cert.AoIdeal.Gen Cert.AoIdeal.Value Idealize.ShloMosaic Idealize.ShloMosaic.TcCoe Idealize.SL.Sem
open Idealize.ShloMosaic.ValueIdx
open Cert.AoRefIdeal.Read

variable (m : (ℓ : Loc nD τ sig) → Buf (Elt Ideal) ℓ) (c : Dev nD)

/-- The windows' blocks at a grid point. -/
theorem idx : ∀ t : Fin cfg0.N, win0_0.index t = ![(t : ℕ), 0] ∧ win0_1.index t = ![0, 0] ∧ win0_2.index t = ![(t : ℕ), 0] ∧ (t : ℕ) < 2 :=
  (by decide +kernel : ∀ t : Fin grid0.N, _)

/-- The result array is the reference's. -/
theorem final : (dats m 0 c).arrAt 2 (cfgs 0).N
    = val_main_v2 (F := Ideal) (m (c, Proc.devRef .tc main_arg0)) (m (c, Proc.devRef .tc main_arg1)) := by
  refine (dats m 0 c).arrAt_eq_of_covers 2 _ (by decide +kernel) fun t hf y => ?_
  obtain ⟨e0, e1, e2, e16⟩ := idx t
  blk_simp
  rw [after0_2]
  frame_out
  pointwise [k0_pay1, val_main_v2, val_main_v1, val_main_v0]
  refine Fin.sum_fin_congr fun k => ?_
  blk_point [iblk, V, e0, e1, e2]

/-- For all arguments the result is the reference's. -/
theorem claim : algebraic_AoIdeal_AoRefIdeal (hAoIdeal := Cert.AoIdeal.Gen.facts) (hAoRefIdeal := Cert.AoRefIdeal.Gen.facts) :=
  fun m g m' g' _ ha => Cert.Products.agree (Value.run_blocks m g) (Cert.AoRefIdeal.Value.run m' g')
    fun c => (congrArg₂ val_main_v2 (ha c).1 (ha c).2).trans (final m c).symm

end Cert.AoIdeal.Product

namespace Cert.AoDwIdeal.Product

open Cert.AoDwIdeal Cert.AoDwIdeal.Gen Cert.AoDwIdeal.Value Idealize.ShloMosaic Idealize.ShloMosaic.TcCoe Idealize.SL.Sem
open Idealize.ShloMosaic.ValueIdx
open Cert.AoDwRefIdeal.Read

variable (m : (ℓ : Loc nD τ sig) → Buf (Elt Ideal) ℓ) (c : Dev nD)

/-- The windows' blocks at a grid point. -/
theorem idx : ∀ t : Fin cfg0.N, win0_0.index t = ![0, 0] ∧ win0_1.index t = ![0, 0] ∧ win0_2.index t = ![0, 0] ∧ (t : ℕ) < 1 :=
  (by decide +kernel : ∀ t : Fin grid0.N, _)

/-- The result array is the reference's. -/
theorem final : (dats m 0 c).arrAt 2 (cfgs 0).N
    = val_main_v5 (F := Ideal) (m (c, Proc.devRef .tc main_arg0)) (m (c, Proc.devRef .tc main_arg1)) := by
  refine (dats m 0 c).arrAt_eq_of_covers 2 _ (by decide +kernel) fun t hf y => ?_
  obtain ⟨e0, e1, e2, e16⟩ := idx t
  blk_simp
  rw [after0_2]
  frame_out
  pointwise [k0_pay1, val_main_v5, val_main_v4, val_main_v3, val_main_v2]
  refine Fin.sum_fin_congr fun k => (EReal.mul_comm _ _).trans ?_
  blk_point [iblk, V, e0, e1, e2]

/-- For all arguments the result is the reference's. -/
theorem claim : algebraic_AoDwIdeal_AoDwRefIdeal (hAoDwIdeal := Cert.AoDwIdeal.Gen.facts) (hAoDwRefIdeal := Cert.AoDwRefIdeal.Gen.facts) :=
  fun m g m' g' _ ha => Cert.Products.agree (Value.run_blocks m g) (Cert.AoDwRefIdeal.Value.run m' g')
    fun c => (congrArg₂ val_main_v5 (ha c).1 (ha c).2).trans (final m c).symm

end Cert.AoDwIdeal.Product

namespace Cert.AoDxIdeal.Product

open Cert.AoDxIdeal Cert.AoDxIdeal.Gen Cert.AoDxIdeal.Value Idealize.ShloMosaic Idealize.ShloMosaic.TcCoe Idealize.SL.Sem
open Idealize.ShloMosaic.ValueIdx
open Cert.AoDxRefIdeal.Read

variable (m : (ℓ : Loc nD τ sig) → Buf (Elt Ideal) ℓ) (c : Dev nD)

/-- The windows' blocks at a grid point. -/
theorem idx : ∀ t : Fin cfg0.N, win0_0.index t = ![(t : ℕ), 0] ∧ win0_1.index t = ![0, 0] ∧ win0_2.index t = ![(t : ℕ), 0] ∧ (t : ℕ) < 2 :=
  (by decide +kernel : ∀ t : Fin grid0.N, _)

/-- The result array is the reference's. -/
theorem final : (dats m 0 c).arrAt 2 (cfgs 0).N
    = val_main_v4 (F := Ideal) (m (c, Proc.devRef .tc main_arg0)) (m (c, Proc.devRef .tc main_arg1)) := by
  refine (dats m 0 c).arrAt_eq_of_covers 2 _ (by decide +kernel) fun t hf y => ?_
  obtain ⟨e0, e1, e2, e16⟩ := idx t
  blk_simp
  rw [after0_2]
  frame_out
  pointwise [k0_pay1, val_main_v4, val_main_v3, val_main_v1]
  refine Fin.sum_fin_congr fun k => ?_
  blk_point [iblk, V, e0, e1, e2]

/-- For all arguments the result is the reference's. -/
theorem claim : algebraic_AoDxIdeal_AoDxRefIdeal (hAoDxIdeal := Cert.AoDxIdeal.Gen.facts) (hAoDxRefIdeal := Cert.AoDxRefIdeal.Gen.facts) :=
  fun m g m' g' _ ha => Cert.Products.agree (Value.run_blocks m g) (Cert.AoDxRefIdeal.Value.run m' g')
    fun c => (congrArg₂ val_main_v4 (ha c).1 (ha c).2).trans (final m c).symm

end Cert.AoDxIdeal.Product
-- ==== Proof.Conv.lean ====
/-
  The product of the convolution's output: forward, and the weight's gradient.
-/
module

public import proofs.«01_k».proof.Proof.Gen.CoIdeal.Value
public import proofs.«01_k».proof.Proof.Gen.CoRefIdeal.Run
public import proofs.«01_k».proof.Proof.Gen.CoRefIdeal.Read
public import proofs.«01_k».proof.Proof.Gen.CoDwIdeal.Value
public import proofs.«01_k».proof.Proof.Gen.CoDwRefIdeal.Run
public import proofs.«01_k».proof.Proof.Gen.CoDwRefIdeal.Read
public import proofs.«01_k».proof.Proof.Products
public import proofs.«01_k».proof.Defs
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.CoIdeal.Product

open Cert.CoIdeal Cert.CoIdeal.Gen Cert.CoIdeal.Value Idealize.ShloMosaic Idealize.ShloMosaic.TcCoe Idealize.SL.Sem
open Idealize.ShloMosaic.ValueIdx
open Cert.CoRefIdeal.Read

variable (m : (ℓ : Loc nD τ sig) → Buf (Elt Ideal) ℓ) (c : Dev nD)

/-- The windows' blocks at a grid point. -/
theorem idx : ∀ t : Fin cfg0.N, win0_0.index t = ![(t : ℕ) / 4, 0] ∧ win0_1.index t = ![(t : ℕ) % 4, 0, 0] ∧ win0_2.index t = ![(t : ℕ) / 4, (t : ℕ) % 4] ∧ (t : ℕ) < 8 :=
  (by decide +kernel : ∀ t : Fin grid0.N, _)

/-- The result array is the reference's. -/
theorem final : (dats m 0 c).arrAt 2 (cfgs 0).N
    = val_main_v4 (F := Ideal) (m (c, Proc.devRef .tc main_arg0)) (m (c, Proc.devRef .tc main_arg1)) := by
  refine (dats m 0 c).arrAt_eq_of_covers 2 _ (by decide +kernel) fun t hf y => ?_
  obtain ⟨e0, e1, e2, e16⟩ := idx t
  blk_simp
  rw [after0_2]
  frame_out
  pointwise [k0_pay1, val_main_v4, val_main_v3, val_main_v2, val_main_v1, val_main_v0]
  refine Fin.sum_fin_congr fun k => ?_
  blk_point [iblk, V, e0, e1, e2]

/-- For all arguments the result is the reference's. -/
theorem claim : algebraic_CoIdeal_CoRefIdeal (hCoIdeal := Cert.CoIdeal.Gen.facts) (hCoRefIdeal := Cert.CoRefIdeal.Gen.facts) :=
  fun m g m' g' _ ha => Cert.Products.agree (Value.run_blocks m g) (Cert.CoRefIdeal.Value.run m' g')
    fun c => (congrArg₂ val_main_v4 (ha c).1 (ha c).2).trans (final m c).symm

end Cert.CoIdeal.Product

namespace Cert.CoDwIdeal.Product

open Cert.CoDwIdeal Cert.CoDwIdeal.Gen Cert.CoDwIdeal.Value Idealize.ShloMosaic Idealize.ShloMosaic.TcCoe Idealize.SL.Sem
open Idealize.ShloMosaic.ValueIdx
open Cert.CoDwRefIdeal.Read

variable (m : (ℓ : Loc nD τ sig) → Buf (Elt Ideal) ℓ) (c : Dev nD)

/-- The windows' blocks at a grid point. -/
theorem idx : ∀ t : Fin cfg0.N, win0_0.index t = ![0, 0] ∧ win0_1.index t = ![0, (t : ℕ)] ∧ win0_2.index t = ![(t : ℕ), 0, 0] ∧ (t : ℕ) < 4 :=
  (by decide +kernel : ∀ t : Fin grid0.N, _)

/-- The result array is the reference's. -/
theorem final : (dats m 0 c).arrAt 2 (cfgs 0).N
    = val_main_v8 (F := Ideal) (m (c, Proc.devRef .tc main_arg0)) (m (c, Proc.devRef .tc main_arg1)) := by
  refine (dats m 0 c).arrAt_eq_of_covers 2 _ (by decide +kernel) fun t hf y => ?_
  obtain ⟨e0, e1, e2, e16⟩ := idx t
  blk_simp
  rw [after0_2]
  frame_out
  pointwise [k0_pay1, val_main_v8, val_main_v7, val_main_v6, val_main_v5, val_main_v4, val_main_v1]
  refine Fin.sum_fin_congr fun k => (EReal.mul_comm _ _).trans ?_
  blk_point [iblk, V, e0, e1, e2]

/-- For all arguments the result is the reference's. -/
theorem claim : algebraic_CoDwIdeal_CoDwRefIdeal (hCoDwIdeal := Cert.CoDwIdeal.Gen.facts) (hCoDwRefIdeal := Cert.CoDwRefIdeal.Gen.facts) :=
  fun m g m' g' _ ha => Cert.Products.agree (Value.run_blocks m g) (Cert.CoDwRefIdeal.Value.run m' g')
    fun c => (congrArg₂ val_main_v8 (ha c).1 (ha c).2).trans (final m c).symm

end Cert.CoDwIdeal.Product
-- ==== Proof.Ranks.lean ====
/-
  The products to and from the low ranks of queries, keys and values.
-/
module

public import proofs.«01_k».proof.Proof.Gen.InAIdeal.Value
public import proofs.«01_k».proof.Proof.Gen.InARefIdeal.Run
public import proofs.«01_k».proof.Proof.Gen.InARefIdeal.Read
public import proofs.«01_k».proof.Proof.Gen.UqIdeal.Value
public import proofs.«01_k».proof.Proof.Gen.UqRefIdeal.Run
public import proofs.«01_k».proof.Proof.Gen.UqRefIdeal.Read
public import proofs.«01_k».proof.Proof.Gen.UqDxIdeal.Value
public import proofs.«01_k».proof.Proof.Gen.UqDxRefIdeal.Run
public import proofs.«01_k».proof.Proof.Gen.UqDxRefIdeal.Read
public import proofs.«01_k».proof.Proof.Gen.UkvIdeal.Value
public import proofs.«01_k».proof.Proof.Gen.UkvRefIdeal.Run
public import proofs.«01_k».proof.Proof.Gen.UkvRefIdeal.Read
public import proofs.«01_k».proof.Proof.Gen.UkvDwIdeal.Value
public import proofs.«01_k».proof.Proof.Gen.UkvDwRefIdeal.Run
public import proofs.«01_k».proof.Proof.Gen.UkvDwRefIdeal.Read
public import proofs.«01_k».proof.Proof.Products
public import proofs.«01_k».proof.Defs
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.InAIdeal.Product

open Cert.InAIdeal Cert.InAIdeal.Gen Cert.InAIdeal.Value Idealize.ShloMosaic Idealize.ShloMosaic.TcCoe Idealize.SL.Sem
open Idealize.ShloMosaic.ValueIdx
open Cert.InARefIdeal.Read

variable (m : (ℓ : Loc nD τ sig) → Buf (Elt Ideal) ℓ) (c : Dev nD)

/-- The windows' blocks at a grid point. -/
theorem idx : ∀ t : Fin cfg0.N, win0_0.index t = ![(t : ℕ), 0] ∧ win0_1.index t = ![0, 0] ∧ win0_2.index t = ![(t : ℕ), 0] ∧ (t : ℕ) < 3 :=
  (by decide +kernel : ∀ t : Fin grid0.N, _)

/-- The result array is the reference's. -/
theorem final : (dats m 0 c).arrAt 2 (cfgs 0).N
    = val_main_v3 (F := Ideal) (m (c, Proc.devRef .tc main_arg0)) (m (c, Proc.devRef .tc main_arg1)) := by
  refine (dats m 0 c).arrAt_eq_of_covers 2 _ (by decide +kernel) fun t hf y => ?_
  obtain ⟨e0, e1, e2, e16⟩ := idx t
  blk_simp
  rw [after0_2]
  frame_out
  pointwise [k0_pay1, val_main_v3, val_main_v2, val_main_v1, val_main_v0]
  refine Fin.sum_fin_congr fun k => ?_
  blk_point [iblk, V, e0, e1, e2]

/-- For all arguments the result is the reference's. -/
theorem claim : algebraic_InAIdeal_InARefIdeal (hInAIdeal := Cert.InAIdeal.Gen.facts) (hInARefIdeal := Cert.InARefIdeal.Gen.facts) :=
  fun m g m' g' _ ha => Cert.Products.agree (Value.run_blocks m g) (Cert.InARefIdeal.Value.run m' g')
    fun c => (congrArg₂ val_main_v3 (ha c).1 (ha c).2).trans (final m c).symm

end Cert.InAIdeal.Product

namespace Cert.UqIdeal.Product

open Cert.UqIdeal Cert.UqIdeal.Gen Cert.UqIdeal.Value Idealize.ShloMosaic Idealize.ShloMosaic.TcCoe Idealize.SL.Sem
open Idealize.ShloMosaic.ValueIdx
open Cert.UqRefIdeal.Read

variable (m : (ℓ : Loc nD τ sig) → Buf (Elt Ideal) ℓ) (c : Dev nD)

/-- The windows' blocks at a grid point. -/
theorem idx : ∀ t : Fin cfg0.N, win0_0.index t = ![(t : ℕ), 0] ∧ win0_1.index t = ![0, 0] ∧ win0_2.index t = ![(t : ℕ), 0] ∧ (t : ℕ) < 3 :=
  (by decide +kernel : ∀ t : Fin grid0.N, _)

/-- The result array is the reference's. -/
theorem final : (dats m 0 c).arrAt 2 (cfgs 0).N
    = val_main_v3 (F := Ideal) (m (c, Proc.devRef .tc main_arg0)) (m (c, Proc.devRef .tc main_arg1)) := by
  refine (dats m 0 c).arrAt_eq_of_covers 2 _ (by decide +kernel) fun t hf y => ?_
  obtain ⟨e0, e1, e2, e16⟩ := idx t
  blk_simp
  rw [after0_2]
  frame_out
  pointwise [k0_pay1, val_main_v3, val_main_v2, val_main_v1, val_main_v0]
  refine Fin.sum_fin_congr fun k => ?_
  blk_point [iblk, V, e0, e1, e2]

/-- For all arguments the result is the reference's. -/
theorem claim : algebraic_UqIdeal_UqRefIdeal (hUqIdeal := Cert.UqIdeal.Gen.facts) (hUqRefIdeal := Cert.UqRefIdeal.Gen.facts) :=
  fun m g m' g' _ ha => Cert.Products.agree (Value.run_blocks m g) (Cert.UqRefIdeal.Value.run m' g')
    fun c => (congrArg₂ val_main_v3 (ha c).1 (ha c).2).trans (final m c).symm

end Cert.UqIdeal.Product

namespace Cert.UqDxIdeal.Product

open Cert.UqDxIdeal Cert.UqDxIdeal.Gen Cert.UqDxIdeal.Value Idealize.ShloMosaic Idealize.ShloMosaic.TcCoe Idealize.SL.Sem
open Idealize.ShloMosaic.ValueIdx
open Cert.UqDxRefIdeal.Read

variable (m : (ℓ : Loc nD τ sig) → Buf (Elt Ideal) ℓ) (c : Dev nD)

/-- The windows' blocks at a grid point. -/
theorem idx : ∀ t : Fin cfg0.N, win0_0.index t = ![(t : ℕ), 0] ∧ win0_1.index t = ![0, 0] ∧ win0_2.index t = ![(t : ℕ), 0] ∧ (t : ℕ) < 2 :=
  (by decide +kernel : ∀ t : Fin grid0.N, _)

/-- The result array is the reference's. -/
theorem final : (dats m 0 c).arrAt 2 (cfgs 0).N
    = val_main_v5 (F := Ideal) (m (c, Proc.devRef .tc main_arg0)) (m (c, Proc.devRef .tc main_arg1)) := by
  refine (dats m 0 c).arrAt_eq_of_covers 2 _ (by decide +kernel) fun t hf y => ?_
  obtain ⟨e0, e1, e2, e16⟩ := idx t
  blk_simp
  rw [after0_2]
  frame_out
  pointwise [k0_pay1, val_main_v5, val_main_v4, val_main_v2, val_main_v1]
  refine Fin.sum_fin_congr fun k => ?_
  blk_point [iblk, V, e0, e1, e2]

/-- For all arguments the result is the reference's. -/
theorem claim : algebraic_UqDxIdeal_UqDxRefIdeal (hUqDxIdeal := Cert.UqDxIdeal.Gen.facts) (hUqDxRefIdeal := Cert.UqDxRefIdeal.Gen.facts) :=
  fun m g m' g' _ ha => Cert.Products.agree (Value.run_blocks m g) (Cert.UqDxRefIdeal.Value.run m' g')
    fun c => (congrArg₂ val_main_v5 (ha c).1 (ha c).2).trans (final m c).symm

end Cert.UqDxIdeal.Product

namespace Cert.UkvIdeal.Product

open Cert.UkvIdeal Cert.UkvIdeal.Gen Cert.UkvIdeal.Value Idealize.ShloMosaic Idealize.ShloMosaic.TcCoe Idealize.SL.Sem
open Idealize.ShloMosaic.ValueIdx
open Cert.UkvRefIdeal.Read

variable (m : (ℓ : Loc nD τ sig) → Buf (Elt Ideal) ℓ) (c : Dev nD)

/-- The windows' blocks at a grid point. -/
theorem idx : ∀ t : Fin cfg0.N, win0_0.index t = ![(t : ℕ) / 4, 0] ∧ win0_1.index t = ![(t : ℕ) % 4, 0, 0] ∧ win0_2.index t = ![(t : ℕ) / 4, (t : ℕ) % 4] ∧ (t : ℕ) < 12 :=
  (by decide +kernel : ∀ t : Fin grid0.N, _)

/-- The result array is the reference's. -/
theorem final : (dats m 0 c).arrAt 2 (cfgs 0).N
    = val_main_v3 (F := Ideal) (m (c, Proc.devRef .tc main_arg0)) (m (c, Proc.devRef .tc main_arg1)) := by
  refine (dats m 0 c).arrAt_eq_of_covers 2 _ (by decide +kernel) fun t hf y => ?_
  obtain ⟨e0, e1, e2, e16⟩ := idx t
  blk_simp
  rw [after0_2]
  frame_out
  pointwise [k0_pay1, val_main_v3, val_main_v2, val_main_v1, val_main_v0]
  refine Fin.sum_fin_congr fun k => ?_
  blk_point [iblk, V, e0, e1, e2]

/-- For all arguments the result is the reference's. -/
theorem claim : algebraic_UkvIdeal_UkvRefIdeal (hUkvIdeal := Cert.UkvIdeal.Gen.facts) (hUkvRefIdeal := Cert.UkvRefIdeal.Gen.facts) :=
  fun m g m' g' _ ha => Cert.Products.agree (Value.run_blocks m g) (Cert.UkvRefIdeal.Value.run m' g')
    fun c => (congrArg₂ val_main_v3 (ha c).1 (ha c).2).trans (final m c).symm

end Cert.UkvIdeal.Product

namespace Cert.UkvDwIdeal.Product

open Cert.UkvDwIdeal Cert.UkvDwIdeal.Gen Cert.UkvDwIdeal.Value Idealize.ShloMosaic Idealize.ShloMosaic.TcCoe Idealize.SL.Sem
open Idealize.ShloMosaic.ValueIdx
open Cert.UkvDwRefIdeal.Read

variable (m : (ℓ : Loc nD τ sig) → Buf (Elt Ideal) ℓ) (c : Dev nD)

/-- The windows' blocks at a grid point. -/
theorem idx : ∀ t : Fin cfg0.N, win0_0.index t = ![0, 0] ∧ win0_1.index t = ![0, (t : ℕ)] ∧ win0_2.index t = ![(t : ℕ), 0, 0] ∧ (t : ℕ) < 4 :=
  (by decide +kernel : ∀ t : Fin grid0.N, _)

/-- The result array is the reference's. -/
theorem final : (dats m 0 c).arrAt 2 (cfgs 0).N
    = val_main_v8 (F := Ideal) (m (c, Proc.devRef .tc main_arg0)) (m (c, Proc.devRef .tc main_arg1)) := by
  refine (dats m 0 c).arrAt_eq_of_covers 2 _ (by decide +kernel) fun t hf y => ?_
  obtain ⟨e0, e1, e2, e16⟩ := idx t
  blk_simp
  rw [after0_2]
  frame_out
  pointwise [k0_pay1, val_main_v8, val_main_v7, val_main_v6, val_main_v5, val_main_v4, val_main_v1]
  refine Fin.sum_fin_congr fun k => (EReal.mul_comm _ _).trans ?_
  blk_point [iblk, V, e0, e1, e2]

/-- For all arguments the result is the reference's. -/
theorem claim : algebraic_UkvDwIdeal_UkvDwRefIdeal (hUkvDwIdeal := Cert.UkvDwIdeal.Gen.facts) (hUkvDwRefIdeal := Cert.UkvDwRefIdeal.Gen.facts) :=
  fun m g m' g' _ ha => Cert.Products.agree (Value.run_blocks m g) (Cert.UkvDwRefIdeal.Value.run m' g')
    fun c => (congrArg₂ val_main_v8 (ha c).1 (ha c).2).trans (final m c).symm

end Cert.UkvDwIdeal.Product
-- ==== Proof.Queries.lean ====
/-
  The weight's gradient of the product from the queries' low rank.
-/
module

public import proofs.«01_k».proof.Proof.Gen.UqDwIdeal.Value
public import proofs.«01_k».proof.Proof.Gen.UqDwRefIdeal.Run
public import proofs.«01_k».proof.Proof.Gen.UqDwRefIdeal.Read
public import proofs.«01_k».proof.Proof.Products
public import proofs.«01_k».proof.Defs
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.UqDwIdeal.Product

open Cert.UqDwIdeal Cert.UqDwIdeal.Gen Cert.UqDwIdeal.Value Idealize.ShloMosaic Idealize.ShloMosaic.TcCoe Idealize.SL.Sem
open Idealize.ShloMosaic.ValueIdx
open Cert.UqDwRefIdeal.Read

variable (m : (ℓ : Loc nD τ sig) → Buf (Elt Ideal) ℓ) (c : Dev nD)

/-- The windows' blocks at a grid point. -/
theorem idx : ∀ t : Fin cfg0.N, win0_0.index t = ![0, 0] ∧ win0_1.index t = ![0, 0] ∧ win0_2.index t = ![0, 0] ∧ (t : ℕ) < 1 :=
  (by decide +kernel : ∀ t : Fin grid0.N, _)

/-- The result array is the reference's. -/
theorem final : (dats m 0 c).arrAt 2 (cfgs 0).N
    = val_main_v8 (F := Ideal) (m (c, Proc.devRef .tc main_arg0)) (m (c, Proc.devRef .tc main_arg1)) := by
  refine (dats m 0 c).arrAt_eq_of_covers 2 _ (by decide +kernel) fun t hf y => ?_
  obtain ⟨e0, e1, e2, e16⟩ := idx t
  blk_simp
  rw [after0_2]
  unfold outsAt0
  frame_out
  generalize hX : X0_0 m c t = X
  generalize hz : ((View.whole main_v0).slice (win0_2.rect t)).emb y = z
  pointwise [k0_pay1, val_main_v8, val_main_v7, val_main_v6, val_main_v5, val_main_v2, val_main_v0]
  refine Fin.sum_fin_congr fun k => (EReal.mul_comm _ _).trans (congrArg₂ _ ?_ ?_)
  · rw [← hz]
    blk_point [iblk, V, e0, e1, e2]
  · rw [← hX, ← hz]
    unfold X0_0 Pipeline.Window.fill
    rw [dif_pos (moved0_0 t _)]
    blk_point [iblk, V, e0, e1, e2]

/-- For all arguments the result is the reference's. -/
theorem claim : algebraic_UqDwIdeal_UqDwRefIdeal (hUqDwIdeal := Cert.UqDwIdeal.Gen.facts) (hUqDwRefIdeal := Cert.UqDwRefIdeal.Gen.facts) :=
  fun m g m' g' _ ha => Cert.Products.agree (Value.run_blocks m g) (Cert.UqDwRefIdeal.Value.run m' g')
    fun c => (congrArg₂ val_main_v8 (ha c).1 (ha c).2).trans (final m c).symm

end Cert.UqDwIdeal.Product
-- ==== Proof.Parts.lean ====
/-
  The gradients of activations before the convolution's output and before keys and values: the kernel adds up the
  weight's four column shards.
-/
module

public import proofs.«01_k».proof.Proof.Gen.CoDxIdeal.Value
public import proofs.«01_k».proof.Proof.Gen.CoDxRefIdeal.Run
public import proofs.«01_k».proof.Proof.Gen.CoDxRefIdeal.Read
public import proofs.«01_k».proof.Proof.Gen.UkvDxIdeal.Value
public import proofs.«01_k».proof.Proof.Gen.UkvDxRefIdeal.Run
public import proofs.«01_k».proof.Proof.Gen.UkvDxRefIdeal.Read
public import proofs.«01_k».proof.Proof.Products
public import proofs.«01_k».proof.Defs
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.CoDxIdeal.Product

open Cert.CoDxIdeal Cert.CoDxIdeal.Gen Cert.CoDxIdeal.Value Idealize.ShloMosaic Idealize.ShloMosaic.TcCoe Idealize.SL.Sem
open Idealize.ShloMosaic.ValueIdx
open Cert.CoDxRefIdeal.Read

variable (m : (ℓ : Loc nD τ sig) → Buf (Elt Ideal) ℓ) (c : Dev nD)

/-- The windows' blocks at a grid point. -/
theorem idx : ∀ t : Fin cfg0.N, win0_0.index t = ![(t : ℕ) / 4, (t : ℕ) % 4] ∧ win0_1.index t = ![(t : ℕ) % 4, 0, 0]
    ∧ win0_2.index t = ![(t : ℕ) / 4, 0] ∧ (t : ℕ) < 8 :=
  (by decide +kernel : ∀ t : Fin grid0.N, _)

/-- What a grid point adds. -/
def part (a : S1024x256.Idx → EReal) (b : S1x512x256.Idx → EReal) (y : S1024x512.Idx) : EReal :=
  ∑ k : Fin 256, a (Idealize.ShloMosaic.ix2 (y 0) k) * b (Idealize.ShloMosaic.ix3 0 (y 1) k)

/-- The scratch after the first of four grid points. -/
theorem scratch_first (t : Fin cfg0.N) (h : t.val % 4 = 0) (y : S1024x512.Idx) :
    (outsAt0 m c t.val t.isLt).2 y = part (iblk m c 0 t) (iblk m c 1 t) y := by
  rw [outsAt0_A m c t h (by omega) (by omega)]
  frame_out
  pointwise [k0_pay1, k0_pay2]
  rfl

/-- The scratch after the second and the third. -/
theorem scratch_next (t s : Fin cfg0.N) (h : 1 ≤ t.val % 4 ∧ t.val % 4 ≤ 2) (hs : s.val + 1 = t.val) (y : S1024x512.Idx) :
    (outsAt0 m c t.val t.isLt).2 y = (outsAt0 m c s.val s.isLt).2 y + part (iblk m c 0 t) (iblk m c 1 t) y := by
  have e : t.val - 1 = s.val := by omega
  rw [outsAt0_B m c t (by omega) h (by omega)]
  simp only [e]
  generalize (outsAt0 m c s.val s.isLt).2 = p
  frame_out
  pointwise [k0_pay1, k0_pay3]
  exact congrArg₂ _ (congrFun (Memref.IsWhole.read_unread _ p) y) rfl

/-- The output's block after the fourth. -/
theorem output_last (t s : Fin cfg0.N) (h : t.val % 4 = 3) (hs : s.val + 1 = t.val) (y : S1024x512.Idx) :
    (outsAt0 m c t.val t.isLt).1 y = (outsAt0 m c s.val s.isLt).2 y + part (iblk m c 0 t) (iblk m c 1 t) y := by
  have e : t.val - 1 = s.val := by omega
  rw [outsAt0_C m c t (by omega) (by omega) h]
  simp only [e]
  generalize (outsAt0 m c s.val s.isLt).2 = p
  frame_out
  pointwise [k0_pay1, k0_pay4]
  exact congrArg₂ _ (congrFun (Memref.IsWhole.read_unread _ p) y) rfl

/-- The result array is the reference's. -/
theorem final : (dats m 0 c).arrAt 2 (cfgs 0).N
    = val_main_v6 (F := Ideal) (m (c, Proc.devRef .tc main_arg0)) (m (c, Proc.devRef .tc main_arg1)) := by
  refine (dats m 0 c).arrAt_eq_of_covers 2 _ (by decide +kernel) fun t hf y => ?_
  have h := (flush0_2 t).mp hf
  obtain ⟨e0, e1, e2, e16⟩ := idx t
  obtain ⟨r, s, u, hr, hs, hu, sum⟩ := Cert.Products.four (outsAt0 m c) (fun t => part (iblk m c 0 t) (iblk m c 1 t))
    (scratch_first m c) (scratch_next m c) (output_last m c) t h
  obtain ⟨r0, r1, -, -⟩ := idx r
  obtain ⟨s0, s1, -, -⟩ := idx s
  obtain ⟨u0, u1, -, -⟩ := idx u
  blk_simp
  rw [after0_2, sum]
  pointwise [val_main_v6, val_main_v5, val_main_v3, val_main_v1, val_main_v0]
  rw [show ∑ k : Fin 1024, _ = _ from Cert.Products.shards 256 _]
  unfold part
  refine congrArg₂ _ (congrArg₂ _ (congrArg₂ _ ?_ ?_) ?_) ?_ <;> refine Fin.sum_fin_congr fun k => ?_
  · blk_point [iblk, V, u0, u1, e2]
  · blk_point [iblk, V, s0, s1, e2]
  · blk_point [iblk, V, r0, r1, e2]
  · blk_point [iblk, V, e0, e1, e2]

/-- For all arguments the result is the reference's. -/
theorem claim : algebraic_CoDxIdeal_CoDxRefIdeal (hCoDxIdeal := Cert.CoDxIdeal.Gen.facts) (hCoDxRefIdeal := Cert.CoDxRefIdeal.Gen.facts) :=
  fun m g m' g' _ ha => Cert.Products.agree (Value.run_blocks m g) (Cert.CoDxRefIdeal.Value.run m' g')
    fun c => (congrArg₂ val_main_v6 (ha c).1 (ha c).2).trans (final m c).symm

end Cert.CoDxIdeal.Product

namespace Cert.UkvDxIdeal.Product

open Cert.UkvDxIdeal Cert.UkvDxIdeal.Gen Cert.UkvDxIdeal.Value Idealize.ShloMosaic Idealize.ShloMosaic.TcCoe Idealize.SL.Sem
open Idealize.ShloMosaic.ValueIdx
open Cert.UkvDxRefIdeal.Read

variable (m : (ℓ : Loc nD τ sig) → Buf (Elt Ideal) ℓ) (c : Dev nD)

/-- The windows' blocks at a grid point. -/
theorem idx : ∀ t : Fin cfg0.N, win0_0.index t = ![(t : ℕ) / 4, (t : ℕ) % 4] ∧ win0_1.index t = ![(t : ℕ) % 4, 0, 0]
    ∧ win0_2.index t = ![(t : ℕ) / 4, 0] ∧ (t : ℕ) < 12 :=
  (by decide +kernel : ∀ t : Fin grid0.N, _)

/-- What a grid point adds. -/
def part (a : S768x256.Idx → EReal) (b : S1x256x256.Idx → EReal) (y : S768x256.Idx) : EReal :=
  ∑ k : Fin 256, a (Idealize.ShloMosaic.ix2 (y 0) k) * b (Idealize.ShloMosaic.ix3 0 (y 1) k)

/-- The scratch after the first of four grid points. -/
theorem scratch_first (t : Fin cfg0.N) (h : t.val % 4 = 0) (y : S768x256.Idx) :
    (outsAt0 m c t.val t.isLt).2 y = part (iblk m c 0 t) (iblk m c 1 t) y := by
  rw [outsAt0_A m c t h (by omega) (by omega)]
  frame_out
  pointwise [k0_pay1, k0_pay2]
  rfl

/-- The scratch after the second and the third. -/
theorem scratch_next (t s : Fin cfg0.N) (h : 1 ≤ t.val % 4 ∧ t.val % 4 ≤ 2) (hs : s.val + 1 = t.val) (y : S768x256.Idx) :
    (outsAt0 m c t.val t.isLt).2 y = (outsAt0 m c s.val s.isLt).2 y + part (iblk m c 0 t) (iblk m c 1 t) y := by
  have e : t.val - 1 = s.val := by omega
  rw [outsAt0_B m c t (by omega) h (by omega)]
  simp only [e]
  generalize (outsAt0 m c s.val s.isLt).2 = p
  frame_out
  pointwise [k0_pay1, k0_pay3]
  exact congrArg₂ _ (congrFun (Memref.IsWhole.read_unread _ p) y) rfl

/-- The output's block after the fourth. -/
theorem output_last (t s : Fin cfg0.N) (h : t.val % 4 = 3) (hs : s.val + 1 = t.val) (y : S768x256.Idx) :
    (outsAt0 m c t.val t.isLt).1 y = (outsAt0 m c s.val s.isLt).2 y + part (iblk m c 0 t) (iblk m c 1 t) y := by
  have e : t.val - 1 = s.val := by omega
  rw [outsAt0_C m c t (by omega) (by omega) h]
  simp only [e]
  generalize (outsAt0 m c s.val s.isLt).2 = p
  frame_out
  pointwise [k0_pay1, k0_pay4]
  exact congrArg₂ _ (congrFun (Memref.IsWhole.read_unread _ p) y) rfl

/-- The result array is the reference's. -/
theorem final : (dats m 0 c).arrAt 2 (cfgs 0).N
    = val_main_v6 (F := Ideal) (m (c, Proc.devRef .tc main_arg0)) (m (c, Proc.devRef .tc main_arg1)) := by
  refine (dats m 0 c).arrAt_eq_of_covers 2 _ (by decide +kernel) fun t hf y => ?_
  have h := (flush0_2 t).mp hf
  obtain ⟨e0, e1, e2, e16⟩ := idx t
  obtain ⟨r, s, u, hr, hs, hu, sum⟩ := Cert.Products.four (outsAt0 m c) (fun t => part (iblk m c 0 t) (iblk m c 1 t))
    (scratch_first m c) (scratch_next m c) (output_last m c) t h
  obtain ⟨r0, r1, -, -⟩ := idx r
  obtain ⟨s0, s1, -, -⟩ := idx s
  obtain ⟨u0, u1, -, -⟩ := idx u
  blk_simp
  rw [after0_2, sum]
  pointwise [val_main_v6, val_main_v5, val_main_v3, val_main_v1, val_main_v0]
  rw [show ∑ k : Fin 1024, _ = _ from Cert.Products.shards 256 _]
  unfold part
  refine congrArg₂ _ (congrArg₂ _ (congrArg₂ _ ?_ ?_) ?_) ?_ <;> refine Fin.sum_fin_congr fun k => ?_
  · blk_point [iblk, V, u0, u1, e2]
  · blk_point [iblk, V, s0, s1, e2]
  · blk_point [iblk, V, r0, r1, e2]
  · blk_point [iblk, V, e0, e1, e2]

/-- For all arguments the result is the reference's. -/
theorem claim : algebraic_UkvDxIdeal_UkvDxRefIdeal (hUkvDxIdeal := Cert.UkvDxIdeal.Gen.facts) (hUkvDxRefIdeal := Cert.UkvDxRefIdeal.Gen.facts) :=
  fun m g m' g' _ ha => Cert.Products.agree (Value.run_blocks m g) (Cert.UkvDxRefIdeal.Value.run m' g')
    fun c => (congrArg₂ val_main_v6 (ha c).1 (ha c).2).trans (final m c).symm

end Cert.UkvDxIdeal.Product
-- ==== Proof.Cond.lean ====
/-
  The products of the conditioning: forward, and the two gradients.
-/
module

public import proofs.«01_k».proof.Proof.Gen.AdaIdeal.Value
public import proofs.«01_k».proof.Proof.Gen.AdaRefIdeal.Run
public import proofs.«01_k».proof.Proof.Gen.AdaRefIdeal.Read
public import proofs.«01_k».proof.Proof.Gen.AdaDwIdeal.Value
public import proofs.«01_k».proof.Proof.Gen.AdaDwRefIdeal.Run
public import proofs.«01_k».proof.Proof.Gen.AdaDwRefIdeal.Read
public import proofs.«01_k».proof.Proof.Gen.AdaDxIdeal.Value
public import proofs.«01_k».proof.Proof.Gen.AdaDxRefIdeal.Run
public import proofs.«01_k».proof.Proof.Gen.AdaDxRefIdeal.Read
public import proofs.«01_k».proof.Proof.Products
public import proofs.«01_k».proof.Defs
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.AdaIdeal.Product

open Cert.AdaIdeal Cert.AdaIdeal.Gen Cert.AdaIdeal.Value Idealize.ShloMosaic Idealize.ShloMosaic.TcCoe Idealize.SL.Sem
open Idealize.ShloMosaic.ValueIdx
open Cert.AdaRefIdeal.Read

variable (m : (ℓ : Loc nD τ sig) → Buf (Elt Ideal) ℓ) (c : Dev nD)

/-- The windows' blocks at a grid point. -/
theorem idx : ∀ t : Fin cfg0.N, win0_0.index t = ![0, 0] ∧ win0_1.index t = ![0, (t : ℕ)] ∧ win0_2.index t = ![0, (t : ℕ)] ∧ (t : ℕ) < 2 :=
  (by decide +kernel : ∀ t : Fin grid0.N, _)

/-- The result array is the reference's. -/
theorem final : (dats m 0 c).arrAt 2 (cfgs 0).N
    = val_main_v0 (F := Ideal) (m (c, Proc.devRef .tc main_arg0)) (m (c, Proc.devRef .tc main_arg1)) := by
  refine (dats m 0 c).arrAt_eq_of_covers 2 _ (by decide +kernel) fun t hf y => ?_
  obtain ⟨e0, e1, e2, e16⟩ := idx t
  blk_simp
  rw [after0_2]
  frame_out
  pointwise [k0_pay1, val_main_v0]
  refine Fin.sum_fin_congr fun k => ?_
  blk_point [iblk, V, e0, e1, e2]

/-- For all arguments the result is the reference's. -/
theorem claim : algebraic_AdaIdeal_AdaRefIdeal (hAdaIdeal := Cert.AdaIdeal.Gen.facts) (hAdaRefIdeal := Cert.AdaRefIdeal.Gen.facts) :=
  fun m g m' g' _ ha => Cert.Products.agree (Value.run_blocks m g) (Cert.AdaRefIdeal.Value.run m' g')
    fun c => (congrArg₂ val_main_v0 (ha c).1 (ha c).2).trans (final m c).symm

end Cert.AdaIdeal.Product

namespace Cert.AdaDwIdeal.Product

open Cert.AdaDwIdeal Cert.AdaDwIdeal.Gen Cert.AdaDwIdeal.Value Idealize.ShloMosaic Idealize.ShloMosaic.TcCoe Idealize.SL.Sem
open Idealize.ShloMosaic.ValueIdx
open Cert.AdaDwRefIdeal.Read

variable (m : (ℓ : Loc nD τ sig) → Buf (Elt Ideal) ℓ) (c : Dev nD)

/-- The windows' blocks at a grid point. -/
theorem idx : ∀ t : Fin cfg0.N, win0_0.index t = ![0, (t : ℕ) / 2] ∧ win0_1.index t = ![0, (t : ℕ) % 2] ∧ win0_2.index t = ![(t : ℕ) / 2, (t : ℕ) % 2] ∧ (t : ℕ) < 4 :=
  (by decide +kernel : ∀ t : Fin grid0.N, _)

/-- The result array is the reference's. -/
theorem final : (dats m 0 c).arrAt 2 (cfgs 0).N
    = val_main_v3 (F := Ideal) (m (c, Proc.devRef .tc main_arg0)) (m (c, Proc.devRef .tc main_arg1)) := by
  refine (dats m 0 c).arrAt_eq_of_covers 2 _ (by decide +kernel) fun t hf y => ?_
  obtain ⟨e0, e1, e2, e16⟩ := idx t
  blk_simp
  rw [after0_2]
  frame_out
  pointwise [k0_pay1, val_main_v3, val_main_v2]
  refine Fin.sum_fin_congr fun k => (EReal.mul_comm _ _).trans ?_
  blk_point [iblk, V, e0, e1, e2]

/-- For all arguments the result is the reference's. -/
theorem claim : algebraic_AdaDwIdeal_AdaDwRefIdeal (hAdaDwIdeal := Cert.AdaDwIdeal.Gen.facts) (hAdaDwRefIdeal := Cert.AdaDwRefIdeal.Gen.facts) :=
  fun m g m' g' _ ha => Cert.Products.agree (Value.run_blocks m g) (Cert.AdaDwRefIdeal.Value.run m' g')
    fun c => (congrArg₂ val_main_v3 (ha c).1 (ha c).2).trans (final m c).symm

end Cert.AdaDwIdeal.Product

namespace Cert.AdaDxIdeal.Product

open Cert.AdaDxIdeal Cert.AdaDxIdeal.Gen Cert.AdaDxIdeal.Value Idealize.ShloMosaic Idealize.ShloMosaic.TcCoe Idealize.SL.Sem
open Idealize.ShloMosaic.ValueIdx
open Cert.AdaDxRefIdeal.Read

variable (m : (ℓ : Loc nD τ sig) → Buf (Elt Ideal) ℓ) (c : Dev nD)

/-- The windows' blocks at a grid point. -/
theorem idx : ∀ t : Fin cfg0.N, win0_0.index t = ![0, 0] ∧ win0_1.index t = ![(t : ℕ), 0] ∧ win0_2.index t = ![0, (t : ℕ)] ∧ (t : ℕ) < 2 :=
  (by decide +kernel : ∀ t : Fin grid0.N, _)

/-- The result array is the reference's. -/
theorem final : (dats m 0 c).arrAt 2 (cfgs 0).N
    = val_main_v2 (F := Ideal) (m (c, Proc.devRef .tc main_arg0)) (m (c, Proc.devRef .tc main_arg1)) := by
  refine (dats m 0 c).arrAt_eq_of_covers 2 _ (by decide +kernel) fun t hf y => ?_
  obtain ⟨e0, e1, e2, e16⟩ := idx t
  blk_simp
  rw [after0_2]
  frame_out
  pointwise [k0_pay1, val_main_v2]
  refine Fin.sum_fin_congr fun k => ?_
  blk_point [iblk, V, e0, e1, e2]

/-- For all arguments the result is the reference's. -/
theorem claim : algebraic_AdaDxIdeal_AdaDxRefIdeal (hAdaDxIdeal := Cert.AdaDxIdeal.Gen.facts) (hAdaDxRefIdeal := Cert.AdaDxRefIdeal.Gen.facts) :=
  fun m g m' g' _ ha => Cert.Products.agree (Value.run_blocks m g) (Cert.AdaDxRefIdeal.Value.run m' g')
    fun c => (congrArg₂ val_main_v2 (ha c).1 (ha c).2).trans (final m c).symm

end Cert.AdaDxIdeal.Product
-- ==== Proof.Gates.lean ====
/-
  The gated merge of the attention's and the convolution's outputs: forward, and its four gradients.
-/
module

public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.MergeBwdIdeal.Value
public import proofs.«01_k».proof.Proof.Gen.MergeBwdRefIdeal.Run
public import proofs.«01_k».proof.Proof.Gen.MergeBwdRefIdeal.Read
public import proofs.«01_k».proof.Proof.Products
public import proofs.«01_k».proof.Defs
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Gates

open Idealize.ShloMosaic

/-- A power of two of the negated argument over log 2 is the exponential of the negated argument, at infinities too. -/
theorem exp2_neg (x : EReal) :
    FloatOps.exp2 (F := Ideal) (φ := .f32) (x * ((-(Real.log 2)⁻¹ : ℝ) : EReal)) = Ideal.exp (-x) := by
  show Ideal.exp2 _ = _
  have h : -(Real.log 2)⁻¹ < 0 := neg_lt_zero.mpr (inv_pos.mpr (Real.log_pos one_lt_two))
  induction x using EReal.rec with
  | bot => rw [EReal.bot_mul_coe_of_neg h, EReal.neg_bot]; rfl
  | top => rw [EReal.top_mul_coe_of_neg h, EReal.neg_top]; rfl
  | coe x =>
    rw [← EReal.coe_mul, ← EReal.coe_neg, Ideal.exp2_coe, Ideal.exp_coe]
    refine congrArg _ ?_
    rw [Real.rpow_eq_pow, Real.rpow_def_of_pos two_pos]
    refine congrArg _ ?_
    have : Real.log 2 ≠ 0 := (Real.log_pos one_lt_two).ne'
    field_simp

end Cert.Gates

namespace Cert.MergeIdeal.Gates

open Cert.MergeIdeal Cert.MergeIdeal.Gen Cert.MergeIdeal.Value Idealize.ShloMosaic Idealize.ShloMosaic.TcCoe Idealize.SL.Sem
open Idealize.ShloMosaic.ValueIdx
open Cert.MergeRefIdeal.Read

/-- The named constant. -/
theorem constant : preserves_Merge_MergeIdeal :=
  IdealRules.named_const.statement Cert.MergeIdeal.κ "neg_log2e" .f32 0xBFB8AA3B#32 _ rfl

theorem named : Named.named (F := Ideal) (φ := .f32) κ "neg_log2e" 0xBFB8AA3B#32 = ((-(Real.log 2)⁻¹ : ℝ) : EReal) :=
  IdealRules.named_const.ideal_named_scalar _ _ _ _ rfl

variable (m : (ℓ : Loc nD τ sig) → Buf (Elt Ideal) ℓ) (c : Dev nD)

/-- The windows' blocks at a grid point. -/
theorem idx : ∀ t : Fin cfg0.N, win0_0.index t = ![(t : ℕ), 0] ∧ win0_1.index t = ![(t : ℕ), 1] ∧ win0_2.index t = ![(t : ℕ), 0]
    ∧ win0_3.index t = ![(t : ℕ), 0] ∧ win0_4.index t = ![(t : ℕ), 0] ∧ (t : ℕ) < 4 :=
  (by decide +kernel : ∀ t : Fin grid0.N, _)

/-- The result array is the reference's. -/
theorem final : (dats m 0 c).arrAt 4 (cfgs 0).N = val_main_v19 (F := Ideal) (m (c, Proc.devRef .tc main_arg0))
    (m (c, Proc.devRef .tc main_arg1)) (m (c, Proc.devRef .tc main_arg2)) := by
  refine (dats m 0 c).arrAt_eq_of_covers 4 _ (by decide +kernel) fun t hf y => ?_
  obtain ⟨e0, e1, e2, e3, e4, e16⟩ := idx t
  blk_simp
  rw [after0_4]
  unfold outsAt0
  frame_out
  generalize hX : X0_0 m c t = X
  generalize hY : X0_1 m c t = Y
  generalize hz : ((View.whole main_v0).slice (win0_4.rect t)).emb y = z
  pointwise [k0_pay1, val_main_v19, val_main_v18, val_main_v17, val_main_v16, val_main_v15, val_main_v14, val_main_v13,
    val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2]
  rw [named]
  erw [Cert.Gates.exp2_neg, Cert.Gates.exp2_neg]
  rw [← hX, ← hY, ← hz]
  unfold X0_0 X0_1 Pipeline.Window.fill
  rw [dif_pos (moved0_0 t _), dif_pos (moved0_1 t _)]
  blk_point [iblk, V, e0, e1, e2, e3, e4]
  all_goals exact congrArg (-·) (by blk_point [V, e0, e1, e2, e3, e4])

/-- For all arguments the result is the reference's. -/
theorem claim : algebraic_MergeIdeal_MergeRefIdeal (hMergeIdeal := Cert.MergeIdeal.Gen.facts) (hMergeRefIdeal := Cert.MergeRefIdeal.Gen.facts) :=
  fun m g m' g' _ ha => Cert.Products.agree (Value.run_blocks m g) (Cert.MergeRefIdeal.Value.run m' g')
    fun c => ((congrArg₂ (fun x y => val_main_v19 x y _) (ha c).1 (ha c).2.1).trans (congrArg (val_main_v19 _ _) (ha c).2.2)).trans
      (final m c).symm

end Cert.MergeIdeal.Gates

namespace Cert.MergeBwdIdeal.Gates

open Cert.MergeBwdIdeal Cert.MergeBwdIdeal.Gen Cert.MergeBwdIdeal.Value Idealize.ShloMosaic Idealize.ShloMosaic.TcCoe Idealize.SL.Sem
open Idealize.ShloMosaic.ValueIdx
open Cert.MergeBwdRefIdeal.Read

/-- The named constant. -/
theorem constant : preserves_MergeBwd_MergeBwdIdeal :=
  IdealRules.named_const.statement Cert.MergeBwdIdeal.κ "neg_log2e" .f32 0xBFB8AA3B#32 _ rfl

theorem named : Named.named (F := Ideal) (φ := .f32) κ "neg_log2e" 0xBFB8AA3B#32 = ((-(Real.log 2)⁻¹ : ℝ) : EReal) :=
  IdealRules.named_const.ideal_named_scalar _ _ _ _ rfl

variable (m : (ℓ : Loc nD τ sig) → Buf (Elt Ideal) ℓ) (c : Dev nD)

/-- The windows' blocks at a grid point. -/
theorem idx : ∀ t : Fin cfg0.N, win0_0.index t = ![(t : ℕ), 0] ∧ win0_1.index t = ![(t : ℕ), 0] ∧ win0_2.index t = ![(t : ℕ), 1]
    ∧ win0_3.index t = ![(t : ℕ), 0] ∧ win0_4.index t = ![(t : ℕ), 0] ∧ win0_5.index t = ![(t : ℕ), 0]
    ∧ win0_6.index t = ![(t : ℕ), 0] ∧ win0_7.index t = ![(t : ℕ), 0] ∧ win0_8.index t = ![(t : ℕ), 0] ∧ (t : ℕ) < 4 :=
  (by decide +kernel : ∀ t : Fin grid0.N, _)

/-- The logistic of the first gate at a place of a block is the reference's at the place `z` of the array. -/
theorem gate1 (t : Fin cfg0.N) (y : S512x1024.Idx) (z : S2048x1024.Idx) (h0 : (z 0 : ℕ) = 512 * t + (y 0 : ℕ)) (h1 : (z 1 : ℕ) = (y 1 : ℕ)) :
    k0_pay5 (F := Ideal) (X0_1 m c t) y = val_main_v9 (F := Ideal) (m (c, Proc.devRef .tc main_arg1)) z := by
  obtain ⟨e0, e1, e2, e3, e4, e5, e6, e7, e8, e16⟩ := idx t
  generalize hX : X0_1 m c t = X
  pointwise [k0_pay5, val_main_v9, val_main_v8, val_main_v7, val_main_v6, val_main_v5, val_main_v4, val_main_v0, val_main_cst,
    val_main_cst_0]
  rw [named]
  erw [Cert.Gates.exp2_neg]
  rw [← hX]
  unfold X0_1 Pipeline.Window.fill
  rw [dif_pos (moved0_1 t _)]
  refine congrArg (fun x => Ideal.div 1 (1 + Ideal.exp (-x))) ?_
  blk_point [iblk, V, e1, h0, h1]

/-- Likewise of the second gate. -/
theorem gate2 (t : Fin cfg0.N) (y : S512x1024.Idx) (z : S2048x1024.Idx) (h0 : (z 0 : ℕ) = 512 * t + (y 0 : ℕ)) (h1 : (z 1 : ℕ) = (y 1 : ℕ)) :
    k0_pay6 (F := Ideal) (X0_2 m c t) y = val_main_v19 (F := Ideal) (m (c, Proc.devRef .tc main_arg1)) z := by
  obtain ⟨e0, e1, e2, e3, e4, e5, e6, e7, e8, e16⟩ := idx t
  generalize hX : X0_2 m c t = X
  pointwise [k0_pay6, val_main_v19, val_main_v18, val_main_v17, val_main_v16, val_main_v15, val_main_v14, val_main_v1, val_main_cst_2,
    val_main_cst_3]
  rw [named]
  erw [Cert.Gates.exp2_neg]
  rw [← hX]
  unfold X0_2 Pipeline.Window.fill
  rw [dif_pos (moved0_2 t _)]
  refine congrArg (fun x => Ideal.div 1 (1 + Ideal.exp (-x))) ?_
  blk_point [iblk, V, e2, h0, h1]

/-- The gradient of the first merged output. -/
theorem final5 : (dats m 0 c).arrAt 5 (cfgs 0).N = val_main_v32 (F := Ideal) (m (c, Proc.devRef .tc main_arg0))
    (m (c, Proc.devRef .tc main_arg1)) := by
  refine (dats m 0 c).arrAt_eq_of_covers 5 _ (by decide +kernel) fun t hf y => ?_
  obtain ⟨e0, e1, e2, e3, e4, e5, e6, e7, e8, e16⟩ := idx t
  blk_simp
  rw [after0_5]
  unfold outsAt0
  dsimp only
  frame_out
  have hg := gate1 m c t y (((View.whole main_v0_0).slice (win0_5.rect t)).emb y)
    ((win0_5.rect_emb_val t y 0).trans (by rw [e5]; show (t : ℕ) * 512 + _ = _; omega))
    ((win0_5.rect_emb_val t y 1).trans (by rw [e5]; show 0 * 1024 + _ = _; omega))
  generalize hz : ((View.whole main_v0_0).slice (win0_5.rect t)).emb y = z at hg ⊢
  pointwise [k0_pay10, k0_pay4, val_main_v32, val_main_v29, val_main_v25]
  rw [hg, mul_comm, ← hz]
  refine congrArg (val_main_v9 (F := Ideal) _ _ * ·) ?_
  blk_point [iblk, V, e0, e5]

/-- The gradient of the second merged output. -/
theorem final6 : (dats m 0 c).arrAt 6 (cfgs 0).N = val_main_v33 (F := Ideal)
    (m (c, Proc.devRef .tc main_arg0)) (m (c, Proc.devRef .tc main_arg1)) := by
  refine (dats m 0 c).arrAt_eq_of_covers 6 _ (by decide +kernel) fun t hf y => ?_
  obtain ⟨e0, e1, e2, e3, e4, e5, e6, e7, e8, e16⟩ := idx t
  blk_simp
  rw [after0_6]
  unfold outsAt0
  dsimp only
  frame_out
  have hg := gate2 m c t y (((View.whole main_v0_1).slice (win0_6.rect t)).emb y)
    ((win0_6.rect_emb_val t y 0).trans (by rw [e6]; show (t : ℕ) * 512 + _ = _; omega))
    ((win0_6.rect_emb_val t y 1).trans (by rw [e6]; show 0 * 1024 + _ = _; omega))
  generalize hz : ((View.whole main_v0_1).slice (win0_6.rect t)).emb y = z at hg ⊢
  pointwise [k0_pay1, k0_pay7, k0_pay4, val_main_v33, val_main_v26, val_main_v25]
  rw [hg, mul_comm, ← hz]
  refine congrArg (val_main_v19 (F := Ideal) _ _ * ·) ?_
  blk_point [iblk, V, e0, e6]

/-- The gradient of the first gate. -/
theorem final7 : (dats m 0 c).arrAt 7 (cfgs 0).N = val_main_v34 (F := Ideal)
    (m (c, Proc.devRef .tc main_arg0)) (m (c, Proc.devRef .tc main_arg1)) (m (c, Proc.devRef .tc main_arg2)) := by
  refine (dats m 0 c).arrAt_eq_of_covers 7 _ (by decide +kernel) fun t hf y => ?_
  obtain ⟨e0, e1, e2, e3, e4, e5, e6, e7, e8, e16⟩ := idx t
  blk_simp
  rw [after0_7]
  unfold outsAt0
  dsimp only
  frame_out
  have hg := gate1 m c t y (((View.whole main_v0_2).slice (win0_7.rect t)).emb y)
    ((win0_7.rect_emb_val t y 0).trans (by rw [e7]; show (t : ℕ) * 512 + _ = _; omega))
    ((win0_7.rect_emb_val t y 1).trans (by rw [e7]; show 0 * 1024 + _ = _; omega))
  generalize hz : ((View.whole main_v0_2).slice (win0_7.rect t)).emb y = z at hg ⊢
  pointwise [k0_pay2, k0_pay8, k0_pay4, val_main_v34, val_main_v31, val_main_v30, val_main_v12, val_main_v11, val_main_v10, val_main_v25, val_main_v2, val_main_cst_1]
  rw [hg, ← hz, mul_assoc]
  refine congrArg (· * _) (congrArg₂ _ ?_ ?_)
  · blk_point [iblk, V, e0, e7]
  · blk_point [iblk, V, e3, e7]

/-- The gradient of the second gate. -/
theorem final8 : (dats m 0 c).arrAt 8 (cfgs 0).N = val_main_v35 (F := Ideal)
    (m (c, Proc.devRef .tc main_arg0)) (m (c, Proc.devRef .tc main_arg1)) (m (c, Proc.devRef .tc main_arg3)) := by
  refine (dats m 0 c).arrAt_eq_of_covers 8 _ (by decide +kernel) fun t hf y => ?_
  obtain ⟨e0, e1, e2, e3, e4, e5, e6, e7, e8, e16⟩ := idx t
  blk_simp
  rw [after0_8]
  unfold outsAt0
  dsimp only
  frame_out
  have hg := gate2 m c t y (((View.whole main_v0_3).slice (win0_8.rect t)).emb y)
    ((win0_8.rect_emb_val t y 0).trans (by rw [e8]; show (t : ℕ) * 512 + _ = _; omega))
    ((win0_8.rect_emb_val t y 1).trans (by rw [e8]; show 0 * 1024 + _ = _; omega))
  generalize hz : ((View.whole main_v0_3).slice (win0_8.rect t)).emb y = z at hg ⊢
  pointwise [k0_pay3, k0_pay9, k0_pay4, val_main_v35, val_main_v28, val_main_v27, val_main_v22, val_main_v21, val_main_v20, val_main_v25, val_main_v3, val_main_cst_4]
  rw [hg, ← hz, mul_assoc]
  refine congrArg (· * _) (congrArg₂ _ ?_ ?_)
  · blk_point [iblk, V, e0, e8]
  · blk_point [iblk, V, e4, e8]

/-- For all arguments the four results are the reference's. -/
theorem claim : algebraic_MergeBwdIdeal_MergeBwdRefIdeal (hMergeBwdIdeal := Cert.MergeBwdIdeal.Gen.facts) (hMergeBwdRefIdeal := Cert.MergeBwdRefIdeal.Gen.facts) := by
  intro m g m' g' _ ha
  refine ⟨_, _, _, _, (θ_run _ _ _).mono (fun _ h c => ⟨(h c).1.trans (final5 m c), (h c).2.1.trans (final6 m c),
    (h c).2.2.1.trans (final7 m c), (h c).2.2.2.1.trans (final8 m c), (h c).2.2.2.2⟩) (Value.run_blocks m g),
    (θ_run _ _ _).mono (fun _ h c => ?_) (Cert.MergeBwdRefIdeal.Value.run m' g')⟩
  obtain ⟨a0, a1, a2, a3⟩ := ha c
  refine ⟨(h c).1.trans ?_, (h c).2.1.trans ?_, (h c).2.2.1.trans ?_, (h c).2.2.2.1.trans ?_, (h c).2.2.2.2⟩
  · rw [a0, a1]; rfl
  · rw [a0, a1]; rfl
  · rw [a0, a1, a2]; rfl
  · rw [a0, a1, a3]; rfl

end Cert.MergeBwdIdeal.Gates
-- ==== Proof.Convolution.lean ====
/-
  The gated convolution over three rows: forward.
-/
module

public import proofs.«01_k».proof.Proof.Gen.ConvIdeal.Value
public import proofs.«01_k».proof.Proof.Gen.ConvRefIdeal.Run
public import proofs.«01_k».proof.Proof.Gen.ConvRefIdeal.Read
public import proofs.«01_k».proof.Proof.Products
public import proofs.«01_k».proof.Defs
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.ConvIdeal.Convolution

open Cert.ConvIdeal Cert.ConvIdeal.Gen Cert.ConvIdeal.Value Idealize.ShloMosaic Idealize.ShloMosaic.TcCoe Idealize.SL.Sem
open Cert.ConvRefIdeal.Read

variable (m : (ℓ : Loc nD τ sig) → Buf (Elt Ideal) ℓ) (c : Dev nD)

/-- The windows' blocks at a grid point. -/
theorem idx : ∀ t : Fin cfg0.N, win0_0.index t = ![0, 8 + (t : ℕ)] ∧ win0_1.index t = ![0, 10 + (t : ℕ)] ∧ win0_2.index t = ![0, 12 + (t : ℕ)]
    ∧ win0_3.index t = ![0, (t : ℕ)] ∧ win0_4.index t = ![0, (t : ℕ)] ∧ win0_5.index t = ![0, (t : ℕ)] ∧ (t : ℕ) < 2 :=
  (by decide +kernel : ∀ t : Fin grid0.N, _)

/-- The columns that are convolved, at a place of a block. -/
theorem value (t : Fin cfg0.N) (r : Fin 2048) (l : Fin 256) (j : Fin 512) (hj : (j : ℕ) = 256 * t + l) :
    iblk m c 0 t (ix2 r l) = val_main_v0 (F := Ideal) (m (c, Proc.devRef .tc main_arg0)) (ix2 r j) := by
  obtain ⟨e0, e1, e2, e3, e4, e5, e16⟩ := idx t
  pointwise [val_main_v0]
  blk_point [iblk, V, e0, hj]

/-- The factor of what is convolved, at a place of a block. -/
theorem factor (t : Fin cfg0.N) (r : Fin 2048) (l : Fin 256) (j : Fin 512) (hj : (j : ℕ) = 256 * t + l) :
    iblk m c 2 t (ix2 r l) = val_main_v2 (F := Ideal) (m (c, Proc.devRef .tc main_arg0)) (ix2 r j) := by
  obtain ⟨e0, e1, e2, e3, e4, e5, e16⟩ := idx t
  pointwise [val_main_v2]
  blk_point [iblk, V, e2, hj]

/-- A tap's weight at a place of a block. -/
theorem tap (t : Fin cfg0.N) (k : Fin 3) (l : Fin 256) (j : Fin 512) (hj : (j : ℕ) = 256 * t + l) :
    iblk m c 3 t (ix2 k l) = m (c, Proc.devRef .tc main_arg1) (ix2 k j) := by
  obtain ⟨e0, e1, e2, e3, e4, e5, e16⟩ := idx t
  blk_point [iblk, V, e3, hj]

/-- The bias at a place of a block. -/
theorem bias (t : Fin cfg0.N) (l : Fin 256) (j : Fin 512) (hj : (j : ℕ) = 256 * t + l) :
    iblk m c 4 t (ix2 0 l) = m (c, Proc.devRef .tc main_arg2) (ix2 0 j) := by
  obtain ⟨e0, e1, e2, e3, e4, e5, e16⟩ := idx t
  blk_point [iblk, V, e4, hj]

/-- The gate at a place of a block. -/
theorem gate (t : Fin cfg0.N) (r : Fin 2048) (l : Fin 256) (j : Fin 512) (hj : (j : ℕ) = 256 * t + l) :
    iblk m c 1 t (ix2 r l) = val_main_v1 (F := Ideal) (m (c, Proc.devRef .tc main_arg0)) (ix2 r j) := by
  obtain ⟨e0, e1, e2, e3, e4, e5, e16⟩ := idx t
  pointwise [val_main_v1]
  blk_point [iblk, V, e1, hj]

/-- A choice by the row. -/
theorem at_row (r : Fin 2048) (k : ℕ) (hk : k < 2048) (x y : EReal) :
    Scalar.select (IntOp.cmpi .eq (BitVec.ofNat 32 (r : ℕ)) (BitVec.ofNat 32 k)) x y = if (r : ℕ) = k then x else y := by
  have hr := r.isLt
  rw [WordCmp.cmpi_eq_eq_toNat, BitVec.toNat_ofNat, BitVec.toNat_ofNat, Nat.mod_eq_of_lt (by omega), Nat.mod_eq_of_lt (by omega)]
  by_cases h : (r : ℕ) = k <;> simp [h, Scalar.select]

/-- The padded product: zero in its first row, the product one row up, zero in its last row. -/
theorem padded (x : (⟨Cert.ConvRefIdeal.S2048x3584, .f32⟩ : BufTy).Contents (Elt Ideal)) (r : Fin 2050) (j : Fin 512) :
    val_main_v5 (F := Ideal) x (ix2 r j) = if h : 1 ≤ (r : ℕ) ∧ (r : ℕ) ≤ 2048 then val_main_v3 (F := Ideal) x (ix2 ⟨r - 1, by omega⟩ j) else 0 := by
  have hr := r.isLt
  unfold val_main_v5
  split
  case isTrue h =>
    refine concatenate_apply_piece (t := Cert.ConvRefIdeal.S2050x512) 0 _ _ (ix2 r j) 1 (Nat.lt_of_sub_eq_succ rfl)
      Cert.ConvRefIdeal.S2048x512 (val_main_v3 (F := Ideal) x) rfl rfl 1 rfl (ix2 ⟨r - 1, by omega⟩ j) (fun b hb => ?_) ?_
    · match b with
      | ⟨0, _⟩ => exact absurd rfl hb
      | ⟨1, _⟩ => rfl
    · show 1 + ((r : ℕ) - 1) = r
      omega
  case isFalse h =>
    have hz : ∀ i, val_main_v4 (F := Ideal) i = 0 := fun i => by pointwise [val_main_v4, val_main_cst]
    have end_ (b : Fin 2) (hb : b ≠ 0) : (ix2 (0 : Fin 1) j b : ℕ) = (ix2 r j b : ℕ) := match b with
      | ⟨0, _⟩ => absurd rfl hb
      | ⟨1, _⟩ => rfl
    by_cases h0 : (r : ℕ) = 0
    · exact (concatenate_apply_piece (t := Cert.ConvRefIdeal.S2050x512) 0 _ _ (ix2 r j) 0 (Nat.lt_of_sub_eq_succ rfl)
        Cert.ConvRefIdeal.S1x512 (val_main_v4 (F := Ideal)) rfl rfl 0 rfl (ix2 0 j) end_ (by show 0 + 0 = (r : ℕ); omega)).trans (hz _)
    · exact (concatenate_apply_piece (t := Cert.ConvRefIdeal.S2050x512) 0 _ _ (ix2 r j) 2 (Nat.lt_of_sub_eq_succ rfl)
        Cert.ConvRefIdeal.S1x512 (val_main_v4 (F := Ideal)) rfl rfl 2049 rfl (ix2 0 j) end_ (by show 2049 + 0 = (r : ℕ); omega)).trans (hz _)

/-- The call's result at a place of a block. -/
theorem body (t : Fin cfg0.N) (r : Fin 2048) (l : Fin 256) (j : Fin 512) (hj : (j : ℕ) = 256 * t + l) :
    k0_pay1 (F := Ideal) (iblk m c 0 t) (iblk m c 1 t) (iblk m c 2 t) (iblk m c 3 t) (iblk m c 4 t) (ix2 r l)
      = val_main_v29 (F := Ideal) (m (c, Proc.devRef .tc main_arg0)) (m (c, Proc.devRef .tc main_arg1))
        (m (c, Proc.devRef .tc main_arg2)) (ix2 r j) := by
  have hr := r.isLt
  pointwise [k0_pay1, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6]
  rw [gate m c t r l j hj, bias m c t l j hj]
  simp only [value m c t _ l j hj, factor m c t _ l j hj, tap m c t _ l j hj, padded]
  erw [at_row r 0 (by omega), at_row r 2047 (by omega)]
  have e0 : (r : ℕ) ≠ 0 → ((r : ℕ) + 2048 - 1) % 2048 = r - 1 := by omega
  have e1 : 1 + (r : ℕ) - 1 = r := by omega
  have e2 : (r : ℕ) ≠ 2047 → ((r : ℕ) + 2048 - 2047) % 2048 = 2 + r - 1 := by omega
  refine congrArg₂ (fun x y : EReal => x * y) rfl (congrArg₂ (fun x y : EReal => x + y)
    (congrArg₂ (fun x y : EReal => x + y) (congrArg₂ (fun x y : EReal => x + y) rfl ?_) ?_) ?_)
  · by_cases h : (r : ℕ) = 0
    · rw [if_pos h, dif_neg (by omega), zero_mul]
    · rw [if_neg h, dif_pos (by omega)]
      simp only [e0 h]
      rfl
  · rw [dif_pos (by omega)]
    simp only [e1]
    rfl
  · by_cases h : (r : ℕ) = 2047
    · rw [if_pos h, dif_neg (by omega), zero_mul]
    · rw [if_neg h, dif_pos (by omega)]
      simp only [e2 h]
      rfl

/-- The result array is the reference's. -/
theorem final : (dats m 0 c).arrAt 5 (cfgs 0).N = val_main_v29 (F := Ideal) (m (c, Proc.devRef .tc main_arg0))
    (m (c, Proc.devRef .tc main_arg1)) (m (c, Proc.devRef .tc main_arg2)) := by
  refine (dats m 0 c).arrAt_eq_of_covers 5 _ (by decide +kernel) fun t hf y => ?_
  obtain ⟨e0, e1, e2, e3, e4, e5, e16⟩ := idx t
  blk_simp
  rw [after0_5]
  frame_out
  have hy : (y 1 : ℕ) < 256 := (y 1).isLt
  have hb := body m c t (y 0) (y 1) ⟨256 * t + (y 1 : ℕ), by omega⟩ rfl
  rw [ix2_eta] at hb
  refine hb.trans (congrArg _ ?_)
  blk_ext [e5]

/-- For all arguments the result is the reference's. -/
theorem claim : algebraic_ConvIdeal_ConvRefIdeal (hConvIdeal := Cert.ConvIdeal.Gen.facts) (hConvRefIdeal := Cert.ConvRefIdeal.Gen.facts) :=
  fun m g m' g' _ ha => Cert.Products.agree (Value.run_blocks m g) (Cert.ConvRefIdeal.Value.run m' g')
    fun c => ((congrArg₂ (fun x y => val_main_v29 x y _) (ha c).1 (ha c).2.1).trans (congrArg (val_main_v29 _ _) (ha c).2.2)).trans
      (final m c).symm

end Cert.ConvIdeal.Convolution

end
-- ==== Proof.lean ====
/-
  The certificate: every claim, from the generated frames and the two value proofs.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite
public import proofs.«01_k».proof.Proof.Gen.Pre_finite2
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Products
public import proofs.«01_k».proof.Proof.Back
public import proofs.«01_k».proof.Proof.Forward
public import proofs.«01_k».proof.Proof.Gen.Up.Frame
public import proofs.«01_k».proof.Proof.Gen.UpIdeal.Frame
public import proofs.«01_k».proof.Proof.Gen.UpIdeal.Value
public import proofs.«01_k».proof.Proof.Gen.UpRefIdeal.Run
public import proofs.«01_k».proof.Proof.Gen.UpRefIdeal.Read
public import proofs.«01_k».proof.Proof.Gen.UpDw.Frame
public import proofs.«01_k».proof.Proof.Gen.UpDwIdeal.Frame
public import proofs.«01_k».proof.Proof.Gen.UpDwIdeal.Value
public import proofs.«01_k».proof.Proof.Gen.UpDwRefIdeal.Run
public import proofs.«01_k».proof.Proof.Gen.UpDwRefIdeal.Read
public import proofs.«01_k».proof.Proof.Gen.UpDx.Frame
public import proofs.«01_k».proof.Proof.Gen.UpDxIdeal.Frame
public import proofs.«01_k».proof.Proof.Gen.UpDxIdeal.Value
public import proofs.«01_k».proof.Proof.Gen.UpDxRefIdeal.Run
public import proofs.«01_k».proof.Proof.Gen.UpDxRefIdeal.Read
public import proofs.«01_k».proof.Proof.Gen.Down.Frame
public import proofs.«01_k».proof.Proof.Gen.DownIdeal.Frame
public import proofs.«01_k».proof.Proof.Gen.DownIdeal.Value
public import proofs.«01_k».proof.Proof.Gen.DownRefIdeal.Run
public import proofs.«01_k».proof.Proof.Gen.DownRefIdeal.Read
public import proofs.«01_k».proof.Proof.Gen.DownDw.Frame
public import proofs.«01_k».proof.Proof.Gen.DownDwIdeal.Frame
public import proofs.«01_k».proof.Proof.Gen.DownDwIdeal.Value
public import proofs.«01_k».proof.Proof.Gen.DownDwRefIdeal.Run
public import proofs.«01_k».proof.Proof.Gen.DownDwRefIdeal.Read
public import proofs.«01_k».proof.Proof.Gen.DownDx.Frame
public import proofs.«01_k».proof.Proof.Gen.DownDxIdeal.Frame
public import proofs.«01_k».proof.Proof.Gen.DownDxIdeal.Value
public import proofs.«01_k».proof.Proof.Gen.DownDxRefIdeal.Run
public import proofs.«01_k».proof.Proof.Gen.DownDxRefIdeal.Read
public import proofs.«01_k».proof.Proof.Gen.In.Frame
public import proofs.«01_k».proof.Proof.Gen.InIdeal.Frame
public import proofs.«01_k».proof.Proof.Gen.InIdeal.Value
public import proofs.«01_k».proof.Proof.Gen.InRefIdeal.Run
public import proofs.«01_k».proof.Proof.Gen.InRefIdeal.Read
public import proofs.«01_k».proof.Proof.Gen.InDw.Frame
public import proofs.«01_k».proof.Proof.Gen.InDwIdeal.Frame
public import proofs.«01_k».proof.Proof.Gen.InDwIdeal.Value
public import proofs.«01_k».proof.Proof.Gen.InDwRefIdeal.Run
public import proofs.«01_k».proof.Proof.Gen.InDwRefIdeal.Read
public import proofs.«01_k».proof.Proof.Gen.InDx.Frame
public import proofs.«01_k».proof.Proof.Gen.InDxIdeal.Frame
public import proofs.«01_k».proof.Proof.Gen.InDxIdeal.Value
public import proofs.«01_k».proof.Proof.Gen.InDxRefIdeal.Run
public import proofs.«01_k».proof.Proof.Gen.InDxRefIdeal.Read
public import proofs.«01_k».proof.Proof.Gen.Wo.Frame
public import proofs.«01_k».proof.Proof.Gen.WoIdeal.Frame
public import proofs.«01_k».proof.Proof.Gen.WoIdeal.Value
public import proofs.«01_k».proof.Proof.Gen.WoRefIdeal.Run
public import proofs.«01_k».proof.Proof.Gen.WoRefIdeal.Read
public import proofs.«01_k».proof.Proof.Gen.WoDw.Frame
public import proofs.«01_k».proof.Proof.Gen.WoDwIdeal.Frame
public import proofs.«01_k».proof.Proof.Gen.WoDwIdeal.Value
public import proofs.«01_k».proof.Proof.Gen.WoDwRefIdeal.Run
public import proofs.«01_k».proof.Proof.Gen.WoDwRefIdeal.Read
public import proofs.«01_k».proof.Proof.Gen.WoDx.Frame
public import proofs.«01_k».proof.Proof.Gen.WoDxIdeal.Frame
public import proofs.«01_k».proof.Proof.Gen.WoDxIdeal.Value
public import proofs.«01_k».proof.Proof.Gen.WoDxRefIdeal.Run
public import proofs.«01_k».proof.Proof.Gen.WoDxRefIdeal.Read
public import proofs.«01_k».proof.Proof.Gen.Ao.Frame
public import proofs.«01_k».proof.Proof.Gen.AoIdeal.Frame
public import proofs.«01_k».proof.Proof.Gen.AoIdeal.Value
public import proofs.«01_k».proof.Proof.Gen.AoRefIdeal.Run
public import proofs.«01_k».proof.Proof.Gen.AoRefIdeal.Read
public import proofs.«01_k».proof.Proof.Gen.AoDw.Frame
public import proofs.«01_k».proof.Proof.Gen.AoDwIdeal.Frame
public import proofs.«01_k».proof.Proof.Gen.AoDwIdeal.Value
public import proofs.«01_k».proof.Proof.Gen.AoDwRefIdeal.Run
public import proofs.«01_k».proof.Proof.Gen.AoDwRefIdeal.Read
public import proofs.«01_k».proof.Proof.Gen.AoDx.Frame
public import proofs.«01_k».proof.Proof.Gen.AoDxIdeal.Frame
public import proofs.«01_k».proof.Proof.Gen.AoDxIdeal.Value
public import proofs.«01_k».proof.Proof.Gen.AoDxRefIdeal.Run
public import proofs.«01_k».proof.Proof.Gen.AoDxRefIdeal.Read
public import proofs.«01_k».proof.Proof.Gen.Co.Frame
public import proofs.«01_k».proof.Proof.Gen.CoIdeal.Frame
public import proofs.«01_k».proof.Proof.Gen.CoIdeal.Value
public import proofs.«01_k».proof.Proof.Gen.CoRefIdeal.Run
public import proofs.«01_k».proof.Proof.Gen.CoRefIdeal.Read
public import proofs.«01_k».proof.Proof.Gen.CoDw.Frame
public import proofs.«01_k».proof.Proof.Gen.CoDwIdeal.Frame
public import proofs.«01_k».proof.Proof.Gen.CoDwIdeal.Value
public import proofs.«01_k».proof.Proof.Gen.CoDwRefIdeal.Run
public import proofs.«01_k».proof.Proof.Gen.CoDwRefIdeal.Read
public import proofs.«01_k».proof.Proof.Gen.CoDx.Frame
public import proofs.«01_k».proof.Proof.Gen.CoDxIdeal.Frame
public import proofs.«01_k».proof.Proof.Gen.CoDxIdeal.Value
public import proofs.«01_k».proof.Proof.Gen.CoDxRefIdeal.Run
public import proofs.«01_k».proof.Proof.Gen.CoDxRefIdeal.Read
public import proofs.«01_k».proof.Proof.Gen.InA.Frame
public import proofs.«01_k».proof.Proof.Gen.InAIdeal.Frame
public import proofs.«01_k».proof.Proof.Gen.InAIdeal.Value
public import proofs.«01_k».proof.Proof.Gen.InARefIdeal.Run
public import proofs.«01_k».proof.Proof.Gen.InARefIdeal.Read
public import proofs.«01_k».proof.Proof.Gen.Uq.Frame
public import proofs.«01_k».proof.Proof.Gen.UqIdeal.Frame
public import proofs.«01_k».proof.Proof.Gen.UqIdeal.Value
public import proofs.«01_k».proof.Proof.Gen.UqRefIdeal.Run
public import proofs.«01_k».proof.Proof.Gen.UqRefIdeal.Read
public import proofs.«01_k».proof.Proof.Gen.UqDw.Frame
public import proofs.«01_k».proof.Proof.Gen.UqDwIdeal.Frame
public import proofs.«01_k».proof.Proof.Gen.UqDwIdeal.Value
public import proofs.«01_k».proof.Proof.Gen.UqDwRefIdeal.Run
public import proofs.«01_k».proof.Proof.Gen.UqDwRefIdeal.Read
public import proofs.«01_k».proof.Proof.Gen.UqDx.Frame
public import proofs.«01_k».proof.Proof.Gen.UqDxIdeal.Frame
public import proofs.«01_k».proof.Proof.Gen.UqDxIdeal.Value
public import proofs.«01_k».proof.Proof.Gen.UqDxRefIdeal.Run
public import proofs.«01_k».proof.Proof.Gen.UqDxRefIdeal.Read
public import proofs.«01_k».proof.Proof.Gen.Ukv.Frame
public import proofs.«01_k».proof.Proof.Gen.UkvIdeal.Frame
public import proofs.«01_k».proof.Proof.Gen.UkvIdeal.Value
public import proofs.«01_k».proof.Proof.Gen.UkvRefIdeal.Run
public import proofs.«01_k».proof.Proof.Gen.UkvRefIdeal.Read
public import proofs.«01_k».proof.Proof.Gen.UkvDw.Frame
public import proofs.«01_k».proof.Proof.Gen.UkvDwIdeal.Frame
public import proofs.«01_k».proof.Proof.Gen.UkvDwIdeal.Value
public import proofs.«01_k».proof.Proof.Gen.UkvDwRefIdeal.Run
public import proofs.«01_k».proof.Proof.Gen.UkvDwRefIdeal.Read
public import proofs.«01_k».proof.Proof.Gen.UkvDx.Frame
public import proofs.«01_k».proof.Proof.Gen.UkvDxIdeal.Frame
public import proofs.«01_k».proof.Proof.Gen.UkvDxIdeal.Value
public import proofs.«01_k».proof.Proof.Gen.UkvDxRefIdeal.Run
public import proofs.«01_k».proof.Proof.Gen.UkvDxRefIdeal.Read
public import proofs.«01_k».proof.Proof.Gen.Ada.Frame
public import proofs.«01_k».proof.Proof.Gen.AdaIdeal.Frame
public import proofs.«01_k».proof.Proof.Gen.AdaIdeal.Value
public import proofs.«01_k».proof.Proof.Gen.AdaRefIdeal.Run
public import proofs.«01_k».proof.Proof.Gen.AdaRefIdeal.Read
public import proofs.«01_k».proof.Proof.Gen.AdaDw.Frame
public import proofs.«01_k».proof.Proof.Gen.AdaDwIdeal.Frame
public import proofs.«01_k».proof.Proof.Gen.AdaDwIdeal.Value
public import proofs.«01_k».proof.Proof.Gen.AdaDwRefIdeal.Run
public import proofs.«01_k».proof.Proof.Gen.AdaDwRefIdeal.Read
public import proofs.«01_k».proof.Proof.Gen.AdaDx.Frame
public import proofs.«01_k».proof.Proof.Gen.AdaDxIdeal.Frame
public import proofs.«01_k».proof.Proof.Gen.AdaDxIdeal.Value
public import proofs.«01_k».proof.Proof.Gen.AdaDxRefIdeal.Run
public import proofs.«01_k».proof.Proof.Gen.AdaDxRefIdeal.Read
public import proofs.«01_k».proof.Proof.Up
public import proofs.«01_k».proof.Proof.UpDx
public import proofs.«01_k».proof.Proof.Down
public import proofs.«01_k».proof.Proof.Input
public import proofs.«01_k».proof.Proof.InputDx
public import proofs.«01_k».proof.Proof.Outs
public import proofs.«01_k».proof.Proof.Conv
public import proofs.«01_k».proof.Proof.Ranks
public import proofs.«01_k».proof.Proof.Queries
public import proofs.«01_k».proof.Proof.Parts
public import proofs.«01_k».proof.Proof.Cond
public import Idealize.ShloMosaic.Adequacy
public import Idealize.ShloMosaic.Init
public import Idealize.ShloMosaic.Lib.Quiescent
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.MergeBwd.Frame
public import proofs.«01_k».proof.Proof.Gen.MergeBwdIdeal.Frame
public import proofs.«01_k».proof.Proof.Gen.MergeBwdIdeal.Value
public import proofs.«01_k».proof.Proof.Gen.MergeBwdRefIdeal.Run
public import proofs.«01_k».proof.Proof.Gen.MergeBwdRefIdeal.Read
public import proofs.«01_k».proof.Proof.Gen.Conv.Frame
public import proofs.«01_k».proof.Proof.Gen.ConvIdeal.Frame
public import proofs.«01_k».proof.Proof.Gen.ConvIdeal.Value
public import proofs.«01_k».proof.Proof.Gen.ConvRefIdeal.Run
public import proofs.«01_k».proof.Proof.Gen.ConvRefIdeal.Read
public import proofs.«01_k».proof.Proof.Gates
public import proofs.«01_k».proof.Proof.Convolution

@[expose] public section

noncomputable section

namespace Cert.Proof

open Idealize.ShloMosaic Idealize.SL.Sem Cert.Kernel

set_option maxHeartbeats 1600000 in
/-- The reference of the backward call runs and leaves its arguments. -/
theorem reference_frame : quiescent_ReferenceIdeal (hReferenceIdeal := Cert.ReferenceIdeal.Gen.facts) := by
  intro m g _
  exact (θ_run Cert.ReferenceIdeal.defs _ _).mono (fun r h => ⟨fun c => (h c).2.2.2, sem_eq_zero_of_no_sems (by decide) r.2⟩)
    (Cert.ReferenceIdeal.Value.run (F := Ideal) m g)

set_option maxHeartbeats 1600000 in
/-- The reference of the forward call runs and leaves its arguments. -/
theorem reference2_frame : quiescent_Reference2Ideal (hReference2Ideal := Cert.Reference2Ideal.Gen.facts) := by
  intro m g _
  exact (θ_run Cert.Reference2Ideal.defs _ _).mono (fun r h => ⟨fun c => (h c).2, sem_eq_zero_of_no_sems (by decide) r.2⟩)
    (Cert.Reference2Ideal.Value.run (F := Ideal) m g)

set_option maxHeartbeats 1600000 in
/-- The reference of the merge's backward call runs and leaves its arguments. -/
theorem merge_bwd_reference : quiescent_MergeBwdRefIdeal (hMergeBwdRefIdeal := Cert.MergeBwdRefIdeal.Gen.facts) := by
  intro m g _
  exact (θ_run Cert.MergeBwdRefIdeal.defs _ _).mono
    (fun r h => ⟨fun c => (h c).2.2.2.2, sem_eq_zero_of_no_sems (by decide) r.2⟩)
    (Cert.MergeBwdRefIdeal.Value.run (F := Ideal) m g)

/-- The three named constants of the backward kernel. -/
theorem constants : preserves_Kernel_KernelIdeal :=
  ⟨IdealRules.named_const.statement Cert.KernelIdeal.κ "scale_log2e" .f32 0x3E16C740#32 _ rfl,
    IdealRules.named_const.statement Cert.KernelIdeal.κ "log2e" .f32 0x3FB8AA3B#32 _ rfl,
    IdealRules.named_const.statement Cert.KernelIdeal.κ "scale" .f32 0x3DD105EC#32 _ rfl⟩

/-- The two of the forward kernel. -/
theorem constants2 : preserves_Kernel2_Kernel2Ideal :=
  ⟨IdealRules.named_const.statement Cert.Kernel2Ideal.κ "scale_log2e" .f32 0x3E16C740#32 _ rfl,
    IdealRules.named_const.statement Cert.Kernel2Ideal.κ "scale" .f32 0x3DD105EC#32 _ rfl⟩

set_option maxHeartbeats 1600000 in
/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Up.Gen.facts, Cert.UpIdeal.Gen.facts, Cert.UpRefIdeal.Gen.facts,
  Cert.UpDw.Gen.facts, Cert.UpDwIdeal.Gen.facts, Cert.UpDwRefIdeal.Gen.facts,
  Cert.UpDx.Gen.facts, Cert.UpDxIdeal.Gen.facts, Cert.UpDxRefIdeal.Gen.facts,
  Cert.Down.Gen.facts, Cert.DownIdeal.Gen.facts, Cert.DownRefIdeal.Gen.facts,
  Cert.DownDw.Gen.facts, Cert.DownDwIdeal.Gen.facts, Cert.DownDwRefIdeal.Gen.facts,
  Cert.DownDx.Gen.facts, Cert.DownDxIdeal.Gen.facts, Cert.DownDxRefIdeal.Gen.facts,
  Cert.In.Gen.facts, Cert.InIdeal.Gen.facts, Cert.InRefIdeal.Gen.facts,
  Cert.InDw.Gen.facts, Cert.InDwIdeal.Gen.facts, Cert.InDwRefIdeal.Gen.facts,
  Cert.InDx.Gen.facts, Cert.InDxIdeal.Gen.facts, Cert.InDxRefIdeal.Gen.facts,
  Cert.Wo.Gen.facts, Cert.WoIdeal.Gen.facts, Cert.WoRefIdeal.Gen.facts,
  Cert.WoDw.Gen.facts, Cert.WoDwIdeal.Gen.facts, Cert.WoDwRefIdeal.Gen.facts,
  Cert.WoDx.Gen.facts, Cert.WoDxIdeal.Gen.facts, Cert.WoDxRefIdeal.Gen.facts,
  Cert.Ao.Gen.facts, Cert.AoIdeal.Gen.facts, Cert.AoRefIdeal.Gen.facts,
  Cert.AoDw.Gen.facts, Cert.AoDwIdeal.Gen.facts, Cert.AoDwRefIdeal.Gen.facts,
  Cert.AoDx.Gen.facts, Cert.AoDxIdeal.Gen.facts, Cert.AoDxRefIdeal.Gen.facts,
  Cert.Co.Gen.facts, Cert.CoIdeal.Gen.facts, Cert.CoRefIdeal.Gen.facts,
  Cert.CoDw.Gen.facts, Cert.CoDwIdeal.Gen.facts, Cert.CoDwRefIdeal.Gen.facts,
  Cert.CoDx.Gen.facts, Cert.CoDxIdeal.Gen.facts, Cert.CoDxRefIdeal.Gen.facts,
  Cert.InA.Gen.facts, Cert.InAIdeal.Gen.facts, Cert.InARefIdeal.Gen.facts,
  Cert.Uq.Gen.facts, Cert.UqIdeal.Gen.facts, Cert.UqRefIdeal.Gen.facts,
  Cert.UqDw.Gen.facts, Cert.UqDwIdeal.Gen.facts, Cert.UqDwRefIdeal.Gen.facts,
  Cert.UqDx.Gen.facts, Cert.UqDxIdeal.Gen.facts, Cert.UqDxRefIdeal.Gen.facts,
  Cert.Ukv.Gen.facts, Cert.UkvIdeal.Gen.facts, Cert.UkvRefIdeal.Gen.facts,
  Cert.UkvDw.Gen.facts, Cert.UkvDwIdeal.Gen.facts, Cert.UkvDwRefIdeal.Gen.facts,
  Cert.UkvDx.Gen.facts, Cert.UkvDxIdeal.Gen.facts, Cert.UkvDxRefIdeal.Gen.facts,
  Cert.Ada.Gen.facts, Cert.AdaIdeal.Gen.facts, Cert.AdaRefIdeal.Gen.facts,
  Cert.AdaDw.Gen.facts, Cert.AdaDwIdeal.Gen.facts, Cert.AdaDwRefIdeal.Gen.facts,
  Cert.AdaDx.Gen.facts, Cert.AdaDxIdeal.Gen.facts, Cert.AdaDxRefIdeal.Gen.facts,
  Cert.Merge.Gen.facts, Cert.MergeIdeal.Gen.facts, Cert.MergeRefIdeal.Gen.facts,
  Cert.MergeBwd.Gen.facts, Cert.MergeBwdIdeal.Gen.facts, Cert.MergeBwdRefIdeal.Gen.facts,
  Cert.Conv.Gen.facts, Cert.ConvIdeal.Gen.facts, Cert.ConvRefIdeal.Gen.facts,
  Cert.Pre_finite.Gen.facts, Cert.Pre_finite2.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Kernel2.Gen.frame m ρ, fun m ρ _ => Cert.Kernel2Ideal.Gen.frame m ρ, fun m ρ _ => Cert.Kernel2Ideal.Gen.frame m ρ,
  reference2_frame, fun m ρ _ => reference2_frame m ρ trivial,
  fun m ρ _ => Cert.Up.Gen.frame m ρ, fun m ρ _ => Cert.UpIdeal.Gen.frame m ρ,
  fun m g _ => Cert.Products.quiet (by decide) (Cert.UpRefIdeal.Value.run (F := Ideal) m g),
  fun m ρ _ => Cert.UpDw.Gen.frame m ρ, fun m ρ _ => Cert.UpDwIdeal.Gen.frame m ρ,
  fun m g _ => Cert.Products.quiet (by decide) (Cert.UpDwRefIdeal.Value.run (F := Ideal) m g),
  fun m ρ _ => Cert.UpDx.Gen.frame m ρ, fun m ρ _ => Cert.UpDxIdeal.Gen.frame m ρ,
  fun m g _ => Cert.Products.quiet (by decide) (Cert.UpDxRefIdeal.Value.run (F := Ideal) m g),
  fun m ρ _ => Cert.Down.Gen.frame m ρ, fun m ρ _ => Cert.DownIdeal.Gen.frame m ρ,
  fun m g _ => Cert.Products.quiet (by decide) (Cert.DownRefIdeal.Value.run (F := Ideal) m g),
  fun m ρ _ => Cert.DownDw.Gen.frame m ρ, fun m ρ _ => Cert.DownDwIdeal.Gen.frame m ρ,
  fun m g _ => Cert.Products.quiet (by decide) (Cert.DownDwRefIdeal.Value.run (F := Ideal) m g),
  fun m ρ _ => Cert.DownDx.Gen.frame m ρ, fun m ρ _ => Cert.DownDxIdeal.Gen.frame m ρ,
  fun m g _ => Cert.Products.quiet (by decide) (Cert.DownDxRefIdeal.Value.run (F := Ideal) m g),
  fun m ρ _ => Cert.In.Gen.frame m ρ, fun m ρ _ => Cert.InIdeal.Gen.frame m ρ,
  fun m g _ => Cert.Products.quiet (by decide) (Cert.InRefIdeal.Value.run (F := Ideal) m g),
  fun m ρ _ => Cert.InDw.Gen.frame m ρ, fun m ρ _ => Cert.InDwIdeal.Gen.frame m ρ,
  fun m g _ => Cert.Products.quiet (by decide) (Cert.InDwRefIdeal.Value.run (F := Ideal) m g),
  fun m ρ _ => Cert.InDx.Gen.frame m ρ, fun m ρ _ => Cert.InDxIdeal.Gen.frame m ρ,
  fun m g _ => Cert.Products.quiet (by decide) (Cert.InDxRefIdeal.Value.run (F := Ideal) m g),
  fun m ρ _ => Cert.Wo.Gen.frame m ρ, fun m ρ _ => Cert.WoIdeal.Gen.frame m ρ,
  fun m g _ => Cert.Products.quiet (by decide) (Cert.WoRefIdeal.Value.run (F := Ideal) m g),
  fun m ρ _ => Cert.WoDw.Gen.frame m ρ, fun m ρ _ => Cert.WoDwIdeal.Gen.frame m ρ,
  fun m g _ => Cert.Products.quiet (by decide) (Cert.WoDwRefIdeal.Value.run (F := Ideal) m g),
  fun m ρ _ => Cert.WoDx.Gen.frame m ρ, fun m ρ _ => Cert.WoDxIdeal.Gen.frame m ρ,
  fun m g _ => Cert.Products.quiet (by decide) (Cert.WoDxRefIdeal.Value.run (F := Ideal) m g),
  fun m ρ _ => Cert.Ao.Gen.frame m ρ, fun m ρ _ => Cert.AoIdeal.Gen.frame m ρ,
  fun m g _ => Cert.Products.quiet (by decide) (Cert.AoRefIdeal.Value.run (F := Ideal) m g),
  fun m ρ _ => Cert.AoDw.Gen.frame m ρ, fun m ρ _ => Cert.AoDwIdeal.Gen.frame m ρ,
  fun m g _ => Cert.Products.quiet (by decide) (Cert.AoDwRefIdeal.Value.run (F := Ideal) m g),
  fun m ρ _ => Cert.AoDx.Gen.frame m ρ, fun m ρ _ => Cert.AoDxIdeal.Gen.frame m ρ,
  fun m g _ => Cert.Products.quiet (by decide) (Cert.AoDxRefIdeal.Value.run (F := Ideal) m g),
  fun m ρ _ => Cert.Co.Gen.frame m ρ, fun m ρ _ => Cert.CoIdeal.Gen.frame m ρ,
  fun m g _ => Cert.Products.quiet (by decide) (Cert.CoRefIdeal.Value.run (F := Ideal) m g),
  fun m ρ _ => Cert.CoDw.Gen.frame m ρ, fun m ρ _ => Cert.CoDwIdeal.Gen.frame m ρ,
  fun m g _ => Cert.Products.quiet (by decide) (Cert.CoDwRefIdeal.Value.run (F := Ideal) m g),
  fun m ρ _ => Cert.CoDx.Gen.frame m ρ, fun m ρ _ => Cert.CoDxIdeal.Gen.frame m ρ,
  fun m g _ => Cert.Products.quiet (by decide) (Cert.CoDxRefIdeal.Value.run (F := Ideal) m g),
  fun m ρ _ => Cert.InA.Gen.frame m ρ, fun m ρ _ => Cert.InAIdeal.Gen.frame m ρ,
  fun m g _ => Cert.Products.quiet (by decide) (Cert.InARefIdeal.Value.run (F := Ideal) m g),
  fun m ρ _ => Cert.Uq.Gen.frame m ρ, fun m ρ _ => Cert.UqIdeal.Gen.frame m ρ,
  fun m g _ => Cert.Products.quiet (by decide) (Cert.UqRefIdeal.Value.run (F := Ideal) m g),
  fun m ρ _ => Cert.UqDw.Gen.frame m ρ, fun m ρ _ => Cert.UqDwIdeal.Gen.frame m ρ,
  fun m g _ => Cert.Products.quiet (by decide) (Cert.UqDwRefIdeal.Value.run (F := Ideal) m g),
  fun m ρ _ => Cert.UqDx.Gen.frame m ρ, fun m ρ _ => Cert.UqDxIdeal.Gen.frame m ρ,
  fun m g _ => Cert.Products.quiet (by decide) (Cert.UqDxRefIdeal.Value.run (F := Ideal) m g),
  fun m ρ _ => Cert.Ukv.Gen.frame m ρ, fun m ρ _ => Cert.UkvIdeal.Gen.frame m ρ,
  fun m g _ => Cert.Products.quiet (by decide) (Cert.UkvRefIdeal.Value.run (F := Ideal) m g),
  fun m ρ _ => Cert.UkvDw.Gen.frame m ρ, fun m ρ _ => Cert.UkvDwIdeal.Gen.frame m ρ,
  fun m g _ => Cert.Products.quiet (by decide) (Cert.UkvDwRefIdeal.Value.run (F := Ideal) m g),
  fun m ρ _ => Cert.UkvDx.Gen.frame m ρ, fun m ρ _ => Cert.UkvDxIdeal.Gen.frame m ρ,
  fun m g _ => Cert.Products.quiet (by decide) (Cert.UkvDxRefIdeal.Value.run (F := Ideal) m g),
  fun m ρ _ => Cert.Ada.Gen.frame m ρ, fun m ρ _ => Cert.AdaIdeal.Gen.frame m ρ,
  fun m g _ => Cert.Products.quiet (by decide) (Cert.AdaRefIdeal.Value.run (F := Ideal) m g),
  fun m ρ _ => Cert.AdaDw.Gen.frame m ρ, fun m ρ _ => Cert.AdaDwIdeal.Gen.frame m ρ,
  fun m g _ => Cert.Products.quiet (by decide) (Cert.AdaDwRefIdeal.Value.run (F := Ideal) m g),
  fun m ρ _ => Cert.AdaDx.Gen.frame m ρ, fun m ρ _ => Cert.AdaDxIdeal.Gen.frame m ρ,
  fun m g _ => Cert.Products.quiet (by decide) (Cert.AdaDxRefIdeal.Value.run (F := Ideal) m g),
  fun m ρ _ => Cert.Merge.Gen.frame m ρ, fun m ρ _ => Cert.MergeIdeal.Gen.frame m ρ,
  fun m g _ => Cert.Products.quiet (by decide) (Cert.MergeRefIdeal.Value.run (F := Ideal) m g),
  fun m ρ _ => Cert.MergeBwd.Gen.frame m ρ, fun m ρ _ => Cert.MergeBwdIdeal.Gen.frame m ρ,
  merge_bwd_reference,
  fun m ρ _ => Cert.Conv.Gen.frame m ρ, fun m ρ _ => Cert.ConvIdeal.Gen.frame m ρ,
  fun m g _ => Cert.Products.quiet (by decide) (Cert.ConvRefIdeal.Value.run (F := Ideal) m g),
  constants, Cert.Attn.backward, constants2, Cert.Attn.forward,
  trivial, Cert.UpIdeal.Product.claim, trivial, Cert.UpDwIdeal.Product.claim, trivial, Cert.UpDxIdeal.Product.claim,
  trivial, Cert.DownIdeal.Product.claim, trivial, Cert.DownDwIdeal.Product.claim, trivial, Cert.DownDxIdeal.Product.claim,
  trivial, Cert.InIdeal.Product.claim, trivial, Cert.InDwIdeal.Product.claim, trivial, Cert.InDxIdeal.Product.claim,
  trivial, Cert.WoIdeal.Product.claim, trivial, Cert.WoDwIdeal.Product.claim, trivial, Cert.WoDxIdeal.Product.claim,
  trivial, Cert.AoIdeal.Product.claim, trivial, Cert.AoDwIdeal.Product.claim, trivial, Cert.AoDxIdeal.Product.claim,
  trivial, Cert.CoIdeal.Product.claim, trivial, Cert.CoDwIdeal.Product.claim, trivial, Cert.CoDxIdeal.Product.claim,
  trivial, Cert.InAIdeal.Product.claim, trivial, Cert.UqIdeal.Product.claim, trivial, Cert.UqDwIdeal.Product.claim,
  trivial, Cert.UqDxIdeal.Product.claim, trivial, Cert.UkvIdeal.Product.claim, trivial, Cert.UkvDwIdeal.Product.claim,
  trivial, Cert.UkvDxIdeal.Product.claim, trivial, Cert.AdaIdeal.Product.claim, trivial, Cert.AdaDwIdeal.Product.claim,
  trivial, Cert.AdaDxIdeal.Product.claim,
  Cert.MergeIdeal.Gates.constant, Cert.MergeIdeal.Gates.claim,
  Cert.MergeBwdIdeal.Gates.constant, Cert.MergeBwdIdeal.Gates.claim,
  trivial, Cert.ConvIdeal.Convolution.claim⟩

end Cert.Proof

end
